-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AsIs (m : (ℓ : Loc Cert.AsIs.nD Cert.AsIs.τ Cert.AsIs.sig) → Buf (Elt Bits) ℓ) : Prop :=
  True

def Pre_Za (m : (ℓ : Loc Cert.Za.nD Cert.Za.τ Cert.Za.sig) → Buf (Elt Bits) ℓ) : Prop :=
  True

def Pre_ZaIdeal (m : (ℓ : Loc Cert.ZaIdeal.nD Cert.ZaIdeal.τ Cert.ZaIdeal.sig) → Buf (Elt Ideal) ℓ) : Prop :=
  True

def Pre_ZaRefIdeal (m : (ℓ : Loc Cert.ZaRefIdeal.nD Cert.ZaRefIdeal.τ Cert.ZaRefIdeal.sig) → Buf (Elt Ideal) ℓ) : Prop :=
  True

def Pre_Zs (m : (ℓ : Loc Cert.Zs.nD Cert.Zs.τ Cert.Zs.sig) → Buf (Elt Bits) ℓ) : Prop :=
  True

def Pre_ZsIdeal (m : (ℓ : Loc Cert.ZsIdeal.nD Cert.ZsIdeal.τ Cert.ZsIdeal.sig) → Buf (Elt Ideal) ℓ) : Prop :=
  True

def Pre_ZsRefIdeal (m : (ℓ : Loc Cert.ZsRefIdeal.nD Cert.ZsRefIdeal.τ Cert.ZsRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvARefIdeal (m : (ℓ : Loc Cert.QkvARefIdeal.nD Cert.QkvARefIdeal.τ Cert.QkvARefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCRefIdeal (m : (ℓ : Loc Cert.QkvCRefIdeal.nD Cert.QkvCRefIdeal.τ Cert.QkvCRefIdeal.sig) → Buf (Elt Ideal) ℓ) : Prop :=
  True

def Pre_TailA (m : (ℓ : Loc Cert.TailA.nD Cert.TailA.τ Cert.TailA.sig) → Buf (Elt Bits) ℓ) : Prop :=
  True

def Pre_TailAIdeal (m : (ℓ : Loc Cert.TailAIdeal.nD Cert.TailAIdeal.τ Cert.TailAIdeal.sig) → Buf (Elt Ideal) ℓ) : Prop :=
  True

def Pre_TailARefIdeal (m : (ℓ : Loc Cert.TailARefIdeal.nD Cert.TailARefIdeal.τ Cert.TailARefIdeal.sig) → Buf (Elt Ideal) ℓ) : Prop :=
  True

def Pre_TailB (m : (ℓ : Loc Cert.TailB.nD Cert.TailB.τ Cert.TailB.sig) → Buf (Elt Bits) ℓ) : Prop :=
  True

def Pre_TailBIdeal (m : (ℓ : Loc Cert.TailBIdeal.nD Cert.TailBIdeal.τ Cert.TailBIdeal.sig) → Buf (Elt Ideal) ℓ) : Prop :=
  True

def Pre_TailBRefIdeal (m : (ℓ : Loc Cert.TailBRefIdeal.nD Cert.TailBRefIdeal.τ Cert.TailBRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AsIs [hAsIs : Cert.AsIs.Facts] : Prop :=
  ∀ (m : (ℓ : Loc Cert.AsIs.nD Cert.AsIs.τ Cert.AsIs.sig) → Buf (Elt Bits) ℓ) (g : Dev Cert.AsIs.nD → PrngReg), Pre_AsIs m →
    θ_run (Cert.AsIs.defs (F := Bits)) (onTc (τ := Cert.AsIs.τ) (Cert.AsIs.main (F := Bits))) ⟨m, fun _ => 0, g⟩ (fun r => (∀ c : Dev Cert.AsIs.nD,
      r.2.mem ((c.tc : Thread Cert.AsIs.nD Cert.AsIs.τ).loc Cert.AsIs.main_arg0) = m ((c.tc : Thread Cert.AsIs.nD Cert.AsIs.τ).loc Cert.AsIs.main_arg0)
      ∧ r.2.mem ((c.tc : Thread Cert.AsIs.nD Cert.AsIs.τ).loc Cert.AsIs.main_arg1) = m ((c.tc : Thread Cert.AsIs.nD Cert.AsIs.τ).loc Cert.AsIs.main_arg1)
      ∧ r.2.mem ((c.tc : Thread Cert.AsIs.nD Cert.AsIs.τ).loc Cert.AsIs.main_arg2) = m ((c.tc : Thread Cert.AsIs.nD Cert.AsIs.τ).loc Cert.AsIs.main_arg2)
      ∧ r.2.mem ((c.tc : Thread Cert.AsIs.nD Cert.AsIs.τ).loc Cert.AsIs.main_arg3) = m ((c.tc : Thread Cert.AsIs.nD Cert.AsIs.τ).loc Cert.AsIs.main_arg3))
      ∧ r.2.sem = fun _ => 0)

def quiescent_Za [hZa : Cert.Za.Facts] : Prop :=
  ∀ (m : (ℓ : Loc Cert.Za.nD Cert.Za.τ Cert.Za.sig) → Buf (Elt Bits) ℓ) (g : Dev Cert.Za.nD → PrngReg), Pre_Za m →
    θ_run (Cert.Za.defs (F := Bits)) (onTc (τ := Cert.Za.τ) (Cert.Za.main (F := Bits))) ⟨m, fun _ => 0, g⟩ (fun r => (∀ c : Dev Cert.Za.nD,
      r.2.mem ((c.tc : Thread Cert.Za.nD Cert.Za.τ).loc Cert.Za.main_arg0) = m ((c.tc : Thread Cert.Za.nD Cert.Za.τ).loc Cert.Za.main_arg0)
      ∧ r.2.mem ((c.tc : Thread Cert.Za.nD Cert.Za.τ).loc Cert.Za.main_arg1) = m ((c.tc : Thread Cert.Za.nD Cert.Za.τ).loc Cert.Za.main_arg1))
      ∧ r.2.sem = fun _ => 0)

def quiescent_ZaIdeal [hZaIdeal : Cert.ZaIdeal.Facts] : Prop :=
  ∀ (m : (ℓ : Loc Cert.ZaIdeal.nD Cert.ZaIdeal.τ Cert.ZaIdeal.sig) → Buf (Elt Ideal) ℓ) (g : Dev Cert.ZaIdeal.nD → PrngReg), Pre_ZaIdeal m →
    θ_run (Cert.ZaIdeal.defs (F := Ideal)) (onTc (τ := Cert.ZaIdeal.τ) (Cert.ZaIdeal.main (F := Ideal))) ⟨m, fun _ => 0, g⟩ (fun r => (∀ c : Dev Cert.ZaIdeal.nD,
      r.2.mem ((c.tc : Thread Cert.ZaIdeal.nD Cert.ZaIdeal.τ).loc Cert.ZaIdeal.main_arg0) = m ((c.tc : Thread Cert.ZaIdeal.nD Cert.ZaIdeal.τ).loc Cert.ZaIdeal.main_arg0)
      ∧ r.2.mem ((c.tc : Thread Cert.ZaIdeal.nD Cert.ZaIdeal.τ).loc Cert.ZaIdeal.main_arg1) = m ((c.tc : Thread Cert.ZaIdeal.nD Cert.ZaIdeal.τ).loc Cert.ZaIdeal.main_arg1))
      ∧ r.2.sem = fun _ => 0)

def quiescent_ZaRefIdeal [hZaRefIdeal : Cert.ZaRefIdeal.Facts] : Prop :=
  ∀ (m : (ℓ : Loc Cert.ZaRefIdeal.nD Cert.ZaRefIdeal.τ Cert.ZaRefIdeal.sig) → Buf (Elt Ideal) ℓ) (g : Dev Cert.ZaRefIdeal.nD → PrngReg), Pre_ZaRefIdeal m →
    θ_run (Cert.ZaRefIdeal.defs (F := Ideal)) (onTc (τ := Cert.ZaRefIdeal.τ) (Cert.ZaRefIdeal.main (F := Ideal))) ⟨m, fun _ => 0, g⟩ (fun r => (∀ c : Dev Cert.ZaRefIdeal.nD,
      r.2.mem ((c.tc : Thread Cert.ZaRefIdeal.nD Cert.ZaRefIdeal.τ).loc Cert.ZaRefIdeal.main_arg0) = m ((c.tc : Thread Cert.ZaRefIdeal.nD Cert.ZaRefIdeal.τ).loc Cert.ZaRefIdeal.main_arg0)
      ∧ r.2.mem ((c.tc : Thread Cert.ZaRefIdeal.nD Cert.ZaRefIdeal.τ).loc Cert.ZaRefIdeal.main_arg1) = m ((c.tc : Thread Cert.ZaRefIdeal.nD Cert.ZaRefIdeal.τ).loc Cert.ZaRefIdeal.main_arg1))
      ∧ r.2.sem = fun _ => 0)

def quiescent_Zs [hZs : Cert.Zs.Facts] : Prop :=
  ∀ (m : (ℓ : Loc Cert.Zs.nD Cert.Zs.τ Cert.Zs.sig) → Buf (Elt Bits) ℓ) (g : Dev Cert.Zs.nD → PrngReg), Pre_Zs m →
    θ_run (Cert.Zs.defs (F := Bits)) (onTc (τ := Cert.Zs.τ) (Cert.Zs.main (F := Bits))) ⟨m, fun _ => 0, g⟩ (fun r => (∀ c : Dev Cert.Zs.nD,
      r.2.mem ((c.tc : Thread Cert.Zs.nD Cert.Zs.τ).loc Cert.Zs.main_arg0) = m ((c.tc : Thread Cert.Zs.nD Cert.Zs.τ).loc Cert.Zs.main_arg0)
      ∧ r.2.mem ((c.tc : Thread Cert.Zs.nD Cert.Zs.τ).loc Cert.Zs.main_arg1) = m ((c.tc : Thread Cert.Zs.nD Cert.Zs.τ).loc Cert.Zs.main_arg1))
      ∧ r.2.sem = fun _ => 0)

def quiescent_ZsIdeal [hZsIdeal : Cert.ZsIdeal.Facts] : Prop :=
  ∀ (m : (ℓ : Loc Cert.ZsIdeal.nD Cert.ZsIdeal.τ Cert.ZsIdeal.sig) → Buf (Elt Ideal) ℓ) (g : Dev Cert.ZsIdeal.nD → PrngReg), Pre_ZsIdeal m →
    θ_run (Cert.ZsIdeal.defs (F := Ideal)) (onTc (τ := Cert.ZsIdeal.τ) (Cert.ZsIdeal.main (F := Ideal))) ⟨m, fun _ => 0, g⟩ (fun r => (∀ c : Dev Cert.ZsIdeal.nD,
      r.2.mem ((c.tc : Thread Cert.ZsIdeal.nD Cert.ZsIdeal.τ).loc Cert.ZsIdeal.main_arg0) = m ((c.tc : Thread Cert.ZsIdeal.nD Cert.ZsIdeal.τ).loc Cert.ZsIdeal.main_arg0)
      ∧ r.2.mem ((c.tc : Thread Cert.ZsIdeal.nD Cert.ZsIdeal.τ).loc Cert.ZsIdeal.main_arg1) = m ((c.tc : Thread Cert.ZsIdeal.nD Cert.ZsIdeal.τ).loc Cert.ZsIdeal.main_arg1))
      ∧ r.2.sem = fun _ => 0)

def quiescent_ZsRefIdeal [hZsRefIdeal : Cert.ZsRefIdeal.Facts] : Prop :=
  ∀ (m : (ℓ : Loc Cert.ZsRefIdeal.nD Cert.ZsRefIdeal.τ Cert.ZsRefIdeal.sig) → Buf (Elt Ideal) ℓ) (g : Dev Cert.ZsRefIdeal.nD → PrngReg), Pre_ZsRefIdeal m →
    θ_run (Cert.ZsRefIdeal.defs (F := Ideal)) (onTc (τ := Cert.ZsRefIdeal.τ) (Cert.ZsRefIdeal.main (F := Ideal))) ⟨m, fun _ => 0, g⟩ (fun r => (∀ c : Dev Cert.ZsRefIdeal.nD,
      r.2.mem ((c.tc : Thread Cert.ZsRefIdeal.nD Cert.ZsRefIdeal.τ).loc Cert.ZsRefIdeal.main_arg0) = m ((c.tc : Thread Cert.ZsRefIdeal.nD Cert.ZsRefIdeal.τ).loc Cert.ZsRefIdeal.main_arg0)
      ∧ r.2.mem ((c.tc : Thread Cert.ZsRefIdeal.nD Cert.ZsRefIdeal.τ).loc Cert.ZsRefIdeal.main_arg1) = m ((c.tc : Thread Cert.ZsRefIdeal.nD Cert.ZsRefIdeal.τ).loc Cert.ZsRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1)
      ∧ r.2.mem ((c.tc : Thread Cert.QkvA.nD Cert.QkvA.τ).loc Cert.QkvA.main_arg2) = m ((c.tc : Thread Cert.QkvA.nD Cert.QkvA.τ).loc Cert.QkvA.main_arg2)
      ∧ r.2.mem ((c.tc : Thread Cert.QkvA.nD Cert.QkvA.τ).loc Cert.QkvA.main_arg3) = m ((c.tc : Thread Cert.QkvA.nD Cert.QkvA.τ).loc Cert.QkvA.main_arg3))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1)
      ∧ r.2.mem ((c.tc : Thread Cert.QkvAIdeal.nD Cert.QkvAIdeal.τ).loc Cert.QkvAIdeal.main_arg2) = m ((c.tc : Thread Cert.QkvAIdeal.nD Cert.QkvAIdeal.τ).loc Cert.QkvAIdeal.main_arg2)
      ∧ r.2.mem ((c.tc : Thread Cert.QkvAIdeal.nD Cert.QkvAIdeal.τ).loc Cert.QkvAIdeal.main_arg3) = m ((c.tc : Thread Cert.QkvAIdeal.nD Cert.QkvAIdeal.τ).loc Cert.QkvAIdeal.main_arg3))
      ∧ r.2.sem = fun _ => 0)

def quiescent_QkvARefIdeal [hQkvARefIdeal : Cert.QkvARefIdeal.Facts] : Prop :=
  ∀ (m : (ℓ : Loc Cert.QkvARefIdeal.nD Cert.QkvARefIdeal.τ Cert.QkvARefIdeal.sig) → Buf (Elt Ideal) ℓ) (g : Dev Cert.QkvARefIdeal.nD → PrngReg), Pre_QkvARefIdeal m →
    θ_run (Cert.QkvARefIdeal.defs (F := Ideal)) (onTc (τ := Cert.QkvARefIdeal.τ) (Cert.QkvARefIdeal.main (F := Ideal))) ⟨m, fun _ => 0, g⟩ (fun r => (∀ c : Dev Cert.QkvARefIdeal.nD,
      r.2.mem ((c.tc : Thread Cert.QkvARefIdeal.nD Cert.QkvARefIdeal.τ).loc Cert.QkvARefIdeal.main_arg0) = m ((c.tc : Thread Cert.QkvARefIdeal.nD Cert.QkvARefIdeal.τ).loc Cert.QkvARefIdeal.main_arg0)
      ∧ r.2.mem ((c.tc : Thread Cert.QkvARefIdeal.nD Cert.QkvARefIdeal.τ).loc Cert.QkvARefIdeal.main_arg1) = m ((c.tc : Thread Cert.QkvARefIdeal.nD Cert.QkvARefIdeal.τ).loc Cert.QkvARefIdeal.main_arg1)
      ∧ r.2.mem ((c.tc : Thread Cert.QkvARefIdeal.nD Cert.QkvARefIdeal.τ).loc Cert.QkvARefIdeal.main_arg2) = m ((c.tc : Thread Cert.QkvARefIdeal.nD Cert.QkvARefIdeal.τ).loc Cert.QkvARefIdeal.main_arg2)
      ∧ r.2.mem ((c.tc : Thread Cert.QkvARefIdeal.nD Cert.QkvARefIdeal.τ).loc Cert.QkvARefIdeal.main_arg3) = m ((c.tc : Thread Cert.QkvARefIdeal.nD Cert.QkvARefIdeal.τ).loc Cert.QkvARefIdeal.main_arg3))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1)
      ∧ r.2.mem ((c.tc : Thread Cert.QkvB.nD Cert.QkvB.τ).loc Cert.QkvB.main_arg2) = m ((c.tc : Thread Cert.QkvB.nD Cert.QkvB.τ).loc Cert.QkvB.main_arg2)
      ∧ r.2.mem ((c.tc : Thread Cert.QkvB.nD Cert.QkvB.τ).loc Cert.QkvB.main_arg3) = m ((c.tc : Thread Cert.QkvB.nD Cert.QkvB.τ).loc Cert.QkvB.main_arg3))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
      ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2)
      ∧ r.2.mem ((c.tc : Thread Cert.QkvBIdeal.nD Cert.QkvBIdeal.τ).loc Cert.QkvBIdeal.main_arg3) = m ((c.tc : Thread Cert.QkvBIdeal.nD Cert.QkvBIdeal.τ).loc Cert.QkvBIdeal.main_arg3))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1)
      ∧ r.2.mem ((c.tc : Thread Cert.QkvBRefIdeal.nD Cert.QkvBRefIdeal.τ).loc Cert.QkvBRefIdeal.main_arg2) = m ((c.tc : Thread Cert.QkvBRefIdeal.nD Cert.QkvBRefIdeal.τ).loc Cert.QkvBRefIdeal.main_arg2)
      ∧ r.2.mem ((c.tc : Thread Cert.QkvBRefIdeal.nD Cert.QkvBRefIdeal.τ).loc Cert.QkvBRefIdeal.main_arg3) = m ((c.tc : Thread Cert.QkvBRefIdeal.nD Cert.QkvBRefIdeal.τ).loc Cert.QkvBRefIdeal.main_arg3))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1)
      ∧ r.2.mem ((c.tc : Thread Cert.QkvC.nD Cert.QkvC.τ).loc Cert.QkvC.main_arg2) = m ((c.tc : Thread Cert.QkvC.nD Cert.QkvC.τ).loc Cert.QkvC.main_arg2)
      ∧ r.2.mem ((c.tc : Thread Cert.QkvC.nD Cert.QkvC.τ).loc Cert.QkvC.main_arg3) = m ((c.tc : Thread Cert.QkvC.nD Cert.QkvC.τ).loc Cert.QkvC.main_arg3))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1)
      ∧ r.2.mem ((c.tc : Thread Cert.QkvCIdeal.nD Cert.QkvCIdeal.τ).loc Cert.QkvCIdeal.main_arg2) = m ((c.tc : Thread Cert.QkvCIdeal.nD Cert.QkvCIdeal.τ).loc Cert.QkvCIdeal.main_arg2)
      ∧ r.2.mem ((c.tc : Thread Cert.QkvCIdeal.nD Cert.QkvCIdeal.τ).loc Cert.QkvCIdeal.main_arg3) = m ((c.tc : Thread Cert.QkvCIdeal.nD Cert.QkvCIdeal.τ).loc Cert.QkvCIdeal.main_arg3))
      ∧ r.2.sem = fun _ => 0)

def quiescent_QkvCRefIdeal [hQkvCRefIdeal : Cert.QkvCRefIdeal.Facts] : Prop :=
  ∀ (m : (ℓ : Loc Cert.QkvCRefIdeal.nD Cert.QkvCRefIdeal.τ Cert.QkvCRefIdeal.sig) → Buf (Elt Ideal) ℓ) (g : Dev Cert.QkvCRefIdeal.nD → PrngReg), Pre_QkvCRefIdeal m →
    θ_run (Cert.QkvCRefIdeal.defs (F := Ideal)) (onTc (τ := Cert.QkvCRefIdeal.τ) (Cert.QkvCRefIdeal.main (F := Ideal))) ⟨m, fun _ => 0, g⟩ (fun r => (∀ c : Dev Cert.QkvCRefIdeal.nD,
      r.2.mem ((c.tc : Thread Cert.QkvCRefIdeal.nD Cert.QkvCRefIdeal.τ).loc Cert.QkvCRefIdeal.main_arg0) = m ((c.tc : Thread Cert.QkvCRefIdeal.nD Cert.QkvCRefIdeal.τ).loc Cert.QkvCRefIdeal.main_arg0)
      ∧ r.2.mem ((c.tc : Thread Cert.QkvCRefIdeal.nD Cert.QkvCRefIdeal.τ).loc Cert.QkvCRefIdeal.main_arg1) = m ((c.tc : Thread Cert.QkvCRefIdeal.nD Cert.QkvCRefIdeal.τ).loc Cert.QkvCRefIdeal.main_arg1)
      ∧ r.2.mem ((c.tc : Thread Cert.QkvCRefIdeal.nD Cert.QkvCRefIdeal.τ).loc Cert.QkvCRefIdeal.main_arg2) = m ((c.tc : Thread Cert.QkvCRefIdeal.nD Cert.QkvCRefIdeal.τ).loc Cert.QkvCRefIdeal.main_arg2)
      ∧ r.2.mem ((c.tc : Thread Cert.QkvCRefIdeal.nD Cert.QkvCRefIdeal.τ).loc Cert.QkvCRefIdeal.main_arg3) = m ((c.tc : Thread Cert.QkvCRefIdeal.nD Cert.QkvCRefIdeal.τ).loc Cert.QkvCRefIdeal.main_arg3))
      ∧ r.2.sem = fun _ => 0)

def quiescent_TailA [hTailA : Cert.TailA.Facts] : Prop :=
  ∀ (m : (ℓ : Loc Cert.TailA.nD Cert.TailA.τ Cert.TailA.sig) → Buf (Elt Bits) ℓ) (g : Dev Cert.TailA.nD → PrngReg), Pre_TailA m →
    θ_run (Cert.TailA.defs (F := Bits)) (onTc (τ := Cert.TailA.τ) (Cert.TailA.main (F := Bits))) ⟨m, fun _ => 0, g⟩ (fun r => (∀ c : Dev Cert.TailA.nD,
      r.2.mem ((c.tc : Thread Cert.TailA.nD Cert.TailA.τ).loc Cert.TailA.main_arg0) = m ((c.tc : Thread Cert.TailA.nD Cert.TailA.τ).loc Cert.TailA.main_arg0)
      ∧ r.2.mem ((c.tc : Thread Cert.TailA.nD Cert.TailA.τ).loc Cert.TailA.main_arg1) = m ((c.tc : Thread Cert.TailA.nD Cert.TailA.τ).loc Cert.TailA.main_arg1)
      ∧ r.2.mem ((c.tc : Thread Cert.TailA.nD Cert.TailA.τ).loc Cert.TailA.main_arg2) = m ((c.tc : Thread Cert.TailA.nD Cert.TailA.τ).loc Cert.TailA.main_arg2)
      ∧ r.2.mem ((c.tc : Thread Cert.TailA.nD Cert.TailA.τ).loc Cert.TailA.main_arg3) = m ((c.tc : Thread Cert.TailA.nD Cert.TailA.τ).loc Cert.TailA.main_arg3)
      ∧ r.2.mem ((c.tc : Thread Cert.TailA.nD Cert.TailA.τ).loc Cert.TailA.main_arg4) = m ((c.tc : Thread Cert.TailA.nD Cert.TailA.τ).loc Cert.TailA.main_arg4)
      ∧ r.2.mem ((c.tc : Thread Cert.TailA.nD Cert.TailA.τ).loc Cert.TailA.main_arg5) = m ((c.tc : Thread Cert.TailA.nD Cert.TailA.τ).loc Cert.TailA.main_arg5))
      ∧ r.2.sem = fun _ => 0)

def quiescent_TailAIdeal [hTailAIdeal : Cert.TailAIdeal.Facts] : Prop :=
  ∀ (m : (ℓ : Loc Cert.TailAIdeal.nD Cert.TailAIdeal.τ Cert.TailAIdeal.sig) → Buf (Elt Ideal) ℓ) (g : Dev Cert.TailAIdeal.nD → PrngReg), Pre_TailAIdeal m →
    θ_run (Cert.TailAIdeal.defs (F := Ideal)) (onTc (τ := Cert.TailAIdeal.τ) (Cert.TailAIdeal.main (F := Ideal))) ⟨m, fun _ => 0, g⟩ (fun r => (∀ c : Dev Cert.TailAIdeal.nD,
      r.2.mem ((c.tc : Thread Cert.TailAIdeal.nD Cert.TailAIdeal.τ).loc Cert.TailAIdeal.main_arg0) = m ((c.tc : Thread Cert.TailAIdeal.nD Cert.TailAIdeal.τ).loc Cert.TailAIdeal.main_arg0)
      ∧ r.2.mem ((c.tc : Thread Cert.TailAIdeal.nD Cert.TailAIdeal.τ).loc Cert.TailAIdeal.main_arg1) = m ((c.tc : Thread Cert.TailAIdeal.nD Cert.TailAIdeal.τ).loc Cert.TailAIdeal.main_arg1)
      ∧ r.2.mem ((c.tc : Thread Cert.TailAIdeal.nD Cert.TailAIdeal.τ).loc Cert.TailAIdeal.main_arg2) = m ((c.tc : Thread Cert.TailAIdeal.nD Cert.TailAIdeal.τ).loc Cert.TailAIdeal.main_arg2)
      ∧ r.2.mem ((c.tc : Thread Cert.TailAIdeal.nD Cert.TailAIdeal.τ).loc Cert.TailAIdeal.main_arg3) = m ((c.tc : Thread Cert.TailAIdeal.nD Cert.TailAIdeal.τ).loc Cert.TailAIdeal.main_arg3)
      ∧ r.2.mem ((c.tc : Thread Cert.TailAIdeal.nD Cert.TailAIdeal.τ).loc Cert.TailAIdeal.main_arg4) = m ((c.tc : Thread Cert.TailAIdeal.nD Cert.TailAIdeal.τ).loc Cert.TailAIdeal.main_arg4)
      ∧ r.2.mem ((c.tc : Thread Cert.TailAIdeal.nD Cert.TailAIdeal.τ).loc Cert.TailAIdeal.main_arg5) = m ((c.tc : Thread Cert.TailAIdeal.nD Cert.TailAIdeal.τ).loc Cert.TailAIdeal.main_arg5))
      ∧ r.2.sem = fun _ => 0)

def quiescent_TailARefIdeal [hTailARefIdeal : Cert.TailARefIdeal.Facts] : Prop :=
  ∀ (m : (ℓ : Loc Cert.TailARefIdeal.nD Cert.TailARefIdeal.τ Cert.TailARefIdeal.sig) → Buf (Elt Ideal) ℓ) (g : Dev Cert.TailARefIdeal.nD → PrngReg), Pre_TailARefIdeal m →
    θ_run (Cert.TailARefIdeal.defs (F := Ideal)) (onTc (τ := Cert.TailARefIdeal.τ) (Cert.TailARefIdeal.main (F := Ideal))) ⟨m, fun _ => 0, g⟩ (fun r => (∀ c : Dev Cert.TailARefIdeal.nD,
      r.2.mem ((c.tc : Thread Cert.TailARefIdeal.nD Cert.TailARefIdeal.τ).loc Cert.TailARefIdeal.main_arg0) = m ((c.tc : Thread Cert.TailARefIdeal.nD Cert.TailARefIdeal.τ).loc Cert.TailARefIdeal.main_arg0)
      ∧ r.2.mem ((c.tc : Thread Cert.TailARefIdeal.nD Cert.TailARefIdeal.τ).loc Cert.TailARefIdeal.main_arg1) = m ((c.tc : Thread Cert.TailARefIdeal.nD Cert.TailARefIdeal.τ).loc Cert.TailARefIdeal.main_arg1)
      ∧ r.2.mem ((c.tc : Thread Cert.TailARefIdeal.nD Cert.TailARefIdeal.τ).loc Cert.TailARefIdeal.main_arg2) = m ((c.tc : Thread Cert.TailARefIdeal.nD Cert.TailARefIdeal.τ).loc Cert.TailARefIdeal.main_arg2)
      ∧ r.2.mem ((c.tc : Thread Cert.TailARefIdeal.nD Cert.TailARefIdeal.τ).loc Cert.TailARefIdeal.main_arg3) = m ((c.tc : Thread Cert.TailARefIdeal.nD Cert.TailARefIdeal.τ).loc Cert.TailARefIdeal.main_arg3)
      ∧ r.2.mem ((c.tc : Thread Cert.TailARefIdeal.nD Cert.TailARefIdeal.τ).loc Cert.TailARefIdeal.main_arg4) = m ((c.tc : Thread Cert.TailARefIdeal.nD Cert.TailARefIdeal.τ).loc Cert.TailARefIdeal.main_arg4)
      ∧ r.2.mem ((c.tc : Thread Cert.TailARefIdeal.nD Cert.TailARefIdeal.τ).loc Cert.TailARefIdeal.main_arg5) = m ((c.tc : Thread Cert.TailARefIdeal.nD Cert.TailARefIdeal.τ).loc Cert.TailARefIdeal.main_arg5))
      ∧ r.2.sem = fun _ => 0)

def quiescent_TailB [hTailB : Cert.TailB.Facts] : Prop :=
  ∀ (m : (ℓ : Loc Cert.TailB.nD Cert.TailB.τ Cert.TailB.sig) → Buf (Elt Bits) ℓ) (g : Dev Cert.TailB.nD → PrngReg), Pre_TailB m →
    θ_run (Cert.TailB.defs (F := Bits)) (onTc (τ := Cert.TailB.τ) (Cert.TailB.main (F := Bits))) ⟨m, fun _ => 0, g⟩ (fun r => (∀ c : Dev Cert.TailB.nD,
      r.2.mem ((c.tc : Thread Cert.TailB.nD Cert.TailB.τ).loc Cert.TailB.main_arg0) = m ((c.tc : Thread Cert.TailB.nD Cert.TailB.τ).loc Cert.TailB.main_arg0)
      ∧ r.2.mem ((c.tc : Thread Cert.TailB.nD Cert.TailB.τ).loc Cert.TailB.main_arg1) = m ((c.tc : Thread Cert.TailB.nD Cert.TailB.τ).loc Cert.TailB.main_arg1)
      ∧ r.2.mem ((c.tc : Thread Cert.TailB.nD Cert.TailB.τ).loc Cert.TailB.main_arg2) = m ((c.tc : Thread Cert.TailB.nD Cert.TailB.τ).loc Cert.TailB.main_arg2)
      ∧ r.2.mem ((c.tc : Thread Cert.TailB.nD Cert.TailB.τ).loc Cert.TailB.main_arg3) = m ((c.tc : Thread Cert.TailB.nD Cert.TailB.τ).loc Cert.TailB.main_arg3)
      ∧ r.2.mem ((c.tc : Thread Cert.TailB.nD Cert.TailB.τ).loc Cert.TailB.main_arg4) = m ((c.tc : Thread Cert.TailB.nD Cert.TailB.τ).loc Cert.TailB.main_arg4))
      ∧ r.2.sem = fun _ => 0)

def quiescent_TailBIdeal [hTailBIdeal : Cert.TailBIdeal.Facts] : Prop :=
  ∀ (m : (ℓ : Loc Cert.TailBIdeal.nD Cert.TailBIdeal.τ Cert.TailBIdeal.sig) → Buf (Elt Ideal) ℓ) (g : Dev Cert.TailBIdeal.nD → PrngReg), Pre_TailBIdeal m →
    θ_run (Cert.TailBIdeal.defs (F := Ideal)) (onTc (τ := Cert.TailBIdeal.τ) (Cert.TailBIdeal.main (F := Ideal))) ⟨m, fun _ => 0, g⟩ (fun r => (∀ c : Dev Cert.TailBIdeal.nD,
      r.2.mem ((c.tc : Thread Cert.TailBIdeal.nD Cert.TailBIdeal.τ).loc Cert.TailBIdeal.main_arg0) = m ((c.tc : Thread Cert.TailBIdeal.nD Cert.TailBIdeal.τ).loc Cert.TailBIdeal.main_arg0)
      ∧ r.2.mem ((c.tc : Thread Cert.TailBIdeal.nD Cert.TailBIdeal.τ).loc Cert.TailBIdeal.main_arg1) = m ((c.tc : Thread Cert.TailBIdeal.nD Cert.TailBIdeal.τ).loc Cert.TailBIdeal.main_arg1)
      ∧ r.2.mem ((c.tc : Thread Cert.TailBIdeal.nD Cert.TailBIdeal.τ).loc Cert.TailBIdeal.main_arg2) = m ((c.tc : Thread Cert.TailBIdeal.nD Cert.TailBIdeal.τ).loc Cert.TailBIdeal.main_arg2)
      ∧ r.2.mem ((c.tc : Thread Cert.TailBIdeal.nD Cert.TailBIdeal.τ).loc Cert.TailBIdeal.main_arg3) = m ((c.tc : Thread Cert.TailBIdeal.nD Cert.TailBIdeal.τ).loc Cert.TailBIdeal.main_arg3)
      ∧ r.2.mem ((c.tc : Thread Cert.TailBIdeal.nD Cert.TailBIdeal.τ).loc Cert.TailBIdeal.main_arg4) = m ((c.tc : Thread Cert.TailBIdeal.nD Cert.TailBIdeal.τ).loc Cert.TailBIdeal.main_arg4))
      ∧ r.2.sem = fun _ => 0)

def quiescent_TailBRefIdeal [hTailBRefIdeal : Cert.TailBRefIdeal.Facts] : Prop :=
  ∀ (m : (ℓ : Loc Cert.TailBRefIdeal.nD Cert.TailBRefIdeal.τ Cert.TailBRefIdeal.sig) → Buf (Elt Ideal) ℓ) (g : Dev Cert.TailBRefIdeal.nD → PrngReg), Pre_TailBRefIdeal m →
    θ_run (Cert.TailBRefIdeal.defs (F := Ideal)) (onTc (τ := Cert.TailBRefIdeal.τ) (Cert.TailBRefIdeal.main (F := Ideal))) ⟨m, fun _ => 0, g⟩ (fun r => (∀ c : Dev Cert.TailBRefIdeal.nD,
      r.2.mem ((c.tc : Thread Cert.TailBRefIdeal.nD Cert.TailBRefIdeal.τ).loc Cert.TailBRefIdeal.main_arg0) = m ((c.tc : Thread Cert.TailBRefIdeal.nD Cert.TailBRefIdeal.τ).loc Cert.TailBRefIdeal.main_arg0)
      ∧ r.2.mem ((c.tc : Thread Cert.TailBRefIdeal.nD Cert.TailBRefIdeal.τ).loc Cert.TailBRefIdeal.main_arg1) = m ((c.tc : Thread Cert.TailBRefIdeal.nD Cert.TailBRefIdeal.τ).loc Cert.TailBRefIdeal.main_arg1)
      ∧ r.2.mem ((c.tc : Thread Cert.TailBRefIdeal.nD Cert.TailBRefIdeal.τ).loc Cert.TailBRefIdeal.main_arg2) = m ((c.tc : Thread Cert.TailBRefIdeal.nD Cert.TailBRefIdeal.τ).loc Cert.TailBRefIdeal.main_arg2)
      ∧ r.2.mem ((c.tc : Thread Cert.TailBRefIdeal.nD Cert.TailBRefIdeal.τ).loc Cert.TailBRefIdeal.main_arg3) = m ((c.tc : Thread Cert.TailBRefIdeal.nD Cert.TailBRefIdeal.τ).loc Cert.TailBRefIdeal.main_arg3)
      ∧ r.2.mem ((c.tc : Thread Cert.TailBRefIdeal.nD Cert.TailBRefIdeal.τ).loc Cert.TailBRefIdeal.main_arg4) = m ((c.tc : Thread Cert.TailBRefIdeal.nD Cert.TailBRefIdeal.τ).loc Cert.TailBRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Kernel_KernelIdeal : Prop :=
  IdealRules.bf16_pair.BufferStatement Cert.KernelIdeal.S2x520x2x128 Cert.KernelIdeal.S2x520x1x128
  ∧ IdealRules.bf16_pair.PackStatement Cert.KernelIdeal.S8x128
  ∧ IdealRules.bf16_pair.Statement Cert.KernelIdeal.S1x8x2x128 Cert.KernelIdeal.S1x8x1x128
  ∧ IdealRules.bf16_pair.Statement Cert.KernelIdeal.S1x512x2x128 Cert.KernelIdeal.S1x512x1x128
  ∧ IdealRules.bf16_pair.Statement Cert.KernelIdeal.S1024x128 Cert.KernelIdeal.S512x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Za_ZaIdeal : Prop :=
  True

def algebraic_ZaIdeal_ZaRefIdeal [hZaIdeal : Cert.ZaIdeal.Facts] [hZaRefIdeal : Cert.ZaRefIdeal.Facts] : Prop :=
  ∀ (m : (ℓ : Loc Cert.ZaIdeal.nD Cert.ZaIdeal.τ Cert.ZaIdeal.sig) → Buf (Elt Ideal) ℓ) (g : Dev Cert.ZaIdeal.nD → PrngReg)
    (m' : (ℓ : Loc Cert.ZaRefIdeal.nD Cert.ZaRefIdeal.τ Cert.ZaRefIdeal.sig) → Buf (Elt Ideal) ℓ) (g' : Dev Cert.ZaRefIdeal.nD → PrngReg), Pre_ZaIdeal m →
    (∀ c : Dev Cert.ZaIdeal.nD,
      m' ((c.tc : Thread Cert.ZaRefIdeal.nD Cert.ZaRefIdeal.τ).loc Cert.ZaRefIdeal.main_arg0) = m ((c.tc : Thread Cert.ZaIdeal.nD Cert.ZaIdeal.τ).loc Cert.ZaIdeal.main_arg0)
      ∧ m' ((c.tc : Thread Cert.ZaRefIdeal.nD Cert.ZaRefIdeal.τ).loc Cert.ZaRefIdeal.main_arg1) = m ((c.tc : Thread Cert.ZaIdeal.nD Cert.ZaIdeal.τ).loc Cert.ZaIdeal.main_arg1)) →
    ∃ (v0 : (c : Dev Cert.ZaIdeal.nD) → Buf (Elt Ideal) ((c.tc : Thread Cert.ZaIdeal.nD Cert.ZaIdeal.τ).loc Cert.ZaIdeal.main_v1)),
      θ_run (Cert.ZaIdeal.defs (F := Ideal)) (onTc (τ := Cert.ZaIdeal.τ) (Cert.ZaIdeal.main (F := Ideal))) ⟨m, fun _ => 0, g⟩ (fun r => ∀ c : Dev Cert.ZaIdeal.nD,
          r.2.mem ((c.tc : Thread Cert.ZaIdeal.nD Cert.ZaIdeal.τ).loc Cert.ZaIdeal.main_v1) = v0 c
          ∧ r.2.mem ((c.tc : Thread Cert.ZaIdeal.nD Cert.ZaIdeal.τ).loc Cert.ZaIdeal.main_arg0) = m ((c.tc : Thread Cert.ZaIdeal.nD Cert.ZaIdeal.τ).loc Cert.ZaIdeal.main_arg0)
          ∧ r.2.mem ((c.tc : Thread Cert.ZaIdeal.nD Cert.ZaIdeal.τ).loc Cert.ZaIdeal.main_arg1) = m ((c.tc : Thread Cert.ZaIdeal.nD Cert.ZaIdeal.τ).loc Cert.ZaIdeal.main_arg1))
      ∧ θ_run (Cert.ZaRefIdeal.defs (F := Ideal)) (onTc (τ := Cert.ZaRefIdeal.τ) (Cert.ZaRefIdeal.main (F := Ideal))) ⟨m', fun _ => 0, g'⟩ (fun r => ∀ c : Dev Cert.ZaRefIdeal.nD,
          r.2.mem ((c.tc : Thread Cert.ZaRefIdeal.nD Cert.ZaRefIdeal.τ).loc Cert.ZaRefIdeal.main_v5) = v0 c
          ∧ r.2.mem ((c.tc : Thread Cert.ZaRefIdeal.nD Cert.ZaRefIdeal.τ).loc Cert.ZaRefIdeal.main_arg0) = m' ((c.tc : Thread Cert.ZaRefIdeal.nD Cert.ZaRefIdeal.τ).loc Cert.ZaRefIdeal.main_arg0)
          ∧ r.2.mem ((c.tc : Thread Cert.ZaRefIdeal.nD Cert.ZaRefIdeal.τ).loc Cert.ZaRefIdeal.main_arg1) = m' ((c.tc : Thread Cert.ZaRefIdeal.nD Cert.ZaRefIdeal.τ).loc Cert.ZaRefIdeal.main_arg1))

def preserves_Zs_ZsIdeal : Prop :=
  True

def algebraic_ZsIdeal_ZsRefIdeal [hZsIdeal : Cert.ZsIdeal.Facts] [hZsRefIdeal : Cert.ZsRefIdeal.Facts] : Prop :=
  ∀ (m : (ℓ : Loc Cert.ZsIdeal.nD Cert.ZsIdeal.τ Cert.ZsIdeal.sig) → Buf (Elt Ideal) ℓ) (g : Dev Cert.ZsIdeal.nD → PrngReg)
    (m' : (ℓ : Loc Cert.ZsRefIdeal.nD Cert.ZsRefIdeal.τ Cert.ZsRefIdeal.sig) → Buf (Elt Ideal) ℓ) (g' : Dev Cert.ZsRefIdeal.nD → PrngReg), Pre_ZsIdeal m →
    (∀ c : Dev Cert.ZsIdeal.nD,
      m' ((c.tc : Thread Cert.ZsRefIdeal.nD Cert.ZsRefIdeal.τ).loc Cert.ZsRefIdeal.main_arg0) = m ((c.tc : Thread Cert.ZsIdeal.nD Cert.ZsIdeal.τ).loc Cert.ZsIdeal.main_arg0)
      ∧ m' ((c.tc : Thread Cert.ZsRefIdeal.nD Cert.ZsRefIdeal.τ).loc Cert.ZsRefIdeal.main_arg1) = m ((c.tc : Thread Cert.ZsIdeal.nD Cert.ZsIdeal.τ).loc Cert.ZsIdeal.main_arg1)) →
    ∃ (v0 : (c : Dev Cert.ZsIdeal.nD) → Buf (Elt Ideal) ((c.tc : Thread Cert.ZsIdeal.nD Cert.ZsIdeal.τ).loc Cert.ZsIdeal.main_v1)),
      θ_run (Cert.ZsIdeal.defs (F := Ideal)) (onTc (τ := Cert.ZsIdeal.τ) (Cert.ZsIdeal.main (F := Ideal))) ⟨m, fun _ => 0, g⟩ (fun r => ∀ c : Dev Cert.ZsIdeal.nD,
          r.2.mem ((c.tc : Thread Cert.ZsIdeal.nD Cert.ZsIdeal.τ).loc Cert.ZsIdeal.main_v1) = v0 c
          ∧ r.2.mem ((c.tc : Thread Cert.ZsIdeal.nD Cert.ZsIdeal.τ).loc Cert.ZsIdeal.main_arg0) = m ((c.tc : Thread Cert.ZsIdeal.nD Cert.ZsIdeal.τ).loc Cert.ZsIdeal.main_arg0)
          ∧ r.2.mem ((c.tc : Thread Cert.ZsIdeal.nD Cert.ZsIdeal.τ).loc Cert.ZsIdeal.main_arg1) = m ((c.tc : Thread Cert.ZsIdeal.nD Cert.ZsIdeal.τ).loc Cert.ZsIdeal.main_arg1))
      ∧ θ_run (Cert.ZsRefIdeal.defs (F := Ideal)) (onTc (τ := Cert.ZsRefIdeal.τ) (Cert.ZsRefIdeal.main (F := Ideal))) ⟨m', fun _ => 0, g'⟩ (fun r => ∀ c : Dev Cert.ZsRefIdeal.nD,
          r.2.mem ((c.tc : Thread Cert.ZsRefIdeal.nD Cert.ZsRefIdeal.τ).loc Cert.ZsRefIdeal.main_v5) = v0 c
          ∧ r.2.mem ((c.tc : Thread Cert.ZsRefIdeal.nD Cert.ZsRefIdeal.τ).loc Cert.ZsRefIdeal.main_arg0) = m' ((c.tc : Thread Cert.ZsRefIdeal.nD Cert.ZsRefIdeal.τ).loc Cert.ZsRefIdeal.main_arg0)
          ∧ r.2.mem ((c.tc : Thread Cert.ZsRefIdeal.nD Cert.ZsRefIdeal.τ).loc Cert.ZsRefIdeal.main_arg1) = m' ((c.tc : Thread Cert.ZsRefIdeal.nD Cert.ZsRefIdeal.τ).loc Cert.ZsRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_QkvA_QkvAIdeal : Prop :=
  True

def algebraic_QkvAIdeal_QkvARefIdeal [hQkvAIdeal : Cert.QkvAIdeal.Facts] [hQkvARefIdeal : Cert.QkvARefIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvARefIdeal.nD Cert.QkvARefIdeal.τ Cert.QkvARefIdeal.sig) → Buf (Elt Ideal) ℓ) (g' : Dev Cert.QkvARefIdeal.nD → PrngReg), Pre_QkvAIdeal m →
    (∀ c : Dev Cert.QkvAIdeal.nD,
      m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0)
      ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1)
      ∧ m' ((c.tc : Thread Cert.QkvARefIdeal.nD Cert.QkvARefIdeal.τ).loc Cert.QkvARefIdeal.main_arg2) = m ((c.tc : Thread Cert.QkvAIdeal.nD Cert.QkvAIdeal.τ).loc Cert.QkvAIdeal.main_arg2)
      ∧ m' ((c.tc : Thread Cert.QkvARefIdeal.nD Cert.QkvARefIdeal.τ).loc Cert.QkvARefIdeal.main_arg3) = m ((c.tc : Thread Cert.QkvAIdeal.nD Cert.QkvAIdeal.τ).loc Cert.QkvAIdeal.main_arg3)) →
    ∃ (v0 : (c : Dev Cert.QkvAIdeal.nD) → Buf (Elt Ideal) ((c.tc : Thread Cert.QkvAIdeal.nD Cert.QkvAIdeal.τ).loc Cert.QkvAIdeal.main_v6)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v6) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1)
          ∧ r.2.mem ((c.tc : Thread Cert.QkvAIdeal.nD Cert.QkvAIdeal.τ).loc Cert.QkvAIdeal.main_arg2) = m ((c.tc : Thread Cert.QkvAIdeal.nD Cert.QkvAIdeal.τ).loc Cert.QkvAIdeal.main_arg2)
          ∧ r.2.mem ((c.tc : Thread Cert.QkvAIdeal.nD Cert.QkvAIdeal.τ).loc Cert.QkvAIdeal.main_arg3) = m ((c.tc : Thread Cert.QkvAIdeal.nD Cert.QkvAIdeal.τ).loc Cert.QkvAIdeal.main_arg3))
      ∧ θ_run (Cert.QkvARefIdeal.defs (F := Ideal)) (onTc (τ := Cert.QkvARefIdeal.τ) (Cert.QkvARefIdeal.main (F := Ideal))) ⟨m', fun _ => 0, g'⟩ (fun r => ∀ c : Dev Cert.QkvARefIdeal.nD,
          r.2.mem ((c.tc : Thread Cert.QkvARefIdeal.nD Cert.QkvARefIdeal.τ).loc Cert.QkvARefIdeal.main_v51) = v0 c
          ∧ r.2.mem ((c.tc : Thread Cert.QkvARefIdeal.nD Cert.QkvARefIdeal.τ).loc Cert.QkvARefIdeal.main_arg0) = m' ((c.tc : Thread Cert.QkvARefIdeal.nD Cert.QkvARefIdeal.τ).loc Cert.QkvARefIdeal.main_arg0)
          ∧ r.2.mem ((c.tc : Thread Cert.QkvARefIdeal.nD Cert.QkvARefIdeal.τ).loc Cert.QkvARefIdeal.main_arg1) = m' ((c.tc : Thread Cert.QkvARefIdeal.nD Cert.QkvARefIdeal.τ).loc Cert.QkvARefIdeal.main_arg1)
          ∧ r.2.mem ((c.tc : Thread Cert.QkvARefIdeal.nD Cert.QkvARefIdeal.τ).loc Cert.QkvARefIdeal.main_arg2) = m' ((c.tc : Thread Cert.QkvARefIdeal.nD Cert.QkvARefIdeal.τ).loc Cert.QkvARefIdeal.main_arg2)
          ∧ r.2.mem ((c.tc : Thread Cert.QkvARefIdeal.nD Cert.QkvARefIdeal.τ).loc Cert.QkvARefIdeal.main_arg3) = m' ((c.tc : Thread Cert.QkvARefIdeal.nD Cert.QkvARefIdeal.τ).loc Cert.QkvARefIdeal.main_arg3))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)
      ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2)
      ∧ m' ((c.tc : Thread Cert.QkvBRefIdeal.nD Cert.QkvBRefIdeal.τ).loc Cert.QkvBRefIdeal.main_arg3) = m ((c.tc : Thread Cert.QkvBIdeal.nD Cert.QkvBIdeal.τ).loc Cert.QkvBIdeal.main_arg3)) →
    ∃ (v0 : (c : Dev Cert.QkvBIdeal.nD) → Buf (Elt Ideal) ((c.tc : Thread Cert.QkvBIdeal.nD Cert.QkvBIdeal.τ).loc Cert.QkvBIdeal.main_v6)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v6) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
          ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2)
          ∧ r.2.mem ((c.tc : Thread Cert.QkvBIdeal.nD Cert.QkvBIdeal.τ).loc Cert.QkvBIdeal.main_arg3) = m ((c.tc : Thread Cert.QkvBIdeal.nD Cert.QkvBIdeal.τ).loc Cert.QkvBIdeal.main_arg3))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v51) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1)
          ∧ r.2.mem ((c.tc : Thread Cert.QkvBRefIdeal.nD Cert.QkvBRefIdeal.τ).loc Cert.QkvBRefIdeal.main_arg2) = m' ((c.tc : Thread Cert.QkvBRefIdeal.nD Cert.QkvBRefIdeal.τ).loc Cert.QkvBRefIdeal.main_arg2)
          ∧ r.2.mem ((c.tc : Thread Cert.QkvBRefIdeal.nD Cert.QkvBRefIdeal.τ).loc Cert.QkvBRefIdeal.main_arg3) = m' ((c.tc : Thread Cert.QkvBRefIdeal.nD Cert.QkvBRefIdeal.τ).loc Cert.QkvBRefIdeal.main_arg3))

def preserves_QkvC_QkvCIdeal : Prop :=
  True

def algebraic_QkvCIdeal_QkvCRefIdeal [hQkvCIdeal : Cert.QkvCIdeal.Facts] [hQkvCRefIdeal : Cert.QkvCRefIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCRefIdeal.nD Cert.QkvCRefIdeal.τ Cert.QkvCRefIdeal.sig) → Buf (Elt Ideal) ℓ) (g' : Dev Cert.QkvCRefIdeal.nD → PrngReg), Pre_QkvCIdeal m →
    (∀ c : Dev Cert.QkvCIdeal.nD,
      m' ((c.tc : Thread Cert.QkvCRefIdeal.nD Cert.QkvCRefIdeal.τ).loc Cert.QkvCRefIdeal.main_arg0) = m ((c.tc : Thread Cert.QkvCIdeal.nD Cert.QkvCIdeal.τ).loc Cert.QkvCIdeal.main_arg0)
      ∧ m' ((c.tc : Thread Cert.QkvCRefIdeal.nD Cert.QkvCRefIdeal.τ).loc Cert.QkvCRefIdeal.main_arg1) = m ((c.tc : Thread Cert.QkvCIdeal.nD Cert.QkvCIdeal.τ).loc Cert.QkvCIdeal.main_arg1)
      ∧ m' ((c.tc : Thread Cert.QkvCRefIdeal.nD Cert.QkvCRefIdeal.τ).loc Cert.QkvCRefIdeal.main_arg2) = m ((c.tc : Thread Cert.QkvCIdeal.nD Cert.QkvCIdeal.τ).loc Cert.QkvCIdeal.main_arg2)
      ∧ m' ((c.tc : Thread Cert.QkvCRefIdeal.nD Cert.QkvCRefIdeal.τ).loc Cert.QkvCRefIdeal.main_arg3) = m ((c.tc : Thread Cert.QkvCIdeal.nD Cert.QkvCIdeal.τ).loc Cert.QkvCIdeal.main_arg3)) →
    ∃ (v0 : (c : Dev Cert.QkvCIdeal.nD) → Buf (Elt Ideal) ((c.tc : Thread Cert.QkvCIdeal.nD Cert.QkvCIdeal.τ).loc Cert.QkvCIdeal.main_v6)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v6) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1)
          ∧ r.2.mem ((c.tc : Thread Cert.QkvCIdeal.nD Cert.QkvCIdeal.τ).loc Cert.QkvCIdeal.main_arg2) = m ((c.tc : Thread Cert.QkvCIdeal.nD Cert.QkvCIdeal.τ).loc Cert.QkvCIdeal.main_arg2)
          ∧ r.2.mem ((c.tc : Thread Cert.QkvCIdeal.nD Cert.QkvCIdeal.τ).loc Cert.QkvCIdeal.main_arg3) = m ((c.tc : Thread Cert.QkvCIdeal.nD Cert.QkvCIdeal.τ).loc Cert.QkvCIdeal.main_arg3))
      ∧ θ_run (Cert.QkvCRefIdeal.defs (F := Ideal)) (onTc (τ := Cert.QkvCRefIdeal.τ) (Cert.QkvCRefIdeal.main (F := Ideal))) ⟨m', fun _ => 0, g'⟩ (fun r => ∀ c : Dev Cert.QkvCRefIdeal.nD,
          r.2.mem ((c.tc : Thread Cert.QkvCRefIdeal.nD Cert.QkvCRefIdeal.τ).loc Cert.QkvCRefIdeal.main_v51) = v0 c
          ∧ r.2.mem ((c.tc : Thread Cert.QkvCRefIdeal.nD Cert.QkvCRefIdeal.τ).loc Cert.QkvCRefIdeal.main_arg0) = m' ((c.tc : Thread Cert.QkvCRefIdeal.nD Cert.QkvCRefIdeal.τ).loc Cert.QkvCRefIdeal.main_arg0)
          ∧ r.2.mem ((c.tc : Thread Cert.QkvCRefIdeal.nD Cert.QkvCRefIdeal.τ).loc Cert.QkvCRefIdeal.main_arg1) = m' ((c.tc : Thread Cert.QkvCRefIdeal.nD Cert.QkvCRefIdeal.τ).loc Cert.QkvCRefIdeal.main_arg1)
          ∧ r.2.mem ((c.tc : Thread Cert.QkvCRefIdeal.nD Cert.QkvCRefIdeal.τ).loc Cert.QkvCRefIdeal.main_arg2) = m' ((c.tc : Thread Cert.QkvCRefIdeal.nD Cert.QkvCRefIdeal.τ).loc Cert.QkvCRefIdeal.main_arg2)
          ∧ r.2.mem ((c.tc : Thread Cert.QkvCRefIdeal.nD Cert.QkvCRefIdeal.τ).loc Cert.QkvCRefIdeal.main_arg3) = m' ((c.tc : Thread Cert.QkvCRefIdeal.nD Cert.QkvCRefIdeal.τ).loc Cert.QkvCRefIdeal.main_arg3))

def preserves_TailA_TailAIdeal : Prop :=
  True

def algebraic_TailAIdeal_TailARefIdeal [hTailAIdeal : Cert.TailAIdeal.Facts] [hTailARefIdeal : Cert.TailARefIdeal.Facts] : Prop :=
  ∀ (m : (ℓ : Loc Cert.TailAIdeal.nD Cert.TailAIdeal.τ Cert.TailAIdeal.sig) → Buf (Elt Ideal) ℓ) (g : Dev Cert.TailAIdeal.nD → PrngReg)
    (m' : (ℓ : Loc Cert.TailARefIdeal.nD Cert.TailARefIdeal.τ Cert.TailARefIdeal.sig) → Buf (Elt Ideal) ℓ) (g' : Dev Cert.TailARefIdeal.nD → PrngReg), Pre_TailAIdeal m →
    (∀ c : Dev Cert.TailAIdeal.nD,
      m' ((c.tc : Thread Cert.TailARefIdeal.nD Cert.TailARefIdeal.τ).loc Cert.TailARefIdeal.main_arg0) = m ((c.tc : Thread Cert.TailAIdeal.nD Cert.TailAIdeal.τ).loc Cert.TailAIdeal.main_arg0)
      ∧ m' ((c.tc : Thread Cert.TailARefIdeal.nD Cert.TailARefIdeal.τ).loc Cert.TailARefIdeal.main_arg1) = m ((c.tc : Thread Cert.TailAIdeal.nD Cert.TailAIdeal.τ).loc Cert.TailAIdeal.main_arg1)
      ∧ m' ((c.tc : Thread Cert.TailARefIdeal.nD Cert.TailARefIdeal.τ).loc Cert.TailARefIdeal.main_arg2) = m ((c.tc : Thread Cert.TailAIdeal.nD Cert.TailAIdeal.τ).loc Cert.TailAIdeal.main_arg2)
      ∧ m' ((c.tc : Thread Cert.TailARefIdeal.nD Cert.TailARefIdeal.τ).loc Cert.TailARefIdeal.main_arg3) = m ((c.tc : Thread Cert.TailAIdeal.nD Cert.TailAIdeal.τ).loc Cert.TailAIdeal.main_arg3)
      ∧ m' ((c.tc : Thread Cert.TailARefIdeal.nD Cert.TailARefIdeal.τ).loc Cert.TailARefIdeal.main_arg4) = m ((c.tc : Thread Cert.TailAIdeal.nD Cert.TailAIdeal.τ).loc Cert.TailAIdeal.main_arg4)
      ∧ m' ((c.tc : Thread Cert.TailARefIdeal.nD Cert.TailARefIdeal.τ).loc Cert.TailARefIdeal.main_arg5) = m ((c.tc : Thread Cert.TailAIdeal.nD Cert.TailAIdeal.τ).loc Cert.TailAIdeal.main_arg5)) →
    ∃ (v0 : (c : Dev Cert.TailAIdeal.nD) → Buf (Elt Ideal) ((c.tc : Thread Cert.TailAIdeal.nD Cert.TailAIdeal.τ).loc Cert.TailAIdeal.main_v9)),
      θ_run (Cert.TailAIdeal.defs (F := Ideal)) (onTc (τ := Cert.TailAIdeal.τ) (Cert.TailAIdeal.main (F := Ideal))) ⟨m, fun _ => 0, g⟩ (fun r => ∀ c : Dev Cert.TailAIdeal.nD,
          r.2.mem ((c.tc : Thread Cert.TailAIdeal.nD Cert.TailAIdeal.τ).loc Cert.TailAIdeal.main_v9) = v0 c
          ∧ r.2.mem ((c.tc : Thread Cert.TailAIdeal.nD Cert.TailAIdeal.τ).loc Cert.TailAIdeal.main_arg0) = m ((c.tc : Thread Cert.TailAIdeal.nD Cert.TailAIdeal.τ).loc Cert.TailAIdeal.main_arg0)
          ∧ r.2.mem ((c.tc : Thread Cert.TailAIdeal.nD Cert.TailAIdeal.τ).loc Cert.TailAIdeal.main_arg1) = m ((c.tc : Thread Cert.TailAIdeal.nD Cert.TailAIdeal.τ).loc Cert.TailAIdeal.main_arg1)
          ∧ r.2.mem ((c.tc : Thread Cert.TailAIdeal.nD Cert.TailAIdeal.τ).loc Cert.TailAIdeal.main_arg2) = m ((c.tc : Thread Cert.TailAIdeal.nD Cert.TailAIdeal.τ).loc Cert.TailAIdeal.main_arg2)
          ∧ r.2.mem ((c.tc : Thread Cert.TailAIdeal.nD Cert.TailAIdeal.τ).loc Cert.TailAIdeal.main_arg3) = m ((c.tc : Thread Cert.TailAIdeal.nD Cert.TailAIdeal.τ).loc Cert.TailAIdeal.main_arg3)
          ∧ r.2.mem ((c.tc : Thread Cert.TailAIdeal.nD Cert.TailAIdeal.τ).loc Cert.TailAIdeal.main_arg4) = m ((c.tc : Thread Cert.TailAIdeal.nD Cert.TailAIdeal.τ).loc Cert.TailAIdeal.main_arg4)
          ∧ r.2.mem ((c.tc : Thread Cert.TailAIdeal.nD Cert.TailAIdeal.τ).loc Cert.TailAIdeal.main_arg5) = m ((c.tc : Thread Cert.TailAIdeal.nD Cert.TailAIdeal.τ).loc Cert.TailAIdeal.main_arg5))
      ∧ θ_run (Cert.TailARefIdeal.defs (F := Ideal)) (onTc (τ := Cert.TailARefIdeal.τ) (Cert.TailARefIdeal.main (F := Ideal))) ⟨m', fun _ => 0, g'⟩ (fun r => ∀ c : Dev Cert.TailARefIdeal.nD,
          r.2.mem ((c.tc : Thread Cert.TailARefIdeal.nD Cert.TailARefIdeal.τ).loc Cert.TailARefIdeal.main_v27) = v0 c
          ∧ r.2.mem ((c.tc : Thread Cert.TailARefIdeal.nD Cert.TailARefIdeal.τ).loc Cert.TailARefIdeal.main_arg0) = m' ((c.tc : Thread Cert.TailARefIdeal.nD Cert.TailARefIdeal.τ).loc Cert.TailARefIdeal.main_arg0)
          ∧ r.2.mem ((c.tc : Thread Cert.TailARefIdeal.nD Cert.TailARefIdeal.τ).loc Cert.TailARefIdeal.main_arg1) = m' ((c.tc : Thread Cert.TailARefIdeal.nD Cert.TailARefIdeal.τ).loc Cert.TailARefIdeal.main_arg1)
          ∧ r.2.mem ((c.tc : Thread Cert.TailARefIdeal.nD Cert.TailARefIdeal.τ).loc Cert.TailARefIdeal.main_arg2) = m' ((c.tc : Thread Cert.TailARefIdeal.nD Cert.TailARefIdeal.τ).loc Cert.TailARefIdeal.main_arg2)
          ∧ r.2.mem ((c.tc : Thread Cert.TailARefIdeal.nD Cert.TailARefIdeal.τ).loc Cert.TailARefIdeal.main_arg3) = m' ((c.tc : Thread Cert.TailARefIdeal.nD Cert.TailARefIdeal.τ).loc Cert.TailARefIdeal.main_arg3)
          ∧ r.2.mem ((c.tc : Thread Cert.TailARefIdeal.nD Cert.TailARefIdeal.τ).loc Cert.TailARefIdeal.main_arg4) = m' ((c.tc : Thread Cert.TailARefIdeal.nD Cert.TailARefIdeal.τ).loc Cert.TailARefIdeal.main_arg4)
          ∧ r.2.mem ((c.tc : Thread Cert.TailARefIdeal.nD Cert.TailARefIdeal.τ).loc Cert.TailARefIdeal.main_arg5) = m' ((c.tc : Thread Cert.TailARefIdeal.nD Cert.TailARefIdeal.τ).loc Cert.TailARefIdeal.main_arg5))

def preserves_TailB_TailBIdeal : Prop :=
  True

def algebraic_TailBIdeal_TailBRefIdeal [hTailBIdeal : Cert.TailBIdeal.Facts] [hTailBRefIdeal : Cert.TailBRefIdeal.Facts] : Prop :=
  ∀ (m : (ℓ : Loc Cert.TailBIdeal.nD Cert.TailBIdeal.τ Cert.TailBIdeal.sig) → Buf (Elt Ideal) ℓ) (g : Dev Cert.TailBIdeal.nD → PrngReg)
    (m' : (ℓ : Loc Cert.TailBRefIdeal.nD Cert.TailBRefIdeal.τ Cert.TailBRefIdeal.sig) → Buf (Elt Ideal) ℓ) (g' : Dev Cert.TailBRefIdeal.nD → PrngReg), Pre_TailBIdeal m →
    (∀ c : Dev Cert.TailBIdeal.nD,
      m' ((c.tc : Thread Cert.TailBRefIdeal.nD Cert.TailBRefIdeal.τ).loc Cert.TailBRefIdeal.main_arg0) = m ((c.tc : Thread Cert.TailBIdeal.nD Cert.TailBIdeal.τ).loc Cert.TailBIdeal.main_arg0)
      ∧ m' ((c.tc : Thread Cert.TailBRefIdeal.nD Cert.TailBRefIdeal.τ).loc Cert.TailBRefIdeal.main_arg1) = m ((c.tc : Thread Cert.TailBIdeal.nD Cert.TailBIdeal.τ).loc Cert.TailBIdeal.main_arg1)
      ∧ m' ((c.tc : Thread Cert.TailBRefIdeal.nD Cert.TailBRefIdeal.τ).loc Cert.TailBRefIdeal.main_arg2) = m ((c.tc : Thread Cert.TailBIdeal.nD Cert.TailBIdeal.τ).loc Cert.TailBIdeal.main_arg2)
      ∧ m' ((c.tc : Thread Cert.TailBRefIdeal.nD Cert.TailBRefIdeal.τ).loc Cert.TailBRefIdeal.main_arg3) = m ((c.tc : Thread Cert.TailBIdeal.nD Cert.TailBIdeal.τ).loc Cert.TailBIdeal.main_arg3)
      ∧ m' ((c.tc : Thread Cert.TailBRefIdeal.nD Cert.TailBRefIdeal.τ).loc Cert.TailBRefIdeal.main_arg4) = m ((c.tc : Thread Cert.TailBIdeal.nD Cert.TailBIdeal.τ).loc Cert.TailBIdeal.main_arg4)) →
    ∃ (v0 : (c : Dev Cert.TailBIdeal.nD) → Buf (Elt Ideal) ((c.tc : Thread Cert.TailBIdeal.nD Cert.TailBIdeal.τ).loc Cert.TailBIdeal.main_v5)),
      θ_run (Cert.TailBIdeal.defs (F := Ideal)) (onTc (τ := Cert.TailBIdeal.τ) (Cert.TailBIdeal.main (F := Ideal))) ⟨m, fun _ => 0, g⟩ (fun r => ∀ c : Dev Cert.TailBIdeal.nD,
          r.2.mem ((c.tc : Thread Cert.TailBIdeal.nD Cert.TailBIdeal.τ).loc Cert.TailBIdeal.main_v5) = v0 c
          ∧ r.2.mem ((c.tc : Thread Cert.TailBIdeal.nD Cert.TailBIdeal.τ).loc Cert.TailBIdeal.main_arg0) = m ((c.tc : Thread Cert.TailBIdeal.nD Cert.TailBIdeal.τ).loc Cert.TailBIdeal.main_arg0)
          ∧ r.2.mem ((c.tc : Thread Cert.TailBIdeal.nD Cert.TailBIdeal.τ).loc Cert.TailBIdeal.main_arg1) = m ((c.tc : Thread Cert.TailBIdeal.nD Cert.TailBIdeal.τ).loc Cert.TailBIdeal.main_arg1)
          ∧ r.2.mem ((c.tc : Thread Cert.TailBIdeal.nD Cert.TailBIdeal.τ).loc Cert.TailBIdeal.main_arg2) = m ((c.tc : Thread Cert.TailBIdeal.nD Cert.TailBIdeal.τ).loc Cert.TailBIdeal.main_arg2)
          ∧ r.2.mem ((c.tc : Thread Cert.TailBIdeal.nD Cert.TailBIdeal.τ).loc Cert.TailBIdeal.main_arg3) = m ((c.tc : Thread Cert.TailBIdeal.nD Cert.TailBIdeal.τ).loc Cert.TailBIdeal.main_arg3)
          ∧ r.2.mem ((c.tc : Thread Cert.TailBIdeal.nD Cert.TailBIdeal.τ).loc Cert.TailBIdeal.main_arg4) = m ((c.tc : Thread Cert.TailBIdeal.nD Cert.TailBIdeal.τ).loc Cert.TailBIdeal.main_arg4))
      ∧ θ_run (Cert.TailBRefIdeal.defs (F := Ideal)) (onTc (τ := Cert.TailBRefIdeal.τ) (Cert.TailBRefIdeal.main (F := Ideal))) ⟨m', fun _ => 0, g'⟩ (fun r => ∀ c : Dev Cert.TailBRefIdeal.nD,
          r.2.mem ((c.tc : Thread Cert.TailBRefIdeal.nD Cert.TailBRefIdeal.τ).loc Cert.TailBRefIdeal.main_v24) = v0 c
          ∧ r.2.mem ((c.tc : Thread Cert.TailBRefIdeal.nD Cert.TailBRefIdeal.τ).loc Cert.TailBRefIdeal.main_arg0) = m' ((c.tc : Thread Cert.TailBRefIdeal.nD Cert.TailBRefIdeal.τ).loc Cert.TailBRefIdeal.main_arg0)
          ∧ r.2.mem ((c.tc : Thread Cert.TailBRefIdeal.nD Cert.TailBRefIdeal.τ).loc Cert.TailBRefIdeal.main_arg1) = m' ((c.tc : Thread Cert.TailBRefIdeal.nD Cert.TailBRefIdeal.τ).loc Cert.TailBRefIdeal.main_arg1)
          ∧ r.2.mem ((c.tc : Thread Cert.TailBRefIdeal.nD Cert.TailBRefIdeal.τ).loc Cert.TailBRefIdeal.main_arg2) = m' ((c.tc : Thread Cert.TailBRefIdeal.nD Cert.TailBRefIdeal.τ).loc Cert.TailBRefIdeal.main_arg2)
          ∧ r.2.mem ((c.tc : Thread Cert.TailBRefIdeal.nD Cert.TailBRefIdeal.τ).loc Cert.TailBRefIdeal.main_arg3) = m' ((c.tc : Thread Cert.TailBRefIdeal.nD Cert.TailBRefIdeal.τ).loc Cert.TailBRefIdeal.main_arg3)
          ∧ r.2.mem ((c.tc : Thread Cert.TailBRefIdeal.nD Cert.TailBRefIdeal.τ).loc Cert.TailBRefIdeal.main_arg4) = m' ((c.tc : Thread Cert.TailBRefIdeal.nD Cert.TailBRefIdeal.τ).loc Cert.TailBRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_1)) (v2 : (c : Dev Cert.NormIdeal.nD) → Buf (Elt Ideal) ((c.tc : Thread Cert.NormIdeal.nD Cert.NormIdeal.τ).loc Cert.NormIdeal.main_v3_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_1) = v1 c
          ∧ r.2.mem ((c.tc : Thread Cert.NormIdeal.nD Cert.NormIdeal.τ).loc Cert.NormIdeal.main_v3_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v25) = v0 c
          ∧ r.2.mem ((c.tc : Thread Cert.NormRefIdeal.nD Cert.NormRefIdeal.τ).loc Cert.NormRefIdeal.main_v27) = v1 c
          ∧ r.2.mem ((c.tc : Thread Cert.NormRefIdeal.nD Cert.NormRefIdeal.τ).loc Cert.NormRefIdeal.main_v29) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v13_0)) (v1 : (c : Dev Cert.RopeIdeal.nD) → Buf (Elt Ideal) ((c.tc : Thread Cert.RopeIdeal.nD Cert.RopeIdeal.τ).loc Cert.RopeIdeal.main_v13_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v13_0) = v0 c
          ∧ r.2.mem ((c.tc : Thread Cert.RopeIdeal.nD Cert.RopeIdeal.τ).loc Cert.RopeIdeal.main_v13_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v35) = v0 c
          ∧ r.2.mem ((c.tc : Thread Cert.RopeRefIdeal.nD Cert.RopeRefIdeal.τ).loc Cert.RopeRefIdeal.main_v48) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hKernel : Cert.Kernel.Facts) (hKernelIdeal : Cert.KernelIdeal.Facts) (hReferenceIdeal : Cert.ReferenceIdeal.Facts) (hAsIs : Cert.AsIs.Facts) (hZa : Cert.Za.Facts) (hZaIdeal : Cert.ZaIdeal.Facts) (hZaRefIdeal : Cert.ZaRefIdeal.Facts) (hZs : Cert.Zs.Facts) (hZsIdeal : Cert.ZsIdeal.Facts) (hZsRefIdeal : Cert.ZsRefIdeal.Facts) (hGates : Cert.Gates.Facts) (hGatesIdeal : Cert.GatesIdeal.Facts) (hGatesRefIdeal : Cert.GatesRefIdeal.Facts) (hQkvA : Cert.QkvA.Facts) (hQkvAIdeal : Cert.QkvAIdeal.Facts) (hQkvARefIdeal : Cert.QkvARefIdeal.Facts) (hQkvB : Cert.QkvB.Facts) (hQkvBIdeal : Cert.QkvBIdeal.Facts) (hQkvBRefIdeal : Cert.QkvBRefIdeal.Facts) (hQkvC : Cert.QkvC.Facts) (hQkvCIdeal : Cert.QkvCIdeal.Facts) (hQkvCRefIdeal : Cert.QkvCRefIdeal.Facts) (hTailA : Cert.TailA.Facts) (hTailAIdeal : Cert.TailAIdeal.Facts) (hTailARefIdeal : Cert.TailARefIdeal.Facts) (hTailB : Cert.TailB.Facts) (hTailBIdeal : Cert.TailBIdeal.Facts) (hTailBRefIdeal : Cert.TailBRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hRope : Cert.Rope.Facts) (hRopeIdeal : Cert.RopeIdeal.Facts) (hRopeRefIdeal : Cert.RopeRefIdeal.Facts),
    quiescent_Kernel (hKernel := hKernel)
    ∧ quiescent_KernelIdeal (hKernelIdeal := hKernelIdeal)
    ∧ quiescent_ReferenceIdeal (hReferenceIdeal := hReferenceIdeal)
    ∧ quiescent_AsIs (hAsIs := hAsIs)
    ∧ quiescent_Za (hZa := hZa)
    ∧ quiescent_ZaIdeal (hZaIdeal := hZaIdeal)
    ∧ quiescent_ZaRefIdeal (hZaRefIdeal := hZaRefIdeal)
    ∧ quiescent_Zs (hZs := hZs)
    ∧ quiescent_ZsIdeal (hZsIdeal := hZsIdeal)
    ∧ quiescent_ZsRefIdeal (hZsRefIdeal := hZsRefIdeal)
    ∧ quiescent_Gates (hGates := hGates)
    ∧ quiescent_GatesIdeal (hGatesIdeal := hGatesIdeal)
    ∧ quiescent_GatesRefIdeal (hGatesRefIdeal := hGatesRefIdeal)
    ∧ quiescent_QkvA (hQkvA := hQkvA)
    ∧ quiescent_QkvAIdeal (hQkvAIdeal := hQkvAIdeal)
    ∧ quiescent_QkvARefIdeal (hQkvARefIdeal := hQkvARefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_QkvC (hQkvC := hQkvC)
    ∧ quiescent_QkvCIdeal (hQkvCIdeal := hQkvCIdeal)
    ∧ quiescent_QkvCRefIdeal (hQkvCRefIdeal := hQkvCRefIdeal)
    ∧ quiescent_TailA (hTailA := hTailA)
    ∧ quiescent_TailAIdeal (hTailAIdeal := hTailAIdeal)
    ∧ quiescent_TailARefIdeal (hTailARefIdeal := hTailARefIdeal)
    ∧ quiescent_TailB (hTailB := hTailB)
    ∧ quiescent_TailBIdeal (hTailBIdeal := hTailBIdeal)
    ∧ quiescent_TailBRefIdeal (hTailBRefIdeal := hTailBRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal (hKernelIdeal := hKernelIdeal) (hReferenceIdeal := hReferenceIdeal)
    ∧ preserves_Za_ZaIdeal
    ∧ algebraic_ZaIdeal_ZaRefIdeal (hZaIdeal := hZaIdeal) (hZaRefIdeal := hZaRefIdeal)
    ∧ preserves_Zs_ZsIdeal
    ∧ algebraic_ZsIdeal_ZsRefIdeal (hZsIdeal := hZsIdeal) (hZsRefIdeal := hZsRefIdeal)
    ∧ preserves_Gates_GatesIdeal
    ∧ algebraic_GatesIdeal_GatesRefIdeal (hGatesIdeal := hGatesIdeal) (hGatesRefIdeal := hGatesRefIdeal)
    ∧ preserves_QkvA_QkvAIdeal
    ∧ algebraic_QkvAIdeal_QkvARefIdeal (hQkvAIdeal := hQkvAIdeal) (hQkvARefIdeal := hQkvARefIdeal)
    ∧ preserves_QkvB_QkvBIdeal
    ∧ algebraic_QkvBIdeal_QkvBRefIdeal (hQkvBIdeal := hQkvBIdeal) (hQkvBRefIdeal := hQkvBRefIdeal)
    ∧ preserves_QkvC_QkvCIdeal
    ∧ algebraic_QkvCIdeal_QkvCRefIdeal (hQkvCIdeal := hQkvCIdeal) (hQkvCRefIdeal := hQkvCRefIdeal)
    ∧ preserves_TailA_TailAIdeal
    ∧ algebraic_TailAIdeal_TailARefIdeal (hTailAIdeal := hTailAIdeal) (hTailARefIdeal := hTailARefIdeal)
    ∧ preserves_TailB_TailBIdeal
    ∧ algebraic_TailBIdeal_TailBRefIdeal (hTailBIdeal := hTailBIdeal) (hTailBRefIdeal := hTailBRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
    ∧ preserves_Rope_RopeIdeal
    ∧ algebraic_RopeIdeal_RopeRefIdeal (hRopeIdeal := hRopeIdeal) (hRopeRefIdeal := hRopeRefIdeal)
-- ==== Kernel.lean ====
abbrev S8x2048x2048 : Shape := ⟨3, ![8, 2048, 2048]⟩
abbrev S1x2048x29824 : Shape := ⟨3, ![1, 2048, 29824]⟩
abbrev S1x5x6144 : Shape := ⟨3, ![1, 5, 6144]⟩
abbrev S1x6144 : Shape := ⟨2, ![1, 6144]⟩
abbrev S2048x29824 : Shape := ⟨2, ![2048, 29824]⟩
abbrev S5x6144 : Shape := ⟨2, ![5, 6144]⟩
abbrev S6144 : Shape := ⟨1, ![6144]⟩
abbrev S8x2048x6144 : Shape := ⟨3, ![8, 2048, 6144]⟩
abbrev S1x2048x2048 : Shape := ⟨3, ![1, 2048, 2048]⟩
abbrev S2048x512 : Shape := ⟨2, ![2048, 512]⟩
abbrev S5x512 : Shape := ⟨2, ![5, 512]⟩
abbrev S1x512 : Shape := ⟨2, ![1, 512]⟩
abbrev S1x2048x512 : Shape := ⟨3, ![1, 2048, 512]⟩
abbrev S4x544x128 : Shape := ⟨3, ![4, 544, 128]⟩
abbrev S2x520x128 : Shape := ⟨3, ![2, 520, 128]⟩
abbrev S4x8x128 : Shape := ⟨3, ![4, 8, 128]⟩
abbrev S4x24x128 : Shape := ⟨3, ![4, 24, 128]⟩
abbrev S1x512x2048 : Shape := ⟨3, ![1, 512, 2048]⟩
abbrev S512x2048 : Shape := ⟨2, ![512, 2048]⟩
abbrev S512x512 : Shape := ⟨2, ![512, 512]⟩
abbrev S512x128 : Shape := ⟨2, ![512, 128]⟩
abbrev S1x512x128 : Shape := ⟨3, ![1, 512, 128]⟩
abbrev S8x128 : Shape := ⟨2, ![8, 128]⟩
abbrev S1x8x128 : Shape := ⟨3, ![1, 8, 128]⟩
abbrev S24x128 : Shape := ⟨2, ![24, 128]⟩
abbrev S1x24x128 : Shape := ⟨3, ![1, 24, 128]⟩
abbrev S1x128 : Shape := ⟨2, ![1, 128]⟩

abbrev nBuf : Space → Nat
  | .hbm => 9
  | .vmem => 19
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S1x5x6144, .f32⟩
  | .hbm, ⟨3, _⟩ => ⟨S1x6144, .f32⟩
  | .hbm, ⟨4, _⟩ => ⟨S2048x29824, .f32⟩
  | .hbm, ⟨5, _⟩ => ⟨S5x6144, .f32⟩
  | .hbm, ⟨6, _⟩ => ⟨S6144, .f32⟩
  | .hbm, ⟨7, _⟩ => ⟨S1x6144, .f32⟩
  | .hbm, ⟨8, _⟩ => ⟨S8x2048x6144, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x512, .f32⟩
  | .local _ .vmem, ⟨3, _⟩ => ⟨S2048x512, .f32⟩
  | .local _ .vmem, ⟨4, _⟩ => ⟨S5x512, .f32⟩
  | .local _ .vmem, ⟨5, _⟩ => ⟨S5x512, .f32⟩
  | .local _ .vmem, ⟨6, _⟩ => ⟨S1x512, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | .local _ .vmem, ⟨10, _⟩ => ⟨S2048x512, .bf16⟩
  | .local _ .vmem, ⟨11, _⟩ => ⟨S4x544x128, .f32⟩
  | .local _ .vmem, ⟨12, _⟩ => ⟨S4x544x128, .f32⟩
  | .local _ .vmem, ⟨13, _⟩ => ⟨S4x544x128, .f32⟩
  | .local _ .vmem, ⟨14, _⟩ => ⟨S4x544x128, .f32⟩
  | .local _ .vmem, ⟨15, _⟩ => ⟨S2x520x128, .i32⟩
  | .local _ .vmem, ⟨16, _⟩ => ⟨S2x520x128, .i32⟩
  | .local _ .vmem, ⟨17, _⟩ => ⟨S2x520x128, .i32⟩
  | .local _ .vmem, ⟨18, _⟩ => ⟨S2x520x128, .i32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![12, 8], ![false, false]⟩

@[reducible] def k0_t1_loop : Scf.Loop 32 :=
  let c0_i32_116 : BitVec 32 := 0#32
  let c65_i32 : BitVec 32 := 65#32
  let v139 : BitVec 32 := Scalar.addi c0_i32_116 c65_i32
  let c1_i32 : BitVec 32 := 1#32
  ⟨c0_i32_116, v139, c1_i32⟩
def k0_off1 (k0_t1 : Fin k0_t1_loop.trips) : Fin 3 → Nat :=
  let c0_636 : Index := 0#32
  let c8_i32 : BitVec 32 := 8#32
  let c0_i32_116 : BitVec 32 := 0#32
  let c1_i32 : BitVec 32 := 1#32
  let arg16 : BitVec 32 := Scf.iv c0_i32_116 c1_i32 k0_t1
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off2 (k0_t1 : Fin k0_t1_loop.trips) : Fin 3 → Nat :=
  let c1_643 : Index := 1#32
  let c8_i32_642 : BitVec 32 := 8#32
  let c0_i32_116 : BitVec 32 := 0#32
  let c1_i32 : BitVec 32 := 1#32
  let arg16 : BitVec 32 := Scf.iv c0_i32_116 c1_i32 k0_t1
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off3 (k0_t1 : Fin k0_t1_loop.trips) : Fin 3 → Nat :=
  let c0_648 : Index := 0#32
  let c0_i32_116 : BitVec 32 := 0#32
  let c1_i32 : BitVec 32 := 1#32
  let arg16 : BitVec 32 := Scf.iv c0_i32_116 c1_i32 k0_t1
  let v710 : Index := Scalar.indexCast arg16
  let c0_649 : Index := 0#32
  ![0, v710.toNat, 0]
@[reducible] def k0_t2_loop : Scf.Loop 32 :=
  let c0_i32_173 : BitVec 32 := 0#32
  let c65_i32_174 : BitVec 32 := 65#32
  let v197 : BitVec 32 := Scalar.addi c0_i32_173 c65_i32_174
  let c1_i32_175 : BitVec 32 := 1#32
  ⟨c0_i32_173, v197, c1_i32_175⟩
def k0_off4 (k0_t2 : Fin k0_t2_loop.trips) : Fin 3 → Nat :=
  let c2_636 : Index := 2#32
  let c8_i32 : BitVec 32 := 8#32
  let c0_i32_173 : BitVec 32 := 0#32
  let c1_i32_175 : BitVec 32 := 1#32
  let arg16 : BitVec 32 := Scf.iv c0_i32_173 c1_i32_175 k0_t2
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off5 (k0_t2 : Fin k0_t2_loop.trips) : Fin 3 → Nat :=
  let c3_643 : Index := 3#32
  let c8_i32_642 : BitVec 32 := 8#32
  let c0_i32_173 : BitVec 32 := 0#32
  let c1_i32_175 : BitVec 32 := 1#32
  let arg16 : BitVec 32 := Scf.iv c0_i32_173 c1_i32_175 k0_t2
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off6 (k0_t2 : Fin k0_t2_loop.trips) : Fin 3 → Nat :=
  let c1_648 : Index := 1#32
  let c0_i32_173 : BitVec 32 := 0#32
  let c1_i32_175 : BitVec 32 := 1#32
  let arg16 : BitVec 32 := Scf.iv c0_i32_173 c1_i32_175 k0_t2
  let v710 : Index := Scalar.indexCast arg16
  let c0_649 : Index := 0#32
  ![1, v710.toNat, 0]
@[reducible] def k0_t3_loop : Scf.Loop 32 :=
  let c0_i32_277 : BitVec 32 := 0#32
  let c65_i32_278 : BitVec 32 := 65#32
  let v307 : BitVec 32 := Scalar.addi c0_i32_277 c65_i32_278
  let c1_i32_279 : BitVec 32 := 1#32
  ⟨c0_i32_277, v307, c1_i32_279⟩
def k0_off7 (k0_t3 : Fin k0_t3_loop.trips) : Fin 3 → Nat :=
  let c0_636 : Index := 0#32
  let c8_i32 : BitVec 32 := 8#32
  let c0_i32_277 : BitVec 32 := 0#32
  let c1_i32_279 : BitVec 32 := 1#32
  let arg16 : BitVec 32 := Scf.iv c0_i32_277 c1_i32_279 k0_t3
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off8 (k0_t3 : Fin k0_t3_loop.trips) : Fin 3 → Nat :=
  let c1_643 : Index := 1#32
  let c8_i32_642 : BitVec 32 := 8#32
  let c0_i32_277 : BitVec 32 := 0#32
  let c1_i32_279 : BitVec 32 := 1#32
  let arg16 : BitVec 32 := Scf.iv c0_i32_277 c1_i32_279 k0_t3
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off9 (k0_t3 : Fin k0_t3_loop.trips) : Fin 3 → Nat :=
  let c0_648 : Index := 0#32
  let c0_i32_277 : BitVec 32 := 0#32
  let c1_i32_279 : BitVec 32 := 1#32
  let arg16 : BitVec 32 := Scf.iv c0_i32_277 c1_i32_279 k0_t3
  let v710 : Index := Scalar.indexCast arg16
  let c0_649 : Index := 0#32
  ![0, v710.toNat, 0]
@[reducible] def k0_t4_loop : Scf.Loop 32 :=
  let c0_i32_340 : BitVec 32 := 0#32
  let c65_i32_341 : BitVec 32 := 65#32
  let v365 : BitVec 32 := Scalar.addi c0_i32_340 c65_i32_341
  let c1_i32_342 : BitVec 32 := 1#32
  ⟨c0_i32_340, v365, c1_i32_342⟩
def k0_off10 (k0_t4 : Fin k0_t4_loop.trips) : Fin 3 → Nat :=
  let c2_636 : Index := 2#32
  let c8_i32 : BitVec 32 := 8#32
  let c0_i32_340 : BitVec 32 := 0#32
  let c1_i32_342 : BitVec 32 := 1#32
  let arg16 : BitVec 32 := Scf.iv c0_i32_340 c1_i32_342 k0_t4
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off11 (k0_t4 : Fin k0_t4_loop.trips) : Fin 3 → Nat :=
  let c3_643 : Index := 3#32
  let c8_i32_642 : BitVec 32 := 8#32
  let c0_i32_340 : BitVec 32 := 0#32
  let c1_i32_342 : BitVec 32 := 1#32
  let arg16 : BitVec 32 := Scf.iv c0_i32_340 c1_i32_342 k0_t4
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off12 (k0_t4 : Fin k0_t4_loop.trips) : Fin 3 → Nat :=
  let c1_648 : Index := 1#32
  let c0_i32_340 : BitVec 32 := 0#32
  let c1_i32_342 : BitVec 32 := 1#32
  let arg16 : BitVec 32 := Scf.iv c0_i32_340 c1_i32_342 k0_t4
  let v710 : Index := Scalar.indexCast arg16
  let c0_649 : Index := 0#32
  ![1, v710.toNat, 0]
@[reducible] def k0_t5_loop : Scf.Loop 32 :=
  let c0_i32_432 : BitVec 32 := 0#32
  let c65_i32_433 : BitVec 32 := 65#32
  let v459 : BitVec 32 := Scalar.addi c0_i32_432 c65_i32_433
  let c1_i32_434 : BitVec 32 := 1#32
  ⟨c0_i32_432, v459, c1_i32_434⟩
def k0_off13 (k0_t5 : Fin k0_t5_loop.trips) : Fin 3 → Nat :=
  let c0_636 : Index := 0#32
  let c8_i32 : BitVec 32 := 8#32
  let c0_i32_432 : BitVec 32 := 0#32
  let c1_i32_434 : BitVec 32 := 1#32
  let arg16 : BitVec 32 := Scf.iv c0_i32_432 c1_i32_434 k0_t5
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off14 (k0_t5 : Fin k0_t5_loop.trips) : Fin 3 → Nat :=
  let c1_643 : Index := 1#32
  let c8_i32_642 : BitVec 32 := 8#32
  let c0_i32_432 : BitVec 32 := 0#32
  let c1_i32_434 : BitVec 32 := 1#32
  let arg16 : BitVec 32 := Scf.iv c0_i32_432 c1_i32_434 k0_t5
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off15 (k0_t5 : Fin k0_t5_loop.trips) : Fin 3 → Nat :=
  let c0_648 : Index := 0#32
  let c0_i32_432 : BitVec 32 := 0#32
  let c1_i32_434 : BitVec 32 := 1#32
  let arg16 : BitVec 32 := Scf.iv c0_i32_432 c1_i32_434 k0_t5
  let v710 : Index := Scalar.indexCast arg16
  let c0_649 : Index := 0#32
  ![0, v710.toNat, 0]
@[reducible] def k0_t6_loop : Scf.Loop 32 :=
  let c0_i32_495 : BitVec 32 := 0#32
  let c65_i32_496 : BitVec 32 := 65#32
  let v517 : BitVec 32 := Scalar.addi c0_i32_495 c65_i32_496
  let c1_i32_497 : BitVec 32 := 1#32
  ⟨c0_i32_495, v517, c1_i32_497⟩
def k0_off16 (k0_t6 : Fin k0_t6_loop.trips) : Fin 3 → Nat :=
  let c2_636 : Index := 2#32
  let c8_i32 : BitVec 32 := 8#32
  let c0_i32_495 : BitVec 32 := 0#32
  let c1_i32_497 : BitVec 32 := 1#32
  let arg16 : BitVec 32 := Scf.iv c0_i32_495 c1_i32_497 k0_t6
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off17 (k0_t6 : Fin k0_t6_loop.trips) : Fin 3 → Nat :=
  let c3_643 : Index := 3#32
  let c8_i32_642 : BitVec 32 := 8#32
  let c0_i32_495 : BitVec 32 := 0#32
  let c1_i32_497 : BitVec 32 := 1#32
  let arg16 : BitVec 32 := Scf.iv c0_i32_495 c1_i32_497 k0_t6
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off18 (k0_t6 : Fin k0_t6_loop.trips) : Fin 3 → Nat :=
  let c1_648 : Index := 1#32
  let c0_i32_495 : BitVec 32 := 0#32
  let c1_i32_497 : BitVec 32 := 1#32
  let arg16 : BitVec 32 := Scf.iv c0_i32_495 c1_i32_497 k0_t6
  let v710 : Index := Scalar.indexCast arg16
  let c0_649 : Index := 0#32
  ![1, v710.toNat, 0]
@[reducible] def k0_t7_loop : Scf.Loop 32 :=
  let c0_i32_558 : BitVec 32 := 0#32
  let c65_i32_559 : BitVec 32 := 65#32
  let v575 : BitVec 32 := Scalar.addi c0_i32_558 c65_i32_559
  let c1_i32_560 : BitVec 32 := 1#32
  ⟨c0_i32_558, v575, c1_i32_560⟩
def k0_off19 (k0_t7 : Fin k0_t7_loop.trips) : Fin 3 → Nat :=
  let c0_636 : Index := 0#32
  let c8_i32 : BitVec 32 := 8#32
  let c0_i32_558 : BitVec 32 := 0#32
  let c1_i32_560 : BitVec 32 := 1#32
  let arg16 : BitVec 32 := Scf.iv c0_i32_558 c1_i32_560 k0_t7
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off20 (k0_t7 : Fin k0_t7_loop.trips) : Fin 3 → Nat :=
  let c1_643 : Index := 1#32
  let c8_i32_642 : BitVec 32 := 8#32
  let c0_i32_558 : BitVec 32 := 0#32
  let c1_i32_560 : BitVec 32 := 1#32
  let arg16 : BitVec 32 := Scf.iv c0_i32_558 c1_i32_560 k0_t7
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off21 (k0_t7 : Fin k0_t7_loop.trips) : Fin 3 → Nat :=
  let c0_648 : Index := 0#32
  let c0_i32_558 : BitVec 32 := 0#32
  let c1_i32_560 : BitVec 32 := 1#32
  let arg16 : BitVec 32 := Scf.iv c0_i32_558 c1_i32_560 k0_t7
  let v710 : Index := Scalar.indexCast arg16
  let c0_649 : Index := 0#32
  ![0, v710.toNat, 0]
@[reducible] def k0_t8_loop : Scf.Loop 32 :=
  let c0_i32_621 : BitVec 32 := 0#32
  let c65_i32_622 : BitVec 32 := 65#32
  let v633 : BitVec 32 := Scalar.addi c0_i32_621 c65_i32_622
  let c1_i32_623 : BitVec 32 := 1#32
  ⟨c0_i32_621, v633, c1_i32_623⟩
def k0_off22 (k0_t8 : Fin k0_t8_loop.trips) : Fin 3 → Nat :=
  let c2_636 : Index := 2#32
  let c8_i32 : BitVec 32 := 8#32
  let c0_i32_621 : BitVec 32 := 0#32
  let c1_i32_623 : BitVec 32 := 1#32
  let arg16 : BitVec 32 := Scf.iv c0_i32_621 c1_i32_623 k0_t8
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off23 (k0_t8 : Fin k0_t8_loop.trips) : Fin 3 → Nat :=
  let c3_643 : Index := 3#32
  let c8_i32_642 : BitVec 32 := 8#32
  let c0_i32_621 : BitVec 32 := 0#32
  let c1_i32_623 : BitVec 32 := 1#32
  let arg16 : BitVec 32 := Scf.iv c0_i32_621 c1_i32_623 k0_t8
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off24 (k0_t8 : Fin k0_t8_loop.trips) : Fin 3 → Nat :=
  let c1_648 : Index := 1#32
  let c0_i32_621 : BitVec 32 := 0#32
  let c1_i32_623 : BitVec 32 := 1#32
  let arg16 : BitVec 32 := Scf.iv c0_i32_621 c1_i32_623 k0_t8
  let v710 : Index := Scalar.indexCast arg16
  let c0_649 : Index := 0#32
  ![1, v710.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S8x2048x2048 : Shape := ⟨3, ![8, 2048, 2048]⟩
abbrev S1x2048x29824 : Shape := ⟨3, ![1, 2048, 29824]⟩
abbrev S1x5x6144 : Shape := ⟨3, ![1, 5, 6144]⟩
abbrev S1x6144 : Shape := ⟨2, ![1, 6144]⟩
abbrev S2048x29824 : Shape := ⟨2, ![2048, 29824]⟩
abbrev S5x6144 : Shape := ⟨2, ![5, 6144]⟩
abbrev S6144 : Shape := ⟨1, ![6144]⟩
abbrev S8x2048x6144 : Shape := ⟨3, ![8, 2048, 6144]⟩
abbrev S1x2048x2048 : Shape := ⟨3, ![1, 2048, 2048]⟩
abbrev S2048x512 : Shape := ⟨2, ![2048, 512]⟩
abbrev S5x512 : Shape := ⟨2, ![5, 512]⟩
abbrev S1x512 : Shape := ⟨2, ![1, 512]⟩
abbrev S1x2048x512 : Shape := ⟨3, ![1, 2048, 512]⟩
abbrev S4x544x128 : Shape := ⟨3, ![4, 544, 128]⟩
abbrev S2x520x128 : Shape := ⟨3, ![2, 520, 128]⟩
abbrev S2x520x2x128 : Shape := ⟨4, ![2, 520, 2, 128]⟩
abbrev S2x520x1x128 : Shape := ⟨4, ![2, 520, 1, 128]⟩
abbrev S4x8x128 : Shape := ⟨3, ![4, 8, 128]⟩
abbrev S4x24x128 : Shape := ⟨3, ![4, 24, 128]⟩
abbrev S1x512x2048 : Shape := ⟨3, ![1, 512, 2048]⟩
abbrev S512x2048 : Shape := ⟨2, ![512, 2048]⟩
abbrev S512x512 : Shape := ⟨2, ![512, 512]⟩
abbrev S512x128 : Shape := ⟨2, ![512, 128]⟩
abbrev S1x512x128 : Shape := ⟨3, ![1, 512, 128]⟩
abbrev S8x128 : Shape := ⟨2, ![8, 128]⟩
abbrev S1x8x128 : Shape := ⟨3, ![1, 8, 128]⟩
abbrev S24x128 : Shape := ⟨2, ![24, 128]⟩
abbrev S1x24x128 : Shape := ⟨3, ![1, 24, 128]⟩
abbrev S1x128 : Shape := ⟨2, ![1, 128]⟩
abbrev S1x8x2x128 : Shape := ⟨4, ![1, 8, 2, 128]⟩
abbrev S1x8x1x128 : Shape := ⟨4, ![1, 8, 1, 128]⟩
abbrev S1x512x2x128 : Shape := ⟨4, ![1, 512, 2, 128]⟩
abbrev S1x512x1x128 : Shape := ⟨4, ![1, 512, 1, 128]⟩
abbrev S1024x128 : Shape := ⟨2, ![1024, 128]⟩

abbrev nBuf : Space → Nat
  | .hbm => 9
  | .vmem => 19
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S1x5x6144, .f32⟩
  | .hbm, ⟨3, _⟩ => ⟨S1x6144, .f32⟩
  | .hbm, ⟨4, _⟩ => ⟨S2048x29824, .f32⟩
  | .hbm, ⟨5, _⟩ => ⟨S5x6144, .f32⟩
  | .hbm, ⟨6, _⟩ => ⟨S6144, .f32⟩
  | .hbm, ⟨7, _⟩ => ⟨S1x6144, .f32⟩
  | .hbm, ⟨8, _⟩ => ⟨S8x2048x6144, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x512, .f32⟩
  | .local _ .vmem, ⟨3, _⟩ => ⟨S2048x512, .f32⟩
  | .local _ .vmem, ⟨4, _⟩ => ⟨S5x512, .f32⟩
  | .local _ .vmem, ⟨5, _⟩ => ⟨S5x512, .f32⟩
  | .local _ .vmem, ⟨6, _⟩ => ⟨S1x512, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | .local _ .vmem, ⟨10, _⟩ => ⟨S2048x512, .bf16⟩
  | .local _ .vmem, ⟨11, _⟩ => ⟨S4x544x128, .f32⟩
  | .local _ .vmem, ⟨12, _⟩ => ⟨S4x544x128, .f32⟩
  | .local _ .vmem, ⟨13, _⟩ => ⟨S4x544x128, .f32⟩
  | .local _ .vmem, ⟨14, _⟩ => ⟨S4x544x128, .f32⟩
  | .local _ .vmem, ⟨15, _⟩ => ⟨S2x520x2x128, .bf16⟩
  | .local _ .vmem, ⟨16, _⟩ => ⟨S2x520x2x128, .bf16⟩
  | .local _ .vmem, ⟨17, _⟩ => ⟨S2x520x2x128, .bf16⟩
  | .local _ .vmem, ⟨18, _⟩ => ⟨S2x520x2x128, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

@[reducible] def k0_t1_loop : Scf.Loop 32 :=
  let c0_i32_116 : BitVec 32 := 0#32
  let c65_i32 : BitVec 32 := 65#32
  let v139 : BitVec 32 := Scalar.addi c0_i32_116 c65_i32
  let c1_i32 : BitVec 32 := 1#32
  ⟨c0_i32_116, v139, c1_i32⟩
def k0_off1 (k0_t1 : Fin k0_t1_loop.trips) : Fin 3 → Nat :=
  let c0_636 : Index := 0#32
  let c8_i32 : BitVec 32 := 8#32
  let c0_i32_116 : BitVec 32 := 0#32
  let c1_i32 : BitVec 32 := 1#32
  let arg16 : BitVec 32 := Scf.iv c0_i32_116 c1_i32 k0_t1
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off2 (k0_t1 : Fin k0_t1_loop.trips) : Fin 3 → Nat :=
  let c1_643 : Index := 1#32
  let c8_i32_642 : BitVec 32 := 8#32
  let c0_i32_116 : BitVec 32 := 0#32
  let c1_i32 : BitVec 32 := 1#32
  let arg16 : BitVec 32 := Scf.iv c0_i32_116 c1_i32 k0_t1
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off3 (k0_t1 : Fin k0_t1_loop.trips) : Fin 4 → Nat :=
  let c0_648 : Index := 0#32
  let c0_i32_116 : BitVec 32 := 0#32
  let c1_i32 : BitVec 32 := 1#32
  let arg16 : BitVec 32 := Scf.iv c0_i32_116 c1_i32 k0_t1
  let v710 : Index := Scalar.indexCast arg16
  let c0_649 : Index := 0#32
  ![0, v710.toNat, 0, 0]
@[reducible] def k0_t2_loop : Scf.Loop 32 :=
  let c0_i32_173 : BitVec 32 := 0#32
  let c65_i32_174 : BitVec 32 := 65#32
  let v197 : BitVec 32 := Scalar.addi c0_i32_173 c65_i32_174
  let c1_i32_175 : BitVec 32 := 1#32
  ⟨c0_i32_173, v197, c1_i32_175⟩
def k0_off4 (k0_t2 : Fin k0_t2_loop.trips) : Fin 3 → Nat :=
  let c2_636 : Index := 2#32
  let c8_i32 : BitVec 32 := 8#32
  let c0_i32_173 : BitVec 32 := 0#32
  let c1_i32_175 : BitVec 32 := 1#32
  let arg16 : BitVec 32 := Scf.iv c0_i32_173 c1_i32_175 k0_t2
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off5 (k0_t2 : Fin k0_t2_loop.trips) : Fin 3 → Nat :=
  let c3_643 : Index := 3#32
  let c8_i32_642 : BitVec 32 := 8#32
  let c0_i32_173 : BitVec 32 := 0#32
  let c1_i32_175 : BitVec 32 := 1#32
  let arg16 : BitVec 32 := Scf.iv c0_i32_173 c1_i32_175 k0_t2
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off6 (k0_t2 : Fin k0_t2_loop.trips) : Fin 4 → Nat :=
  let c1_648 : Index := 1#32
  let c0_i32_173 : BitVec 32 := 0#32
  let c1_i32_175 : BitVec 32 := 1#32
  let arg16 : BitVec 32 := Scf.iv c0_i32_173 c1_i32_175 k0_t2
  let v710 : Index := Scalar.indexCast arg16
  let c0_649 : Index := 0#32
  ![1, v710.toNat, 0, 0]
@[reducible] def k0_t3_loop : Scf.Loop 32 :=
  let c0_i32_277 : BitVec 32 := 0#32
  let c65_i32_278 : BitVec 32 := 65#32
  let v307 : BitVec 32 := Scalar.addi c0_i32_277 c65_i32_278
  let c1_i32_279 : BitVec 32 := 1#32
  ⟨c0_i32_277, v307, c1_i32_279⟩
def k0_off7 (k0_t3 : Fin k0_t3_loop.trips) : Fin 3 → Nat :=
  let c0_636 : Index := 0#32
  let c8_i32 : BitVec 32 := 8#32
  let c0_i32_277 : BitVec 32 := 0#32
  let c1_i32_279 : BitVec 32 := 1#32
  let arg16 : BitVec 32 := Scf.iv c0_i32_277 c1_i32_279 k0_t3
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off8 (k0_t3 : Fin k0_t3_loop.trips) : Fin 3 → Nat :=
  let c1_643 : Index := 1#32
  let c8_i32_642 : BitVec 32 := 8#32
  let c0_i32_277 : BitVec 32 := 0#32
  let c1_i32_279 : BitVec 32 := 1#32
  let arg16 : BitVec 32 := Scf.iv c0_i32_277 c1_i32_279 k0_t3
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off9 (k0_t3 : Fin k0_t3_loop.trips) : Fin 4 → Nat :=
  let c0_648 : Index := 0#32
  let c0_i32_277 : BitVec 32 := 0#32
  let c1_i32_279 : BitVec 32 := 1#32
  let arg16 : BitVec 32 := Scf.iv c0_i32_277 c1_i32_279 k0_t3
  let v710 : Index := Scalar.indexCast arg16
  let c0_649 : Index := 0#32
  ![0, v710.toNat, 0, 0]
@[reducible] def k0_t4_loop : Scf.Loop 32 :=
  let c0_i32_340 : BitVec 32 := 0#32
  let c65_i32_341 : BitVec 32 := 65#32
  let v365 : BitVec 32 := Scalar.addi c0_i32_340 c65_i32_341
  let c1_i32_342 : BitVec 32 := 1#32
  ⟨c0_i32_340, v365, c1_i32_342⟩
def k0_off10 (k0_t4 : Fin k0_t4_loop.trips) : Fin 3 → Nat :=
  let c2_636 : Index := 2#32
  let c8_i32 : BitVec 32 := 8#32
  let c0_i32_340 : BitVec 32 := 0#32
  let c1_i32_342 : BitVec 32 := 1#32
  let arg16 : BitVec 32 := Scf.iv c0_i32_340 c1_i32_342 k0_t4
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off11 (k0_t4 : Fin k0_t4_loop.trips) : Fin 3 → Nat :=
  let c3_643 : Index := 3#32
  let c8_i32_642 : BitVec 32 := 8#32
  let c0_i32_340 : BitVec 32 := 0#32
  let c1_i32_342 : BitVec 32 := 1#32
  let arg16 : BitVec 32 := Scf.iv c0_i32_340 c1_i32_342 k0_t4
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off12 (k0_t4 : Fin k0_t4_loop.trips) : Fin 4 → Nat :=
  let c1_648 : Index := 1#32
  let c0_i32_340 : BitVec 32 := 0#32
  let c1_i32_342 : BitVec 32 := 1#32
  let arg16 : BitVec 32 := Scf.iv c0_i32_340 c1_i32_342 k0_t4
  let v710 : Index := Scalar.indexCast arg16
  let c0_649 : Index := 0#32
  ![1, v710.toNat, 0, 0]
@[reducible] def k0_t5_loop : Scf.Loop 32 :=
  let c0_i32_432 : BitVec 32 := 0#32
  let c65_i32_433 : BitVec 32 := 65#32
  let v459 : BitVec 32 := Scalar.addi c0_i32_432 c65_i32_433
  let c1_i32_434 : BitVec 32 := 1#32
  ⟨c0_i32_432, v459, c1_i32_434⟩
def k0_off13 (k0_t5 : Fin k0_t5_loop.trips) : Fin 3 → Nat :=
  let c0_636 : Index := 0#32
  let c8_i32 : BitVec 32 := 8#32
  let c0_i32_432 : BitVec 32 := 0#32
  let c1_i32_434 : BitVec 32 := 1#32
  let arg16 : BitVec 32 := Scf.iv c0_i32_432 c1_i32_434 k0_t5
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off14 (k0_t5 : Fin k0_t5_loop.trips) : Fin 3 → Nat :=
  let c1_643 : Index := 1#32
  let c8_i32_642 : BitVec 32 := 8#32
  let c0_i32_432 : BitVec 32 := 0#32
  let c1_i32_434 : BitVec 32 := 1#32
  let arg16 : BitVec 32 := Scf.iv c0_i32_432 c1_i32_434 k0_t5
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off15 (k0_t5 : Fin k0_t5_loop.trips) : Fin 4 → Nat :=
  let c0_648 : Index := 0#32
  let c0_i32_432 : BitVec 32 := 0#32
  let c1_i32_434 : BitVec 32 := 1#32
  let arg16 : BitVec 32 := Scf.iv c0_i32_432 c1_i32_434 k0_t5
  let v710 : Index := Scalar.indexCast arg16
  let c0_649 : Index := 0#32
  ![0, v710.toNat, 0, 0]
@[reducible] def k0_t6_loop : Scf.Loop 32 :=
  let c0_i32_495 : BitVec 32 := 0#32
  let c65_i32_496 : BitVec 32 := 65#32
  let v517 : BitVec 32 := Scalar.addi c0_i32_495 c65_i32_496
  let c1_i32_497 : BitVec 32 := 1#32
  ⟨c0_i32_495, v517, c1_i32_497⟩
def k0_off16 (k0_t6 : Fin k0_t6_loop.trips) : Fin 3 → Nat :=
  let c2_636 : Index := 2#32
  let c8_i32 : BitVec 32 := 8#32
  let c0_i32_495 : BitVec 32 := 0#32
  let c1_i32_497 : BitVec 32 := 1#32
  let arg16 : BitVec 32 := Scf.iv c0_i32_495 c1_i32_497 k0_t6
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off17 (k0_t6 : Fin k0_t6_loop.trips) : Fin 3 → Nat :=
  let c3_643 : Index := 3#32
  let c8_i32_642 : BitVec 32 := 8#32
  let c0_i32_495 : BitVec 32 := 0#32
  let c1_i32_497 : BitVec 32 := 1#32
  let arg16 : BitVec 32 := Scf.iv c0_i32_495 c1_i32_497 k0_t6
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off18 (k0_t6 : Fin k0_t6_loop.trips) : Fin 4 → Nat :=
  let c1_648 : Index := 1#32
  let c0_i32_495 : BitVec 32 := 0#32
  let c1_i32_497 : BitVec 32 := 1#32
  let arg16 : BitVec 32 := Scf.iv c0_i32_495 c1_i32_497 k0_t6
  let v710 : Index := Scalar.indexCast arg16
  let c0_649 : Index := 0#32
  ![1, v710.toNat, 0, 0]
@[reducible] def k0_t7_loop : Scf.Loop 32 :=
  let c0_i32_558 : BitVec 32 := 0#32
  let c65_i32_559 : BitVec 32 := 65#32
  let v575 : BitVec 32 := Scalar.addi c0_i32_558 c65_i32_559
  let c1_i32_560 : BitVec 32 := 1#32
  ⟨c0_i32_558, v575, c1_i32_560⟩
def k0_off19 (k0_t7 : Fin k0_t7_loop.trips) : Fin 3 → Nat :=
  let c0_636 : Index := 0#32
  let c8_i32 : BitVec 32 := 8#32
  let c0_i32_558 : BitVec 32 := 0#32
  let c1_i32_560 : BitVec 32 := 1#32
  let arg16 : BitVec 32 := Scf.iv c0_i32_558 c1_i32_560 k0_t7
  let c2_i32 : BitVec 32 := 2#32
  let v651 : BitVec 32 := Scalar.addi arg16 c2_i32
  let v652 : BitVec 32 := Scalar.addi c8_i32 v651
  let v653 : Index := Scalar.indexCast v652
  let c0_637 : Index := 0#32
  ![0, v653.toNat, 0]
def k0_off20 (k0_t7 : Fin k0_t7_loop.trips) : Fin 3 → Nat :=
  let c1_643 : Index := 1#32
  let c8_i32_642 : BitVec 32 := 8#32
  let c0_i32_558 : BitVec 32 := 0#32
  let c1_i32_560 : BitVec 32 := 1#32
  let arg16 : BitVec 32 := Scf.iv c0_i32_558 c1_i32_560 k0_t7
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![1, v682.toNat, 0]
def k0_off21 (k0_t7 : Fin k0_t7_loop.trips) : Fin 4 → Nat :=
  let c0_648 : Index := 0#32
  let c0_i32_558 : BitVec 32 := 0#32
  let c1_i32_560 : BitVec 32 := 1#32
  let arg16 : BitVec 32 := Scf.iv c0_i32_558 c1_i32_560 k0_t7
  let v710 : Index := Scalar.indexCast arg16
  let c0_649 : Index := 0#32
  ![0, v710.toNat, 0, 0]
@[reducible] def k0_t8_loop : Scf.Loop 32 :=
  let c0_i32_621 : BitVec 32 := 0#32
  let c65_i32_622 : BitVec 32 := 65#32
  let v633 : BitVec 32 := Scalar.addi c0_i32_621 c65_i32_622
  let c1_i32_623 : BitVec 32 := 1#32
  ⟨c0_i32_621, v633, c1_i32_623⟩
def k0_off22 (k0_t8 : Fin k0_t8_loop.trips) : Fin 3 → Nat :=
  let c2_636 : Index := 2#32
  let c8_i32 : BitVec 32 := 8#32
  let c0_i32_621 : BitVec 32 := 0#32
  let c1_i32_623 : BitVec 32 := 1#32
  let arg16 : BitVec 32 := Scf.iv c0_i32_621 c1_i32_623 k0_t8
  let c2_i32 : BitVec 32 := 2#32
  let v651 : BitVec 32 := Scalar.addi arg16 c2_i32
  let v652 : BitVec 32 := Scalar.addi c8_i32 v651
  let v653 : Index := Scalar.indexCast v652
  let c0_637 : Index := 0#32
  ![2, v653.toNat, 0]
def k0_off23 (k0_t8 : Fin k0_t8_loop.trips) : Fin 3 → Nat :=
  let c3_643 : Index := 3#32
  let c8_i32_642 : BitVec 32 := 8#32
  let c0_i32_621 : BitVec 32 := 0#32
  let c1_i32_623 : BitVec 32 := 1#32
  let arg16 : BitVec 32 := Scf.iv c0_i32_621 c1_i32_623 k0_t8
  let c2_i32_641 : BitVec 32 := 2#32
  let v680 : BitVec 32 := Scalar.addi arg16 c2_i32_641
  let v681 : BitVec 32 := Scalar.addi c8_i32_642 v680
  let v682 : Index := Scalar.indexCast v681
  let c0_644 : Index := 0#32
  ![3, v682.toNat, 0]
def k0_off24 (k0_t8 : Fin k0_t8_loop.trips) : Fin 4 → Nat :=
  let c1_648 : Index := 1#32
  let c0_i32_621 : BitVec 32 := 0#32
  let c1_i32_623 : BitVec 32 := 1#32
  let arg16 : BitVec 32 := Scf.iv c0_i32_621 c1_i32_623 k0_t8
  let v710 : Index := Scalar.indexCast arg16
  let c0_649 : Index := 0#32
  ![1, v710.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x2048 : Shape := ⟨3, ![8, 2048, 2048]⟩
abbrev S1x2048x29824 : Shape := ⟨3, ![1, 2048, 29824]⟩
abbrev S1x5x6144 : Shape := ⟨3, ![1, 5, 6144]⟩
abbrev S1x6144 : Shape := ⟨2, ![1, 6144]⟩
abbrev S2048x29824 : Shape := ⟨2, ![2048, 29824]⟩
abbrev S2048x6144 : Shape := ⟨2, ![2048, 6144]⟩
abbrev S8x2048x6144 : Shape := ⟨3, ![8, 2048, 6144]⟩
abbrev S_ : Shape := ⟨0, ![]⟩
abbrev S8x2052x6144 : Shape := ⟨3, ![8, 2052, 6144]⟩
abbrev S1x1x6144 : Shape := ⟨3, ![1, 1, 6144]⟩
abbrev S6144 : Shape := ⟨1, ![6144]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S1x5x6144, .f32⟩
  | .hbm, ⟨3, _⟩ => ⟨S1x6144, .f32⟩
  | .hbm, ⟨4, _⟩ => ⟨S8x2048x2048, .f32⟩
  | .hbm, ⟨5, _⟩ => ⟨S2048x29824, .f32⟩
  | .hbm, ⟨6, _⟩ => ⟨S2048x6144, .f32⟩
  | .hbm, ⟨7, _⟩ => ⟨S8x2048x6144, .f32⟩
  | .hbm, ⟨8, _⟩ => ⟨S_, .i32⟩
  | .hbm, ⟨9, _⟩ => ⟨S_, .f32⟩
  | .hbm, ⟨10, _⟩ => ⟨S8x2052x6144, .f32⟩
  | .hbm, ⟨11, _⟩ => ⟨S8x2048x6144, .f32⟩
  | .hbm, ⟨12, _⟩ => ⟨S1x1x6144, .f32⟩
  | .hbm, ⟨13, _⟩ => ⟨S6144, .f32⟩
  | .hbm, ⟨14, _⟩ => ⟨S1x1x6144, .f32⟩
  | .hbm, ⟨15, _⟩ => ⟨S8x2048x6144, .f32⟩
  | .hbm, ⟨16, _⟩ => ⟨S8x2048x6144, .f32⟩
  | .hbm, ⟨17, _⟩ => ⟨S_, .f32⟩
  | .hbm, ⟨18, _⟩ => ⟨S8x2048x6144, .f32⟩
  | .hbm, ⟨19, _⟩ => ⟨S8x2048x6144, .f32⟩
  | .hbm, ⟨20, _⟩ => ⟨S8x2048x6144, .f32⟩
  | .hbm, ⟨21, _⟩ => ⟨S1x1x6144, .f32⟩
  | .hbm, ⟨22, _⟩ => ⟨S6144, .f32⟩
  | .hbm, ⟨23, _⟩ => ⟨S1x1x6144, .f32⟩
  | .hbm, ⟨24, _⟩ => ⟨S8x2048x6144, .f32⟩
  | .hbm, ⟨25, _⟩ => ⟨S8x2048x6144, .f32⟩
  | .hbm, ⟨26, _⟩ => ⟨S8x2048x6144, .f32⟩
  | .hbm, ⟨27, _⟩ => ⟨S8x2048x6144, .f32⟩
  | .hbm, ⟨28, _⟩ => ⟨S1x1x6144, .f32⟩
  | .hbm, ⟨29, _⟩ => ⟨S6144, .f32⟩
  | .hbm, ⟨30, _⟩ => ⟨S1x1x6144, .f32⟩
  | .hbm, ⟨31, _⟩ => ⟨S8x2048x6144, .f32⟩
  | .hbm, ⟨32, _⟩ => ⟨S8x2048x6144, .f32⟩
  | .hbm, ⟨33, _⟩ => ⟨S8x2048x6144, .f32⟩
  | .hbm, ⟨34, _⟩ => ⟨S8x2048x6144, .f32⟩
  | .hbm, ⟨35, _⟩ => ⟨S1x1x6144, .f32⟩
  | .hbm, ⟨36, _⟩ => ⟨S6144, .f32⟩
  | .hbm, ⟨37, _⟩ => ⟨S1x1x6144, .f32⟩
  | .hbm, ⟨38, _⟩ => ⟨S8x2048x6144, .f32⟩
  | .hbm, ⟨39, _⟩ => ⟨S8x2048x6144, .f32⟩
  | .hbm, ⟨40, _⟩ => ⟨S8x2048x6144, .f32⟩
  | .hbm, ⟨41, _⟩ => ⟨S8x2048x6144, .f32⟩
  | .hbm, ⟨42, _⟩ => ⟨S1x1x6144, .f32⟩
  | .hbm, ⟨43, _⟩ => ⟨S6144, .f32⟩
  | .hbm, ⟨44, _⟩ => ⟨S1x1x6144, .f32⟩
  | .hbm, ⟨45, _⟩ => ⟨S8x2048x6144, .f32⟩
  | .hbm, ⟨46, _⟩ => ⟨S8x2048x6144, .f32⟩
  | .hbm, ⟨47, _⟩ => ⟨S8x2048x6144, .f32⟩
  | .hbm, ⟨48, _⟩ => ⟨S6144, .f32⟩
  | .hbm, ⟨49, _⟩ => ⟨S1x1x6144, .f32⟩
  | .hbm, ⟨50, _⟩ => ⟨S8x2048x6144, .f32⟩
  | .hbm, ⟨51, _⟩ => ⟨S8x2048x6144, .f32⟩
  | .hbm, ⟨52, _⟩ => ⟨S8x2048x6144, .f32⟩
  | .hbm, ⟨53, _⟩ => ⟨S8x2048x6144, .f32⟩
  | .hbm, ⟨54, _⟩ => ⟨S_, .f32⟩
  | .hbm, ⟨55, _⟩ => ⟨S8x2048x6144, .f32⟩
  | .hbm, ⟨56, _⟩ => ⟨S8x2048x6144, .f32⟩
  | .hbm, ⟨57, _⟩ => ⟨S_, .f32⟩
  | .hbm, ⟨58, _⟩ => ⟨S8x2048x6144, .f32⟩
  | .hbm, ⟨59, _⟩ => ⟨S8x2048x6144, .f32⟩
  | .hbm, ⟨60, _⟩ => ⟨S8x2048x6144, .f32⟩
  | .hbm, ⟨61, _⟩ => ⟨S8x2048x6144, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== AsIs.lean ====
abbrev S8x2048x2048 : Shape := ⟨3, ![8, 2048, 2048]⟩
abbrev S1x2048x29824 : Shape := ⟨3, ![1, 2048, 29824]⟩
abbrev S1x5x6144 : Shape := ⟨3, ![1, 5, 6144]⟩
abbrev S1x6144 : Shape := ⟨2, ![1, 6144]⟩
abbrev S2048x29824 : Shape := ⟨2, ![2048, 29824]⟩
abbrev S5x6144 : Shape := ⟨2, ![5, 6144]⟩
abbrev S6144 : Shape := ⟨1, ![6144]⟩
abbrev S8x2048x6144 : Shape := ⟨3, ![8, 2048, 6144]⟩
abbrev S1x2048x2048 : Shape := ⟨3, ![1, 2048, 2048]⟩
abbrev S2048x512 : Shape := ⟨2, ![2048, 512]⟩
abbrev S5x512 : Shape := ⟨2, ![5, 512]⟩
abbrev S1x512 : Shape := ⟨2, ![1, 512]⟩
abbrev S1x2048x512 : Shape := ⟨3, ![1, 2048, 512]⟩
abbrev S4x544x128 : Shape := ⟨3, ![4, 544, 128]⟩
abbrev S2x520x128 : Shape := ⟨3, ![2, 520, 128]⟩
abbrev S4x8x128 : Shape := ⟨3, ![4, 8, 128]⟩
abbrev S4x24x128 : Shape := ⟨3, ![4, 24, 128]⟩
abbrev S1x512x2048 : Shape := ⟨3, ![1, 512, 2048]⟩
abbrev S512x2048 : Shape := ⟨2, ![512, 2048]⟩
abbrev S512x512 : Shape := ⟨2, ![512, 512]⟩
abbrev S512x128 : Shape := ⟨2, ![512, 128]⟩
abbrev S1x512x128 : Shape := ⟨3, ![1, 512, 128]⟩
abbrev S8x128 : Shape := ⟨2, ![8, 128]⟩
abbrev S1x8x128 : Shape := ⟨3, ![1, 8, 128]⟩
abbrev S24x128 : Shape := ⟨2, ![24, 128]⟩
abbrev S1x24x128 : Shape := ⟨3, ![1, 24, 128]⟩
abbrev S1x128 : Shape := ⟨2, ![1, 128]⟩

abbrev nBuf : Space → Nat
  | .hbm => 9
  | .vmem => 19
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S1x5x6144, .f32⟩
  | .hbm, ⟨3, _⟩ => ⟨S1x6144, .f32⟩
  | .hbm, ⟨4, _⟩ => ⟨S2048x29824, .f32⟩
  | .hbm, ⟨5, _⟩ => ⟨S5x6144, .f32⟩
  | .hbm, ⟨6, _⟩ => ⟨S6144, .f32⟩
  | .hbm, ⟨7, _⟩ => ⟨S1x6144, .f32⟩
  | .hbm, ⟨8, _⟩ => ⟨S8x2048x6144, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x512, .f32⟩
  | .local _ .vmem, ⟨3, _⟩ => ⟨S2048x512, .f32⟩
  | .local _ .vmem, ⟨4, _⟩ => ⟨S5x512, .f32⟩
  | .local _ .vmem, ⟨5, _⟩ => ⟨S5x512, .f32⟩
  | .local _ .vmem, ⟨6, _⟩ => ⟨S1x512, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | .local _ .vmem, ⟨10, _⟩ => ⟨S2048x512, .bf16⟩
  | .local _ .vmem, ⟨11, _⟩ => ⟨S4x544x128, .f32⟩
  | .local _ .vmem, ⟨12, _⟩ => ⟨S4x544x128, .f32⟩
  | .local _ .vmem, ⟨13, _⟩ => ⟨S4x544x128, .f32⟩
  | .local _ .vmem, ⟨14, _⟩ => ⟨S4x544x128, .f32⟩
  | .local _ .vmem, ⟨15, _⟩ => ⟨S2x520x128, .i32⟩
  | .local _ .vmem, ⟨16, _⟩ => ⟨S2x520x128, .i32⟩
  | .local _ .vmem, ⟨17, _⟩ => ⟨S2x520x128, .i32⟩
  | .local _ .vmem, ⟨18, _⟩ => ⟨S2x520x128, .i32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![12, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Za.lean ====
abbrev S8x2048x2048 : Shape := ⟨3, ![8, 2048, 2048]⟩
abbrev S1x2048x29824 : Shape := ⟨3, ![1, 2048, 29824]⟩
abbrev S2048x29824 : Shape := ⟨2, ![2048, 29824]⟩
abbrev S8x2048x1536 : Shape := ⟨3, ![8, 2048, 1536]⟩
abbrev S1x2048x2048 : Shape := ⟨3, ![1, 2048, 2048]⟩
abbrev S2048x768 : Shape := ⟨2, ![2048, 768]⟩
abbrev S1x2048x768 : Shape := ⟨3, ![1, 2048, 768]⟩
abbrev S1x512x2048 : Shape := ⟨3, ![1, 512, 2048]⟩
abbrev S512x2048 : Shape := ⟨2, ![512, 2048]⟩
abbrev S512x768 : Shape := ⟨2, ![512, 768]⟩
abbrev S1x512x768 : Shape := ⟨3, ![1, 512, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S2048x29824, .f32⟩
  | .hbm, ⟨3, _⟩ => ⟨S8x2048x1536, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x768, .f32⟩
  | .local _ .vmem, ⟨3, _⟩ => ⟨S2048x768, .f32⟩
  | .local _ .vmem, ⟨4, _⟩ => ⟨S1x2048x768, .bf16⟩
  | .local _ .vmem, ⟨5, _⟩ => ⟨S1x2048x768, .bf16⟩
  | .local _ .vmem, ⟨6, _⟩ => ⟨S2048x768, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZaRefIdeal.lean ====
abbrev S8x2048x2048 : Shape := ⟨3, ![8, 2048, 2048]⟩
abbrev S1x2048x29824 : Shape := ⟨3, ![1, 2048, 29824]⟩
abbrev S2048x29824 : Shape := ⟨2, ![2048, 29824]⟩
abbrev S2048x1536 : Shape := ⟨2, ![2048, 1536]⟩
abbrev S8x2048x1536 : Shape := ⟨3, ![8, 2048, 1536]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S8x2048x2048, .f32⟩
  | .hbm, ⟨3, _⟩ => ⟨S2048x29824, .f32⟩
  | .hbm, ⟨4, _⟩ => ⟨S2048x1536, .f32⟩
  | .hbm, ⟨5, _⟩ => ⟨S8x2048x1536, .f32⟩
  | .hbm, ⟨6, _⟩ => ⟨S8x2048x1536, .f32⟩
  | .hbm, ⟨7, _⟩ => ⟨S8x2048x1536, .f32⟩
  | .hbm, ⟨8, _⟩ => ⟨S_, .f32⟩
  | .hbm, ⟨9, _⟩ => ⟨S8x2048x1536, .f32⟩
  | .hbm, ⟨10, _⟩ => ⟨S8x2048x1536, .f32⟩
  | .hbm, ⟨11, _⟩ => ⟨S_, .f32⟩
  | .hbm, ⟨12, _⟩ => ⟨S8x2048x1536, .f32⟩
  | .hbm, ⟨13, _⟩ => ⟨S8x2048x1536, .f32⟩
  | .hbm, ⟨14, _⟩ => ⟨S8x2048x1536, .f32⟩
  | .hbm, ⟨15, _⟩ => ⟨S8x2048x1536, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Zs.lean ====
abbrev S8x2048x2048 : Shape := ⟨3, ![8, 2048, 2048]⟩
abbrev S1x2048x29824 : Shape := ⟨3, ![1, 2048, 29824]⟩
abbrev S2048x29824 : Shape := ⟨2, ![2048, 29824]⟩
abbrev S8x2048x4096 : Shape := ⟨3, ![8, 2048, 4096]⟩
abbrev S1x2048x2048 : Shape := ⟨3, ![1, 2048, 2048]⟩
abbrev S2048x1024 : Shape := ⟨2, ![2048, 1024]⟩
abbrev S1x2048x1024 : Shape := ⟨3, ![1, 2048, 1024]⟩
abbrev S1x512x2048 : Shape := ⟨3, ![1, 512, 2048]⟩
abbrev S512x2048 : Shape := ⟨2, ![512, 2048]⟩
abbrev S512x1024 : Shape := ⟨2, ![512, 1024]⟩
abbrev S1x512x1024 : Shape := ⟨3, ![1, 512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S2048x29824, .f32⟩
  | .hbm, ⟨3, _⟩ => ⟨S8x2048x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .f32⟩
  | .local _ .vmem, ⟨3, _⟩ => ⟨S2048x1024, .f32⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZsRefIdeal.lean ====
abbrev S8x2048x2048 : Shape := ⟨3, ![8, 2048, 2048]⟩
abbrev S1x2048x29824 : Shape := ⟨3, ![1, 2048, 29824]⟩
abbrev S2048x29824 : Shape := ⟨2, ![2048, 29824]⟩
abbrev S2048x4096 : Shape := ⟨2, ![2048, 4096]⟩
abbrev S8x2048x4096 : Shape := ⟨3, ![8, 2048, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S8x2048x2048, .f32⟩
  | .hbm, ⟨3, _⟩ => ⟨S2048x29824, .f32⟩
  | .hbm, ⟨4, _⟩ => ⟨S2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Gates.lean ====
abbrev S8x2048x2048 : Shape := ⟨3, ![8, 2048, 2048]⟩
abbrev S1x2048x29824 : Shape := ⟨3, ![1, 2048, 29824]⟩
abbrev S2048x29824 : Shape := ⟨2, ![2048, 29824]⟩
abbrev S2048x4096 : Shape := ⟨2, ![2048, 4096]⟩
abbrev S8x2048x4096 : Shape := ⟨3, ![8, 2048, 4096]⟩
abbrev S1x2048x2048 : Shape := ⟨3, ![1, 2048, 2048]⟩
abbrev S2048x1024 : Shape := ⟨2, ![2048, 1024]⟩
abbrev S1x2048x1024 : Shape := ⟨3, ![1, 2048, 1024]⟩
abbrev S1x512x2048 : Shape := ⟨3, ![1, 512, 2048]⟩
abbrev S512x2048 : Shape := ⟨2, ![512, 2048]⟩
abbrev S512x1024 : Shape := ⟨2, ![512, 1024]⟩
abbrev S1x512x1024 : Shape := ⟨3, ![1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S2048x29824, .f32⟩
  | .hbm, ⟨3, _⟩ => ⟨S2048x4096, .f32⟩
  | .hbm, ⟨4, _⟩ => ⟨S8x2048x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .f32⟩
  | .local _ .vmem, ⟨3, _⟩ => ⟨S2048x1024, .f32⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8x2048x2048 : Shape := ⟨3, ![8, 2048, 2048]⟩
abbrev S1x2048x29824 : Shape := ⟨3, ![1, 2048, 29824]⟩
abbrev S2048x29824 : Shape := ⟨2, ![2048, 29824]⟩
abbrev S2048x4096 : Shape := ⟨2, ![2048, 4096]⟩
abbrev S8x2048x4096 : Shape := ⟨3, ![8, 2048, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S8x2048x2048, .f32⟩
  | .hbm, ⟨3, _⟩ => ⟨S2048x29824, .f32⟩
  | .hbm, ⟨4, _⟩ => ⟨S2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== QkvA.lean ====
abbrev S8x2048x2048 : Shape := ⟨3, ![8, 2048, 2048]⟩
abbrev S1x2048x29824 : Shape := ⟨3, ![1, 2048, 29824]⟩
abbrev S3x8x2048x64 : Shape := ⟨4, ![3, 8, 2048, 64]⟩
abbrev S2048x29824 : Shape := ⟨2, ![2048, 29824]⟩
abbrev S3x8x2048x128 : Shape := ⟨4, ![3, 8, 2048, 128]⟩
abbrev S24x2048x128 : Shape := ⟨3, ![24, 2048, 128]⟩
abbrev S8x36x2048x128 : Shape := ⟨4, ![8, 36, 2048, 128]⟩
abbrev S1x2048x2048 : Shape := ⟨3, ![1, 2048, 2048]⟩
abbrev S2048x768 : Shape := ⟨2, ![2048, 768]⟩
abbrev S1x2048x128 : Shape := ⟨3, ![1, 2048, 128]⟩
abbrev S1x6x2048x128 : Shape := ⟨4, ![1, 6, 2048, 128]⟩
abbrev S1x512x2048 : Shape := ⟨3, ![1, 512, 2048]⟩
abbrev S512x2048 : Shape := ⟨2, ![512, 2048]⟩
abbrev S512x768 : Shape := ⟨2, ![512, 768]⟩
abbrev S1x512x128 : Shape := ⟨3, ![1, 512, 128]⟩
abbrev S512x128 : Shape := ⟨2, ![512, 128]⟩
abbrev S1x1x512x128 : Shape := ⟨4, ![1, 1, 512, 128]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S3x8x2048x64, .f32⟩
  | .hbm, ⟨3, _⟩ => ⟨S3x8x2048x64, .f32⟩
  | .hbm, ⟨4, _⟩ => ⟨S2048x29824, .f32⟩
  | .hbm, ⟨5, _⟩ => ⟨S3x8x2048x128, .f32⟩
  | .hbm, ⟨6, _⟩ => ⟨S24x2048x128, .f32⟩
  | .hbm, ⟨7, _⟩ => ⟨S3x8x2048x64, .f32⟩
  | .hbm, ⟨8, _⟩ => ⟨S3x8x2048x128, .f32⟩
  | .hbm, ⟨9, _⟩ => ⟨S24x2048x128, .f32⟩
  | .hbm, ⟨10, _⟩ => ⟨S8x36x2048x128, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x768, .f32⟩
  | .local _ .vmem, ⟨3, _⟩ => ⟨S2048x768, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x6x2048x128, .bf16⟩
  | .local _ .vmem, ⟨9, _⟩ => ⟨S1x6x2048x128, .bf16⟩
  | .local _ .vmem, ⟨10, _⟩ => ⟨S2048x768, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![c0_i32_11.toNat, v29.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x6x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvARefIdeal.lean ====
abbrev S8x2048x2048 : Shape := ⟨3, ![8, 2048, 2048]⟩
abbrev S1x2048x29824 : Shape := ⟨3, ![1, 2048, 29824]⟩
abbrev S3x8x2048x64 : Shape := ⟨4, ![3, 8, 2048, 64]⟩
abbrev S2048x29824 : Shape := ⟨2, ![2048, 29824]⟩
abbrev S2048x13824 : Shape := ⟨2, ![2048, 13824]⟩
abbrev S8x2048x13824 : Shape := ⟨3, ![8, 2048, 13824]⟩
abbrev S8x2048x3x3x12x128 : Shape := ⟨6, ![8, 2048, 3, 3, 12, 128]⟩
abbrev S8x2048x1x1x12x128 : Shape := ⟨6, ![8, 2048, 1, 1, 12, 128]⟩
abbrev S8x2048x12x128 : Shape := ⟨4, ![8, 2048, 12, 128]⟩
abbrev S1x8x2048x64 : Shape := ⟨4, ![1, 8, 2048, 64]⟩
abbrev S8x2048x64 : Shape := ⟨3, ![8, 2048, 64]⟩
abbrev S8x2048x1x64 : Shape := ⟨4, ![8, 2048, 1, 64]⟩
abbrev S8x2048x12x64 : Shape := ⟨4, ![8, 2048, 12, 64]⟩
abbrev S8x2048x36x128 : Shape := ⟨4, ![8, 2048, 36, 128]⟩
abbrev S8x36x2048x128 : Shape := ⟨4, ![8, 36, 2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S3x8x2048x64, .f32⟩
  | .hbm, ⟨3, _⟩ => ⟨S3x8x2048x64, .f32⟩
  | .hbm, ⟨4, _⟩ => ⟨S8x2048x2048, .f32⟩
  | .hbm, ⟨5, _⟩ => ⟨S2048x29824, .f32⟩
  | .hbm, ⟨6, _⟩ => ⟨S2048x13824, .f32⟩
  | .hbm, ⟨7, _⟩ => ⟨S8x2048x13824, .f32⟩
  | .hbm, ⟨8, _⟩ => ⟨S8x2048x3x3x12x128, .f32⟩
  | .hbm, ⟨9, _⟩ => ⟨S8x2048x1x1x12x128, .f32⟩
  | .hbm, ⟨10, _⟩ => ⟨S8x2048x12x128, .f32⟩
  | .hbm, ⟨11, _⟩ => ⟨S1x8x2048x64, .f32⟩
  | .hbm, ⟨12, _⟩ => ⟨S8x2048x64, .f32⟩
  | .hbm, ⟨13, _⟩ => ⟨S1x8x2048x64, .f32⟩
  | .hbm, ⟨14, _⟩ => ⟨S8x2048x64, .f32⟩
  | .hbm, ⟨15, _⟩ => ⟨S8x2048x1x64, .f32⟩
  | .hbm, ⟨16, _⟩ => ⟨S8x2048x1x64, .f32⟩
  | .hbm, ⟨17, _⟩ => ⟨S8x2048x12x64, .f32⟩
  | .hbm, ⟨18, _⟩ => ⟨S8x2048x12x64, .f32⟩
  | .hbm, ⟨19, _⟩ => ⟨S8x2048x12x64, .f32⟩
  | .hbm, ⟨20, _⟩ => ⟨S8x2048x12x64, .f32⟩
  | .hbm, ⟨21, _⟩ => ⟨S8x2048x12x64, .f32⟩
  | .hbm, ⟨22, _⟩ => ⟨S8x2048x12x64, .f32⟩
  | .hbm, ⟨23, _⟩ => ⟨S8x2048x12x64, .f32⟩
  | .hbm, ⟨24, _⟩ => ⟨S8x2048x12x64, .f32⟩
  | .hbm, ⟨25, _⟩ => ⟨S8x2048x12x64, .f32⟩
  | .hbm, ⟨26, _⟩ => ⟨S8x2048x12x64, .f32⟩
  | .hbm, ⟨27, _⟩ => ⟨S8x2048x12x64, .f32⟩
  | .hbm, ⟨28, _⟩ => ⟨S8x2048x12x64, .f32⟩
  | .hbm, ⟨29, _⟩ => ⟨S8x2048x12x128, .f32⟩
  | .hbm, ⟨30, _⟩ => ⟨S8x2048x1x1x12x128, .f32⟩
  | .hbm, ⟨31, _⟩ => ⟨S8x2048x12x128, .f32⟩
  | .hbm, ⟨32, _⟩ => ⟨S1x8x2048x64, .f32⟩
  | .hbm, ⟨33, _⟩ => ⟨S8x2048x64, .f32⟩
  | .hbm, ⟨34, _⟩ => ⟨S1x8x2048x64, .f32⟩
  | .hbm, ⟨35, _⟩ => ⟨S8x2048x64, .f32⟩
  | .hbm, ⟨36, _⟩ => ⟨S8x2048x1x64, .f32⟩
  | .hbm, ⟨37, _⟩ => ⟨S8x2048x1x64, .f32⟩
  | .hbm, ⟨38, _⟩ => ⟨S8x2048x12x64, .f32⟩
  | .hbm, ⟨39, _⟩ => ⟨S8x2048x12x64, .f32⟩
  | .hbm, ⟨40, _⟩ => ⟨S8x2048x12x64, .f32⟩
  | .hbm, ⟨41, _⟩ => ⟨S8x2048x12x64, .f32⟩
  | .hbm, ⟨42, _⟩ => ⟨S8x2048x12x64, .f32⟩
  | .hbm, ⟨43, _⟩ => ⟨S8x2048x12x64, .f32⟩
  | .hbm, ⟨44, _⟩ => ⟨S8x2048x12x64, .f32⟩
  | .hbm, ⟨45, _⟩ => ⟨S8x2048x12x64, .f32⟩
  | .hbm, ⟨46, _⟩ => ⟨S8x2048x12x64, .f32⟩
  | .hbm, ⟨47, _⟩ => ⟨S8x2048x12x64, .f32⟩
  | .hbm, ⟨48, _⟩ => ⟨S8x2048x12x64, .f32⟩
  | .hbm, ⟨49, _⟩ => ⟨S8x2048x12x64, .f32⟩
  | .hbm, ⟨50, _⟩ => ⟨S8x2048x12x128, .f32⟩
  | .hbm, ⟨51, _⟩ => ⟨S8x2048x1x1x12x128, .f32⟩
  | .hbm, ⟨52, _⟩ => ⟨S8x2048x12x128, .f32⟩
  | .hbm, ⟨53, _⟩ => ⟨S8x2048x36x128, .f32⟩
  | .hbm, ⟨54, _⟩ => ⟨S8x36x2048x128, .f32⟩
  | .hbm, ⟨55, _⟩ => ⟨S8x36x2048x128, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]
-- ==== QkvB.lean ====
abbrev S8x2048x2048 : Shape := ⟨3, ![8, 2048, 2048]⟩
abbrev S1x2048x29824 : Shape := ⟨3, ![1, 2048, 29824]⟩
abbrev S3x8x2048x64 : Shape := ⟨4, ![3, 8, 2048, 64]⟩
abbrev S2048x29824 : Shape := ⟨2, ![2048, 29824]⟩
abbrev S3x8x2048x128 : Shape := ⟨4, ![3, 8, 2048, 128]⟩
abbrev S24x2048x128 : Shape := ⟨3, ![24, 2048, 128]⟩
abbrev S8x36x2048x128 : Shape := ⟨4, ![8, 36, 2048, 128]⟩
abbrev S1x2048x2048 : Shape := ⟨3, ![1, 2048, 2048]⟩
abbrev S2048x768 : Shape := ⟨2, ![2048, 768]⟩
abbrev S1x2048x128 : Shape := ⟨3, ![1, 2048, 128]⟩
abbrev S1x6x2048x128 : Shape := ⟨4, ![1, 6, 2048, 128]⟩
abbrev S1x512x2048 : Shape := ⟨3, ![1, 512, 2048]⟩
abbrev S512x2048 : Shape := ⟨2, ![512, 2048]⟩
abbrev S512x768 : Shape := ⟨2, ![512, 768]⟩
abbrev S1x512x128 : Shape := ⟨3, ![1, 512, 128]⟩
abbrev S512x128 : Shape := ⟨2, ![512, 128]⟩
abbrev S1x1x512x128 : Shape := ⟨4, ![1, 1, 512, 128]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S3x8x2048x64, .f32⟩
  | .hbm, ⟨3, _⟩ => ⟨S3x8x2048x64, .f32⟩
  | .hbm, ⟨4, _⟩ => ⟨S2048x29824, .f32⟩
  | .hbm, ⟨5, _⟩ => ⟨S3x8x2048x128, .f32⟩
  | .hbm, ⟨6, _⟩ => ⟨S24x2048x128, .f32⟩
  | .hbm, ⟨7, _⟩ => ⟨S3x8x2048x64, .f32⟩
  | .hbm, ⟨8, _⟩ => ⟨S3x8x2048x128, .f32⟩
  | .hbm, ⟨9, _⟩ => ⟨S24x2048x128, .f32⟩
  | .hbm, ⟨10, _⟩ => ⟨S8x36x2048x128, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x768, .f32⟩
  | .local _ .vmem, ⟨3, _⟩ => ⟨S2048x768, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x6x2048x128, .bf16⟩
  | .local _ .vmem, ⟨9, _⟩ => ⟨S1x6x2048x128, .bf16⟩
  | .local _ .vmem, ⟨10, _⟩ => ⟨S2048x768, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32_4 : BitVec 32 := 2#32
  let v18 : BitVec 32 := Scalar.addi v17 c2_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![c0_i32_11.toNat, v29.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x6x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvBRefIdeal.lean ====
abbrev S8x2048x2048 : Shape := ⟨3, ![8, 2048, 2048]⟩
abbrev S1x2048x29824 : Shape := ⟨3, ![1, 2048, 29824]⟩
abbrev S3x8x2048x64 : Shape := ⟨4, ![3, 8, 2048, 64]⟩
abbrev S2048x29824 : Shape := ⟨2, ![2048, 29824]⟩
abbrev S2048x13824 : Shape := ⟨2, ![2048, 13824]⟩
abbrev S8x2048x13824 : Shape := ⟨3, ![8, 2048, 13824]⟩
abbrev S8x2048x3x3x12x128 : Shape := ⟨6, ![8, 2048, 3, 3, 12, 128]⟩
abbrev S8x2048x1x1x12x128 : Shape := ⟨6, ![8, 2048, 1, 1, 12, 128]⟩
abbrev S8x2048x12x128 : Shape := ⟨4, ![8, 2048, 12, 128]⟩
abbrev S1x8x2048x64 : Shape := ⟨4, ![1, 8, 2048, 64]⟩
abbrev S8x2048x64 : Shape := ⟨3, ![8, 2048, 64]⟩
abbrev S8x2048x1x64 : Shape := ⟨4, ![8, 2048, 1, 64]⟩
abbrev S8x2048x12x64 : Shape := ⟨4, ![8, 2048, 12, 64]⟩
abbrev S8x2048x36x128 : Shape := ⟨4, ![8, 2048, 36, 128]⟩
abbrev S8x36x2048x128 : Shape := ⟨4, ![8, 36, 2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S3x8x2048x64, .f32⟩
  | .hbm, ⟨3, _⟩ => ⟨S3x8x2048x64, .f32⟩
  | .hbm, ⟨4, _⟩ => ⟨S8x2048x2048, .f32⟩
  | .hbm, ⟨5, _⟩ => ⟨S2048x29824, .f32⟩
  | .hbm, ⟨6, _⟩ => ⟨S2048x13824, .f32⟩
  | .hbm, ⟨7, _⟩ => ⟨S8x2048x13824, .f32⟩
  | .hbm, ⟨8, _⟩ => ⟨S8x2048x3x3x12x128, .f32⟩
  | .hbm, ⟨9, _⟩ => ⟨S8x2048x1x1x12x128, .f32⟩
  | .hbm, ⟨10, _⟩ => ⟨S8x2048x12x128, .f32⟩
  | .hbm, ⟨11, _⟩ => ⟨S1x8x2048x64, .f32⟩
  | .hbm, ⟨12, _⟩ => ⟨S8x2048x64, .f32⟩
  | .hbm, ⟨13, _⟩ => ⟨S1x8x2048x64, .f32⟩
  | .hbm, ⟨14, _⟩ => ⟨S8x2048x64, .f32⟩
  | .hbm, ⟨15, _⟩ => ⟨S8x2048x1x64, .f32⟩
  | .hbm, ⟨16, _⟩ => ⟨S8x2048x1x64, .f32⟩
  | .hbm, ⟨17, _⟩ => ⟨S8x2048x12x64, .f32⟩
  | .hbm, ⟨18, _⟩ => ⟨S8x2048x12x64, .f32⟩
  | .hbm, ⟨19, _⟩ => ⟨S8x2048x12x64, .f32⟩
  | .hbm, ⟨20, _⟩ => ⟨S8x2048x12x64, .f32⟩
  | .hbm, ⟨21, _⟩ => ⟨S8x2048x12x64, .f32⟩
  | .hbm, ⟨22, _⟩ => ⟨S8x2048x12x64, .f32⟩
  | .hbm, ⟨23, _⟩ => ⟨S8x2048x12x64, .f32⟩
  | .hbm, ⟨24, _⟩ => ⟨S8x2048x12x64, .f32⟩
  | .hbm, ⟨25, _⟩ => ⟨S8x2048x12x64, .f32⟩
  | .hbm, ⟨26, _⟩ => ⟨S8x2048x12x64, .f32⟩
  | .hbm, ⟨27, _⟩ => ⟨S8x2048x12x64, .f32⟩
  | .hbm, ⟨28, _⟩ => ⟨S8x2048x12x64, .f32⟩
  | .hbm, ⟨29, _⟩ => ⟨S8x2048x12x128, .f32⟩
  | .hbm, ⟨30, _⟩ => ⟨S8x2048x1x1x12x128, .f32⟩
  | .hbm, ⟨31, _⟩ => ⟨S8x2048x12x128, .f32⟩
  | .hbm, ⟨32, _⟩ => ⟨S1x8x2048x64, .f32⟩
  | .hbm, ⟨33, _⟩ => ⟨S8x2048x64, .f32⟩
  | .hbm, ⟨34, _⟩ => ⟨S1x8x2048x64, .f32⟩
  | .hbm, ⟨35, _⟩ => ⟨S8x2048x64, .f32⟩
  | .hbm, ⟨36, _⟩ => ⟨S8x2048x1x64, .f32⟩
  | .hbm, ⟨37, _⟩ => ⟨S8x2048x1x64, .f32⟩
  | .hbm, ⟨38, _⟩ => ⟨S8x2048x12x64, .f32⟩
  | .hbm, ⟨39, _⟩ => ⟨S8x2048x12x64, .f32⟩
  | .hbm, ⟨40, _⟩ => ⟨S8x2048x12x64, .f32⟩
  | .hbm, ⟨41, _⟩ => ⟨S8x2048x12x64, .f32⟩
  | .hbm, ⟨42, _⟩ => ⟨S8x2048x12x64, .f32⟩
  | .hbm, ⟨43, _⟩ => ⟨S8x2048x12x64, .f32⟩
  | .hbm, ⟨44, _⟩ => ⟨S8x2048x12x64, .f32⟩
  | .hbm, ⟨45, _⟩ => ⟨S8x2048x12x64, .f32⟩
  | .hbm, ⟨46, _⟩ => ⟨S8x2048x12x64, .f32⟩
  | .hbm, ⟨47, _⟩ => ⟨S8x2048x12x64, .f32⟩
  | .hbm, ⟨48, _⟩ => ⟨S8x2048x12x64, .f32⟩
  | .hbm, ⟨49, _⟩ => ⟨S8x2048x12x64, .f32⟩
  | .hbm, ⟨50, _⟩ => ⟨S8x2048x12x128, .f32⟩
  | .hbm, ⟨51, _⟩ => ⟨S8x2048x1x1x12x128, .f32⟩
  | .hbm, ⟨52, _⟩ => ⟨S8x2048x12x128, .f32⟩
  | .hbm, ⟨53, _⟩ => ⟨S8x2048x36x128, .f32⟩
  | .hbm, ⟨54, _⟩ => ⟨S8x36x2048x128, .f32⟩
  | .hbm, ⟨55, _⟩ => ⟨S8x36x2048x128, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]
-- ==== QkvC.lean ====
abbrev S8x2048x2048 : Shape := ⟨3, ![8, 2048, 2048]⟩
abbrev S1x2048x29824 : Shape := ⟨3, ![1, 2048, 29824]⟩
abbrev S3x8x2048x64 : Shape := ⟨4, ![3, 8, 2048, 64]⟩
abbrev S2048x29824 : Shape := ⟨2, ![2048, 29824]⟩
abbrev S3x8x2048x128 : Shape := ⟨4, ![3, 8, 2048, 128]⟩
abbrev S24x2048x128 : Shape := ⟨3, ![24, 2048, 128]⟩
abbrev S8x36x2048x128 : Shape := ⟨4, ![8, 36, 2048, 128]⟩
abbrev S1x2048x2048 : Shape := ⟨3, ![1, 2048, 2048]⟩
abbrev S2048x768 : Shape := ⟨2, ![2048, 768]⟩
abbrev S1x2048x128 : Shape := ⟨3, ![1, 2048, 128]⟩
abbrev S1x6x2048x128 : Shape := ⟨4, ![1, 6, 2048, 128]⟩
abbrev S1x512x2048 : Shape := ⟨3, ![1, 512, 2048]⟩
abbrev S512x2048 : Shape := ⟨2, ![512, 2048]⟩
abbrev S512x768 : Shape := ⟨2, ![512, 768]⟩
abbrev S1x512x128 : Shape := ⟨3, ![1, 512, 128]⟩
abbrev S512x128 : Shape := ⟨2, ![512, 128]⟩
abbrev S1x1x512x128 : Shape := ⟨4, ![1, 1, 512, 128]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S3x8x2048x64, .f32⟩
  | .hbm, ⟨3, _⟩ => ⟨S3x8x2048x64, .f32⟩
  | .hbm, ⟨4, _⟩ => ⟨S2048x29824, .f32⟩
  | .hbm, ⟨5, _⟩ => ⟨S3x8x2048x128, .f32⟩
  | .hbm, ⟨6, _⟩ => ⟨S24x2048x128, .f32⟩
  | .hbm, ⟨7, _⟩ => ⟨S3x8x2048x64, .f32⟩
  | .hbm, ⟨8, _⟩ => ⟨S3x8x2048x128, .f32⟩
  | .hbm, ⟨9, _⟩ => ⟨S24x2048x128, .f32⟩
  | .hbm, ⟨10, _⟩ => ⟨S8x36x2048x128, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x768, .f32⟩
  | .local _ .vmem, ⟨3, _⟩ => ⟨S2048x768, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x6x2048x128, .bf16⟩
  | .local _ .vmem, ⟨9, _⟩ => ⟨S1x6x2048x128, .bf16⟩
  | .local _ .vmem, ⟨10, _⟩ => ⟨S2048x768, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_10 : BitVec 32 := 0#32
  let c0_i32_11 : BitVec 32 := 0#32
  ![c0_i32_10.toNat, v29.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x6x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvCRefIdeal.lean ====
abbrev S8x2048x2048 : Shape := ⟨3, ![8, 2048, 2048]⟩
abbrev S1x2048x29824 : Shape := ⟨3, ![1, 2048, 29824]⟩
abbrev S3x8x2048x64 : Shape := ⟨4, ![3, 8, 2048, 64]⟩
abbrev S2048x29824 : Shape := ⟨2, ![2048, 29824]⟩
abbrev S2048x13824 : Shape := ⟨2, ![2048, 13824]⟩
abbrev S8x2048x13824 : Shape := ⟨3, ![8, 2048, 13824]⟩
abbrev S8x2048x3x3x12x128 : Shape := ⟨6, ![8, 2048, 3, 3, 12, 128]⟩
abbrev S8x2048x1x1x12x128 : Shape := ⟨6, ![8, 2048, 1, 1, 12, 128]⟩
abbrev S8x2048x12x128 : Shape := ⟨4, ![8, 2048, 12, 128]⟩
abbrev S1x8x2048x64 : Shape := ⟨4, ![1, 8, 2048, 64]⟩
abbrev S8x2048x64 : Shape := ⟨3, ![8, 2048, 64]⟩
abbrev S8x2048x1x64 : Shape := ⟨4, ![8, 2048, 1, 64]⟩
abbrev S8x2048x12x64 : Shape := ⟨4, ![8, 2048, 12, 64]⟩
abbrev S8x2048x36x128 : Shape := ⟨4, ![8, 2048, 36, 128]⟩
abbrev S8x36x2048x128 : Shape := ⟨4, ![8, 36, 2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x29824, .f32⟩
  | .hbm, ⟨2, _⟩ => ⟨S3x8x2048x64, .f32⟩
  | .hbm, ⟨3, _⟩ => ⟨S3x8x2048x64, .f32⟩
  | .hbm, ⟨4, _⟩ => ⟨S8x2048x2048, .f32⟩
  | .hbm, ⟨5, _⟩ => ⟨S2048x29824, .f32⟩
  | .hbm, ⟨6, _⟩ => ⟨S2048x13824, .f32⟩
  | .hbm, ⟨7, _⟩ => ⟨S8x2048x13824, .f32⟩
  | .hbm, ⟨8, _⟩ => ⟨S8x2048x3x3x12x128, .f32⟩
  | .hbm, ⟨9, _⟩ => ⟨S8x2048x1x1x12x128, .f32⟩
  | .hbm, ⟨10, _⟩ => ⟨S8x2048x12x128, .f32⟩
  | .hbm, ⟨11, _⟩ => ⟨S1x8x2048x64, .f32⟩
  | .hbm, ⟨12, _⟩ => ⟨S8x2048x64, .f32⟩
  | .hbm, ⟨13, _⟩ => ⟨S1x8x2048x64, .f32⟩
  | .hbm, ⟨14, _⟩ => ⟨S8x2048x64, .f32⟩
  | .hbm, ⟨15, _⟩ => ⟨S8x2048x1x64, .f32⟩
  | .hbm, ⟨16, _⟩ => ⟨S8x2048x1x64, .f32⟩
  | .hbm, ⟨17, _⟩ => ⟨S8x2048x12x64, .f32⟩
  | .hbm, ⟨18, _⟩ => ⟨S8x2048x12x64, .f32⟩
  | .hbm, ⟨19, _⟩ => ⟨S8x2048x12x64, .f32⟩
  | .hbm, ⟨20, _⟩ => ⟨S8x2048x12x64, .f32⟩
  | .hbm, ⟨21, _⟩ => ⟨S8x2048x12x64, .f32⟩
  | .hbm, ⟨22, _⟩ => ⟨S8x2048x12x64, .f32⟩
  | .hbm, ⟨23, _⟩ => ⟨S8x2048x12x64, .f32⟩
  | .hbm, ⟨24, _⟩ => ⟨S8x2048x12x64, .f32⟩
  | .hbm, ⟨25, _⟩ => ⟨S8x2048x12x64, .f32⟩
  | .hbm, ⟨26, _⟩ => ⟨S8x2048x12x64, .f32⟩
  | .hbm, ⟨27, _⟩ => ⟨S8x2048x12x64, .f32⟩
  | .hbm, ⟨28, _⟩ => ⟨S8x2048x12x64, .f32⟩
  | .hbm, ⟨29, _⟩ => ⟨S8x2048x12x128, .f32⟩
  | .hbm, ⟨30, _⟩ => ⟨S8x2048x1x1x12x128, .f32⟩
  | .hbm, ⟨31, _⟩ => ⟨S8x2048x12x128, .f32⟩
  | .hbm, ⟨32, _⟩ => ⟨S1x8x2048x64, .f32⟩
  | .hbm, ⟨33, _⟩ => ⟨S8x2048x64, .f32⟩
  | .hbm, ⟨34, _⟩ => ⟨S1x8x2048x64, .f32⟩
  | .hbm, ⟨35, _⟩ => ⟨S8x2048x64, .f32⟩
  | .hbm, ⟨36, _⟩ => ⟨S8x2048x1x64, .f32⟩
  | .hbm, ⟨37, _⟩ => ⟨S8x2048x1x64, .f32⟩
  | .hbm, ⟨38, _⟩ => ⟨S8x2048x12x64, .f32⟩
  | .hbm, ⟨39, _⟩ => ⟨S8x2048x12x64, .f32⟩
  | .hbm, ⟨40, _⟩ => ⟨S8x2048x12x64, .f32⟩
  | .hbm, ⟨41, _⟩ => ⟨S8x2048x12x64, .f32⟩
  | .hbm, ⟨42, _⟩ => ⟨S8x2048x12x64, .f32⟩
  | .hbm, ⟨43, _⟩ => ⟨S8x2048x12x64, .f32⟩
  | .hbm, ⟨44, _⟩ => ⟨S8x2048x12x64, .f32⟩
  | .hbm, ⟨45, _⟩ => ⟨S8x2048x12x64, .f32⟩
  | .hbm, ⟨46, _⟩ => ⟨S8x2048x12x64, .f32⟩
  | .hbm, ⟨47, _⟩ => ⟨S8x2048x12x64, .f32⟩
  | .hbm, ⟨48, _⟩ => ⟨S8x2048x12x64, .f32⟩
  | .hbm, ⟨49, _⟩ => ⟨S8x2048x12x64, .f32⟩
  | .hbm, ⟨50, _⟩ => ⟨S8x2048x12x128, .f32⟩
  | .hbm, ⟨51, _⟩ => ⟨S8x2048x1x1x12x128, .f32⟩
  | .hbm, ⟨52, _⟩ => ⟨S8x2048x12x128, .f32⟩
  | .hbm, ⟨53, _⟩ => ⟨S8x2048x36x128, .f32⟩
  | .hbm, ⟨54, _⟩ => ⟨S8x36x2048x128, .f32⟩
  | .hbm, ⟨55, _⟩ => ⟨S8x36x2048x128, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]
-- ==== TailA.lean ====
abbrev S8x2048x1536 : Shape := ⟨3, ![8, 2048, 1536]⟩
abbrev S8x2048x4096 : Shape := ⟨3, ![8, 2048, 4096]⟩
abbrev S1x4096 : Shape := ⟨2, ![1, 4096]⟩
abbrev S1x1536x2048 : Shape := ⟨3, ![1, 1536, 2048]⟩
abbrev S1x4096x2048 : Shape := ⟨3, ![1, 4096, 2048]⟩
abbrev S16384x1536 : Shape := ⟨2, ![16384, 1536]⟩
abbrev S16384x4096 : Shape := ⟨2, ![16384, 4096]⟩
abbrev S4096 : Shape := ⟨1, ![4096]⟩
abbrev S1536x2048 : Shape := ⟨2, ![1536, 2048]⟩
abbrev S4096x2048 : Shape := ⟨2, ![4096, 2048]⟩
abbrev S16384x2048 : Shape := ⟨2, ![16384, 2048]⟩
abbrev S256x1536 : Shape := ⟨2, ![256, 1536]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x4096, .bf16⟩
  | .hbm, ⟨2, _⟩ => ⟨S8x2048x4096, .bf16⟩
  | .hbm, ⟨3, _⟩ => ⟨S1x4096, .f32⟩
  | .hbm, ⟨4, _⟩ => ⟨S1x1536x2048, .f32⟩
  | .hbm, ⟨5, _⟩ => ⟨S1x4096x2048, .f32⟩
  | .hbm, ⟨6, _⟩ => ⟨S16384x1536, .bf16⟩
  | .hbm, ⟨7, _⟩ => ⟨S16384x4096, .bf16⟩
  | .hbm, ⟨8, _⟩ => ⟨S16384x4096, .bf16⟩
  | .hbm, ⟨9, _⟩ => ⟨S4096, .f32⟩
  | .hbm, ⟨10, _⟩ => ⟨S1x4096, .f32⟩
  | .hbm, ⟨11, _⟩ => ⟨S1536x2048, .f32⟩
  | .hbm, ⟨12, _⟩ => ⟨S1536x2048, .bf16⟩
  | .hbm, ⟨13, _⟩ => ⟨S4096x2048, .f32⟩
  | .hbm, ⟨14, _⟩ => ⟨S4096x2048, .bf16⟩
  | .hbm, ⟨15, _⟩ => ⟨S16384x2048, .bf16⟩
  | .local _ .vmem, ⟨0, _⟩ => ⟨S256x1536, .bf16⟩
  | .local _ .vmem, ⟨1, _⟩ => ⟨S256x1536, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1536x2048, .bf16⟩
  | .local _ .vmem, ⟨8, _⟩ => ⟨S4096x2048, .bf16⟩
  | .local _ .vmem, ⟨9, _⟩ => ⟨S256x2048, .bf16⟩
  | .local _ .vmem, ⟨10, _⟩ => ⟨S256x2048, .bf16⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== TailARefIdeal.lean ====
abbrev S8x2048x1536 : Shape := ⟨3, ![8, 2048, 1536]⟩
abbrev S8x2048x4096 : Shape := ⟨3, ![8, 2048, 4096]⟩
abbrev S1x4096 : Shape := ⟨2, ![1, 4096]⟩
abbrev S1x1536x2048 : Shape := ⟨3, ![1, 1536, 2048]⟩
abbrev S1x4096x2048 : Shape := ⟨3, ![1, 4096, 2048]⟩
abbrev S1536x2048 : Shape := ⟨2, ![1536, 2048]⟩
abbrev S8x2048x2048 : Shape := ⟨3, ![8, 2048, 2048]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S4096x2048 : Shape := ⟨2, ![4096, 2048]⟩
abbrev S16384x2048 : Shape := ⟨2, ![16384, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x4096, .bf16⟩
  | .hbm, ⟨2, _⟩ => ⟨S8x2048x4096, .bf16⟩
  | .hbm, ⟨3, _⟩ => ⟨S1x4096, .f32⟩
  | .hbm, ⟨4, _⟩ => ⟨S1x1536x2048, .f32⟩
  | .hbm, ⟨5, _⟩ => ⟨S1x4096x2048, .f32⟩
  | .hbm, ⟨6, _⟩ => ⟨S8x2048x1536, .f32⟩
  | .hbm, ⟨7, _⟩ => ⟨S1536x2048, .f32⟩
  | .hbm, ⟨8, _⟩ => ⟨S8x2048x2048, .f32⟩
  | .hbm, ⟨9, _⟩ => ⟨S8x2048x4096, .f32⟩
  | .hbm, ⟨10, _⟩ => ⟨S4096, .f32⟩
  | .hbm, ⟨11, _⟩ => ⟨S8x2048x4096, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x4096, .f32⟩
  | .hbm, ⟨23, _⟩ => ⟨S8x2048x4096, .f32⟩
  | .hbm, ⟨24, _⟩ => ⟨S1x1x4096, .f32⟩
  | .hbm, ⟨25, _⟩ => ⟨S8x2048x4096, .f32⟩
  | .hbm, ⟨26, _⟩ => ⟨S8x2048x4096, .f32⟩
  | .hbm, ⟨27, _⟩ => ⟨S4096x2048, .f32⟩
  | .hbm, ⟨28, _⟩ => ⟨S8x2048x2048, .f32⟩
  | .hbm, ⟨29, _⟩ => ⟨S8x2048x4096, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S16384x2048, .f32⟩
  | .hbm, ⟨36, _⟩ => ⟨S16384x2048, .bf16⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== TailB.lean ====
abbrev S16384x2048 : Shape := ⟨2, ![16384, 2048]⟩
abbrev S8x2048x2048 : Shape := ⟨3, ![8, 2048, 2048]⟩
abbrev S8x6144 : Shape := ⟨2, ![8, 6144]⟩
abbrev S1x2048x2048 : Shape := ⟨3, ![1, 2048, 2048]⟩
abbrev S2048 : Shape := ⟨1, ![2048]⟩
abbrev S8x3x2048 : Shape := ⟨3, ![8, 3, 2048]⟩
abbrev S2048x2048 : Shape := ⟨2, ![2048, 2048]⟩
abbrev S1x2048 : Shape := ⟨2, ![1, 2048]⟩
abbrev S512x2048 : Shape := ⟨2, ![512, 2048]⟩
abbrev S1x3x2048 : Shape := ⟨3, ![1, 3, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S8x6144, .f32⟩
  | .hbm, ⟨3, _⟩ => ⟨S1x2048x2048, .f32⟩
  | .hbm, ⟨4, _⟩ => ⟨S2048, .f32⟩
  | .hbm, ⟨5, _⟩ => ⟨S16384x2048, .f32⟩
  | .hbm, ⟨6, _⟩ => ⟨S8x3x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x3x2048, .f32⟩
  | .local _ .vmem, ⟨5, _⟩ => ⟨S1x3x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TailBRefIdeal.lean ====
abbrev S16384x2048 : Shape := ⟨2, ![16384, 2048]⟩
abbrev S8x2048x2048 : Shape := ⟨3, ![8, 2048, 2048]⟩
abbrev S8x6144 : Shape := ⟨2, ![8, 6144]⟩
abbrev S1x2048x2048 : Shape := ⟨3, ![1, 2048, 2048]⟩
abbrev S2048 : Shape := ⟨1, ![2048]⟩
abbrev S8x2048 : Shape := ⟨2, ![8, 2048]⟩
abbrev S2048x2048 : Shape := ⟨2, ![2048, 2048]⟩
abbrev S8x1x2048 : Shape := ⟨3, ![8, 1, 2048]⟩
abbrev S_ : Shape := ⟨0, ![]⟩
abbrev S8x2048x1 : Shape := ⟨3, ![8, 2048, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S8x6144, .f32⟩
  | .hbm, ⟨3, _⟩ => ⟨S1x2048x2048, .f32⟩
  | .hbm, ⟨4, _⟩ => ⟨S2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Ada.lean ====
abbrev S8x2048 : Shape := ⟨2, ![8, 2048]⟩
abbrev S1x2048x6144 : Shape := ⟨3, ![1, 2048, 6144]⟩
abbrev S1x6144 : Shape := ⟨2, ![1, 6144]⟩
abbrev S2048x6144 : Shape := ⟨2, ![2048, 6144]⟩
abbrev S6144 : Shape := ⟨1, ![6144]⟩
abbrev S8x6144 : Shape := ⟨2, ![8, 6144]⟩
abbrev S2048x768 : Shape := ⟨2, ![2048, 768]⟩
abbrev S1x768 : Shape := ⟨2, ![1, 768]⟩
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x6144, .f32⟩
  | .hbm, ⟨2, _⟩ => ⟨S1x6144, .f32⟩
  | .hbm, ⟨3, _⟩ => ⟨S2048x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S1x2048x6144 : Shape := ⟨3, ![1, 2048, 6144]⟩
abbrev S1x6144 : Shape := ⟨2, ![1, 6144]⟩
abbrev S2048x6144 : Shape := ⟨2, ![2048, 6144]⟩
abbrev S8x6144 : Shape := ⟨2, ![8, 6144]⟩
abbrev S6144 : Shape := ⟨1, ![6144]⟩

abbrev nBuf : Space → Nat
  | .hbm => 9
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x6144, .f32⟩
  | .hbm, ⟨2, _⟩ => ⟨S1x6144, .f32⟩
  | .hbm, ⟨3, _⟩ => ⟨S2048x6144, .f32⟩
  | .hbm, ⟨4, _⟩ => ⟨S8x6144, .f32⟩
  | .hbm, ⟨5, _⟩ => ⟨S6144, .f32⟩
  | .hbm, ⟨6, _⟩ => ⟨S1x6144, .f32⟩
  | .hbm, ⟨7, _⟩ => ⟨S8x6144, .f32⟩
  | .hbm, ⟨8, _⟩ => ⟨S8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S8x2048x2048 : Shape := ⟨3, ![8, 2048, 2048]⟩
abbrev S8x6144 : Shape := ⟨2, ![8, 6144]⟩
abbrev S1x2048 : Shape := ⟨2, ![1, 2048]⟩
abbrev S8x3x2048 : Shape := ⟨3, ![8, 3, 2048]⟩
abbrev S2048 : Shape := ⟨1, ![2048]⟩
abbrev S8x4x512x2048 : Shape := ⟨4, ![8, 4, 512, 2048]⟩
abbrev S8x16x128x2048 : Shape := ⟨4, ![8, 16, 128, 2048]⟩
abbrev S1x512x2048 : Shape := ⟨3, ![1, 512, 2048]⟩
abbrev S1x3x2048 : Shape := ⟨3, ![1, 3, 2048]⟩
abbrev S1x4x128x2048 : Shape := ⟨4, ![1, 4, 128, 2048]⟩
abbrev S1x16x32x2048 : Shape := ⟨4, ![1, 16, 32, 2048]⟩
abbrev S16x512x128 : Shape := ⟨3, ![16, 512, 128]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 9
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x6144, .f32⟩
  | .hbm, ⟨2, _⟩ => ⟨S1x2048, .f32⟩
  | .hbm, ⟨3, _⟩ => ⟨S8x3x2048, .f32⟩
  | .hbm, ⟨4, _⟩ => ⟨S2048, .f32⟩
  | .hbm, ⟨5, _⟩ => ⟨S1x2048, .f32⟩
  | .hbm, ⟨6, _⟩ => ⟨S8x2048x2048, .bf16⟩
  | .hbm, ⟨7, _⟩ => ⟨S8x4x512x2048, .bf16⟩
  | .hbm, ⟨8, _⟩ => ⟨S8x16x128x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x512x2048, .bf16⟩
  | .local _ .vmem, ⟨6, _⟩ => ⟨S1x512x2048, .bf16⟩
  | .local _ .vmem, ⟨7, _⟩ => ⟨S1x4x128x2048, .bf16⟩
  | .local _ .vmem, ⟨8, _⟩ => ⟨S1x4x128x2048, .bf16⟩
  | .local _ .vmem, ⟨9, _⟩ => ⟨S1x16x32x2048, .bf16⟩
  | .local _ .vmem, ⟨10, _⟩ => ⟨S1x16x32x2048, .bf16⟩
  | .local _ .vmem, ⟨11, _⟩ => ⟨S16x512x128, .f32⟩
  | .local _ .vmem, ⟨12, _⟩ => ⟨S16x512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormRefIdeal.lean ====
abbrev S8x2048x2048 : Shape := ⟨3, ![8, 2048, 2048]⟩
abbrev S8x6144 : Shape := ⟨2, ![8, 6144]⟩
abbrev S1x2048 : Shape := ⟨2, ![1, 2048]⟩
abbrev S8x2048 : Shape := ⟨2, ![8, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x512x4x2048 : Shape := ⟨4, ![8, 512, 4, 2048]⟩
abbrev S8x4x512x2048 : Shape := ⟨4, ![8, 4, 512, 2048]⟩
abbrev S8x128x16x2048 : Shape := ⟨4, ![8, 128, 16, 2048]⟩
abbrev S8x16x128x2048 : Shape := ⟨4, ![8, 16, 128, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x6144, .f32⟩
  | .hbm, ⟨2, _⟩ => ⟨S1x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .bf16⟩
  | .hbm, ⟨33, _⟩ => ⟨S8x512x4x2048, .bf16⟩
  | .hbm, ⟨34, _⟩ => ⟨S8x4x512x2048, .bf16⟩
  | .hbm, ⟨35, _⟩ => ⟨S8x128x16x2048, .bf16⟩
  | .hbm, ⟨36, _⟩ => ⟨S8x16x128x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Rope.lean ====
abbrev S8x2048 : Shape := ⟨2, ![8, 2048]⟩
abbrev S64 : Shape := ⟨1, ![64]⟩
abbrev S_ : Shape := ⟨0, ![]⟩
abbrev S128 : Shape := ⟨1, ![128]⟩
abbrev S1x128 : Shape := ⟨2, ![1, 128]⟩
abbrev S8x2048x1 : Shape := ⟨3, ![8, 2048, 1]⟩
abbrev S3x8x2048x128 : Shape := ⟨4, ![3, 8, 2048, 128]⟩
abbrev S1x2048x1 : Shape := ⟨3, ![1, 2048, 1]⟩
abbrev S3x1x2048x128 : Shape := ⟨4, ![3, 1, 2048, 128]⟩
abbrev S2048x1 : Shape := ⟨2, ![2048, 1]⟩
abbrev S2048x128 : Shape := ⟨2, ![2048, 128]⟩
abbrev S1x1x2048x128 : Shape := ⟨4, ![1, 1, 2048, 128]⟩
abbrev S1x1x512x128 : Shape := ⟨4, ![1, 1, 512, 128]⟩
abbrev S512x128 : Shape := ⟨2, ![512, 128]⟩
abbrev S1x1x128x128 : Shape := ⟨4, ![1, 1, 128, 128]⟩
abbrev S128x128 : Shape := ⟨2, ![128, 128]⟩

abbrev nBuf : Space → Nat
  | .hbm => 20
  | .vmem => 7
  | .smem => 0
  | _ => 0

abbrev bufTy : (tb : Table) → Fin (tcTables nBuf tb) → BufTy
  | .hbm, ⟨0, _⟩ => ⟨S8x2048, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S8x2048x1, .i32⟩
  | .hbm, ⟨18, _⟩ => ⟨S3x8x2048x128, .f32⟩
  | .hbm, ⟨19, _⟩ => ⟨S3x8x2048x128, .f32⟩
  | .local _ .vmem, ⟨0, _⟩ => ⟨S1x2048x1, .i32⟩
  | .local _ .vmem, ⟨1, _⟩ => ⟨S1x2048x1, .i32⟩
  | .local _ .vmem, ⟨2, _⟩ => ⟨S1x128, .f32⟩
  | .local _ .vmem, ⟨3, _⟩ => ⟨S3x1x2048x128, .f32⟩
  | .local _ .vmem, ⟨4, _⟩ => ⟨S3x1x2048x128, .f32⟩
  | .local _ .vmem, ⟨5, _⟩ => ⟨S3x1x2048x128, .f32⟩
  | .local _ .vmem, ⟨6, _⟩ => ⟨S3x1x2048x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8x2048 : Shape := ⟨2, ![8, 2048]⟩
abbrev S64 : Shape := ⟨1, ![64]⟩
abbrev S_ : Shape := ⟨0, ![]⟩
abbrev S8x2048x1 : Shape := ⟨3, ![8, 2048, 1]⟩
abbrev S1x1x64 : Shape := ⟨3, ![1, 1, 64]⟩
abbrev S8x2048x64 : Shape := ⟨3, ![8, 2048, 64]⟩
abbrev S8x2048x128 : Shape := ⟨3, ![8, 2048, 128]⟩
abbrev S8x2048x1x128 : Shape := ⟨4, ![8, 2048, 1, 128]⟩
abbrev S8x1x2048x128 : Shape := ⟨4, ![8, 1, 2048, 128]⟩
abbrev S8x512x4x128 : Shape := ⟨4, ![8, 512, 4, 128]⟩
abbrev S8x4x512x128 : Shape := ⟨4, ![8, 4, 512, 128]⟩
abbrev S8x128x16x128 : Shape := ⟨4, ![8, 128, 16, 128]⟩
abbrev S8x16x128x128 : Shape := ⟨4, ![8, 16, 128, 128]⟩
abbrev S1x8x2048x128 : Shape := ⟨4, ![1, 8, 2048, 128]⟩
abbrev S3x8x2048x128 : Shape := ⟨4, ![3, 8, 2048, 128]⟩

abbrev nBuf : Space → Nat
  | .hbm => 54
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S8x2048, .f32⟩
  | .hbm, ⟨16, _⟩ => ⟨S8x2048x1, .f32⟩
  | .hbm, ⟨17, _⟩ => ⟨S1x1x64, .f32⟩
  | .hbm, ⟨18, _⟩ => ⟨S8x2048x64, .f32⟩
  | .hbm, ⟨19, _⟩ => ⟨S8x2048x64, .f32⟩
  | .hbm, ⟨20, _⟩ => ⟨S8x2048x64, .f32⟩
  | .hbm, ⟨21, _⟩ => ⟨S8x2048x64, .f32⟩
  | .hbm, ⟨22, _⟩ => ⟨S8x2048x64, .f32⟩
  | .hbm, ⟨23, _⟩ => ⟨S8x2048x128, .f32⟩
  | .hbm, ⟨24, _⟩ => ⟨S8x2048x64, .f32⟩
  | .hbm, ⟨25, _⟩ => ⟨S8x2048x64, .f32⟩
  | .hbm, ⟨26, _⟩ => ⟨S8x2048x64, .f32⟩
  | .hbm, ⟨27, _⟩ => ⟨S8x2048x128, .f32⟩
  | .hbm, ⟨28, _⟩ => ⟨S8x2048x1x128, .f32⟩
  | .hbm, ⟨29, _⟩ => ⟨S8x1x2048x128, .f32⟩
  | .hbm, ⟨30, _⟩ => ⟨S8x2048x128, .f32⟩
  | .hbm, ⟨31, _⟩ => ⟨S8x512x4x128, .f32⟩
  | .hbm, ⟨32, _⟩ => ⟨S8x4x512x128, .f32⟩
  | .hbm, ⟨33, _⟩ => ⟨S8x2048x128, .f32⟩
  | .hbm, ⟨34, _⟩ => ⟨S8x128x16x128, .f32⟩
  | .hbm, ⟨35, _⟩ => ⟨S8x16x128x128, .f32⟩
  | .hbm, ⟨36, _⟩ => ⟨S8x2048x128, .f32⟩
  | .hbm, ⟨37, _⟩ => ⟨S1x8x2048x128, .f32⟩
  | .hbm, ⟨38, _⟩ => ⟨S1x8x2048x128, .f32⟩
  | .hbm, ⟨39, _⟩ => ⟨S1x8x2048x128, .f32⟩
  | .hbm, ⟨40, _⟩ => ⟨S3x8x2048x128, .f32⟩
  | .hbm, ⟨41, _⟩ => ⟨S8x2048x1x128, .f32⟩
  | .hbm, ⟨42, _⟩ => ⟨S8x1x2048x128, .f32⟩
  | .hbm, ⟨43, _⟩ => ⟨S8x2048x128, .f32⟩
  | .hbm, ⟨44, _⟩ => ⟨S8x512x4x128, .f32⟩
  | .hbm, ⟨45, _⟩ => ⟨S8x4x512x128, .f32⟩
  | .hbm, ⟨46, _⟩ => ⟨S8x2048x128, .f32⟩
  | .hbm, ⟨47, _⟩ => ⟨S8x128x16x128, .f32⟩
  | .hbm, ⟨48, _⟩ => ⟨S8x16x128x128, .f32⟩
  | .hbm, ⟨49, _⟩ => ⟨S8x2048x128, .f32⟩
  | .hbm, ⟨50, _⟩ => ⟨S1x8x2048x128, .f32⟩
  | .hbm, ⟨51, _⟩ => ⟨S1x8x2048x128, .f32⟩
  | .hbm, ⟨52, _⟩ => ⟨S1x8x2048x128, .f32⟩
  | .hbm, ⟨53, _⟩ => ⟨S3x8x2048x128, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩

abbrev nD : Nat := 1
abbrev τ : Topo := Topo.v7x

variable {F : FTy → Type} [FloatOps F]
-- ==== Proof.KernelLoops.lean ====
/- The counted loops of `Kernel`, as far as its frame needs them: a trip reads the padded rows and stores into the stage, whose contents are not named. -/
module

public import proofs.«01_k».proof.Proof.Gen.Kernel.Frame
public import proofs.«01_k».proof.Proof.Gen.Kernel.Loops

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

abbrev UU (nD : Nat) (τ : Topo) : Type := UR sig nD τ
abbrev 𝒱₀ : Variants := Variants.none

/-- Loop 1: the padded rows in `arg8` stay, the stage `arg12` holds something. -/
@[sl_loop] def loopInv_k0_t1 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v100 : FVec F S1x128 .f32) (v102 : FVec F S1x128 .f32) (v104 : FVec F S1x128 .f32) (v106 : FVec F S1x128 .f32) (v108 : FVec F S1x128 .f32) (v110 : FVec F S1x128 .f32) (v112 : FVec F S1x128 .f32) (v114 : FVec F S1x128 .f32) (v115 : Vec F S1x128 .f32) (v117 : Vec F S1x128 .f32) (v119 : Vec F S1x128 .f32) (v121 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg8.view.loc (c : Thread nD τ))) :
    Cert.Kernel.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v100 v102 v104 v106 v108 v110 v112 v114 v115 v117 v119 v121 init where
  inv _ _ := iprop((arg8.view.loc (c : Thread nD τ) ↦[arg8.view.set]{fullShare} G)
    ∗ ∃ f, arg12.view.loc (c : Thread nD τ) ↦[arg12.view.set]{fullShare} f)
  step k acc := by
    obtain ⟨a1, a2, a3, a4, a5, a6, a7, a8⟩ := acc
    unfold Gen.k0_t1_body
    simp only [Gen.k0_part1_eq_skeleton]; unfold Gen.k0_part1_skel
    iintro ⟨HP, ⟨%f, HS⟩⟩
    sl_exec
    sl_step
    isplitl [HP]; · iexact HP
    iexists _; iexact HS

/-- Loop 2: the padded rows in `arg8` stay, the stage `arg12` holds something. -/
@[sl_loop] def loopInv_k0_t2 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v158 : FVec F S1x128 .f32) (v160 : FVec F S1x128 .f32) (v162 : FVec F S1x128 .f32) (v164 : FVec F S1x128 .f32) (v166 : FVec F S1x128 .f32) (v168 : FVec F S1x128 .f32) (v170 : FVec F S1x128 .f32) (v172 : FVec F S1x128 .f32) (v174 : FVec F S1x128 .f32) (v176 : FVec F S1x128 .f32) (v178 : FVec F S1x128 .f32) (v180 : FVec F S1x128 .f32) (v182 : FVec F S8x128 .f32) (v184 : FVec F S8x128 .f32) (v186 : FVec F S8x128 .f32) (v188 : FVec F S8x128 .f32) (v190 : FVec F S8x128 .f32) (v192 : FVec F S8x128 .f32) (v194 : FVec F S8x128 .f32) (v196 : FVec F S8x128 .f32) (c0_i32_173 : BitVec 32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg8.view.loc (c : Thread nD τ))) :
    Cert.Kernel.Gen.LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v158 v160 v162 v164 v166 v168 v170 v172 v174 v176 v178 v180 v182 v184 v186 v188 v190 v192 v194 v196 c0_i32_173 init where
  inv _ _ := iprop((arg8.view.loc (c : Thread nD τ) ↦[arg8.view.set]{fullShare} G)
    ∗ ∃ f, arg12.view.loc (c : Thread nD τ) ↦[arg12.view.set]{fullShare} f)
  step k acc := by
    obtain ⟨a1, a2, a3, a4, a5, a6, a7, a8⟩ := acc
    unfold Gen.k0_t2_body
    simp only [Gen.k0_part2_eq_skeleton]; unfold Gen.k0_part2_skel
    iintro ⟨HP, ⟨%f, HS⟩⟩
    sl_exec
    sl_step
    isplitl [HP]; · iexact HP
    iexists _; iexact HS

/-- Loop 3: the padded rows in `arg9` stay, the stage `arg13` holds something. -/
@[sl_loop] def loopInv_k0_t3 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v268 : FVec F S1x128 .f32) (v270 : FVec F S1x128 .f32) (v272 : FVec F S1x128 .f32) (v274 : FVec F S1x128 .f32) (v276 : FVec F S1x128 .f32) (v278 : FVec F S1x128 .f32) (v280 : FVec F S1x128 .f32) (v282 : FVec F S1x128 .f32) (v284 : FVec F S1x128 .f32) (v286 : FVec F S1x128 .f32) (v287 : Vec F S1x128 .f32) (v289 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg9.view.loc (c : Thread nD τ))) :
    Cert.Kernel.Gen.LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v268 v270 v272 v274 v276 v278 v280 v282 v284 v286 v287 v289 init where
  inv _ _ := iprop((arg9.view.loc (c : Thread nD τ) ↦[arg9.view.set]{fullShare} G)
    ∗ ∃ f, arg13.view.loc (c : Thread nD τ) ↦[arg13.view.set]{fullShare} f)
  step k acc := by
    obtain ⟨a1, a2, a3, a4, a5, a6, a7, a8⟩ := acc
    unfold Gen.k0_t3_body
    simp only [Gen.k0_part3_eq_skeleton]; unfold Gen.k0_part3_skel
    iintro ⟨HP, ⟨%f, HS⟩⟩
    sl_exec
    sl_step
    isplitl [HP]; · iexact HP
    iexists _; iexact HS

/-- Loop 4: the padded rows in `arg9` stay, the stage `arg13` holds something. -/
@[sl_loop] def loopInv_k0_t4 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v326 : FVec F S1x128 .f32) (v328 : FVec F S1x128 .f32) (v330 : FVec F S1x128 .f32) (v332 : FVec F S1x128 .f32) (v334 : FVec F S1x128 .f32) (v336 : FVec F S1x128 .f32) (v338 : FVec F S1x128 .f32) (v340 : FVec F S1x128 .f32) (v342 : FVec F S1x128 .f32) (v343 : Vec F S1x128 .f32) (v345 : Vec F S1x128 .f32) (v347 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg9.view.loc (c : Thread nD τ))) :
    Cert.Kernel.Gen.LoopInvTy_k0_t4 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v326 v328 v330 v332 v334 v336 v338 v340 v342 v343 v345 v347 init where
  inv _ _ := iprop((arg9.view.loc (c : Thread nD τ) ↦[arg9.view.set]{fullShare} G)
    ∗ ∃ f, arg13.view.loc (c : Thread nD τ) ↦[arg13.view.set]{fullShare} f)
  step k acc := by
    obtain ⟨a1, a2, a3, a4, a5, a6, a7, a8⟩ := acc
    unfold Gen.k0_t4_body
    simp only [Gen.k0_part4_eq_skeleton]; unfold Gen.k0_part4_skel
    iintro ⟨HP, ⟨%f, HS⟩⟩
    sl_exec
    sl_step
    isplitl [HP]; · iexact HP
    iexists _; iexact HS

/-- Loop 5: the padded rows in `arg10` stay, the stage `arg14` holds something. -/
@[sl_loop] def loopInv_k0_t5 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v420 : FVec F S1x128 .f32) (v422 : FVec F S1x128 .f32) (v424 : FVec F S1x128 .f32) (v426 : FVec F S1x128 .f32) (v428 : FVec F S1x128 .f32) (v430 : FVec F S1x128 .f32) (v432 : FVec F S1x128 .f32) (v434 : FVec F S1x128 .f32) (v436 : FVec F S1x128 .f32) (v438 : FVec F S1x128 .f32) (v440 : FVec F S1x128 .f32) (v442 : FVec F S1x128 .f32) (v444 : FVec F S8x128 .f32) (v446 : FVec F S8x128 .f32) (v448 : FVec F S8x128 .f32) (v450 : FVec F S8x128 .f32) (v452 : FVec F S8x128 .f32) (v454 : FVec F S8x128 .f32) (v455 : Vec F S1x8x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg10.view.loc (c : Thread nD τ))) :
    Cert.Kernel.Gen.LoopInvTy_k0_t5 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v420 v422 v424 v426 v428 v430 v432 v434 v436 v438 v440 v442 v444 v446 v448 v450 v452 v454 v455 init where
  inv _ _ := iprop((arg10.view.loc (c : Thread nD τ) ↦[arg10.view.set]{fullShare} G)
    ∗ ∃ f, arg14.view.loc (c : Thread nD τ) ↦[arg14.view.set]{fullShare} f)
  step k acc := by
    obtain ⟨a1, a2, a3, a4, a5, a6, a7, a8⟩ := acc
    unfold Gen.k0_t5_body
    simp only [Gen.k0_part5_eq_skeleton]; unfold Gen.k0_part5_skel
    iintro ⟨HP, ⟨%f, HS⟩⟩
    sl_exec
    sl_step
    isplitl [HP]; · iexact HP
    iexists _; iexact HS

/-- Loop 6: the padded rows in `arg10` stay, the stage `arg14` holds something. -/
@[sl_loop] def loopInv_k0_t6 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v478 : FVec F S1x128 .f32) (v480 : FVec F S1x128 .f32) (v482 : FVec F S1x128 .f32) (v484 : FVec F S1x128 .f32) (v486 : FVec F S1x128 .f32) (v488 : FVec F S1x128 .f32) (v490 : FVec F S1x128 .f32) (v492 : FVec F S1x128 .f32) (v494 : FVec F S1x128 .f32) (v496 : FVec F S1x128 .f32) (v498 : FVec F S1x128 .f32) (v500 : FVec F S1x128 .f32) (v502 : FVec F S8x128 .f32) (v504 : FVec F S8x128 .f32) (v506 : FVec F S8x128 .f32) (v508 : FVec F S8x128 .f32) (v510 : FVec F S8x128 .f32) (v512 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg10.view.loc (c : Thread nD τ))) :
    Cert.Kernel.Gen.LoopInvTy_k0_t6 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v478 v480 v482 v484 v486 v488 v490 v492 v494 v496 v498 v500 v502 v504 v506 v508 v510 v512 init where
  inv _ _ := iprop((arg10.view.loc (c : Thread nD τ) ↦[arg10.view.set]{fullShare} G)
    ∗ ∃ f, arg14.view.loc (c : Thread nD τ) ↦[arg14.view.set]{fullShare} f)
  step k acc := by
    obtain ⟨a1, a2, a3, a4, a5, a6, a7, a8⟩ := acc
    unfold Gen.k0_t6_body
    simp only [Gen.k0_part6_eq_skeleton]; unfold Gen.k0_part6_skel
    iintro ⟨HP, ⟨%f, HS⟩⟩
    sl_exec
    sl_step
    isplitl [HP]; · iexact HP
    iexists _; iexact HS

/-- Loop 7: the padded rows in `arg11` stay, the stage `arg15` holds something. -/
@[sl_loop] def loopInv_k0_t7 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v536 : FVec F S1x128 .f32) (v538 : FVec F S1x128 .f32) (v540 : FVec F S1x128 .f32) (v542 : FVec F S1x128 .f32) (v544 : FVec F S1x128 .f32) (v546 : FVec F S1x128 .f32) (v548 : FVec F S1x128 .f32) (v550 : FVec F S1x128 .f32) (v552 : FVec F S1x128 .f32) (v554 : FVec F S1x128 .f32) (v556 : FVec F S1x128 .f32) (v558 : FVec F S1x128 .f32) (v560 : FVec F S8x128 .f32) (v562 : FVec F S8x128 .f32) (v564 : FVec F S8x128 .f32) (v566 : FVec F S8x128 .f32) (v568 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg11.view.loc (c : Thread nD τ))) :
    Cert.Kernel.Gen.LoopInvTy_k0_t7 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v536 v538 v540 v542 v544 v546 v548 v550 v552 v554 v556 v558 v560 v562 v564 v566 v568 init where
  inv _ _ := iprop((arg11.view.loc (c : Thread nD τ) ↦[arg11.view.set]{fullShare} G)
    ∗ ∃ f, arg15.view.loc (c : Thread nD τ) ↦[arg15.view.set]{fullShare} f)
  step k acc := by
    obtain ⟨a1, a2, a3, a4, a5, a6, a7, a8⟩ := acc
    unfold Gen.k0_t7_body
    simp only [Gen.k0_part7_eq_skeleton]; unfold Gen.k0_part7_skel
    iintro ⟨HP, ⟨%f, HS⟩⟩
    sl_exec
    sl_step
    isplitl [HP]; · iexact HP
    iexists _; iexact HS

/-- Loop 8: the padded rows in `arg11` stay, the stage `arg15` holds something. -/
@[sl_loop] def loopInv_k0_t8 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole) (v594 : FVec F S1x128 .f32) (v596 : FVec F S1x128 .f32) (v598 : FVec F S1x128 .f32) (v600 : FVec F S1x128 .f32) (v602 : FVec F S1x128 .f32) (v604 : FVec F S1x128 .f32) (v606 : FVec F S1x128 .f32) (v608 : FVec F S1x128 .f32) (v610 : FVec F S1x128 .f32) (v612 : FVec F S1x128 .f32) (v614 : FVec F S1x128 .f32) (v616 : FVec F S1x128 .f32) (init : FVec F S8x128 .f32 × FVec F S8x128 .f32 × FVec F S8x128 .f32 × FVec F S8x128 .f32 × FVec F S8x128 .f32 × FVec F S8x128 .f32 × FVec F S8x128 .f32 × FVec F S8x128 .f32)
    (G : Buf (Elt F) (arg11.view.loc (c : Thread nD τ))) :
    Cert.Kernel.Gen.LoopInvTy_k0_t8 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v594 v596 v598 v600 v602 v604 v606 v608 v610 v612 v614 v616 init where
  inv _ _ := iprop((arg11.view.loc (c : Thread nD τ) ↦[arg11.view.set]{fullShare} G)
    ∗ ∃ f, arg15.view.loc (c : Thread nD τ) ↦[arg15.view.set]{fullShare} f)
  step k acc := by
    obtain ⟨a1, a2, a3, a4, a5, a6, a7, a8⟩ := acc
    unfold Gen.k0_t8_body
    simp only [Gen.k0_part8_eq_skeleton]; unfold Gen.k0_part8_skel
    iintro ⟨HP, ⟨%f, HS⟩⟩
    sl_exec
    sl_step
    isplitl [HP]; · iexact HP
    iexists _; iexact HS

end Cert.Proof.Kernel

end
-- ==== Proof.KernelFrame.lean ====
/- The frame of `Kernel`: at any values the body runs, gives its blocks back and keeps the arguments. -/
module

public import proofs.«01_k».proof.Proof.KernelLoops
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The weight block is cast at the first batch of a column tile. -/
abbrev castCond (i : grid0.Coords) : Prop := (Scalar.cmpi .ne (Scalar.extui (Scalar.cmpi .eq (BitVec.ofNat 32 (i 1).val) 0#32)) 0#32) = 1#1

set_option maxHeartbeats 4000000 in
/-- The body, on any whole buffers: the four inputs come back as they were, the rest at something. -/
theorem body_frame (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x128 .i32) (harg12 : arg12.IsWhole) (arg13 : Memref sig .tc .vmem S2x520x128 .i32) (harg13 : arg13.IsWhole) (arg14 : Memref sig .tc .vmem S2x520x128 .i32) (harg14 : arg14.IsWhole) (arg15 : Memref sig .tc .vmem S2x520x128 .i32) (harg15 : arg15.IsWhole)
    (x0 : Vec F S1x2048x2048 .bf16) (x1 : Vec F S2048x512 .f32) (x2 : Vec F S5x512 .f32) (x3 : Vec F S1x512 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_proj_xbc i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_xbc_eq_skeleton]; unfold cc0_proj_xbc_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H2⟩, ⟨%f1, %hf1, H3⟩, ⟨%f2, %hf2, H4⟩, ⟨%f3, %hf3, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3
  by_cases hc0 : castCond i
  · sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl
  · sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

/-! ## The windows and the invariant -/

abbrev blkM0 (t : Fin cfg0.N) : Memref sig .tc .vmem S1x2048x2048 .bf16 := win0_0.stage (cfg0.slots t 0)
abbrev blkM1 (t : Fin cfg0.N) : Memref sig .tc .vmem S2048x512 .f32 := win0_1.stage (cfg0.slots t 1)
abbrev blkM2 (t : Fin cfg0.N) : Memref sig .tc .vmem S5x512 .f32 := win0_2.stage (cfg0.slots t 2)
abbrev blkM3 (t : Fin cfg0.N) : Memref sig .tc .vmem S1x512 .f32 := win0_3.stage (cfg0.slots t 3)
abbrev blkM4 (t : Fin cfg0.N) : Memref sig .tc .vmem S1x2048x512 .bf16 := win0_4.stage (cfg0.slots t 4)
abbrev scrM0 : Memref sig .tc .vmem S2048x512 .bf16 := Memref.whole cc0_scratch0
abbrev scrM1 : Memref sig .tc .vmem S4x544x128 .f32 := Memref.whole cc0_scratch1
abbrev scrM2 : Memref sig .tc .vmem S4x544x128 .f32 := Memref.whole cc0_scratch2
abbrev scrM3 : Memref sig .tc .vmem S4x544x128 .f32 := Memref.whole cc0_scratch3
abbrev scrM4 : Memref sig .tc .vmem S4x544x128 .f32 := Memref.whole cc0_scratch4
abbrev scrM5 : Memref sig .tc .vmem S2x520x128 .i32 := Memref.whole cc0_scratch5
abbrev scrM6 : Memref sig .tc .vmem S2x520x128 .i32 := Memref.whole cc0_scratch6
abbrev scrM7 : Memref sig .tc .vmem S2x520x128 .i32 := Memref.whole cc0_scratch7
abbrev scrM8 : Memref sig .tc .vmem S2x520x128 .i32 := Memref.whole cc0_scratch8

/-- The class invariant with each scratch buffer owned at something. -/
theorem inv_eq (c : Dev nD) :
    (Pipeline.ΦA spec0 c : sProp 𝕄)
      = iprop(iprop((∃ d, owns (c : Thread nD τ) scrM0 fullShare d) ∗ (∃ d, owns (c : Thread nD τ) scrM1 fullShare d) ∗ (∃ d, owns (c : Thread nD τ) scrM2 fullShare d) ∗ (∃ d, owns (c : Thread nD τ) scrM3 fullShare d) ∗ (∃ d, owns (c : Thread nD τ) scrM4 fullShare d) ∗ (∃ d, owns (c : Thread nD τ) scrM5 fullShare d) ∗ (∃ d, owns (c : Thread nD τ) scrM6 fullShare d) ∗ (∃ d, owns (c : Thread nD τ) scrM7 fullShare d) ∗ (∃ d, owns (c : Thread nD τ) scrM8 fullShare d)) ∗ ∃ r, prngReg c r) := by
  unfold Pipeline.ΦA; rw [scopedRest0_eq]; simp only [scrM0, scrM1, scrM2, scrM3, scrM4, scrM5, scrM6, scrM7, scrM8, owns_whole]; try rfl

/-- The output's contents are not named. -/
def forgets : Fin 5 → Bool := fun w => w.val == 4

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = X0_1 m c t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-! ## The body at a point, the run and the frame -/

def pre (c : Dev nD) (t : Fin cfg0.N) : sProp 𝕄 :=
  iprop((dats m 0 c).Φ t.castSucc ∗ (dats m 0 c).owesAt () t.castSucc
    ∗ (∃ d, owns (c : Thread nD τ) (blkM0 t) fullShare ((dats m 0 c).before 0 t d))
    ∗ (∃ d, owns (c : Thread nD τ) (blkM1 t) fullShare ((dats m 0 c).before 1 t d))
    ∗ (∃ d, owns (c : Thread nD τ) (blkM2 t) fullShare ((dats m 0 c).before 2 t d))
    ∗ (∃ d, owns (c : Thread nD τ) (blkM3 t) fullShare ((dats m 0 c).before 3 t d))
    ∗ (∃ d, owns (c : Thread nD τ) (blkM4 t) fullShare d))

def post (c : Dev nD) (t : Fin cfg0.N) : sProp 𝕄 :=
  iprop((dats m 0 c).Φ t.succ ∗ (dats m 0 c).owesAt () t.succ
    ∗ owns (c : Thread nD τ) (blkM0 t) fullShare ((dats m 0 c).after 0 t)
    ∗ owns (c : Thread nD τ) (blkM1 t) fullShare ((dats m 0 c).after 1 t)
    ∗ owns (c : Thread nD τ) (blkM2 t) fullShare ((dats m 0 c).after 2 t)
    ∗ owns (c : Thread nD τ) (blkM3 t) fullShare ((dats m 0 c).after 3 t)
    ∗ (∃ d, owns (c : Thread nD τ) (blkM4 t) fullShare d))

set_option maxHeartbeats 4000000 in
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3]
  rw [show (dats m 0 c).Φ t.succ = Pipeline.ΦA spec0 c from rfl, show (dats m 0 c).Φ t.castSucc = Pipeline.ΦA spec0 c from rfl, inv_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, H4⟩
  iapply (body_frame c (grid0.coords t) _ _ _ _ _ _ _ _ _ _ _ _ _ _ _ _ _ _ _ _ _ _ _ _ _ _ _ _ (iblk m c 0 t) (X0_1 m c t) (iblk m c 2 t) (iblk m c 3 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_ob (c : Dev nD) : BodyObligation (dats (F := F) m 0 c) (defs₀ (F := F)) Variants.none () Set.univ forgets := fun t => by
  rw [bigSep_W0, bigSep_W0, body_row]
  exact triple_restated (body_at m c t) rfl .rfl fun _ => .rfl

set_option backward.isDefEq.respectTransparency.types false in
/-- The launch: the arrays the call reads keep their contents, and every semaphore ends at zero. -/
theorem launch_run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_ob m c).loose) (hshare := fun c => (dats m 0 c).share_full fun _ => rfl)
    (howed := fun _ _ => rfl) (V := V m) (hmain := hmain m Variants.none) (hA := dats_A m) (hΦ := fun _ _ => rfl)

theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(Pipeline.RDat.FramePost.arr_in h.1 c 0 rfl).trans ((dats_A m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (launch_run m ρ)

end Cert.Proof.Kernel

end
-- ==== Proof.Conv.lean ====
/- What one pair of lane blocks holds while the convolution walks a chunk: the sliding windows, the value of one packed
   row, and the reads and stores of the strided rows. -/
module

public import proofs.«01_k».proof.Proof.Gen.KernelIdeal.Frame
public import proofs.«01_k».proof.Proof.Gen.KernelIdeal.Loops
public import Idealize.ShloMosaic.Lib.Pointwise
public import Idealize.ShloMosaic.Lib.ValueLayout

@[expose] public section

set_option maxRecDepth 16384

noncomputable section

namespace Cert.Proof.KernelIdeal

open Cert.KernelIdeal
open Idealize.ShloMosaic Idealize.ShloMosaic.TcCoe Idealize.ShloMosaic.Tactic

/-- Eight rows of one lane block. -/
abbrev Rows := FVec Ideal S8x128 .f32
/-- What a loop carries: the last four windows of each of its two lane blocks. -/
abbrev Acc := Rows × Rows × Rows × Rows × Rows × Rows × Rows × Rows

/-- Row `r` of each of the eight runs of 65 rows, in lane block `b` of the padded rows `P`. -/
def win (P : Vec Ideal S4x544x128 .f32) (b : Fin 4) (r : ℕ) : Rows :=
  fun x => P (ix3 b (⟨(r + 65 * (x 0).val) % 544, Nat.mod_lt _ (by decide)⟩ : Fin 544) (x 1))

/-- The carried windows before trip `k`: each trip drops the oldest and takes the next row's. -/
def accAt (P : Vec Ideal S4x544x128 .f32) (b b' : Fin 4) (a : Acc) : ℕ → Acc
  | 0 => a
  | k + 1 => ((accAt P b b' a k).2.1, (accAt P b b' a k).2.2.1, (accAt P b b' a k).2.2.2.1, win P b (10 + k),
      (accAt P b b' a k).2.2.2.2.2.1, (accAt P b b' a k).2.2.2.2.2.2.1, (accAt P b b' a k).2.2.2.2.2.2.2, win P b' (10 + k))

/-- One trip's yield is the carried windows before the next. -/
theorem accAt_step (P : Vec Ideal S4x544x128 .f32) (b b' : Fin 4) (a : Acc) (k : ℕ) {a1 a2 a3 a4 a5 a6 a7 a8 x y : Rows}
    (h : (a1, a2, a3, a4, a5, a6, a7, a8) = accAt P b b' a k) (hx : x = win P b (10 + k)) (hy : y = win P b' (10 + k)) :
    (a2, a3, a4, x, a6, a7, a8, y) = accAt P b b' a (k + 1) := by
  subst hx hy
  unfold accAt
  rw [← h]

/-- Started at the windows of rows 6 to 9, the loop carries the windows of rows `6 + k` to `9 + k`. -/
theorem accAt_win (P : Vec Ideal S4x544x128 .f32) (b b' : Fin 4) (k : ℕ) :
    accAt P b b' (win P b 6, win P b 7, win P b 8, win P b 9, win P b' 6, win P b' 7, win P b' 8, win P b' 9) k
      = (win P b (6 + k), win P b (7 + k), win P b (8 + k), win P b (9 + k),
          win P b' (6 + k), win P b' (7 + k), win P b' (8 + k), win P b' (9 + k)) := by
  induction k with
  | zero => rfl
  | succ k ih =>
    show (_, _, _, _, _, _, _, _) = _
    rw [ih]
    simp only [show 7 + k = 6 + (k + 1) by omega, show 8 + k = 7 + (k + 1) by omega, show 9 + k = 8 + (k + 1) by omega,
      show 10 + k = 9 + (k + 1) by omega]

/-- The convolution of five entries, summed from the bias on. -/
def conv5 (t0 t1 t2 t3 t4 b w0 w1 w2 w3 w4 : EReal) : EReal := b + t0 * w0 + t1 * w1 + t2 * w2 + t3 * w3 + t4 * w4

/-- `x * (x / 2 through tanh, halved and shifted by a half)`, as the body computes it. -/
def gate (x : EReal) : EReal :=
  x * (Ideal.ofBits FTy.f32 1056964608#32 * Ideal.tanh (Ideal.ofBits FTy.f32 1056964608#32 * x) + Ideal.ofBits FTy.f32 1056964608#32)

/-- One entry of the packed rows: row `s`, lane `l`, of five windows. -/
def cell (t0 t1 t2 t3 t4 b : FVec Ideal S1x128 .f32) (w0 w1 w2 w3 w4 : Rows) (s : Fin 8) (l : Fin 128) : EReal :=
  gate (conv5 (t0 (ix2 0 l)) (t1 (ix2 0 l)) (t2 (ix2 0 l)) (t3 (ix2 0 l)) (t4 (ix2 0 l)) (b (ix2 0 l))
    (w0 (ix2 s l)) (w1 (ix2 s l)) (w2 (ix2 s l)) (w3 (ix2 s l)) (w4 (ix2 s l)))

/-- Row `k` of run `s` of the stage. -/
def stRow (k : ℕ) (s : Fin 8) : Fin 520 := ⟨(k + 65 * s.val) % 520, Nat.mod_lt _ (by decide)⟩

/-- What is given for the first `k` rows of every run. -/
def firsts (V : ℕ → Fin 8 → Fin 2 → Fin 128 → EReal) : ℕ → List (Fin 8 → Fin 2 → Fin 128 → EReal)
  | 0 => []
  | k + 1 => V k :: firsts V k

/-- What the stage's plane `pl` holds. -/
def plane (R : Vec Ideal S2x520x2x128 .bf16) (pl : Fin 2) : ℕ → Fin 8 → Fin 2 → Fin 128 → EReal :=
  fun j s q l => R (ix4 pl (stRow j s) q l)

theorem firsts_eq_iff (V W : ℕ → Fin 8 → Fin 2 → Fin 128 → EReal) (k : ℕ) : firsts V k = firsts W k ↔ ∀ j < k, V j = W j := by
  induction k with
  | zero => simp [firsts]
  | succ k ih =>
    simp only [firsts, List.cons.injEq, ih]
    refine ⟨fun h j hj => ?_, fun h => ⟨h k (by omega), fun j hj => h j (by omega)⟩⟩
    by_cases e : j = k
    · subst e; exact h.1
    · exact h.2 j (by omega)

/-- The stage's plane `pl` holds `V` on the first `k` rows of every run. -/
abbrev Staged (R : Vec Ideal S2x520x2x128 .bf16) (pl : Fin 2) (k : ℕ) (V : ℕ → Fin 8 → Fin 2 → Fin 128 → EReal) : Prop :=
  firsts (plane R pl) k = firsts V k

theorem Staged.at {R : Vec Ideal S2x520x2x128 .bf16} {pl : Fin 2} {k : ℕ} {V : ℕ → Fin 8 → Fin 2 → Fin 128 → EReal} (h : Staged R pl k V)
    (j : ℕ) (hj : j < k) (s : Fin 8) (q : Fin 2) (l : Fin 128) : R (ix4 pl (stRow j s) q l) = V j s q l :=
  congrFun (congrFun (congrFun ((firsts_eq_iff _ _ _).1 h j hj) s) q) l

/-- What trip `j` packs: the first lane block's entry in half 0, the second's in half 1. -/
def packed (P : Vec Ideal S4x544x128 .f32) (b b' : Fin 4) (t0 t1 t2 t3 t4 bi u0 u1 u2 u3 u4 bi' : FVec Ideal S1x128 .f32) (a : Acc)
    (j : ℕ) (s : Fin 8) (q : Fin 2) (l : Fin 128) : EReal :=
  if q.val % 2 = 0 then
    cell t0 t1 t2 t3 t4 bi (accAt P b b' a j).1 (accAt P b b' a j).2.1 (accAt P b b' a j).2.2.1 (accAt P b b' a j).2.2.2.1 (win P b (10 + j)) s l
  else
    cell u0 u1 u2 u3 u4 bi' (accAt P b b' a j).2.2.2.2.1 (accAt P b b' a j).2.2.2.2.2.1 (accAt P b b' a j).2.2.2.2.2.2.1
      (accAt P b b' a j).2.2.2.2.2.2.2 (win P b' (10 + j)) s l

/-- A strided load of eight rows at its offset. -/
theorem load_rows (v : View sig .tc .vmem S4x544x128 .f32) (G : v.ref.ty.Contents (Elt Ideal)) (off : Fin 3 → ℕ)
    (inb : ∀ a : Fin 3, S1x8x128.size a = 0 ∨ off a + (![1, 65, 1] : Fin 3 → ℕ) a * (S1x8x128.size a - 1) < S4x544x128.size a) (b : Fin 4) (r : ℕ) (hr : r < 80)
    (ho : off = ![b.val, r, 0]) (s : Fin 8) (l : Fin 128) :
    v.readAt (Elt Ideal) (⟨off, S1x8x128.size, ![1, 65, 1], inb⟩ : LoadRect S4x544x128) G (ix3 0 s l)
      = win (v.read (Elt Ideal) G) b r (ix2 s l) := by
  subst ho
  rw [View.readAt_apply]
  unfold win
  refine congrArg _ ?_
  have hs := s.isLt
  funext a
  match a with
  | ⟨0, _⟩ => apply Fin.ext; show b.val + 1 * 0 = b.val; omega
  | ⟨1, _⟩ => apply Fin.ext; show r + 65 * s.val = (r + 65 * s.val) % 544; omega
  | ⟨2, _⟩ => apply Fin.ext; show 0 + 1 * l.val = l.val; omega

/-- One trip's store: the rows before it keep their values, its own row takes the payload's. -/
theorem staged_succ (v : View sig .tc .vmem S2x520x2x128 .bf16) (f : v.ref.ty.Contents (Elt Ideal)) (off : Fin 4 → ℕ)
    (inb : ∀ a : Fin 4, S1x8x2x128.size a = 0 ∨ off a + (![1, 65, 1, 1] : Fin 4 → ℕ) a * (S1x8x2x128.size a - 1) < S2x520x2x128.size a)
    (pos : ∀ a : Fin 4, 0 < (![1, 65, 1, 1] : Fin 4 → ℕ) a) (pl : Fin 2) (k : ℕ) (hk : k < 65) (ho : off = ![pl.val, k, 0, 0])
    (p : Vec Ideal S1x8x2x128 .bf16) (V : ℕ → Fin 8 → Fin 2 → Fin 128 → EReal)
    (hf : Staged (v.read (Elt Ideal) f) pl k V) (hp : ∀ s q l, p (ix4 0 s q l) = V k s q l) :
    Staged (v.read (Elt Ideal) (v.writes (Elt Ideal) f [⟨(⟨⟨off, S1x8x2x128.size, ![1, 65, 1, 1], inb⟩, pos⟩ : Rect S2x520x2x128), p⟩])) pl (k + 1) V := by
  subst ho
  rw [Staged, firsts_eq_iff]
  intro j hj
  funext s q l
  show v.read (Elt Ideal) _ (ix4 pl (stRow j s) q l) = _
  have hs := s.isLt
  by_cases hjk : j = k
  · subst hjk
    have e : (ix4 pl (stRow j s) q l : S2x520x2x128.Idx)
        = (⟨⟨![pl.val, j, 0, 0], S1x8x2x128.size, ![1, 65, 1, 1], inb⟩, pos⟩ : Rect S2x520x2x128).emb (ix4 0 s q l) := by
      funext a
      match a with
      | ⟨0, _⟩ => apply Fin.ext; show pl.val = pl.val + 1 * 0; omega
      | ⟨1, _⟩ => apply Fin.ext; show (j + 65 * s.val) % 520 = j + 65 * s.val; omega
      | ⟨2, _⟩ => apply Fin.ext; show q.val = 0 + 1 * q.val; omega
      | ⟨3, _⟩ => apply Fin.ext; show l.val = 0 + 1 * l.val; omega
    rw [e, View.read_writes_cons_emb, hp]
  · rw [View.read_writes_cons_miss]
    · exact hf.at j (by omega) s q l
    · rw [LoadRect.mem_set]
      intro hm
      obtain ⟨x, hx, e⟩ := hm 1
      have h1 : (j + 65 * s.val) % 520 = k + 65 * x := e
      have : x < 8 := hx
      omega

end Cert.Proof.KernelIdeal

end
-- ==== Proof.KernelIdealLoops.lean ====
/- The counted loops of `KernelIdeal`, with what they leave: a trip reads one more row of the two lane blocks of its pair, and stores the convolved and gated rows in the stage. -/
module

public import proofs.«01_k».proof.Proof.Conv

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

abbrev UU (nD : Nat) (τ : Topo) : Type := UR sig nD τ
abbrev 𝒱₀ : Variants := Variants.none

theorem off1_eq (k : Fin k0_t1_loop.trips) : k0_off1 k = ![0, 10 + k.val, 0] := by
  have hk : k.val < 65 := Nat.lt_of_lt_of_eq k.isLt (by decide)
  have e : BitVec.ofNat 32 k.val = 0#32 + 1#32 * BitVec.ofNat 32 k.val := by simp
  unfold k0_off1
  simp [Scf.iv, Scalar.addi, Scalar.indexCast, IntOp.addi]
  try omega

theorem off2_eq (k : Fin k0_t1_loop.trips) : k0_off2 k = ![1, 10 + k.val, 0] := by
  have hk : k.val < 65 := Nat.lt_of_lt_of_eq k.isLt (by decide)
  have e : BitVec.ofNat 32 k.val = 0#32 + 1#32 * BitVec.ofNat 32 k.val := by simp
  unfold k0_off2
  simp [Scf.iv, Scalar.addi, Scalar.indexCast, IntOp.addi]
  try omega

theorem off3_eq (k : Fin k0_t1_loop.trips) : k0_off3 k = ![0, k.val, 0, 0] := by
  have hk : k.val < 65 := Nat.lt_of_lt_of_eq k.isLt (by decide)
  have e : BitVec.ofNat 32 k.val = 0#32 + 1#32 * BitVec.ofNat 32 k.val := by simp
  unfold k0_off3
  simp [Scf.iv, Scalar.addi, Scalar.indexCast, IntOp.addi]
  try omega

theorem store1_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay98 (Gen.k0_pay4 t0 t1 t2 t3 t4 bi a1 a2 a3 a4 w) (Gen.k0_pay5 w') (Gen.k0_pay6 u0 u1 u2 u3 bi' a5 a6 a7 a8) (Gen.k0_pay7 u4) (ix4 0 s q l)
      = if q.val % 2 = 0 then cell t0 t1 t2 t3 t4 bi a1 a2 a3 a4 x s l else cell u0 u1 u2 u3 u4 bi' a5 a6 a7 a8 y s l := by
  pointwise [Gen.k0_pay98, Gen.k0_pay3, Gen.k0_pay4, Gen.k0_pay5, Gen.k0_pay6, Gen.k0_pay7]
  rw [hx, hy]; rfl

theorem next1_eq (x : Rows) (w : Vec Ideal S1x8x128 .f32) (hx : ∀ (s : Fin 8) (l : Fin 128), w (ix3 0 s l) = x (ix2 s l)) :
    Gen.k0_pay3 w = x ∧ Gen.k0_pay5 w = x := by
  constructor <;>
  · funext j
    pointwise [Gen.k0_pay3, Gen.k0_pay5]
    exact (hx (j 0) (j 1)).trans (congrArg x (eq_ix2 j).symm)

set_option warn.classDefReducibility false in
/-- Loop 1: the padded rows in `arg8` stay, the carried windows move on by a row a trip, and the first `k` rows of
    every run of plane 0 of `arg12` hold what those windows give. -/
@[sl_loop] def loopInv_k0_t1 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v100 : FVec Ideal S1x128 .f32) (v102 : FVec Ideal S1x128 .f32) (v104 : FVec Ideal S1x128 .f32) (v106 : FVec Ideal S1x128 .f32) (v108 : FVec Ideal S1x128 .f32) (v110 : FVec Ideal S1x128 .f32) (v112 : FVec Ideal S1x128 .f32) (v114 : FVec Ideal S1x128 .f32) (v115 : Vec Ideal S1x128 .f32) (v117 : Vec Ideal S1x128 .f32) (v119 : Vec Ideal S1x128 .f32) (v121 : Vec Ideal S1x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg8.view.loc (c : Thread nD τ))) :
    Cert.KernelIdeal.Gen.LoopInvTy_k0_t1 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v100 v102 v104 v106 v108 v110 v112 v114 v115 v117 v119 v121 init where
  inv k acc := iprop((arg8.view.loc (c : Thread nD τ) ↦[arg8.view.set]{fullShare} G)
    ∗ (∃ f, (arg12.view.loc (c : Thread nD τ) ↦[arg12.view.set]{fullShare} f)
      ∗ ⌜Staged (arg12.view.read (Elt Ideal) f) 0 k (packed (arg8.view.read (Elt Ideal) G) 0 1 v100 v102 v104 v106 v108 (Gen.k0_pay88 v119) v110 v112 v114 (Gen.k0_pay86 v115) (Gen.k0_pay87 v117) (Gen.k0_pay89 v121) init)⌝)
    ∗ ⌜acc = accAt (arg8.view.read (Elt Ideal) G) 0 1 init k⌝)
  step k acc := by
    unfold Gen.k0_t1_body
    simp only [Gen.k0_part1_eq_skeleton]; unfold Gen.k0_part1_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 0 k.val hk (off3_eq k) _ _ hf ?_
      intro s q l
      unfold packed; rw [← hacc]; dsimp only
      exact store1_eq _ _ _ _ _ _ _ _ _ _ _ _ _ _ _ _ _ _ _ _ _ _ _ _
        (fun s l => load_rows _ _ _ _ 0 (10 + k.val) (by omega) (off1_eq k) s l)
        (fun s l => load_rows _ _ _ _ 1 (10 + k.val) (by omega) (off2_eq k) s l) s q l
    ipureintro
    exact accAt_step _ _ _ _ _ hacc
      (next1_eq _ _ (fun s l => load_rows arg8.view G _ _ 0 (10 + k.val) (by omega) (off1_eq k) s l)).1
      (next1_eq _ _ (fun s l => load_rows arg8.view G _ _ 1 (10 + k.val) (by omega) (off2_eq k) s l)).2

theorem off4_eq (k : Fin k0_t2_loop.trips) : k0_off4 k = ![2, 10 + k.val, 0] := by
  have hk : k.val < 65 := Nat.lt_of_lt_of_eq k.isLt (by decide)
  have e : BitVec.ofNat 32 k.val = 0#32 + 1#32 * BitVec.ofNat 32 k.val := by simp
  unfold k0_off4
  simp [Scf.iv, Scalar.addi, Scalar.indexCast, IntOp.addi]
  try omega

theorem off5_eq (k : Fin k0_t2_loop.trips) : k0_off5 k = ![3, 10 + k.val, 0] := by
  have hk : k.val < 65 := Nat.lt_of_lt_of_eq k.isLt (by decide)
  have e : BitVec.ofNat 32 k.val = 0#32 + 1#32 * BitVec.ofNat 32 k.val := by simp
  unfold k0_off5
  simp [Scf.iv, Scalar.addi, Scalar.indexCast, IntOp.addi]
  try omega

theorem off6_eq (k : Fin k0_t2_loop.trips) : k0_off6 k = ![1, k.val, 0, 0] := by
  have hk : k.val < 65 := Nat.lt_of_lt_of_eq k.isLt (by decide)
  have e : BitVec.ofNat 32 k.val = 0#32 + 1#32 * BitVec.ofNat 32 k.val := by simp
  unfold k0_off6
  simp [Scf.iv, Scalar.addi, Scalar.indexCast, IntOp.addi]
  try omega

theorem store2_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay121 (Gen.k0_pay9 t0 t1 t2 t3 t4 bi a1 a2 a3 a4 w) (Gen.k0_pay10 w') (Gen.k0_pay11 u0 u1 u2 u3 bi' a5 a6 a7 a8) (Gen.k0_pay12 u4) (ix4 0 s q l)
      = if q.val % 2 = 0 then cell t0 t1 t2 t3 t4 bi a1 a2 a3 a4 x s l else cell u0 u1 u2 u3 u4 bi' a5 a6 a7 a8 y s l := by
  pointwise [Gen.k0_pay121, Gen.k0_pay8, Gen.k0_pay9, Gen.k0_pay10, Gen.k0_pay11, Gen.k0_pay12]
  rw [hx, hy]; rfl

theorem next2_eq (x : Rows) (w : Vec Ideal S1x8x128 .f32) (hx : ∀ (s : Fin 8) (l : Fin 128), w (ix3 0 s l) = x (ix2 s l)) :
    Gen.k0_pay8 w = x ∧ Gen.k0_pay10 w = x := by
  constructor <;>
  · funext j
    pointwise [Gen.k0_pay8, Gen.k0_pay10]
    exact (hx (j 0) (j 1)).trans (congrArg x (eq_ix2 j).symm)

set_option warn.classDefReducibility false in
/-- Loop 2: the padded rows in `arg8` stay, the carried windows move on by a row a trip, and the first `k` rows of
    every run of plane 1 of `arg12` hold what those windows give. -/
@[sl_loop] def loopInv_k0_t2 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v158 : FVec Ideal S1x128 .f32) (v160 : FVec Ideal S1x128 .f32) (v162 : FVec Ideal S1x128 .f32) (v164 : FVec Ideal S1x128 .f32) (v166 : FVec Ideal S1x128 .f32) (v168 : FVec Ideal S1x128 .f32) (v170 : FVec Ideal S1x128 .f32) (v172 : FVec Ideal S1x128 .f32) (v174 : FVec Ideal S1x128 .f32) (v176 : FVec Ideal S1x128 .f32) (v178 : FVec Ideal S1x128 .f32) (v180 : FVec Ideal S1x128 .f32) (v182 : FVec Ideal S8x128 .f32) (v184 : FVec Ideal S8x128 .f32) (v186 : FVec Ideal S8x128 .f32) (v188 : FVec Ideal S8x128 .f32) (v190 : FVec Ideal S8x128 .f32) (v192 : FVec Ideal S8x128 .f32) (v194 : FVec Ideal S8x128 .f32) (v196 : FVec Ideal S8x128 .f32) (c0_i32_173 : BitVec 32) (c65_i32_174 : BitVec 32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg8.view.loc (c : Thread nD τ))) :
    Cert.KernelIdeal.Gen.LoopInvTy_k0_t2 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v158 v160 v162 v164 v166 v168 v170 v172 v174 v176 v178 v180 v182 v184 v186 v188 v190 v192 v194 v196 c0_i32_173 c65_i32_174 init where
  inv k acc := iprop((arg8.view.loc (c : Thread nD τ) ↦[arg8.view.set]{fullShare} G)
    ∗ (∃ f, (arg12.view.loc (c : Thread nD τ) ↦[arg12.view.set]{fullShare} f)
      ∗ ⌜Staged (arg12.view.read (Elt Ideal) f) 1 k (packed (arg8.view.read (Elt Ideal) G) 2 3 v158 v160 v162 v164 v166 v178 v168 v170 v172 v174 v176 v180 init)⌝)
    ∗ ⌜acc = accAt (arg8.view.read (Elt Ideal) G) 2 3 init k⌝)
  step k acc := by
    unfold Gen.k0_t2_body
    simp only [Gen.k0_part2_eq_skeleton]; unfold Gen.k0_part2_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 1 k.val hk (off6_eq k) _ _ hf ?_
      intro s q l
      unfold packed; rw [← hacc]; dsimp only
      exact store2_eq _ _ _ _ _ _ _ _ _ _ _ _ _ _ _ _ _ _ _ _ _ _ _ _
        (fun s l => load_rows _ _ _ _ 2 (10 + k.val) (by omega) (off4_eq k) s l)
        (fun s l => load_rows _ _ _ _ 3 (10 + k.val) (by omega) (off5_eq k) s l) s q l
    ipureintro
    exact accAt_step _ _ _ _ _ hacc
      (next2_eq _ _ (fun s l => load_rows arg8.view G _ _ 2 (10 + k.val) (by omega) (off4_eq k) s l)).1
      (next2_eq _ _ (fun s l => load_rows arg8.view G _ _ 3 (10 + k.val) (by omega) (off5_eq k) s l)).2

theorem off7_eq (k : Fin k0_t3_loop.trips) : k0_off7 k = ![0, 10 + k.val, 0] := by
  have hk : k.val < 65 := Nat.lt_of_lt_of_eq k.isLt (by decide)
  have e : BitVec.ofNat 32 k.val = 0#32 + 1#32 * BitVec.ofNat 32 k.val := by simp
  unfold k0_off7
  simp [Scf.iv, Scalar.addi, Scalar.indexCast, IntOp.addi]
  try omega

theorem off8_eq (k : Fin k0_t3_loop.trips) : k0_off8 k = ![1, 10 + k.val, 0] := by
  have hk : k.val < 65 := Nat.lt_of_lt_of_eq k.isLt (by decide)
  have e : BitVec.ofNat 32 k.val = 0#32 + 1#32 * BitVec.ofNat 32 k.val := by simp
  unfold k0_off8
  simp [Scf.iv, Scalar.addi, Scalar.indexCast, IntOp.addi]
  try omega

theorem off9_eq (k : Fin k0_t3_loop.trips) : k0_off9 k = ![0, k.val, 0, 0] := by
  have hk : k.val < 65 := Nat.lt_of_lt_of_eq k.isLt (by decide)
  have e : BitVec.ofNat 32 k.val = 0#32 + 1#32 * BitVec.ofNat 32 k.val := by simp
  unfold k0_off9
  simp [Scf.iv, Scalar.addi, Scalar.indexCast, IntOp.addi]
  try omega

theorem store3_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay161 (Gen.k0_pay14 t0 t1 t2 t3 t4 bi a1 a2 a3 a4 w) (Gen.k0_pay15 w') (Gen.k0_pay16 u0 u1 u2 u3 bi' a5 a6 a7 a8) (Gen.k0_pay17 u4) (ix4 0 s q l)
      = if q.val % 2 = 0 then cell t0 t1 t2 t3 t4 bi a1 a2 a3 a4 x s l else cell u0 u1 u2 u3 u4 bi' a5 a6 a7 a8 y s l := by
  pointwise [Gen.k0_pay161, Gen.k0_pay13, Gen.k0_pay14, Gen.k0_pay15, Gen.k0_pay16, Gen.k0_pay17]
  rw [hx, hy]; rfl

theorem next3_eq (x : Rows) (w : Vec Ideal S1x8x128 .f32) (hx : ∀ (s : Fin 8) (l : Fin 128), w (ix3 0 s l) = x (ix2 s l)) :
    Gen.k0_pay13 w = x ∧ Gen.k0_pay15 w = x := by
  constructor <;>
  · funext j
    pointwise [Gen.k0_pay13, Gen.k0_pay15]
    exact (hx (j 0) (j 1)).trans (congrArg x (eq_ix2 j).symm)

set_option warn.classDefReducibility false in
/-- Loop 3: the padded rows in `arg9` stay, the carried windows move on by a row a trip, and the first `k` rows of
    every run of plane 0 of `arg13` hold what those windows give. -/
@[sl_loop] def loopInv_k0_t3 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v268 : FVec Ideal S1x128 .f32) (v270 : FVec Ideal S1x128 .f32) (v272 : FVec Ideal S1x128 .f32) (v274 : FVec Ideal S1x128 .f32) (v276 : FVec Ideal S1x128 .f32) (v278 : FVec Ideal S1x128 .f32) (v280 : FVec Ideal S1x128 .f32) (v282 : FVec Ideal S1x128 .f32) (v284 : FVec Ideal S1x128 .f32) (v286 : FVec Ideal S1x128 .f32) (v287 : Vec Ideal S1x128 .f32) (v289 : Vec Ideal S1x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg9.view.loc (c : Thread nD τ))) :
    Cert.KernelIdeal.Gen.LoopInvTy_k0_t3 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v268 v270 v272 v274 v276 v278 v280 v282 v284 v286 v287 v289 init where
  inv k acc := iprop((arg9.view.loc (c : Thread nD τ) ↦[arg9.view.set]{fullShare} G)
    ∗ (∃ f, (arg13.view.loc (c : Thread nD τ) ↦[arg13.view.set]{fullShare} f)
      ∗ ⌜Staged (arg13.view.read (Elt Ideal) f) 0 k (packed (arg9.view.read (Elt Ideal) G) 0 1 v268 v270 v272 v274 v276 (Gen.k0_pay151 v287) v278 v280 v282 v284 v286 (Gen.k0_pay152 v289) init)⌝)
    ∗ ⌜acc = accAt (arg9.view.read (Elt Ideal) G) 0 1 init k⌝)
  step k acc := by
    unfold Gen.k0_t3_body
    simp only [Gen.k0_part3_eq_skeleton]; unfold Gen.k0_part3_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 0 k.val hk (off9_eq k) _ _ hf ?_
      intro s q l
      unfold packed; rw [← hacc]; dsimp only
      exact store3_eq _ _ _ _ _ _ _ _ _ _ _ _ _ _ _ _ _ _ _ _ _ _ _ _
        (fun s l => load_rows _ _ _ _ 0 (10 + k.val) (by omega) (off7_eq k) s l)
        (fun s l => load_rows _ _ _ _ 1 (10 + k.val) (by omega) (off8_eq k) s l) s q l
    ipureintro
    exact accAt_step _ _ _ _ _ hacc
      (next3_eq _ _ (fun s l => load_rows arg9.view G _ _ 0 (10 + k.val) (by omega) (off7_eq k) s l)).1
      (next3_eq _ _ (fun s l => load_rows arg9.view G _ _ 1 (10 + k.val) (by omega) (off8_eq k) s l)).2

theorem off10_eq (k : Fin k0_t4_loop.trips) : k0_off10 k = ![2, 10 + k.val, 0] := by
  have hk : k.val < 65 := Nat.lt_of_lt_of_eq k.isLt (by decide)
  have e : BitVec.ofNat 32 k.val = 0#32 + 1#32 * BitVec.ofNat 32 k.val := by simp
  unfold k0_off10
  simp [Scf.iv, Scalar.addi, Scalar.indexCast, IntOp.addi]
  try omega

theorem off11_eq (k : Fin k0_t4_loop.trips) : k0_off11 k = ![3, 10 + k.val, 0] := by
  have hk : k.val < 65 := Nat.lt_of_lt_of_eq k.isLt (by decide)
  have e : BitVec.ofNat 32 k.val = 0#32 + 1#32 * BitVec.ofNat 32 k.val := by simp
  unfold k0_off11
  simp [Scf.iv, Scalar.addi, Scalar.indexCast, IntOp.addi]
  try omega

theorem off12_eq (k : Fin k0_t4_loop.trips) : k0_off12 k = ![1, k.val, 0, 0] := by
  have hk : k.val < 65 := Nat.lt_of_lt_of_eq k.isLt (by decide)
  have e : BitVec.ofNat 32 k.val = 0#32 + 1#32 * BitVec.ofNat 32 k.val := by simp
  unfold k0_off12
  simp [Scf.iv, Scalar.addi, Scalar.indexCast, IntOp.addi]
  try omega

theorem store4_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay186 (Gen.k0_pay19 t0 t1 t2 t3 t4 bi a1 a2 a3 a4 w) (Gen.k0_pay20 w') (Gen.k0_pay21 u0 u1 u2 u3 bi' a5 a6 a7 a8) (Gen.k0_pay22 u4) (ix4 0 s q l)
      = if q.val % 2 = 0 then cell t0 t1 t2 t3 t4 bi a1 a2 a3 a4 x s l else cell u0 u1 u2 u3 u4 bi' a5 a6 a7 a8 y s l := by
  pointwise [Gen.k0_pay186, Gen.k0_pay18, Gen.k0_pay19, Gen.k0_pay20, Gen.k0_pay21, Gen.k0_pay22]
  rw [hx, hy]; rfl

theorem next4_eq (x : Rows) (w : Vec Ideal S1x8x128 .f32) (hx : ∀ (s : Fin 8) (l : Fin 128), w (ix3 0 s l) = x (ix2 s l)) :
    Gen.k0_pay18 w = x ∧ Gen.k0_pay20 w = x := by
  constructor <;>
  · funext j
    pointwise [Gen.k0_pay18, Gen.k0_pay20]
    exact (hx (j 0) (j 1)).trans (congrArg x (eq_ix2 j).symm)

set_option warn.classDefReducibility false in
/-- Loop 4: the padded rows in `arg9` stay, the carried windows move on by a row a trip, and the first `k` rows of
    every run of plane 1 of `arg13` hold what those windows give. -/
@[sl_loop] def loopInv_k0_t4 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v326 : FVec Ideal S1x128 .f32) (v328 : FVec Ideal S1x128 .f32) (v330 : FVec Ideal S1x128 .f32) (v332 : FVec Ideal S1x128 .f32) (v334 : FVec Ideal S1x128 .f32) (v336 : FVec Ideal S1x128 .f32) (v338 : FVec Ideal S1x128 .f32) (v340 : FVec Ideal S1x128 .f32) (v342 : FVec Ideal S1x128 .f32) (v343 : Vec Ideal S1x128 .f32) (v345 : Vec Ideal S1x128 .f32) (v347 : Vec Ideal S1x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg9.view.loc (c : Thread nD τ))) :
    Cert.KernelIdeal.Gen.LoopInvTy_k0_t4 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v326 v328 v330 v332 v334 v336 v338 v340 v342 v343 v345 v347 init where
  inv k acc := iprop((arg9.view.loc (c : Thread nD τ) ↦[arg9.view.set]{fullShare} G)
    ∗ (∃ f, (arg13.view.loc (c : Thread nD τ) ↦[arg13.view.set]{fullShare} f)
      ∗ ⌜Staged (arg13.view.read (Elt Ideal) f) 1 k (packed (arg9.view.read (Elt Ideal) G) 2 3 v326 v328 v330 v332 v334 (Gen.k0_pay176 v345) v336 v338 v340 v342 (Gen.k0_pay175 v343) (Gen.k0_pay177 v347) init)⌝)
    ∗ ⌜acc = accAt (arg9.view.read (Elt Ideal) G) 2 3 init k⌝)
  step k acc := by
    unfold Gen.k0_t4_body
    simp only [Gen.k0_part4_eq_skeleton]; unfold Gen.k0_part4_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 1 k.val hk (off12_eq k) _ _ hf ?_
      intro s q l
      unfold packed; rw [← hacc]; dsimp only
      exact store4_eq _ _ _ _ _ _ _ _ _ _ _ _ _ _ _ _ _ _ _ _ _ _ _ _
        (fun s l => load_rows _ _ _ _ 2 (10 + k.val) (by omega) (off10_eq k) s l)
        (fun s l => load_rows _ _ _ _ 3 (10 + k.val) (by omega) (off11_eq k) s l) s q l
    ipureintro
    exact accAt_step _ _ _ _ _ hacc
      (next4_eq _ _ (fun s l => load_rows arg9.view G _ _ 2 (10 + k.val) (by omega) (off10_eq k) s l)).1
      (next4_eq _ _ (fun s l => load_rows arg9.view G _ _ 3 (10 + k.val) (by omega) (off11_eq k) s l)).2

theorem off13_eq (k : Fin k0_t5_loop.trips) : k0_off13 k = ![0, 10 + k.val, 0] := by
  have hk : k.val < 65 := Nat.lt_of_lt_of_eq k.isLt (by decide)
  have e : BitVec.ofNat 32 k.val = 0#32 + 1#32 * BitVec.ofNat 32 k.val := by simp
  unfold k0_off13
  simp [Scf.iv, Scalar.addi, Scalar.indexCast, IntOp.addi]
  try omega

theorem off14_eq (k : Fin k0_t5_loop.trips) : k0_off14 k = ![1, 10 + k.val, 0] := by
  have hk : k.val < 65 := Nat.lt_of_lt_of_eq k.isLt (by decide)
  have e : BitVec.ofNat 32 k.val = 0#32 + 1#32 * BitVec.ofNat 32 k.val := by simp
  unfold k0_off14
  simp [Scf.iv, Scalar.addi, Scalar.indexCast, IntOp.addi]
  try omega

theorem off15_eq (k : Fin k0_t5_loop.trips) : k0_off15 k = ![0, k.val, 0, 0] := by
  have hk : k.val < 65 := Nat.lt_of_lt_of_eq k.isLt (by decide)
  have e : BitVec.ofNat 32 k.val = 0#32 + 1#32 * BitVec.ofNat 32 k.val := by simp
  unfold k0_off15
  simp [Scf.iv, Scalar.addi, Scalar.indexCast, IntOp.addi]
  try omega

theorem store5_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay222 (Gen.k0_pay24 t0 t1 t2 t3 t4 bi a1 a2 a3 a4 w) (Gen.k0_pay25 w') (Gen.k0_pay26 u0 u1 u2 u3 bi' a5 a6 a7 a8) (Gen.k0_pay27 u4) (ix4 0 s q l)
      = if q.val % 2 = 0 then cell t0 t1 t2 t3 t4 bi a1 a2 a3 a4 x s l else cell u0 u1 u2 u3 u4 bi' a5 a6 a7 a8 y s l := by
  pointwise [Gen.k0_pay222, Gen.k0_pay23, Gen.k0_pay24, Gen.k0_pay25, Gen.k0_pay26, Gen.k0_pay27]
  rw [hx, hy]; rfl

theorem next5_eq (x : Rows) (w : Vec Ideal S1x8x128 .f32) (hx : ∀ (s : Fin 8) (l : Fin 128), w (ix3 0 s l) = x (ix2 s l)) :
    Gen.k0_pay23 w = x ∧ Gen.k0_pay25 w = x := by
  constructor <;>
  · funext j
    pointwise [Gen.k0_pay23, Gen.k0_pay25]
    exact (hx (j 0) (j 1)).trans (congrArg x (eq_ix2 j).symm)

set_option warn.classDefReducibility false in
/-- Loop 5: the padded rows in `arg10` stay, the carried windows move on by a row a trip, and the first `k` rows of
    every run of plane 0 of `arg14` hold what those windows give. -/
@[sl_loop] def loopInv_k0_t5 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v420 : FVec Ideal S1x128 .f32) (v422 : FVec Ideal S1x128 .f32) (v424 : FVec Ideal S1x128 .f32) (v426 : FVec Ideal S1x128 .f32) (v428 : FVec Ideal S1x128 .f32) (v430 : FVec Ideal S1x128 .f32) (v432 : FVec Ideal S1x128 .f32) (v434 : FVec Ideal S1x128 .f32) (v436 : FVec Ideal S1x128 .f32) (v438 : FVec Ideal S1x128 .f32) (v440 : FVec Ideal S1x128 .f32) (v442 : FVec Ideal S1x128 .f32) (v444 : FVec Ideal S8x128 .f32) (v446 : FVec Ideal S8x128 .f32) (v448 : FVec Ideal S8x128 .f32) (v450 : FVec Ideal S8x128 .f32) (v452 : FVec Ideal S8x128 .f32) (v454 : FVec Ideal S8x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg10.view.loc (c : Thread nD τ))) :
    Cert.KernelIdeal.Gen.LoopInvTy_k0_t5 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v420 v422 v424 v426 v428 v430 v432 v434 v436 v438 v440 v442 v444 v446 v448 v450 v452 v454 init where
  inv k acc := iprop((arg10.view.loc (c : Thread nD τ) ↦[arg10.view.set]{fullShare} G)
    ∗ (∃ f, (arg14.view.loc (c : Thread nD τ) ↦[arg14.view.set]{fullShare} f)
      ∗ ⌜Staged (arg14.view.read (Elt Ideal) f) 0 k (packed (arg10.view.read (Elt Ideal) G) 0 1 v420 v422 v424 v426 v428 v440 v430 v432 v434 v436 v438 v442 init)⌝)
    ∗ ⌜acc = accAt (arg10.view.read (Elt Ideal) G) 0 1 init k⌝)
  step k acc := by
    unfold Gen.k0_t5_body
    simp only [Gen.k0_part5_eq_skeleton]; unfold Gen.k0_part5_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 0 k.val hk (off15_eq k) _ _ hf ?_
      intro s q l
      unfold packed; rw [← hacc]; dsimp only
      exact store5_eq _ _ _ _ _ _ _ _ _ _ _ _ _ _ _ _ _ _ _ _ _ _ _ _
        (fun s l => load_rows _ _ _ _ 0 (10 + k.val) (by omega) (off13_eq k) s l)
        (fun s l => load_rows _ _ _ _ 1 (10 + k.val) (by omega) (off14_eq k) s l) s q l
    ipureintro
    exact accAt_step _ _ _ _ _ hacc
      (next5_eq _ _ (fun s l => load_rows arg10.view G _ _ 0 (10 + k.val) (by omega) (off13_eq k) s l)).1
      (next5_eq _ _ (fun s l => load_rows arg10.view G _ _ 1 (10 + k.val) (by omega) (off14_eq k) s l)).2

theorem off16_eq (k : Fin k0_t6_loop.trips) : k0_off16 k = ![2, 10 + k.val, 0] := by
  have hk : k.val < 65 := Nat.lt_of_lt_of_eq k.isLt (by decide)
  have e : BitVec.ofNat 32 k.val = 0#32 + 1#32 * BitVec.ofNat 32 k.val := by simp
  unfold k0_off16
  simp [Scf.iv, Scalar.addi, Scalar.indexCast, IntOp.addi]
  try omega

theorem off17_eq (k : Fin k0_t6_loop.trips) : k0_off17 k = ![3, 10 + k.val, 0] := by
  have hk : k.val < 65 := Nat.lt_of_lt_of_eq k.isLt (by decide)
  have e : BitVec.ofNat 32 k.val = 0#32 + 1#32 * BitVec.ofNat 32 k.val := by simp
  unfold k0_off17
  simp [Scf.iv, Scalar.addi, Scalar.indexCast, IntOp.addi]
  try omega

theorem off18_eq (k : Fin k0_t6_loop.trips) : k0_off18 k = ![1, k.val, 0, 0] := by
  have hk : k.val < 65 := Nat.lt_of_lt_of_eq k.isLt (by decide)
  have e : BitVec.ofNat 32 k.val = 0#32 + 1#32 * BitVec.ofNat 32 k.val := by simp
  unfold k0_off18
  simp [Scf.iv, Scalar.addi, Scalar.indexCast, IntOp.addi]
  try omega

theorem store6_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay245 (Gen.k0_pay29 t0 t1 t2 t3 t4 bi a1 a2 a3 a4 w) (Gen.k0_pay30 w') (Gen.k0_pay31 u0 u1 u2 u3 bi' a5 a6 a7 a8) (Gen.k0_pay32 u4) (ix4 0 s q l)
      = if q.val % 2 = 0 then cell t0 t1 t2 t3 t4 bi a1 a2 a3 a4 x s l else cell u0 u1 u2 u3 u4 bi' a5 a6 a7 a8 y s l := by
  pointwise [Gen.k0_pay245, Gen.k0_pay28, Gen.k0_pay29, Gen.k0_pay30, Gen.k0_pay31, Gen.k0_pay32]
  rw [hx, hy]; rfl

theorem next6_eq (x : Rows) (w : Vec Ideal S1x8x128 .f32) (hx : ∀ (s : Fin 8) (l : Fin 128), w (ix3 0 s l) = x (ix2 s l)) :
    Gen.k0_pay28 w = x ∧ Gen.k0_pay30 w = x := by
  constructor <;>
  · funext j
    pointwise [Gen.k0_pay28, Gen.k0_pay30]
    exact (hx (j 0) (j 1)).trans (congrArg x (eq_ix2 j).symm)

set_option warn.classDefReducibility false in
/-- Loop 6: the padded rows in `arg10` stay, the carried windows move on by a row a trip, and the first `k` rows of
    every run of plane 1 of `arg14` hold what those windows give. -/
@[sl_loop] def loopInv_k0_t6 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v478 : FVec Ideal S1x128 .f32) (v480 : FVec Ideal S1x128 .f32) (v482 : FVec Ideal S1x128 .f32) (v484 : FVec Ideal S1x128 .f32) (v486 : FVec Ideal S1x128 .f32) (v488 : FVec Ideal S1x128 .f32) (v490 : FVec Ideal S1x128 .f32) (v492 : FVec Ideal S1x128 .f32) (v494 : FVec Ideal S1x128 .f32) (v496 : FVec Ideal S1x128 .f32) (v498 : FVec Ideal S1x128 .f32) (v500 : FVec Ideal S1x128 .f32) (v502 : FVec Ideal S8x128 .f32) (v504 : FVec Ideal S8x128 .f32) (v506 : FVec Ideal S8x128 .f32) (v508 : FVec Ideal S8x128 .f32) (v510 : FVec Ideal S8x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg10.view.loc (c : Thread nD τ))) :
    Cert.KernelIdeal.Gen.LoopInvTy_k0_t6 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v478 v480 v482 v484 v486 v488 v490 v492 v494 v496 v498 v500 v502 v504 v506 v508 v510 init where
  inv k acc := iprop((arg10.view.loc (c : Thread nD τ) ↦[arg10.view.set]{fullShare} G)
    ∗ (∃ f, (arg14.view.loc (c : Thread nD τ) ↦[arg14.view.set]{fullShare} f)
      ∗ ⌜Staged (arg14.view.read (Elt Ideal) f) 1 k (packed (arg10.view.read (Elt Ideal) G) 2 3 v478 v480 v482 v484 v486 v498 v488 v490 v492 v494 v496 v500 init)⌝)
    ∗ ⌜acc = accAt (arg10.view.read (Elt Ideal) G) 2 3 init k⌝)
  step k acc := by
    unfold Gen.k0_t6_body
    simp only [Gen.k0_part6_eq_skeleton]; unfold Gen.k0_part6_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 1 k.val hk (off18_eq k) _ _ hf ?_
      intro s q l
      unfold packed; rw [← hacc]; dsimp only
      exact store6_eq _ _ _ _ _ _ _ _ _ _ _ _ _ _ _ _ _ _ _ _ _ _ _ _
        (fun s l => load_rows _ _ _ _ 2 (10 + k.val) (by omega) (off16_eq k) s l)
        (fun s l => load_rows _ _ _ _ 3 (10 + k.val) (by omega) (off17_eq k) s l) s q l
    ipureintro
    exact accAt_step _ _ _ _ _ hacc
      (next6_eq _ _ (fun s l => load_rows arg10.view G _ _ 2 (10 + k.val) (by omega) (off16_eq k) s l)).1
      (next6_eq _ _ (fun s l => load_rows arg10.view G _ _ 3 (10 + k.val) (by omega) (off17_eq k) s l)).2

theorem off19_eq (k : Fin k0_t7_loop.trips) : k0_off19 k = ![0, 10 + k.val, 0] := by
  have hk : k.val < 65 := Nat.lt_of_lt_of_eq k.isLt (by decide)
  have e : BitVec.ofNat 32 k.val = 0#32 + 1#32 * BitVec.ofNat 32 k.val := by simp
  unfold k0_off19
  simp [Scf.iv, Scalar.addi, Scalar.indexCast, IntOp.addi]
  try omega

theorem off20_eq (k : Fin k0_t7_loop.trips) : k0_off20 k = ![1, 10 + k.val, 0] := by
  have hk : k.val < 65 := Nat.lt_of_lt_of_eq k.isLt (by decide)
  have e : BitVec.ofNat 32 k.val = 0#32 + 1#32 * BitVec.ofNat 32 k.val := by simp
  unfold k0_off20
  simp [Scf.iv, Scalar.addi, Scalar.indexCast, IntOp.addi]
  try omega

theorem off21_eq (k : Fin k0_t7_loop.trips) : k0_off21 k = ![0, k.val, 0, 0] := by
  have hk : k.val < 65 := Nat.lt_of_lt_of_eq k.isLt (by decide)
  have e : BitVec.ofNat 32 k.val = 0#32 + 1#32 * BitVec.ofNat 32 k.val := by simp
  unfold k0_off21
  simp [Scf.iv, Scalar.addi, Scalar.indexCast, IntOp.addi]
  try omega

theorem store7_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay268 (Gen.k0_pay34 t0 t1 t2 t3 t4 bi a1 a2 a3 a4 w) (Gen.k0_pay35 w') (Gen.k0_pay36 u0 u1 u2 u3 bi' a5 a6 a7 a8) (Gen.k0_pay37 u4) (ix4 0 s q l)
      = if q.val % 2 = 0 then cell t0 t1 t2 t3 t4 bi a1 a2 a3 a4 x s l else cell u0 u1 u2 u3 u4 bi' a5 a6 a7 a8 y s l := by
  pointwise [Gen.k0_pay268, Gen.k0_pay33, Gen.k0_pay34, Gen.k0_pay35, Gen.k0_pay36, Gen.k0_pay37]
  rw [hx, hy]; rfl

theorem next7_eq (x : Rows) (w : Vec Ideal S1x8x128 .f32) (hx : ∀ (s : Fin 8) (l : Fin 128), w (ix3 0 s l) = x (ix2 s l)) :
    Gen.k0_pay33 w = x ∧ Gen.k0_pay35 w = x := by
  constructor <;>
  · funext j
    pointwise [Gen.k0_pay33, Gen.k0_pay35]
    exact (hx (j 0) (j 1)).trans (congrArg x (eq_ix2 j).symm)

set_option warn.classDefReducibility false in
/-- Loop 7: the padded rows in `arg11` stay, the carried windows move on by a row a trip, and the first `k` rows of
    every run of plane 0 of `arg15` hold what those windows give. -/
@[sl_loop] def loopInv_k0_t7 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v536 : FVec Ideal S1x128 .f32) (v538 : FVec Ideal S1x128 .f32) (v540 : FVec Ideal S1x128 .f32) (v542 : FVec Ideal S1x128 .f32) (v544 : FVec Ideal S1x128 .f32) (v546 : FVec Ideal S1x128 .f32) (v548 : FVec Ideal S1x128 .f32) (v550 : FVec Ideal S1x128 .f32) (v552 : FVec Ideal S1x128 .f32) (v554 : FVec Ideal S1x128 .f32) (v556 : FVec Ideal S1x128 .f32) (v558 : FVec Ideal S1x128 .f32) (v560 : FVec Ideal S8x128 .f32) (v562 : FVec Ideal S8x128 .f32) (v564 : FVec Ideal S8x128 .f32) (v566 : FVec Ideal S8x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg11.view.loc (c : Thread nD τ))) :
    Cert.KernelIdeal.Gen.LoopInvTy_k0_t7 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v536 v538 v540 v542 v544 v546 v548 v550 v552 v554 v556 v558 v560 v562 v564 v566 init where
  inv k acc := iprop((arg11.view.loc (c : Thread nD τ) ↦[arg11.view.set]{fullShare} G)
    ∗ (∃ f, (arg15.view.loc (c : Thread nD τ) ↦[arg15.view.set]{fullShare} f)
      ∗ ⌜Staged (arg15.view.read (Elt Ideal) f) 0 k (packed (arg11.view.read (Elt Ideal) G) 0 1 v536 v538 v540 v542 v544 v556 v546 v548 v550 v552 v554 v558 init)⌝)
    ∗ ⌜acc = accAt (arg11.view.read (Elt Ideal) G) 0 1 init k⌝)
  step k acc := by
    unfold Gen.k0_t7_body
    simp only [Gen.k0_part7_eq_skeleton]; unfold Gen.k0_part7_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 0 k.val hk (off21_eq k) _ _ hf ?_
      intro s q l
      unfold packed; rw [← hacc]; dsimp only
      exact store7_eq _ _ _ _ _ _ _ _ _ _ _ _ _ _ _ _ _ _ _ _ _ _ _ _
        (fun s l => load_rows _ _ _ _ 0 (10 + k.val) (by omega) (off19_eq k) s l)
        (fun s l => load_rows _ _ _ _ 1 (10 + k.val) (by omega) (off20_eq k) s l) s q l
    ipureintro
    exact accAt_step _ _ _ _ _ hacc
      (next7_eq _ _ (fun s l => load_rows arg11.view G _ _ 0 (10 + k.val) (by omega) (off19_eq k) s l)).1
      (next7_eq _ _ (fun s l => load_rows arg11.view G _ _ 1 (10 + k.val) (by omega) (off20_eq k) s l)).2

theorem off22_eq (k : Fin k0_t8_loop.trips) : k0_off22 k = ![2, 10 + k.val, 0] := by
  have hk : k.val < 65 := Nat.lt_of_lt_of_eq k.isLt (by decide)
  have e : BitVec.ofNat 32 k.val = 0#32 + 1#32 * BitVec.ofNat 32 k.val := by simp
  unfold k0_off22
  simp [Scf.iv, Scalar.addi, Scalar.indexCast, IntOp.addi]
  try omega

theorem off23_eq (k : Fin k0_t8_loop.trips) : k0_off23 k = ![3, 10 + k.val, 0] := by
  have hk : k.val < 65 := Nat.lt_of_lt_of_eq k.isLt (by decide)
  have e : BitVec.ofNat 32 k.val = 0#32 + 1#32 * BitVec.ofNat 32 k.val := by simp
  unfold k0_off23
  simp [Scf.iv, Scalar.addi, Scalar.indexCast, IntOp.addi]
  try omega

theorem off24_eq (k : Fin k0_t8_loop.trips) : k0_off24 k = ![1, k.val, 0, 0] := by
  have hk : k.val < 65 := Nat.lt_of_lt_of_eq k.isLt (by decide)
  have e : BitVec.ofNat 32 k.val = 0#32 + 1#32 * BitVec.ofNat 32 k.val := by simp
  unfold k0_off24
  simp [Scf.iv, Scalar.addi, Scalar.indexCast, IntOp.addi]
  try omega

theorem store8_eq (t0 t1 t2 t3 t4 bi u0 u1 u2 u3 u4 bi' : Vec Ideal S1x128 .f32) (a1 a2 a3 a4 a5 a6 a7 a8 x y : Rows)
    (w w' : Vec Ideal S1x8x128 .f32) (hx : ∀ (s : Fin 8) (l : Fin 128), w (ix3 0 s l) = x (ix2 s l)) (hy : ∀ (s : Fin 8) (l : Fin 128), w' (ix3 0 s l) = y (ix2 s l))
    (s : Fin 8) (q : Fin 2) (l : Fin 128) :
    Gen.k0_pay291 (Gen.k0_pay39 t0 t1 t2 t3 t4 bi a1 a2 a3 a4 w) (Gen.k0_pay40 w') (Gen.k0_pay41 u0 u1 u2 u3 bi' a5 a6 a7 a8) (Gen.k0_pay42 u4) (ix4 0 s q l)
      = if q.val % 2 = 0 then cell t0 t1 t2 t3 t4 bi a1 a2 a3 a4 x s l else cell u0 u1 u2 u3 u4 bi' a5 a6 a7 a8 y s l := by
  pointwise [Gen.k0_pay291, Gen.k0_pay38, Gen.k0_pay39, Gen.k0_pay40, Gen.k0_pay41, Gen.k0_pay42]
  rw [hx, hy]; rfl

theorem next8_eq (x : Rows) (w : Vec Ideal S1x8x128 .f32) (hx : ∀ (s : Fin 8) (l : Fin 128), w (ix3 0 s l) = x (ix2 s l)) :
    Gen.k0_pay38 w = x ∧ Gen.k0_pay40 w = x := by
  constructor <;>
  · funext j
    pointwise [Gen.k0_pay38, Gen.k0_pay40]
    exact (hx (j 0) (j 1)).trans (congrArg x (eq_ix2 j).symm)

set_option warn.classDefReducibility false in
/-- Loop 8: the padded rows in `arg11` stay, the carried windows move on by a row a trip, and the first `k` rows of
    every run of plane 1 of `arg15` hold what those windows give. -/
@[sl_loop] def loopInv_k0_t8 (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole) (v594 : FVec Ideal S1x128 .f32) (v596 : FVec Ideal S1x128 .f32) (v598 : FVec Ideal S1x128 .f32) (v600 : FVec Ideal S1x128 .f32) (v602 : FVec Ideal S1x128 .f32) (v604 : FVec Ideal S1x128 .f32) (v606 : FVec Ideal S1x128 .f32) (v608 : FVec Ideal S1x128 .f32) (v610 : FVec Ideal S1x128 .f32) (v612 : FVec Ideal S1x128 .f32) (v614 : FVec Ideal S1x128 .f32) (v616 : FVec Ideal S1x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
    (G : Buf (Elt Ideal) (arg11.view.loc (c : Thread nD τ))) :
    Cert.KernelIdeal.Gen.LoopInvTy_k0_t8 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v594 v596 v598 v600 v602 v604 v606 v608 v610 v612 v614 v616 init where
  inv k acc := iprop((arg11.view.loc (c : Thread nD τ) ↦[arg11.view.set]{fullShare} G)
    ∗ (∃ f, (arg15.view.loc (c : Thread nD τ) ↦[arg15.view.set]{fullShare} f)
      ∗ ⌜Staged (arg15.view.read (Elt Ideal) f) 1 k (packed (arg11.view.read (Elt Ideal) G) 2 3 v594 v596 v598 v600 v602 v614 v604 v606 v608 v610 v612 v616 init)⌝)
    ∗ ⌜acc = accAt (arg11.view.read (Elt Ideal) G) 2 3 init k⌝)
  step k acc := by
    unfold Gen.k0_t8_body
    simp only [Gen.k0_part8_eq_skeleton]; unfold Gen.k0_part8_skel
    iintro ⟨HP, ⟨%f, HS, %hf⟩, %hacc⟩
    obtain ⟨a1, a2, a3, a4, a5, a6, a7, a8⟩ := acc
    have hk : k.val < 65 := Nat.lt_of_lt_of_eq k.isLt (by decide)
    sl_exec
    sl_step
    isplitl [HP]; · iexact HP
    isplitl [HS]
    · iexists _
      isplitl [HS]; · iexact HS
      ipureintro
      refine staged_succ _ _ _ _ _ 1 k.val hk (off24_eq k) _ _ hf ?_
      intro s q l
      unfold packed; rw [← hacc]; dsimp only
      exact store8_eq _ _ _ _ _ _ _ _ _ _ _ _ _ _ _ _ _ _ _ _ _ _ _ _
        (fun s l => load_rows _ _ _ _ 2 (10 + k.val) (by omega) (off22_eq k) s l)
        (fun s l => load_rows _ _ _ _ 3 (10 + k.val) (by omega) (off23_eq k) s l) s q l
    ipureintro
    exact accAt_step _ _ _ _ _ hacc
      (next8_eq _ _ (fun s l => load_rows arg11.view G _ _ 2 (10 + k.val) (by omega) (off22_eq k) s l)).1
      (next8_eq _ _ (fun s l => load_rows arg11.view G _ _ 3 (10 + k.val) (by omega) (off23_eq k) s l)).2

end Cert.Proof.KernelIdeal

end
-- ==== Proof.Chunk.lean ====
/- What a chunk leaves: the projected rows in the padded buffers, and the gated rows handed to the output block. -/
module

public import proofs.«01_k».proof.Proof.Conv

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- Entry `(R, c)` of the projection of the block `x0` by the weights `w`. -/
def xz (x0 : Vec Ideal S1x2048x2048 .bf16) (w : Vec Ideal S2048x512 .f32) (R c : ℕ) : EReal :=
  ∑ k : Fin 2048, x0 (ix3 (0 : Fin 1) (⟨R % 2048, Nat.mod_lt _ (by decide)⟩ : Fin 2048) k) * w (ix2 k (⟨c % 512, Nat.mod_lt _ (by decide)⟩ : Fin 512))

/-- Row `i` counted from 8 rows above the block: zero off the block. -/
def xzPad (x0 : Vec Ideal S1x2048x2048 .bf16) (w : Vec Ideal S2048x512 .f32) (i c : ℕ) : EReal :=
  if 8 ≤ i ∧ i < 2056 then xz x0 w (i - 8) c else 0

/-- The padded rows of chunk `m`: its own 512 rows from row 8 on, its neighbours' around them, zeros past the block. -/
def padC (x0 : Vec Ideal S1x2048x2048 .bf16) (w : Vec Ideal S2048x512 .f32) (m : ℕ) : Vec Ideal S4x544x128 .f32 :=
  fun y => xzPad x0 w (512 * m + (y 1).val) (128 * (y 0).val + (y 2).val)

/-- The convolved and gated entry `(R, c)`. -/
def outV (x0 : Vec Ideal S1x2048x2048 .bf16) (w : Vec Ideal S2048x512 .f32) (x2 : Vec Ideal S5x512 .f32) (x3 : Vec Ideal S1x512 .f32) (R c : ℕ) : EReal :=
  gate (conv5 (x2 (ix2 (0 : Fin 5) (⟨c % 512, Nat.mod_lt _ (by decide)⟩ : Fin 512))) (x2 (ix2 (1 : Fin 5) (⟨c % 512, Nat.mod_lt _ (by decide)⟩ : Fin 512)))
    (x2 (ix2 (2 : Fin 5) (⟨c % 512, Nat.mod_lt _ (by decide)⟩ : Fin 512))) (x2 (ix2 (3 : Fin 5) (⟨c % 512, Nat.mod_lt _ (by decide)⟩ : Fin 512)))
    (x2 (ix2 (4 : Fin 5) (⟨c % 512, Nat.mod_lt _ (by decide)⟩ : Fin 512))) (x3 (ix2 (0 : Fin 1) (⟨c % 512, Nat.mod_lt _ (by decide)⟩ : Fin 512)))
    (xzPad x0 w (R + 6) c) (xzPad x0 w (R + 7) c) (xzPad x0 w (R + 8) c) (xzPad x0 w (R + 9) c) (xzPad x0 w (R + 10) c))

/-- The output block. -/
def outB (x0 : Vec Ideal S1x2048x2048 .bf16) (w : Vec Ideal S2048x512 .f32) (x2 : Vec Ideal S5x512 .f32) (x3 : Vec Ideal S1x512 .f32) : Vec Ideal S1x2048x512 .bf16 :=
  fun y => outV x0 w x2 x3 (y 1).val (y 2).val

theorem dot_at (h : Vec Ideal S1x512x2048 .bf16) (w : Vec Ideal S2048x512 .bf16) (r : Fin 512) (c : Fin 512) :
    k0_pay46 h w (ix2 r c) = ∑ k : Fin 2048, h (ix3 0 r k) * w (ix2 k c) := by
  pointwise [k0_pay46]

/-- The projection of a chunk's rows, at a row and a column. -/
theorem chunk_dot (arg2 : Memref sig .tc .vmem S1x2048x2048 .bf16) (harg2 : arg2.IsWhole) (x0 : Vec Ideal S1x2048x2048 .bf16)
    (w' : Vec Ideal S2048x512 .bf16) (w : Vec Ideal S2048x512 .f32) (hw : ∀ j, w' j = w j) (m : ℕ) (hm : m < 4) {o2 : Fin 3 → ℕ}
    (inb2 : ∀ a, o2 a + S1x512x2048.size a ≤ S1x2048x2048.size a) (ho2 : o2 = ![0, 512 * m, 0]) (r c : Fin 512) :
    k0_pay46 (View.readAt (Elt Ideal) arg2.view (Rect.unit (s := S1x2048x2048) o2 S1x512x2048.size inb2).toLoadRect (harg2.unread x0)) w' (ix2 r c)
      = xz x0 w (512 * m + r.val) c.val := by
  subst ho2
  rw [dot_at]
  unfold xz
  refine Finset.sum_congr rfl fun k _ => ?_
  rw [View.readAt_apply, harg2.read_unread, hw]
  have hr := r.isLt
  have hc := c.isLt
  refine congrArg₂ _ (congrArg x0 ?_) (congrArg w ?_)
  · funext a
    match a with
    | ⟨0, _⟩ => rfl
    | ⟨1, _⟩ => apply Fin.ext; show 512 * m + 1 * r.val = (512 * m + r.val) % 2048; omega
    | ⟨2, _⟩ => apply Fin.ext; show 0 + 1 * k.val = k.val; omega
  · congr 1; apply Fin.ext; show c.val = c.val % 512; omega

section Pieces

variable (arg2 : Memref sig .tc .vmem S1x2048x2048 .bf16) (harg2 : arg2.IsWhole) (x0 : Vec Ideal S1x2048x2048 .bf16)
  (w' : Vec Ideal S2048x512 .bf16) (w : Vec Ideal S2048x512 .f32) (hw : ∀ j, w' j = w j) (m : ℕ) (hm : m < 4) (b : ℕ) (hb : b < 4)
  {o2 : Fin 3 → ℕ} (inb2 : ∀ a, o2 a + S1x512x2048.size a ≤ S1x2048x2048.size a) (ho2 : o2 = ![0, 512 * m, 0])
  {o8 : Fin 3 → ℕ} {os : Fin 2 → ℕ} (hos : os = ![0, 128 * b])

include hw hm hb ho2 hos

/-- Lane block `b` of the projection of a chunk's rows. -/
theorem slice_dot (hs : S512x512.Slices os S512x128) (r : Fin 512) (l : Fin 128) :
    extractStridedSlice S512x128 os (k0_pay46 (View.readAt (Elt Ideal) arg2.view (Rect.unit (s := S1x2048x2048) o2 S1x512x2048.size inb2).toLoadRect (harg2.unread x0)) w') hs (ix2 r l)
      = xz x0 w (512 * m + r.val) (128 * b + l.val) := by
  subst hos
  have hl := l.isLt
  refine (extractStridedSlice_apply _ _ hs (ix2 r l) (ix2 r (⟨128 * b + l.val, by omega⟩ : Fin 512)) (fun a => ?_)).trans
    (chunk_dot arg2 harg2 x0 w' w hw m hm inb2 ho2 r _)
  match a with
  | ⟨0, _⟩ => show r.val = 0 + r.val; omega
  | ⟨1, _⟩ => rfl

/-- A chunk's own rows in lane block `b` of its padded rows. -/
theorem piece_own (n : ℕ) (hn : n = m) (inb8 : ∀ a, o8 a + S1x512x128.size a ≤ S4x544x128.size a) (ho8 : o8 = ![b, 8, 0])
    (hs : S512x512.Slices os S512x128) (hc : S512x128.ShapeCasts S1x512x128) (x : S1x512x128.Idx) :
    shapeCast S1x512x128 (extractStridedSlice S512x128 os (k0_pay46 (View.readAt (Elt Ideal) arg2.view (Rect.unit (s := S1x2048x2048) o2 S1x512x2048.size inb2).toLoadRect (harg2.unread x0)) w') hs) hc x
      = padC x0 w n ((Rect.unit (s := S4x544x128) o8 S1x512x128.size inb8).emb x) := by
  subst ho8
  have hx := eq_ix3 x
  have h0 : (x 0).val < 1 := (x 0).isLt
  have h1 : (x 1).val < 512 := (x 1).isLt
  have h2 : (x 2).val < 128 := (x 2).isLt
  rw [hx]
  generalize x 0 = xa at *; generalize x 1 = xb at *; generalize x 2 = xc at *
  refine (ValueIdx.shapeCast_ab_1ab_apply _ hc xa xb xc).trans ?_
  refine (slice_dot arg2 harg2 x0 w' w hw m hm b hb inb2 ho2 hos hs _ xc).trans ?_
  show _ = xzPad x0 w (512 * n + (8 + 1 * xb.val)) (128 * (b + 1 * xa.val) + (0 + 1 * xc.val))
  unfold xzPad
  rw [if_pos (by omega)]
  congr 1 <;> omega

/-- A chunk's first rows under the rows of the chunk before. -/
theorem piece_top (n : ℕ) (hn : n + 1 = m) (inb8 : ∀ a, o8 a + S1x24x128.size a ≤ S4x544x128.size a) (ho8 : o8 = ![b, 520, 0])
    (hs : S512x512.Slices os S512x128) (hs2 : S512x128.Slices ![0, 0] S24x128) (hc : S24x128.ShapeCasts S1x24x128) (x : S1x24x128.Idx) :
    shapeCast S1x24x128 (extractStridedSlice S24x128 ![0, 0] (extractStridedSlice S512x128 os (k0_pay46 (View.readAt (Elt Ideal) arg2.view (Rect.unit (s := S1x2048x2048) o2 S1x512x2048.size inb2).toLoadRect (harg2.unread x0)) w') hs) hs2) hc x
      = padC x0 w n ((Rect.unit (s := S4x544x128) o8 S1x24x128.size inb8).emb x) := by
  subst ho8
  have hx := eq_ix3 x
  have h0 : (x 0).val < 1 := (x 0).isLt
  have h1 : (x 1).val < 24 := (x 1).isLt
  have h2 : (x 2).val < 128 := (x 2).isLt
  rw [hx]
  generalize x 0 = xa at *; generalize x 1 = xb at *; generalize x 2 = xc at *
  refine (ValueIdx.shapeCast_ab_1ab_apply _ hc xa xb xc).trans ?_
  refine (extractStridedSlice_apply _ _ hs2 (ix2 xb xc) (ix2 (⟨0 + xb.val, by omega⟩ : Fin 512) xc) (fun a => ?_)).trans ?_
  · match a with
    | ⟨0, _⟩ => rfl
    | ⟨1, _⟩ => show xc.val = 0 + xc.val; omega
  refine (slice_dot arg2 harg2 x0 w' w hw m hm b hb inb2 ho2 hos hs _ xc).trans ?_
  show xz x0 w (512 * m + (0 + xb.val)) (128 * b + xc.val) = xzPad x0 w (512 * n + (520 + 1 * xb.val)) (128 * (b + 1 * xa.val) + (0 + 1 * xc.val))
  unfold xzPad
  rw [if_pos (by omega)]
  congr 1 <;> omega

/-- A chunk's last rows over the rows of the chunk after. -/
theorem piece_tail (n : ℕ) (hn : n = m + 1) (inb8 : ∀ a, o8 a + S1x8x128.size a ≤ S4x544x128.size a) (ho8 : o8 = ![b, 0, 0])
    (hs : S512x512.Slices os S512x128) (hs2 : S512x128.Slices ![504, 0] S8x128) (hc : S8x128.ShapeCasts S1x8x128) (x : S1x8x128.Idx) :
    shapeCast S1x8x128 (extractStridedSlice S8x128 ![504, 0] (extractStridedSlice S512x128 os (k0_pay46 (View.readAt (Elt Ideal) arg2.view (Rect.unit (s := S1x2048x2048) o2 S1x512x2048.size inb2).toLoadRect (harg2.unread x0)) w') hs) hs2) hc x
      = padC x0 w n ((Rect.unit (s := S4x544x128) o8 S1x8x128.size inb8).emb x) := by
  subst ho8
  have hx := eq_ix3 x
  have h0 : (x 0).val < 1 := (x 0).isLt
  have h1 : (x 1).val < 8 := (x 1).isLt
  have h2 : (x 2).val < 128 := (x 2).isLt
  rw [hx]
  generalize x 0 = xa at *; generalize x 1 = xb at *; generalize x 2 = xc at *
  refine (ValueIdx.shapeCast_ab_1ab_apply _ hc xa xb xc).trans ?_
  refine (extractStridedSlice_apply _ _ hs2 (ix2 xb xc) (ix2 (⟨504 + xb.val, by omega⟩ : Fin 512) xc) (fun a => ?_)).trans ?_
  · match a with
    | ⟨0, _⟩ => rfl
    | ⟨1, _⟩ => show xc.val = 0 + xc.val; omega
  refine (slice_dot arg2 harg2 x0 w' w hw m hm b hb inb2 ho2 hos hs _ xc).trans ?_
  show xz x0 w (512 * m + (504 + xb.val)) (128 * b + xc.val) = xzPad x0 w (512 * n + (0 + 1 * xb.val)) (128 * (b + 1 * xa.val) + (0 + 1 * xc.val))
  unfold xzPad
  rw [if_pos (by omega)]
  congr 1 <;> omega

end Pieces

/-- The rows above the block are zeros. -/
theorem piece_above (x0 : Vec Ideal S1x2048x2048 .bf16) (w : Vec Ideal S2048x512 .f32) (inb8 : ∀ a, (![0, 0, 0] : Fin 3 → ℕ) a + S4x8x128.size a ≤ S4x544x128.size a) (x : S4x8x128.Idx) :
    (k0_pay44 (F := Ideal)) x = padC x0 w 0 ((Rect.unit (s := S4x544x128) ![0, 0, 0] S4x8x128.size inb8).emb x) := by
  have h1 : (x 1).val < 8 := (x 1).isLt
  show _ = xzPad x0 w (512 * 0 + (0 + 1 * (x 1).val)) _
  unfold xzPad
  rw [if_neg (by omega)]
  pointwise [k0_pay44]

/-- The rows below the block are zeros. -/
theorem piece_below (x0 : Vec Ideal S1x2048x2048 .bf16) (w : Vec Ideal S2048x512 .f32) (inb8 : ∀ a, (![0, 520, 0] : Fin 3 → ℕ) a + S4x24x128.size a ≤ S4x544x128.size a) (x : S4x24x128.Idx) :
    (k0_pay45 (F := Ideal)) x = padC x0 w 3 ((Rect.unit (s := S4x544x128) ![0, 520, 0] S4x24x128.size inb8).emb x) := by
  show _ = xzPad x0 w (512 * 3 + (520 + 1 * (x 1).val)) _
  unfold xzPad
  rw [if_neg (by omega)]
  pointwise [k0_pay45]

/-- A window as the body loads it. -/
theorem win_load (v : View sig .tc .vmem S4x544x128 .f32) (G : v.ref.ty.Contents (Elt Ideal)) (P : Vec Ideal S4x544x128 .f32) (hP : v.read (Elt Ideal) G = P)
    {off : Fin 3 → ℕ} (inb : ∀ a : Fin 3, S1x8x128.size a = 0 ∨ off a + (![1, 65, 1] : Fin 3 → ℕ) a * (S1x8x128.size a - 1) < S4x544x128.size a)
    (b : Fin 4) (r : ℕ) (hr : r < 80) (ho : off = ![b.val, r, 0]) (hc : S1x8x128.ShapeCasts S8x128) :
    shapeCast S8x128 (v.readAt (Elt Ideal) (⟨off, S1x8x128.size, ![1, 65, 1], inb⟩ : LoadRect S4x544x128) G) hc = win P b r := by
  subst hP
  funext j
  rw [eq_ix2 j]
  exact (ValueIdx.shapeCast_1ab_ab_apply _ hc (j 0) (j 1)).trans (load_rows v G off inb b r hr ho (j 0) (j 1))

/-- A tap as the body loads it. -/
theorem tap_load (arg4 : Memref sig .tc .vmem S5x512 .f32) (harg4 : arg4.IsWhole) (x2 : Vec Ideal S5x512 .f32) {off : Fin 2 → ℕ}
    (inb : ∀ a, off a + S1x128.size a ≤ S5x512.size a) (d : Fin 5) (b : ℕ) (hb : b < 4) (ho : off = ![d.val, 128 * b]) (hc : S1x128.ShapeCasts S1x128) (l : Fin 128) :
    shapeCast S1x128 (View.readAt (Elt Ideal) arg4.view (Rect.unit (s := S5x512) off S1x128.size inb).toLoadRect (harg4.unread x2)) hc (ix2 (0 : Fin 1) l)
      = x2 (ix2 d (⟨(128 * b + l.val) % 512, Nat.mod_lt _ (by decide)⟩ : Fin 512)) := by
  subst ho
  have hl := l.isLt
  refine (congrFun (shapeCast_self _ _) _).trans ?_
  rw [View.readAt_apply, harg4.read_unread]
  refine congrArg x2 ?_
  funext a
  match a with
  | ⟨0, _⟩ => apply Fin.ext; show d.val + 1 * 0 = d.val; omega
  | ⟨1, _⟩ => apply Fin.ext; show 128 * b + 1 * l.val = (128 * b + l.val) % 512; omega

/-- A bias as the body loads it. -/
theorem bias_load (arg5 : Memref sig .tc .vmem S1x512 .f32) (harg5 : arg5.IsWhole) (x3 : Vec Ideal S1x512 .f32) {off : Fin 2 → ℕ}
    (inb : ∀ a, off a + S1x128.size a ≤ S1x512.size a) (b : ℕ) (hb : b < 4) (ho : off = ![0, 128 * b]) (hc : S1x128.ShapeCasts S1x128) (l : Fin 128) :
    shapeCast S1x128 (View.readAt (Elt Ideal) arg5.view (Rect.unit (s := S1x512) off S1x128.size inb).toLoadRect (harg5.unread x3)) hc (ix2 (0 : Fin 1) l)
      = x3 (ix2 (0 : Fin 1) (⟨(128 * b + l.val) % 512, Nat.mod_lt _ (by decide)⟩ : Fin 512)) := by
  subst ho
  have hl := l.isLt
  refine (congrFun (shapeCast_self _ _) _).trans ?_
  rw [View.readAt_apply, harg5.read_unread]
  refine congrArg x3 ?_
  funext a
  match a with
  | ⟨0, _⟩ => rfl
  | ⟨1, _⟩ => apply Fin.ext; show 128 * b + 1 * l.val = (128 * b + l.val) % 512; omega

/-- The weights of taps and bias one lane block is convolved with. -/
structure Taps (x2 : Vec Ideal S5x512 .f32) (x3 : Vec Ideal S1x512 .f32) (b : ℕ) (t0 t1 t2 t3 t4 bi : FVec Ideal S1x128 .f32) : Prop where
  h0 : ∀ l : Fin 128, t0 (ix2 (0 : Fin 1) l) = x2 (ix2 (0 : Fin 5) (⟨(128 * b + l.val) % 512, Nat.mod_lt _ (by decide)⟩ : Fin 512))
  h1 : ∀ l : Fin 128, t1 (ix2 (0 : Fin 1) l) = x2 (ix2 (1 : Fin 5) (⟨(128 * b + l.val) % 512, Nat.mod_lt _ (by decide)⟩ : Fin 512))
  h2 : ∀ l : Fin 128, t2 (ix2 (0 : Fin 1) l) = x2 (ix2 (2 : Fin 5) (⟨(128 * b + l.val) % 512, Nat.mod_lt _ (by decide)⟩ : Fin 512))
  h3 : ∀ l : Fin 128, t3 (ix2 (0 : Fin 1) l) = x2 (ix2 (3 : Fin 5) (⟨(128 * b + l.val) % 512, Nat.mod_lt _ (by decide)⟩ : Fin 512))
  h4 : ∀ l : Fin 128, t4 (ix2 (0 : Fin 1) l) = x2 (ix2 (4 : Fin 5) (⟨(128 * b + l.val) % 512, Nat.mod_lt _ (by decide)⟩ : Fin 512))
  hb : ∀ l : Fin 128, bi (ix2 (0 : Fin 1) l) = x3 (ix2 (0 : Fin 1) (⟨(128 * b + l.val) % 512, Nat.mod_lt _ (by decide)⟩ : Fin 512))

/-- A packed entry over a chunk's padded rows is the convolved and gated entry of its row. -/
theorem cell_eq (x0 : Vec Ideal S1x2048x2048 .bf16) (w : Vec Ideal S2048x512 .f32) (x2 : Vec Ideal S5x512 .f32) (x3 : Vec Ideal S1x512 .f32)
    (m : ℕ) (b : Fin 4) {t0 t1 t2 t3 t4 bi : FVec Ideal S1x128 .f32} (ht : Taps x2 x3 b.val t0 t1 t2 t3 t4 bi) (j : ℕ) (hj : j < 65) (s : Fin 8) (l : Fin 128) :
    cell t0 t1 t2 t3 t4 bi (win (padC x0 w m) b (6 + j)) (win (padC x0 w m) b (7 + j)) (win (padC x0 w m) b (8 + j)) (win (padC x0 w m) b (9 + j)) (win (padC x0 w m) b (10 + j)) s l
      = outV x0 w x2 x3 (512 * m + (j + 65 * s.val)) (128 * b.val + l.val) := by
  have hs := s.isLt
  have key : ∀ d, d ≤ 10 → win (padC x0 w m) b (d + j) (ix2 s l) = xzPad x0 w (512 * m + (j + 65 * s.val) + d) (128 * b.val + l.val) := by
    intro d hd
    show xzPad x0 w (512 * m + (d + j + 65 * s.val) % 544) (128 * b.val + l.val) = _
    congr 1; omega
  unfold cell outV
  rw [ht.h0, ht.h1, ht.h2, ht.h3, ht.h4, ht.hb, key 6 (by decide), key 7 (by decide), key 8 (by decide), key 9 (by decide), key 10 (by decide)]

/-- After its loop a plane of the stage holds the convolved and gated entries of the chunk's rows, two lane blocks. -/
theorem plane_out (x0 : Vec Ideal S1x2048x2048 .bf16) (w : Vec Ideal S2048x512 .f32) (x2 : Vec Ideal S5x512 .f32) (x3 : Vec Ideal S1x512 .f32)
    (m : ℕ) (pl : Fin 2) (b b' : Fin 4) (hb : b.val = 2 * pl.val) (hb' : b'.val = 2 * pl.val + 1) {P : Vec Ideal S4x544x128 .f32} (hP : P = padC x0 w m)
    {t0 t1 t2 t3 t4 bi u0 u1 u2 u3 u4 bi' : FVec Ideal S1x128 .f32} (ht : Taps x2 x3 b.val t0 t1 t2 t3 t4 bi) (hu : Taps x2 x3 b'.val u0 u1 u2 u3 u4 bi')
    {a1 a2 a3 a4 a5 a6 a7 a8 : Rows} (e1 : a1 = win P b 6) (e2 : a2 = win P b 7) (e3 : a3 = win P b 8) (e4 : a4 = win P b 9)
    (e5 : a5 = win P b' 6) (e6 : a6 = win P b' 7) (e7 : a7 = win P b' 8) (e8 : a8 = win P b' 9)
    {R : Vec Ideal S2x520x2x128 .bf16} {n : ℕ} (hn : n = 65) (h : Staged R pl n (packed P b b' t0 t1 t2 t3 t4 bi u0 u1 u2 u3 u4 bi' (a1, a2, a3, a4, a5, a6, a7, a8)))
    (r : Fin 520) (q : Fin 2) (l : Fin 128) : R (ix4 pl r q l) = outV x0 w x2 x3 (512 * m + r.val) (256 * pl.val + 128 * q.val + l.val) := by
  subst hn hP e1 e2 e3 e4 e5 e6 e7 e8
  have hr := r.isLt
  have hj : r.val % 65 < 65 := Nat.mod_lt _ (by decide)
  have hrow : r = stRow (r.val % 65) ⟨r.val / 65, by omega⟩ := by
    apply Fin.ext; show r.val = (r.val % 65 + 65 * (r.val / 65)) % 520; omega
  have hval : r.val % 65 + 65 * (r.val / 65) = r.val := by omega
  conv_lhs => rw [hrow]
  rw [h.at _ hj, packed, accAt_win]
  dsimp only
  rw [cell_eq x0 w x2 x3 m b ht _ hj, cell_eq x0 w x2 x3 m b' hu _ hj]
  dsimp only
  rw [hval]
  have hq := q.isLt
  split
  · congr 1; omega
  · congr 1; omega

/-- A pair's two lane blocks, unpacked, are the output block's entries. -/
theorem out_lo (x0 : Vec Ideal S1x2048x2048 .bf16) (w : Vec Ideal S2048x512 .f32) (x2 : Vec Ideal S5x512 .f32) (x3 : Vec Ideal S1x512 .f32) (m : ℕ) (pl : Fin 2)
    (v : View sig .tc .vmem S2x520x2x128 .bf16) (f : v.ref.ty.Contents (Elt Ideal))
    (h : ∀ (r : Fin 520) (q : Fin 2) (l : Fin 128), v.read (Elt Ideal) f (ix4 pl r q l) = outV x0 w x2 x3 (512 * m + r.val) (256 * pl.val + 128 * q.val + l.val))
    {off : Fin 4 → ℕ} (inb : ∀ a, off a + S1x512x2x128.size a ≤ S2x520x2x128.size a) (ho : off = ![pl.val, 0, 0, 0])
    {o6 : Fin 3 → ℕ} (inb6 : ∀ a, o6 a + S1x512x128.size a ≤ S1x2048x512.size a) (ho6 : o6 = ![0, 512 * m, 256 * pl.val]) (x : S1x512x128.Idx) :
    k0_pay99 (View.readAt (Elt Ideal) v (Rect.unit (s := S2x520x2x128) off S1x512x2x128.size inb).toLoadRect f) x
      = outB x0 w x2 x3 ((Rect.unit (s := S1x2048x512) o6 S1x512x128.size inb6).emb x) := by
  subst ho ho6
  have h1 : (x 1).val < 512 := (x 1).isLt
  trans v.read (Elt Ideal) f (ix4 pl (⟨(x 1).val, by omega⟩ : Fin 520) 0 (x 2))
  · pointwise [k0_pay99]
    rw [View.readAt_apply]
    refine congrArg _ (funext fun a => ?_)
    match a with
    | ⟨0, _⟩ => apply Fin.ext; show pl.val + 1 * 0 = pl.val; omega
    | ⟨1, _⟩ => apply Fin.ext; show 0 + 1 * (x 1).val = (x 1).val; omega
    | ⟨2, _⟩ => rfl
    | ⟨3, _⟩ => apply Fin.ext; show 0 + 1 * (x 2).val = (x 2).val; omega
  · refine (h _ _ _).trans ?_
    show _ = outV x0 w x2 x3 (512 * m + 1 * (x 1).val) (256 * pl.val + 1 * (x 2).val)
    congr 1 <;> simp

theorem out_hi (x0 : Vec Ideal S1x2048x2048 .bf16) (w : Vec Ideal S2048x512 .f32) (x2 : Vec Ideal S5x512 .f32) (x3 : Vec Ideal S1x512 .f32) (m : ℕ) (pl : Fin 2)
    (v : View sig .tc .vmem S2x520x2x128 .bf16) (f : v.ref.ty.Contents (Elt Ideal))
    (h : ∀ (r : Fin 520) (q : Fin 2) (l : Fin 128), v.read (Elt Ideal) f (ix4 pl r q l) = outV x0 w x2 x3 (512 * m + r.val) (256 * pl.val + 128 * q.val + l.val))
    {off : Fin 4 → ℕ} (inb : ∀ a, off a + S1x512x2x128.size a ≤ S2x520x2x128.size a) (ho : off = ![pl.val, 0, 0, 0])
    {o6 : Fin 3 → ℕ} (inb6 : ∀ a, o6 a + S1x512x128.size a ≤ S1x2048x512.size a) (ho6 : o6 = ![0, 512 * m, 256 * pl.val + 128]) (x : S1x512x128.Idx) :
    k0_pay100 (View.readAt (Elt Ideal) v (Rect.unit (s := S2x520x2x128) off S1x512x2x128.size inb).toLoadRect f) x
      = outB x0 w x2 x3 ((Rect.unit (s := S1x2048x512) o6 S1x512x128.size inb6).emb x) := by
  subst ho ho6
  have h1 : (x 1).val < 512 := (x 1).isLt
  trans v.read (Elt Ideal) f (ix4 pl (⟨(x 1).val, by omega⟩ : Fin 520) 1 (x 2))
  · pointwise [k0_pay100]
    rw [View.readAt_apply]
    refine congrArg _ (funext fun a => ?_)
    match a with
    | ⟨0, _⟩ => apply Fin.ext; show pl.val + 1 * 0 = pl.val; omega
    | ⟨1, _⟩ => apply Fin.ext; show 0 + 1 * (x 1).val = (x 1).val; omega
    | ⟨2, _⟩ => rfl
    | ⟨3, _⟩ => apply Fin.ext; show 0 + 1 * (x 2).val = (x 2).val; omega
  · refine (h _ _ _).trans ?_
    show _ = outV x0 w x2 x3 (512 * m + 1 * (x 1).val) (256 * pl.val + 128 + 1 * (x 2).val)
    congr 1 <;> simp

end Cert.Proof.KernelIdeal

end
-- ==== Proof.KernelIdealBody.lean ====
/- The body of `KernelIdeal` with its value: the block it writes is the convolved and gated projection of the blocks it reads. -/
module

public import proofs.«01_k».proof.Proof.KernelIdealLoops
public import proofs.«01_k».proof.Proof.Chunk
public import Idealize.ShloMosaic.Lib.Claim
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The weight block is cast at the first batch of a column tile. -/
abbrev castCond (i : grid0.Coords) : Prop := (Scalar.cmpi .ne (Scalar.extui (Scalar.cmpi .eq (BitVec.ofNat 32 (i 1).val) 0#32)) 0#32) = 1#1

/-- The cast weights. -/
def castW (x1 : Vec Ideal S2048x512 .f32) : Vec Ideal S2048x512 .bf16 := fun j => x1 j

theorem cast_pay (v : Vec Ideal S2048x512 .f32) (j : S2048x512.Idx) : k0_pay43 v j = v j := by
  pointwise [k0_pay43]

theorem full_load (v : View sig .tc .vmem S2048x512 .f32) (f : v.ref.ty.Contents (Elt Ideal)) (j : S2048x512.Idx) :
    View.readAt (Elt Ideal) v (Rect.unit (s := S2048x512) ![0, 0] S2048x512.size inb_S2048x512_S2048x512_0_0).toLoadRect f j = v.read (Elt Ideal) f j := by
  rw [View.readAt_apply]
  refine congrArg _ (funext fun a => ?_)
  match a with
  | ⟨0, _⟩ => apply Fin.ext; show 0 + 1 * (j 0).val = (j 0).val; omega
  | ⟨1, _⟩ => apply Fin.ext; show 0 + 1 * (j 1).val = (j 1).val; omega

theorem weights_kept (arg7 : Memref sig .tc .vmem S2048x512 .bf16) (harg7 : arg7.IsWhole) (x1 : Vec Ideal S2048x512 .f32) (j : S2048x512.Idx) :
    View.readAt (Elt Ideal) arg7.view (Rect.unit (s := S2048x512) ![0, 0] S2048x512.size inb_S2048x512_S2048x512_0_0).toLoadRect (harg7.unread (castW x1)) j = x1 j := by
  rw [View.readAt_apply, harg7.read_unread]
  refine congrArg x1 (funext fun a => ?_)
  match a with
  | ⟨0, _⟩ => apply Fin.ext; show 0 + 1 * (j 0).val = (j 0).val; omega
  | ⟨1, _⟩ => apply Fin.ext; show 0 + 1 * (j 1).val = (j 1).val; omega

theorem weights_cast (arg3 : Memref sig .tc .vmem S2048x512 .f32) (harg3 : arg3.IsWhole) (arg7 : Memref sig .tc .vmem S2048x512 .bf16) (x1 : Vec Ideal S2048x512 .f32) (j : S2048x512.Idx) :
    arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect j = x1 j := by
  rw [View.readCov_full]
  refine (cast_pay _ j).trans ((full_load _ _ j).trans ?_)
  rw [harg3.read_unread]

theorem cast_read (arg3 : Memref sig .tc .vmem S2048x512 .f32) (harg3 : arg3.IsWhole) (arg7 : Memref sig .tc .vmem S2048x512 .bf16) (x1 : Vec Ideal S2048x512 .f32) :
    arg7.view.read (Elt Ideal) (arg7.view.writes (Elt Ideal) arg7.view.junk [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)]) = castW x1 := by
  rw [View.read_writes_full]
  funext j
  refine (cast_pay _ j).trans ((full_load _ _ j).trans ?_)
  rw [harg3.read_unread]; rfl

/-- What a buffer holds after stores that all agree with `G` and cover it. -/
theorem read_pieces {s : Shape} {e : EltTy} (v : View sig .tc .vmem s e) (f : v.ref.ty.Contents (Elt Ideal)) (L : List (View.Piece (Elt Ideal) s e))
    (G : s.Idx → Elt Ideal e) (h : ∀ p ∈ L, ∀ x, p.2 x = G (p.1.emb x)) (hc : ∀ y, ∃ p ∈ L, y ∈ p.1.set) :
    v.read (Elt Ideal) (v.writes (Elt Ideal) f L) = G :=
  funext fun y => View.read_writes_apply_of_pieces v f G L h y (hc y)

theorem pad_read (v : View sig .tc .vmem S4x544x128 .f32) (L : List (View.Piece (Elt Ideal) S4x544x128 .f32))
    (G : Vec Ideal S4x544x128 .f32) (h : ∀ p ∈ L, ∀ x, p.2 x = G (p.1.emb x)) (hc : ∀ y, ∃ p ∈ L, y ∈ p.1.set) :
    v.read (Elt Ideal) (v.writes (Elt Ideal) v.junk L) = G := read_pieces v _ L G h hc

theorem in_unit {b r nb nr : ℕ} (inb : ∀ a, (![b, r, 0] : Fin 3 → ℕ) a + (![nb, nr, 128] : Fin 3 → ℕ) a ≤ S4x544x128.size a) {y : S4x544x128.Idx}
    (h0 : b ≤ (y 0).val ∧ (y 0).val < b + nb) (h1 : r ≤ (y 1).val ∧ (y 1).val < r + nr) (h2 : (y 2).val < 128) :
    y ∈ (Rect.unit (s := S4x544x128) ![b, r, 0] ![nb, nr, 128] inb).set := by
  rw [Rect.mem_set_unit]
  intro a
  match a with
  | ⟨0, _⟩ => exact h0
  | ⟨1, _⟩ => exact h1
  | ⟨2, _⟩ => exact ⟨Nat.zero_le _, by show (y 2).val < 0 + 128; omega⟩

theorem cover0
    {i0 : ∀ a, (![3, 520, 0] : Fin 3 → ℕ) a + S1x24x128.size a ≤ S4x544x128.size a} (v0 : S1x24x128.Idx → EReal)
    {i1 : ∀ a, (![2, 520, 0] : Fin 3 → ℕ) a + S1x24x128.size a ≤ S4x544x128.size a} (v1 : S1x24x128.Idx → EReal)
    {i2 : ∀ a, (![1, 520, 0] : Fin 3 → ℕ) a + S1x24x128.size a ≤ S4x544x128.size a} (v2 : S1x24x128.Idx → EReal)
    {i3 : ∀ a, (![0, 520, 0] : Fin 3 → ℕ) a + S1x24x128.size a ≤ S4x544x128.size a} (v3 : S1x24x128.Idx → EReal)
    {i4 : ∀ a, (![3, 8, 0] : Fin 3 → ℕ) a + S1x512x128.size a ≤ S4x544x128.size a} (v4 : S1x512x128.Idx → EReal)
    {i5 : ∀ a, (![2, 8, 0] : Fin 3 → ℕ) a + S1x512x128.size a ≤ S4x544x128.size a} (v5 : S1x512x128.Idx → EReal)
    {i6 : ∀ a, (![1, 8, 0] : Fin 3 → ℕ) a + S1x512x128.size a ≤ S4x544x128.size a} (v6 : S1x512x128.Idx → EReal)
    {i7 : ∀ a, (![0, 8, 0] : Fin 3 → ℕ) a + S1x512x128.size a ≤ S4x544x128.size a} (v7 : S1x512x128.Idx → EReal)
    {i8 : ∀ a, (![0, 0, 0] : Fin 3 → ℕ) a + S4x8x128.size a ≤ S4x544x128.size a} (v8 : S4x8x128.Idx → EReal) :
    ∀ y : S4x544x128.Idx, ∃ p ∈ [(⟨Rect.unit (s := S4x544x128) ![3, 520, 0] S1x24x128.size i0, v0⟩ : View.Piece (Elt Ideal) S4x544x128 .f32),
      (⟨Rect.unit (s := S4x544x128) ![2, 520, 0] S1x24x128.size i1, v1⟩ : View.Piece (Elt Ideal) S4x544x128 .f32),
      (⟨Rect.unit (s := S4x544x128) ![1, 520, 0] S1x24x128.size i2, v2⟩ : View.Piece (Elt Ideal) S4x544x128 .f32),
      (⟨Rect.unit (s := S4x544x128) ![0, 520, 0] S1x24x128.size i3, v3⟩ : View.Piece (Elt Ideal) S4x544x128 .f32),
      (⟨Rect.unit (s := S4x544x128) ![3, 8, 0] S1x512x128.size i4, v4⟩ : View.Piece (Elt Ideal) S4x544x128 .f32),
      (⟨Rect.unit (s := S4x544x128) ![2, 8, 0] S1x512x128.size i5, v5⟩ : View.Piece (Elt Ideal) S4x544x128 .f32),
      (⟨Rect.unit (s := S4x544x128) ![1, 8, 0] S1x512x128.size i6, v6⟩ : View.Piece (Elt Ideal) S4x544x128 .f32),
      (⟨Rect.unit (s := S4x544x128) ![0, 8, 0] S1x512x128.size i7, v7⟩ : View.Piece (Elt Ideal) S4x544x128 .f32),
      (⟨Rect.unit (s := S4x544x128) ![0, 0, 0] S4x8x128.size i8, v8⟩ : View.Piece (Elt Ideal) S4x544x128 .f32)], y ∈ p.1.set := by
  intro y
  have h0 : (y 0).val < 4 := (y 0).isLt
  have h1 : (y 1).val < 544 := (y 1).isLt
  have h2 : (y 2).val < 128 := (y 2).isLt
  rcases (by omega : (y 1).val < 8 ∨ (8 ≤ (y 1).val ∧ (y 1).val < 520) ∨ 520 ≤ (y 1).val) with h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_self)))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_self))))), in_unit (by decide) (by constructor <;> omega) (by constructor <;> omega) h2⟩
    · exact ⟨_, List.mem_cons_of_mem _ (List.mem_cons_of_mem _ (List.mem_cons_of_mem _ (List.mem_cons_of_mem _ (List.mem_cons_self)))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_self))), in_unit (by decide) (by constructor <;> omega) (by constructor <;> omega) h2⟩
    · exact ⟨_, List.mem_cons_of_mem _ (List.mem_cons_of_mem _ (List.mem_cons_self)), in_unit (by decide) (by constructor <;> omega) (by constructor <;> omega) h2⟩
    · exact ⟨_, List.mem_cons_of_mem _ (List.mem_cons_self), in_unit (by decide) (by constructor <;> omega) (by constructor <;> omega) h2⟩
    · exact ⟨_, List.mem_cons_self, in_unit (by decide) (by constructor <;> omega) (by constructor <;> omega) h2⟩

theorem cover1
    {i0 : ∀ a, (![3, 520, 0] : Fin 3 → ℕ) a + S1x24x128.size a ≤ S4x544x128.size a} (v0 : S1x24x128.Idx → EReal)
    {i1 : ∀ a, (![2, 520, 0] : Fin 3 → ℕ) a + S1x24x128.size a ≤ S4x544x128.size a} (v1 : S1x24x128.Idx → EReal)
    {i2 : ∀ a, (![1, 520, 0] : Fin 3 → ℕ) a + S1x24x128.size a ≤ S4x544x128.size a} (v2 : S1x24x128.Idx → EReal)
    {i3 : ∀ a, (![0, 520, 0] : Fin 3 → ℕ) a + S1x24x128.size a ≤ S4x544x128.size a} (v3 : S1x24x128.Idx → EReal)
    {i4 : ∀ a, (![3, 8, 0] : Fin 3 → ℕ) a + S1x512x128.size a ≤ S4x544x128.size a} (v4 : S1x512x128.Idx → EReal)
    {i5 : ∀ a, (![2, 8, 0] : Fin 3 → ℕ) a + S1x512x128.size a ≤ S4x544x128.size a} (v5 : S1x512x128.Idx → EReal)
    {i6 : ∀ a, (![1, 8, 0] : Fin 3 → ℕ) a + S1x512x128.size a ≤ S4x544x128.size a} (v6 : S1x512x128.Idx → EReal)
    {i7 : ∀ a, (![0, 8, 0] : Fin 3 → ℕ) a + S1x512x128.size a ≤ S4x544x128.size a} (v7 : S1x512x128.Idx → EReal)
    {i8 : ∀ a, (![3, 0, 0] : Fin 3 → ℕ) a + S1x8x128.size a ≤ S4x544x128.size a} (v8 : S1x8x128.Idx → EReal)
    {i9 : ∀ a, (![2, 0, 0] : Fin 3 → ℕ) a + S1x8x128.size a ≤ S4x544x128.size a} (v9 : S1x8x128.Idx → EReal)
    {i10 : ∀ a, (![1, 0, 0] : Fin 3 → ℕ) a + S1x8x128.size a ≤ S4x544x128.size a} (v10 : S1x8x128.Idx → EReal)
    {i11 : ∀ a, (![0, 0, 0] : Fin 3 → ℕ) a + S1x8x128.size a ≤ S4x544x128.size a} (v11 : S1x8x128.Idx → EReal) :
    ∀ y : S4x544x128.Idx, ∃ p ∈ [(⟨Rect.unit (s := S4x544x128) ![3, 520, 0] S1x24x128.size i0, v0⟩ : View.Piece (Elt Ideal) S4x544x128 .f32),
      (⟨Rect.unit (s := S4x544x128) ![2, 520, 0] S1x24x128.size i1, v1⟩ : View.Piece (Elt Ideal) S4x544x128 .f32),
      (⟨Rect.unit (s := S4x544x128) ![1, 520, 0] S1x24x128.size i2, v2⟩ : View.Piece (Elt Ideal) S4x544x128 .f32),
      (⟨Rect.unit (s := S4x544x128) ![0, 520, 0] S1x24x128.size i3, v3⟩ : View.Piece (Elt Ideal) S4x544x128 .f32),
      (⟨Rect.unit (s := S4x544x128) ![3, 8, 0] S1x512x128.size i4, v4⟩ : View.Piece (Elt Ideal) S4x544x128 .f32),
      (⟨Rect.unit (s := S4x544x128) ![2, 8, 0] S1x512x128.size i5, v5⟩ : View.Piece (Elt Ideal) S4x544x128 .f32),
      (⟨Rect.unit (s := S4x544x128) ![1, 8, 0] S1x512x128.size i6, v6⟩ : View.Piece (Elt Ideal) S4x544x128 .f32),
      (⟨Rect.unit (s := S4x544x128) ![0, 8, 0] S1x512x128.size i7, v7⟩ : View.Piece (Elt Ideal) S4x544x128 .f32),
      (⟨Rect.unit (s := S4x544x128) ![3, 0, 0] S1x8x128.size i8, v8⟩ : View.Piece (Elt Ideal) S4x544x128 .f32),
      (⟨Rect.unit (s := S4x544x128) ![2, 0, 0] S1x8x128.size i9, v9⟩ : View.Piece (Elt Ideal) S4x544x128 .f32),
      (⟨Rect.unit (s := S4x544x128) ![1, 0, 0] S1x8x128.size i10, v10⟩ : View.Piece (Elt Ideal) S4x544x128 .f32),
      (⟨Rect.unit (s := S4x544x128) ![0, 0, 0] S1x8x128.size i11, v11⟩ : View.Piece (Elt Ideal) S4x544x128 .f32)], y ∈ p.1.set := by
  intro y
  have h0 : (y 0).val < 4 := (y 0).isLt
  have h1 : (y 1).val < 544 := (y 1).isLt
  have h2 : (y 2).val < 128 := (y 2).isLt
  rcases (by omega : (y 1).val < 8 ∨ (8 ≤ (y 1).val ∧ (y 1).val < 520) ∨ 520 ≤ (y 1).val) with h | h | h
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_self)))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_self))))), in_unit (by decide) (by constructor <;> omega) (by constructor <;> omega) h2⟩
    · exact ⟨_, List.mem_cons_of_mem _ (List.mem_cons_of_mem _ (List.mem_cons_of_mem _ (List.mem_cons_of_mem _ (List.mem_cons_self)))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_self))), in_unit (by decide) (by constructor <;> omega) (by constructor <;> omega) h2⟩
    · exact ⟨_, List.mem_cons_of_mem _ (List.mem_cons_of_mem _ (List.mem_cons_self)), in_unit (by decide) (by constructor <;> omega) (by constructor <;> omega) h2⟩
    · exact ⟨_, List.mem_cons_of_mem _ (List.mem_cons_self), in_unit (by decide) (by constructor <;> omega) (by constructor <;> omega) h2⟩
    · exact ⟨_, List.mem_cons_self, in_unit (by decide) (by constructor <;> omega) (by constructor <;> omega) h2⟩

theorem cover2
    {i0 : ∀ a, (![3, 520, 0] : Fin 3 → ℕ) a + S1x24x128.size a ≤ S4x544x128.size a} (v0 : S1x24x128.Idx → EReal)
    {i1 : ∀ a, (![2, 520, 0] : Fin 3 → ℕ) a + S1x24x128.size a ≤ S4x544x128.size a} (v1 : S1x24x128.Idx → EReal)
    {i2 : ∀ a, (![1, 520, 0] : Fin 3 → ℕ) a + S1x24x128.size a ≤ S4x544x128.size a} (v2 : S1x24x128.Idx → EReal)
    {i3 : ∀ a, (![0, 520, 0] : Fin 3 → ℕ) a + S1x24x128.size a ≤ S4x544x128.size a} (v3 : S1x24x128.Idx → EReal)
    {i4 : ∀ a, (![3, 8, 0] : Fin 3 → ℕ) a + S1x512x128.size a ≤ S4x544x128.size a} (v4 : S1x512x128.Idx → EReal)
    {i5 : ∀ a, (![2, 8, 0] : Fin 3 → ℕ) a + S1x512x128.size a ≤ S4x544x128.size a} (v5 : S1x512x128.Idx → EReal)
    {i6 : ∀ a, (![1, 8, 0] : Fin 3 → ℕ) a + S1x512x128.size a ≤ S4x544x128.size a} (v6 : S1x512x128.Idx → EReal)
    {i7 : ∀ a, (![0, 8, 0] : Fin 3 → ℕ) a + S1x512x128.size a ≤ S4x544x128.size a} (v7 : S1x512x128.Idx → EReal)
    {i8 : ∀ a, (![3, 0, 0] : Fin 3 → ℕ) a + S1x8x128.size a ≤ S4x544x128.size a} (v8 : S1x8x128.Idx → EReal)
    {i9 : ∀ a, (![2, 0, 0] : Fin 3 → ℕ) a + S1x8x128.size a ≤ S4x544x128.size a} (v9 : S1x8x128.Idx → EReal)
    {i10 : ∀ a, (![1, 0, 0] : Fin 3 → ℕ) a + S1x8x128.size a ≤ S4x544x128.size a} (v10 : S1x8x128.Idx → EReal)
    {i11 : ∀ a, (![0, 0, 0] : Fin 3 → ℕ) a + S1x8x128.size a ≤ S4x544x128.size a} (v11 : S1x8x128.Idx → EReal) :
    ∀ y : S4x544x128.Idx, ∃ p ∈ [(⟨Rect.unit (s := S4x544x128) ![3, 520, 0] S1x24x128.size i0, v0⟩ : View.Piece (Elt Ideal) S4x544x128 .f32),
      (⟨Rect.unit (s := S4x544x128) ![2, 520, 0] S1x24x128.size i1, v1⟩ : View.Piece (Elt Ideal) S4x544x128 .f32),
      (⟨Rect.unit (s := S4x544x128) ![1, 520, 0] S1x24x128.size i2, v2⟩ : View.Piece (Elt Ideal) S4x544x128 .f32),
      (⟨Rect.unit (s := S4x544x128) ![0, 520, 0] S1x24x128.size i3, v3⟩ : View.Piece (Elt Ideal) S4x544x128 .f32),
      (⟨Rect.unit (s := S4x544x128) ![3, 8, 0] S1x512x128.size i4, v4⟩ : View.Piece (Elt Ideal) S4x544x128 .f32),
      (⟨Rect.unit (s := S4x544x128) ![2, 8, 0] S1x512x128.size i5, v5⟩ : View.Piece (Elt Ideal) S4x544x128 .f32),
      (⟨Rect.unit (s := S4x544x128) ![1, 8, 0] S1x512x128.size i6, v6⟩ : View.Piece (Elt Ideal) S4x544x128 .f32),
      (⟨Rect.unit (s := S4x544x128) ![0, 8, 0] S1x512x128.size i7, v7⟩ : View.Piece (Elt Ideal) S4x544x128 .f32),
      (⟨Rect.unit (s := S4x544x128) ![3, 0, 0] S1x8x128.size i8, v8⟩ : View.Piece (Elt Ideal) S4x544x128 .f32),
      (⟨Rect.unit (s := S4x544x128) ![2, 0, 0] S1x8x128.size i9, v9⟩ : View.Piece (Elt Ideal) S4x544x128 .f32),
      (⟨Rect.unit (s := S4x544x128) ![1, 0, 0] S1x8x128.size i10, v10⟩ : View.Piece (Elt Ideal) S4x544x128 .f32),
      (⟨Rect.unit (s := S4x544x128) ![0, 0, 0] S1x8x128.size i11, v11⟩ : View.Piece (Elt Ideal) S4x544x128 .f32)], y ∈ p.1.set := by
  intro y
  have h0 : (y 0).val < 4 := (y 0).isLt
  have h1 : (y 1).val < 544 := (y 1).isLt
  have h2 : (y 2).val < 128 := (y 2).isLt
  rcases (by omega : (y 1).val < 8 ∨ (8 ≤ (y 1).val ∧ (y 1).val < 520) ∨ 520 ≤ (y 1).val) with h | h | h
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_self)))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_self))))), in_unit (by decide) (by constructor <;> omega) (by constructor <;> omega) h2⟩
    · exact ⟨_, List.mem_cons_of_mem _ (List.mem_cons_of_mem _ (List.mem_cons_of_mem _ (List.mem_cons_of_mem _ (List.mem_cons_self)))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_self))), in_unit (by decide) (by constructor <;> omega) (by constructor <;> omega) h2⟩
    · exact ⟨_, List.mem_cons_of_mem _ (List.mem_cons_of_mem _ (List.mem_cons_self)), in_unit (by decide) (by constructor <;> omega) (by constructor <;> omega) h2⟩
    · exact ⟨_, List.mem_cons_of_mem _ (List.mem_cons_self), in_unit (by decide) (by constructor <;> omega) (by constructor <;> omega) h2⟩
    · exact ⟨_, List.mem_cons_self, in_unit (by decide) (by constructor <;> omega) (by constructor <;> omega) h2⟩

theorem cover3
    {i0 : ∀ a, (![3, 8, 0] : Fin 3 → ℕ) a + S1x512x128.size a ≤ S4x544x128.size a} (v0 : S1x512x128.Idx → EReal)
    {i1 : ∀ a, (![2, 8, 0] : Fin 3 → ℕ) a + S1x512x128.size a ≤ S4x544x128.size a} (v1 : S1x512x128.Idx → EReal)
    {i2 : ∀ a, (![1, 8, 0] : Fin 3 → ℕ) a + S1x512x128.size a ≤ S4x544x128.size a} (v2 : S1x512x128.Idx → EReal)
    {i3 : ∀ a, (![0, 8, 0] : Fin 3 → ℕ) a + S1x512x128.size a ≤ S4x544x128.size a} (v3 : S1x512x128.Idx → EReal)
    {i4 : ∀ a, (![3, 0, 0] : Fin 3 → ℕ) a + S1x8x128.size a ≤ S4x544x128.size a} (v4 : S1x8x128.Idx → EReal)
    {i5 : ∀ a, (![2, 0, 0] : Fin 3 → ℕ) a + S1x8x128.size a ≤ S4x544x128.size a} (v5 : S1x8x128.Idx → EReal)
    {i6 : ∀ a, (![1, 0, 0] : Fin 3 → ℕ) a + S1x8x128.size a ≤ S4x544x128.size a} (v6 : S1x8x128.Idx → EReal)
    {i7 : ∀ a, (![0, 0, 0] : Fin 3 → ℕ) a + S1x8x128.size a ≤ S4x544x128.size a} (v7 : S1x8x128.Idx → EReal)
    {i8 : ∀ a, (![0, 520, 0] : Fin 3 → ℕ) a + S4x24x128.size a ≤ S4x544x128.size a} (v8 : S4x24x128.Idx → EReal) :
    ∀ y : S4x544x128.Idx, ∃ p ∈ [(⟨Rect.unit (s := S4x544x128) ![3, 8, 0] S1x512x128.size i0, v0⟩ : View.Piece (Elt Ideal) S4x544x128 .f32),
      (⟨Rect.unit (s := S4x544x128) ![2, 8, 0] S1x512x128.size i1, v1⟩ : View.Piece (Elt Ideal) S4x544x128 .f32),
      (⟨Rect.unit (s := S4x544x128) ![1, 8, 0] S1x512x128.size i2, v2⟩ : View.Piece (Elt Ideal) S4x544x128 .f32),
      (⟨Rect.unit (s := S4x544x128) ![0, 8, 0] S1x512x128.size i3, v3⟩ : View.Piece (Elt Ideal) S4x544x128 .f32),
      (⟨Rect.unit (s := S4x544x128) ![3, 0, 0] S1x8x128.size i4, v4⟩ : View.Piece (Elt Ideal) S4x544x128 .f32),
      (⟨Rect.unit (s := S4x544x128) ![2, 0, 0] S1x8x128.size i5, v5⟩ : View.Piece (Elt Ideal) S4x544x128 .f32),
      (⟨Rect.unit (s := S4x544x128) ![1, 0, 0] S1x8x128.size i6, v6⟩ : View.Piece (Elt Ideal) S4x544x128 .f32),
      (⟨Rect.unit (s := S4x544x128) ![0, 0, 0] S1x8x128.size i7, v7⟩ : View.Piece (Elt Ideal) S4x544x128 .f32),
      (⟨Rect.unit (s := S4x544x128) ![0, 520, 0] S4x24x128.size i8, v8⟩ : View.Piece (Elt Ideal) S4x544x128 .f32)], y ∈ p.1.set := by
  intro y
  have h0 : (y 0).val < 4 := (y 0).isLt
  have h1 : (y 1).val < 544 := (y 1).isLt
  have h2 : (y 2).val < 128 := (y 2).isLt
  rcases (by omega : (y 1).val < 8 ∨ (8 ≤ (y 1).val ∧ (y 1).val < 520) ∨ 520 ≤ (y 1).val) with h | h | h
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_of_mem _ (List.mem_cons_self)))))), in_unit (by decide) (by constructor <;> omega) (by constructor <;> omega) h2⟩
    · exact ⟨_, List.mem_cons_of_mem _ (List.mem_cons_of_mem _ (List.mem_cons_of_mem _ (List.mem_cons_of_mem _ (List.mem_cons_of_mem _ (List.mem_cons_self))))), in_unit (by decide) (by constructor <;> omega) (by constructor <;> omega) h2⟩
    · exact ⟨_, List.mem_cons_of_mem _ (List.mem_cons_of_mem _ (List.mem_cons_of_mem _ (List.mem_cons_of_mem _ (List.mem_cons_self)))), in_unit (by decide) (by constructor <;> omega) (by constructor <;> omega) h2⟩
  · rcases (by omega : (y 0).val = 0 ∨ (y 0).val = 1 ∨ (y 0).val = 2 ∨ (y 0).val = 3) with e | e | e | e
    · exact ⟨_, List.mem_cons_of_mem _ (List.mem_cons_of_mem _ (List.mem_cons_of_mem _ (List.mem_cons_self))), in_unit (by decide) (by constructor <;> omega) (by constructor <;> omega) h2⟩
    · exact ⟨_, List.mem_cons_of_mem _ (List.mem_cons_of_mem _ (List.mem_cons_self)), in_unit (by decide) (by constructor <;> omega) (by constructor <;> omega) h2⟩
    · exact ⟨_, List.mem_cons_of_mem _ (List.mem_cons_self), in_unit (by decide) (by constructor <;> omega) (by constructor <;> omega) h2⟩
    · exact ⟨_, List.mem_cons_self, in_unit (by decide) (by constructor <;> omega) (by constructor <;> omega) h2⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), in_unit (by decide) (by constructor <;> omega) (by constructor <;> omega) h2⟩

set_option sl_exec.resultNames true in
set_option maxHeartbeats 16000000 in
/-- The body at the first batch of a column tile, which casts the weights. -/
theorem body_cast (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole)
    (x0 : Vec Ideal S1x2048x2048 .bf16) (x1 : Vec Ideal S2048x512 .f32) (x2 : Vec Ideal S5x512 .f32) (x3 : Vec Ideal S1x512 .f32)
    (hc0 : castCond i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB x0 x1 x2 x3) ∗ owns (c : Thread nD τ) arg7 fullShare (castW x1) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K PUnit.unit))
      ⊢ wp frame (wpE (defs₀ (F := Ideal)) Variants.none c none) Set.univ (cc0_proj_xbc i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_xbc_eq_skeleton]; unfold cc0_proj_xbc_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H2⟩, ⟨%f1, %hf1, H3⟩, ⟨%f2, %hf2, H4⟩, ⟨%f3, %hf3, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3
  have hw : ∀ j, (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) j = x1 j := weights_cast arg3 harg3 arg7 x1
  sl_exec (disch := first | sl_exact hc0)
  have hG0 : ∀ L, L = body_cast.sl.H8_9 c arg2 harg2 arg3 harg3 arg7 x0 x1 → arg8.view.read (Elt Ideal) (arg8.view.writes (Elt Ideal) arg8.view.junk L) = padC x0 x1 0 := by
    rintro _ rfl
    refine pad_read _ _ _ ?_ (cover0 _ _ _ _ _ _ _ _ _)
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 3 (by decide) _ rfl rfl 0 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 2 (by decide) _ rfl rfl 0 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 1 (by decide) _ rfl rfl 0 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 0 (by decide) _ rfl rfl 0 rfl (by decide) rfl (by decide) (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 3 (by decide) _ rfl rfl 0 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 2 (by decide) _ rfl rfl 0 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 1 (by decide) _ rfl rfl 0 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 0 (by decide) _ rfl rfl 0 rfl (by decide) rfl (by decide) (by decide) x, ?_⟩
    refine List.forall_mem_cons.2 ⟨fun x => piece_above x0 x1 (by decide) x, ?_⟩
    exact List.forall_mem_nil _
  have hG1 : ∀ L, L = body_cast.sl.H9_12 c arg2 harg2 arg3 harg3 arg7 x0 x1 → arg9.view.read (Elt Ideal) (arg9.view.writes (Elt Ideal) arg9.view.junk L) = padC x0 x1 1 := by
    rintro _ rfl
    refine pad_read _ _ _ ?_ (cover1 _ _ _ _ _ _ _ _ _ _ _ _)
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 3 (by decide) _ rfl rfl 1 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 2 (by decide) _ rfl rfl 1 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 1 (by decide) _ rfl rfl 1 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 0 (by decide) _ rfl rfl 1 rfl (by decide) rfl (by decide) (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 3 (by decide) _ rfl rfl 1 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 2 (by decide) _ rfl rfl 1 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 1 (by decide) _ rfl rfl 1 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 0 (by decide) _ rfl rfl 1 rfl (by decide) rfl (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 3 (by decide) _ rfl rfl 1 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 2 (by decide) _ rfl rfl 1 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 1 (by decide) _ rfl rfl 1 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 0 (by decide) 0 (by decide) _ rfl rfl 1 rfl (by decide) rfl (by decide) (by decide) (by decide) x, ?_⟩
    exact List.forall_mem_nil _
  have hG2 : ∀ L, L = body_cast.sl.H10_12 c arg2 harg2 arg3 harg3 arg7 x0 x1 → arg10.view.read (Elt Ideal) (arg10.view.writes (Elt Ideal) arg10.view.junk L) = padC x0 x1 2 := by
    rintro _ rfl
    refine pad_read _ _ _ ?_ (cover2 _ _ _ _ _ _ _ _ _ _ _ _)
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 3 (by decide) _ rfl rfl 2 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 2 (by decide) _ rfl rfl 2 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 1 (by decide) _ rfl rfl 2 rfl (by decide) rfl (by decide) (by decide) (by decide) x, ?_⟩
    refine List.forall_mem_cons.2 ⟨fun x => piece_top arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 0 (by decide) _ rfl rfl 2 rfl (by decide) rfl (by decide) (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 3 (by decide) _ rfl rfl 2 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 2 (by decide) _ rfl rfl 2 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 1 (by decide) _ rfl rfl 2 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 0 (by decide) _ rfl rfl 2 rfl (by decide) rfl (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 3 (by decide) _ rfl rfl 2 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 2 (by decide) _ rfl rfl 2 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 1 (by decide) _ rfl rfl 2 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 1 (by decide) 0 (by decide) _ rfl rfl 2 rfl (by decide) rfl (by decide) (by decide) (by decide) x, ?_⟩
    exact List.forall_mem_nil _
  have hG3 : ∀ L, L = body_cast.sl.H11_9 c arg2 harg2 arg3 harg3 arg7 x0 x1 → arg11.view.read (Elt Ideal) (arg11.view.writes (Elt Ideal) arg11.view.junk L) = padC x0 x1 3 := by
    rintro _ rfl
    refine pad_read _ _ _ ?_ (cover3 _ _ _ _ _ _ _ _ _)
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 3 (by decide) _ rfl rfl 3 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 2 (by decide) _ rfl rfl 3 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 1 (by decide) _ rfl rfl 3 rfl (by decide) rfl (by decide) (by decide) x, ?_⟩
    refine List.forall_mem_cons.2 ⟨fun x => piece_own arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 3 (by decide) 0 (by decide) _ rfl rfl 3 rfl (by decide) rfl (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 3 (by decide) _ rfl rfl 3 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 2 (by decide) _ rfl rfl 3 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 1 (by decide) _ rfl rfl 3 rfl (by decide) rfl (by decide) (by decide) (by decide) x, ?_⟩
    refine List.forall_mem_cons.2 ⟨fun x => piece_tail arg2 harg2 x0 (arg7.view.readCov [(⟨Rect.unit (s := S2048x512) ![0, 0] S2048x512.size inb_S2048x512_S2048x512_0_0, k0_pay43 (View.readAt (Elt Ideal) arg3.view (Rect.unit (s := S2048x512) ![0, 0] S2048x512.size inb_S2048x512_S2048x512_0_0).toLoadRect (harg3.unread x1))⟩ : View.Piece (Elt Ideal) S2048x512 .bf16)] (Rect.unit (s := S2048x512) ![0, 0] S2048x512.size inb_S2048x512_S2048x512_0_0).toLoadRect) x1 hw 2 (by decide) 0 (by decide) _ rfl rfl 3 rfl (by decide) rfl (by decide) (by decide) (by decide) x, ?_⟩
    refine List.forall_mem_cons.2 ⟨fun x => piece_below x0 x1 (by decide) x, ?_⟩
    exact List.forall_mem_nil _
  have p0 := fun hP ht hu e1 e2 e3 e4 e5 e6 e7 e8 => plane_out x0 x1 x2 x3 0 0 0 1 rfl rfl hP ht hu e1 e2 e3 e4 e5 e6 e7 e8 (by decide) hL2
  replace p0 := p0 (hG0 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p1 := fun hP ht hu e1 e2 e3 e4 e5 e6 e7 e8 => plane_out x0 x1 x2 x3 0 1 2 3 rfl rfl hP ht hu e1 e2 e3 e4 e5 e6 e7 e8 (by decide) hL6
  replace p1 := p1 (hG0 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  have p2 := fun hP ht hu e1 e2 e3 e4 e5 e6 e7 e8 => plane_out x0 x1 x2 x3 1 0 0 1 rfl rfl hP ht hu e1 e2 e3 e4 e5 e6 e7 e8 (by decide) hL10
  replace p2 := p2 (hG1 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p3 := fun hP ht hu e1 e2 e3 e4 e5 e6 e7 e8 => plane_out x0 x1 x2 x3 1 1 2 3 rfl rfl hP ht hu e1 e2 e3 e4 e5 e6 e7 e8 (by decide) hL14
  replace p3 := p3 (hG1 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  have p4 := fun hP ht hu e1 e2 e3 e4 e5 e6 e7 e8 => plane_out x0 x1 x2 x3 2 0 0 1 rfl rfl hP ht hu e1 e2 e3 e4 e5 e6 e7 e8 (by decide) hL18
  replace p4 := p4 (hG2 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p5 := fun hP ht hu e1 e2 e3 e4 e5 e6 e7 e8 => plane_out x0 x1 x2 x3 2 1 2 3 rfl rfl hP ht hu e1 e2 e3 e4 e5 e6 e7 e8 (by decide) hL22
  replace p5 := p5 (hG2 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  have p6 := fun hP ht hu e1 e2 e3 e4 e5 e6 e7 e8 => plane_out x0 x1 x2 x3 3 0 0 1 rfl rfl hP ht hu e1 e2 e3 e4 e5 e6 e7 e8 (by decide) hL26
  replace p6 := p6 (hG3 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p7 := fun hP ht hu e1 e2 e3 e4 e5 e6 e7 e8 => plane_out x0 x1 x2 x3 3 1 2 3 rfl rfl hP ht hu e1 e2 e3 e4 e5 e6 e7 e8 (by decide) hL30
  replace p7 := p7 (hG3 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine read_pieces _ _ _ _ ?_ (View.cover_of_tiledL (s := S1x2048x512) _ S1x512x128.size (by sl_kernel_rfl))
    refine List.forall_mem_cons.2 ⟨fun x => out_hi x0 x1 x2 x3 3 1 _ _ p7 (by decide) rfl (by decide) rfl x, ?_⟩
    refine List.forall_mem_cons.2 ⟨fun x => out_lo x0 x1 x2 x3 3 1 _ _ p7 (by decide) rfl (by decide) rfl x, ?_⟩
    refine List.forall_mem_cons.2 ⟨fun x => out_hi x0 x1 x2 x3 3 0 _ _ p6 (by decide) rfl (by decide) rfl x, ?_⟩
    refine List.forall_mem_cons.2 ⟨fun x => out_lo x0 x1 x2 x3 3 0 _ _ p6 (by decide) rfl (by decide) rfl x, ?_⟩
    refine List.forall_mem_cons.2 ⟨fun x => out_hi x0 x1 x2 x3 2 1 _ _ p5 (by decide) rfl (by decide) rfl x, ?_⟩
    refine List.forall_mem_cons.2 ⟨fun x => out_lo x0 x1 x2 x3 2 1 _ _ p5 (by decide) rfl (by decide) rfl x, ?_⟩
    refine List.forall_mem_cons.2 ⟨fun x => out_hi x0 x1 x2 x3 2 0 _ _ p4 (by decide) rfl (by decide) rfl x, ?_⟩
    refine List.forall_mem_cons.2 ⟨fun x => out_lo x0 x1 x2 x3 2 0 _ _ p4 (by decide) rfl (by decide) rfl x, ?_⟩
    refine List.forall_mem_cons.2 ⟨fun x => out_hi x0 x1 x2 x3 1 1 _ _ p3 (by decide) rfl (by decide) rfl x, ?_⟩
    refine List.forall_mem_cons.2 ⟨fun x => out_lo x0 x1 x2 x3 1 1 _ _ p3 (by decide) rfl (by decide) rfl x, ?_⟩
    refine List.forall_mem_cons.2 ⟨fun x => out_hi x0 x1 x2 x3 1 0 _ _ p2 (by decide) rfl (by decide) rfl x, ?_⟩
    refine List.forall_mem_cons.2 ⟨fun x => out_lo x0 x1 x2 x3 1 0 _ _ p2 (by decide) rfl (by decide) rfl x, ?_⟩
    refine List.forall_mem_cons.2 ⟨fun x => out_hi x0 x1 x2 x3 0 1 _ _ p1 (by decide) rfl (by decide) rfl x, ?_⟩
    refine List.forall_mem_cons.2 ⟨fun x => out_lo x0 x1 x2 x3 0 1 _ _ p1 (by decide) rfl (by decide) rfl x, ?_⟩
    refine List.forall_mem_cons.2 ⟨fun x => out_hi x0 x1 x2 x3 0 0 _ _ p0 (by decide) rfl (by decide) rfl x, ?_⟩
    refine List.forall_mem_cons.2 ⟨fun x => out_lo x0 x1 x2 x3 0 0 _ _ p0 (by decide) rfl (by decide) rfl x, ?_⟩
    exact List.forall_mem_nil _
  isplitl [H7]
  · iexists _; isplitr; swap; · iexact H7
    ipureintro
    exact cast_read arg3 harg3 arg7 x1
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option sl_exec.resultNames true in
set_option maxHeartbeats 16000000 in
/-- The body at a later batch of a column tile, the cast weights standing in the scratch. -/
theorem body_keep (c : Dev nD) (i : grid0.Coords) (arg2 : Memref sig .tc .vmem S1x2048x2048 .bf16) (harg2 : arg2.IsWhole) (arg3 : Memref sig .tc .vmem S2048x512 .f32) (harg3 : arg3.IsWhole) (arg4 : Memref sig .tc .vmem S5x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2048x512 .bf16) (harg7 : arg7.IsWhole) (arg8 : Memref sig .tc .vmem S4x544x128 .f32) (harg8 : arg8.IsWhole) (arg9 : Memref sig .tc .vmem S4x544x128 .f32) (harg9 : arg9.IsWhole) (arg10 : Memref sig .tc .vmem S4x544x128 .f32) (harg10 : arg10.IsWhole) (arg11 : Memref sig .tc .vmem S4x544x128 .f32) (harg11 : arg11.IsWhole) (arg12 : Memref sig .tc .vmem S2x520x2x128 .bf16) (harg12 : arg12.IsWhole) (arg13 : Memref sig .tc .vmem S2x520x2x128 .bf16) (harg13 : arg13.IsWhole) (arg14 : Memref sig .tc .vmem S2x520x2x128 .bf16) (harg14 : arg14.IsWhole) (arg15 : Memref sig .tc .vmem S2x520x2x128 .bf16) (harg15 : arg15.IsWhole)
    (x0 : Vec Ideal S1x2048x2048 .bf16) (x1 : Vec Ideal S2048x512 .f32) (x2 : Vec Ideal S5x512 .f32) (x3 : Vec Ideal S1x512 .f32)
    (hc0 : ¬ castCond i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (castW x1) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB x0 x1 x2 x3) ∗ owns (c : Thread nD τ) arg7 fullShare (castW x1) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K PUnit.unit))
      ⊢ wp frame (wpE (defs₀ (F := Ideal)) Variants.none c none) Set.univ (cc0_proj_xbc i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_proj_xbc_eq_skeleton]; unfold cc0_proj_xbc_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f0, %hf0, H2⟩, ⟨%f1, %hf1, H3⟩, ⟨%f2, %hf2, H4⟩, ⟨%f3, %hf3, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3
  obtain rfl := harg7.eq_unread hf7
  have hw : ∀ j, (View.readAt (Elt Ideal) arg7.view (Rect.unit (s := S2048x512) ![0, 0] S2048x512.size inb_S2048x512_S2048x512_0_0).toLoadRect (harg7.unread (castW x1))) j = x1 j := weights_kept arg7 harg7 x1
  sl_exec (disch := first | sl_exact hc0)
  have hG0 : ∀ L, L = body_keep.sl.H8_9 c arg2 harg2 arg7 harg7 x0 x1 → arg8.view.read (Elt Ideal) (arg8.view.writes (Elt Ideal) arg8.view.junk L) = padC x0 x1 0 := by
    rintro _ rfl
    refine pad_read _ _ _ ?_ (cover0 _ _ _ _ _ _ _ _ _)
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 1 (by decide) 3 (by decide) _ rfl rfl 0 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 1 (by decide) 2 (by decide) _ rfl rfl 0 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 1 (by decide) 1 (by decide) _ rfl rfl 0 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 1 (by decide) 0 (by decide) _ rfl rfl 0 rfl (by decide) rfl (by decide) (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 0 (by decide) 3 (by decide) _ rfl rfl 0 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 0 (by decide) 2 (by decide) _ rfl rfl 0 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 0 (by decide) 1 (by decide) _ rfl rfl 0 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 0 (by decide) 0 (by decide) _ rfl rfl 0 rfl (by decide) rfl (by decide) (by decide) x, ?_⟩
    refine List.forall_mem_cons.2 ⟨fun x => piece_above x0 x1 (by decide) x, ?_⟩
    exact List.forall_mem_nil _
  have hG1 : ∀ L, L = body_keep.sl.H9_12 c arg2 harg2 arg7 harg7 x0 x1 → arg9.view.read (Elt Ideal) (arg9.view.writes (Elt Ideal) arg9.view.junk L) = padC x0 x1 1 := by
    rintro _ rfl
    refine pad_read _ _ _ ?_ (cover1 _ _ _ _ _ _ _ _ _ _ _ _)
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 2 (by decide) 3 (by decide) _ rfl rfl 1 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 2 (by decide) 2 (by decide) _ rfl rfl 1 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 2 (by decide) 1 (by decide) _ rfl rfl 1 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 2 (by decide) 0 (by decide) _ rfl rfl 1 rfl (by decide) rfl (by decide) (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 1 (by decide) 3 (by decide) _ rfl rfl 1 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 1 (by decide) 2 (by decide) _ rfl rfl 1 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 1 (by decide) 1 (by decide) _ rfl rfl 1 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 1 (by decide) 0 (by decide) _ rfl rfl 1 rfl (by decide) rfl (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 0 (by decide) 3 (by decide) _ rfl rfl 1 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 0 (by decide) 2 (by decide) _ rfl rfl 1 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 0 (by decide) 1 (by decide) _ rfl rfl 1 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 0 (by decide) 0 (by decide) _ rfl rfl 1 rfl (by decide) rfl (by decide) (by decide) (by decide) x, ?_⟩
    exact List.forall_mem_nil _
  have hG2 : ∀ L, L = body_keep.sl.H10_12 c arg2 harg2 arg7 harg7 x0 x1 → arg10.view.read (Elt Ideal) (arg10.view.writes (Elt Ideal) arg10.view.junk L) = padC x0 x1 2 := by
    rintro _ rfl
    refine pad_read _ _ _ ?_ (cover2 _ _ _ _ _ _ _ _ _ _ _ _)
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 3 (by decide) 3 (by decide) _ rfl rfl 2 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 3 (by decide) 2 (by decide) _ rfl rfl 2 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 3 (by decide) 1 (by decide) _ rfl rfl 2 rfl (by decide) rfl (by decide) (by decide) (by decide) x, ?_⟩
    refine List.forall_mem_cons.2 ⟨fun x => piece_top arg2 harg2 x0 (View.readAt (Elt Ideal) arg7.view (Rect.unit (s := S2048x512) ![0, 0] S2048x512.size inb_S2048x512_S2048x512_0_0).toLoadRect (harg7.unread (castW x1))) x1 hw 3 (by decide) 0 (by decide) _ rfl rfl 2 rfl (by decide) rfl (by decide) (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 2 (by decide) 3 (by decide) _ rfl rfl 2 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 2 (by decide) 2 (by decide) _ rfl rfl 2 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 2 (by decide) 1 (by decide) _ rfl rfl 2 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 2 (by decide) 0 (by decide) _ rfl rfl 2 rfl (by decide) rfl (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 1 (by decide) 3 (by decide) _ rfl rfl 2 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 1 (by decide) 2 (by decide) _ rfl rfl 2 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 1 (by decide) 1 (by decide) _ rfl rfl 2 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 1 (by decide) 0 (by decide) _ rfl rfl 2 rfl (by decide) rfl (by decide) (by decide) (by decide) x, ?_⟩
    exact List.forall_mem_nil _
  have hG3 : ∀ L, L = body_keep.sl.H11_9 c arg2 harg2 arg7 harg7 x0 x1 → arg11.view.read (Elt Ideal) (arg11.view.writes (Elt Ideal) arg11.view.junk L) = padC x0 x1 3 := by
    rintro _ rfl
    refine pad_read _ _ _ ?_ (cover3 _ _ _ _ _ _ _ _ _)
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 3 (by decide) 3 (by decide) _ rfl rfl 3 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 3 (by decide) 2 (by decide) _ rfl rfl 3 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 3 (by decide) 1 (by decide) _ rfl rfl 3 rfl (by decide) rfl (by decide) (by decide) x, ?_⟩
    refine List.forall_mem_cons.2 ⟨fun x => piece_own arg2 harg2 x0 (View.readAt (Elt Ideal) arg7.view (Rect.unit (s := S2048x512) ![0, 0] S2048x512.size inb_S2048x512_S2048x512_0_0).toLoadRect (harg7.unread (castW x1))) x1 hw 3 (by decide) 0 (by decide) _ rfl rfl 3 rfl (by decide) rfl (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 2 (by decide) 3 (by decide) _ rfl rfl 3 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 2 (by decide) 2 (by decide) _ rfl rfl 3 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 2 (by decide) 1 (by decide) _ rfl rfl 3 rfl (by decide) rfl (by decide) (by decide) (by decide) x, ?_⟩
    refine List.forall_mem_cons.2 ⟨fun x => piece_tail arg2 harg2 x0 (View.readAt (Elt Ideal) arg7.view (Rect.unit (s := S2048x512) ![0, 0] S2048x512.size inb_S2048x512_S2048x512_0_0).toLoadRect (harg7.unread (castW x1))) x1 hw 2 (by decide) 0 (by decide) _ rfl rfl 3 rfl (by decide) rfl (by decide) (by decide) (by decide) x, ?_⟩
    refine List.forall_mem_cons.2 ⟨fun x => piece_below x0 x1 (by decide) x, ?_⟩
    exact List.forall_mem_nil _
  have p0 := fun hP ht hu e1 e2 e3 e4 e5 e6 e7 e8 => plane_out x0 x1 x2 x3 0 0 0 1 rfl rfl hP ht hu e1 e2 e3 e4 e5 e6 e7 e8 (by decide) hL2
  replace p0 := p0 (hG0 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p1 := fun hP ht hu e1 e2 e3 e4 e5 e6 e7 e8 => plane_out x0 x1 x2 x3 0 1 2 3 rfl rfl hP ht hu e1 e2 e3 e4 e5 e6 e7 e8 (by decide) hL6
  replace p1 := p1 (hG0 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  have p2 := fun hP ht hu e1 e2 e3 e4 e5 e6 e7 e8 => plane_out x0 x1 x2 x3 1 0 0 1 rfl rfl hP ht hu e1 e2 e3 e4 e5 e6 e7 e8 (by decide) hL10
  replace p2 := p2 (hG1 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p3 := fun hP ht hu e1 e2 e3 e4 e5 e6 e7 e8 => plane_out x0 x1 x2 x3 1 1 2 3 rfl rfl hP ht hu e1 e2 e3 e4 e5 e6 e7 e8 (by decide) hL14
  replace p3 := p3 (hG1 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  have p4 := fun hP ht hu e1 e2 e3 e4 e5 e6 e7 e8 => plane_out x0 x1 x2 x3 2 0 0 1 rfl rfl hP ht hu e1 e2 e3 e4 e5 e6 e7 e8 (by decide) hL18
  replace p4 := p4 (hG2 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p5 := fun hP ht hu e1 e2 e3 e4 e5 e6 e7 e8 => plane_out x0 x1 x2 x3 2 1 2 3 rfl rfl hP ht hu e1 e2 e3 e4 e5 e6 e7 e8 (by decide) hL22
  replace p5 := p5 (hG2 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  have p6 := fun hP ht hu e1 e2 e3 e4 e5 e6 e7 e8 => plane_out x0 x1 x2 x3 3 0 0 1 rfl rfl hP ht hu e1 e2 e3 e4 e5 e6 e7 e8 (by decide) hL26
  replace p6 := p6 (hG3 _ rfl) ⟨fun l => tap_load arg4 harg4 x2 _ 0 0 (by decide) rfl _ l, fun l => tap_load arg4 harg4 x2 _ 1 0 (by decide) rfl _ l, fun l => tap_load arg4 harg4 x2 _ 2 0 (by decide) rfl _ l, fun l => tap_load arg4 harg4 x2 _ 3 0 (by decide) rfl _ l, fun l => tap_load arg4 harg4 x2 _ 4 0 (by decide) rfl _ l, fun l => bias_load arg5 harg5 x3 _ 0 (by decide) rfl _ l⟩
    ⟨fun l => tap_load arg4 harg4 x2 _ 0 1 (by decide) rfl _ l, fun l => tap_load arg4 harg4 x2 _ 1 1 (by decide) rfl _ l, fun l => tap_load arg4 harg4 x2 _ 2 1 (by decide) rfl _ l, fun l => tap_load arg4 harg4 x2 _ 3 1 (by decide) rfl _ l, fun l => tap_load arg4 harg4 x2 _ 4 1 (by decide) rfl _ l, fun l => bias_load arg5 harg5 x3 _ 1 (by decide) rfl _ l⟩
    (win_load _ _ _ rfl _ 0 6 (by decide) rfl _) (win_load _ _ _ rfl _ 0 7 (by decide) rfl _) (win_load _ _ _ rfl _ 0 8 (by decide) rfl _) (win_load _ _ _ rfl _ 0 9 (by decide) rfl _) (win_load _ _ _ rfl _ 1 6 (by decide) rfl _) (win_load _ _ _ rfl _ 1 7 (by decide) rfl _) (win_load _ _ _ rfl _ 1 8 (by decide) rfl _) (win_load _ _ _ rfl _ 1 9 (by decide) rfl _)
  have p7 := fun hP ht hu e1 e2 e3 e4 e5 e6 e7 e8 => plane_out x0 x1 x2 x3 3 1 2 3 rfl rfl hP ht hu e1 e2 e3 e4 e5 e6 e7 e8 (by decide) hL30
  replace p7 := p7 (hG3 _ rfl) ⟨fun l => tap_load arg4 harg4 x2 _ 0 2 (by decide) rfl _ l, fun l => tap_load arg4 harg4 x2 _ 1 2 (by decide) rfl _ l, fun l => tap_load arg4 harg4 x2 _ 2 2 (by decide) rfl _ l, fun l => tap_load arg4 harg4 x2 _ 3 2 (by decide) rfl _ l, fun l => tap_load arg4 harg4 x2 _ 4 2 (by decide) rfl _ l, fun l => bias_load arg5 harg5 x3 _ 2 (by decide) rfl _ l⟩
    ⟨fun l => tap_load arg4 harg4 x2 _ 0 3 (by decide) rfl _ l, fun l => tap_load arg4 harg4 x2 _ 1 3 (by decide) rfl _ l, fun l => tap_load arg4 harg4 x2 _ 2 3 (by decide) rfl _ l, fun l => tap_load arg4 harg4 x2 _ 3 3 (by decide) rfl _ l, fun l => tap_load arg4 harg4 x2 _ 4 3 (by decide) rfl _ l, fun l => bias_load arg5 harg5 x3 _ 3 (by decide) rfl _ l⟩
    (win_load _ _ _ rfl _ 2 6 (by decide) rfl _) (win_load _ _ _ rfl _ 2 7 (by decide) rfl _) (win_load _ _ _ rfl _ 2 8 (by decide) rfl _) (win_load _ _ _ rfl _ 2 9 (by decide) rfl _) (win_load _ _ _ rfl _ 3 6 (by decide) rfl _) (win_load _ _ _ rfl _ 3 7 (by decide) rfl _) (win_load _ _ _ rfl _ 3 8 (by decide) rfl _) (win_load _ _ _ rfl _ 3 9 (by decide) rfl _)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine read_pieces _ _ _ _ ?_ (View.cover_of_tiledL (s := S1x2048x512) _ S1x512x128.size (by sl_kernel_rfl))
    refine List.forall_mem_cons.2 ⟨fun x => out_hi x0 x1 x2 x3 3 1 _ _ p7 (by decide) rfl (by decide) rfl x, ?_⟩
    refine List.forall_mem_cons.2 ⟨fun x => out_lo x0 x1 x2 x3 3 1 _ _ p7 (by decide) rfl (by decide) rfl x, ?_⟩
    refine List.forall_mem_cons.2 ⟨fun x => out_hi x0 x1 x2 x3 3 0 _ _ p6 (by decide) rfl (by decide) rfl x, ?_⟩
    refine List.forall_mem_cons.2 ⟨fun x => out_lo x0 x1 x2 x3 3 0 _ _ p6 (by decide) rfl (by decide) rfl x, ?_⟩
    refine List.forall_mem_cons.2 ⟨fun x => out_hi x0 x1 x2 x3 2 1 _ _ p5 (by decide) rfl (by decide) rfl x, ?_⟩
    refine List.forall_mem_cons.2 ⟨fun x => out_lo x0 x1 x2 x3 2 1 _ _ p5 (by decide) rfl (by decide) rfl x, ?_⟩
    refine List.forall_mem_cons.2 ⟨fun x => out_hi x0 x1 x2 x3 2 0 _ _ p4 (by decide) rfl (by decide) rfl x, ?_⟩
    refine List.forall_mem_cons.2 ⟨fun x => out_lo x0 x1 x2 x3 2 0 _ _ p4 (by decide) rfl (by decide) rfl x, ?_⟩
    refine List.forall_mem_cons.2 ⟨fun x => out_hi x0 x1 x2 x3 1 1 _ _ p3 (by decide) rfl (by decide) rfl x, ?_⟩
    refine List.forall_mem_cons.2 ⟨fun x => out_lo x0 x1 x2 x3 1 1 _ _ p3 (by decide) rfl (by decide) rfl x, ?_⟩
    refine List.forall_mem_cons.2 ⟨fun x => out_hi x0 x1 x2 x3 1 0 _ _ p2 (by decide) rfl (by decide) rfl x, ?_⟩
    refine List.forall_mem_cons.2 ⟨fun x => out_lo x0 x1 x2 x3 1 0 _ _ p2 (by decide) rfl (by decide) rfl x, ?_⟩
    refine List.forall_mem_cons.2 ⟨fun x => out_hi x0 x1 x2 x3 0 1 _ _ p1 (by decide) rfl (by decide) rfl x, ?_⟩
    refine List.forall_mem_cons.2 ⟨fun x => out_lo x0 x1 x2 x3 0 1 _ _ p1 (by decide) rfl (by decide) rfl x, ?_⟩
    refine List.forall_mem_cons.2 ⟨fun x => out_hi x0 x1 x2 x3 0 0 _ _ p0 (by decide) rfl (by decide) rfl x, ?_⟩
    refine List.forall_mem_cons.2 ⟨fun x => out_lo x0 x1 x2 x3 0 0 _ _ p0 (by decide) rfl (by decide) rfl x, ?_⟩
    exact List.forall_mem_nil _
  isplitl [H7]
  · iexists _; isplitr; swap; · iexact H7
    ipureintro
    exact harg7.read_unread _
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.Proof.KernelIdeal

end
-- ==== Proof.KernelIdealBlocks.lean ====
/- The blocks a grid point reads, as entries of the arrays the call is given. -/
module

public import proofs.«01_k».proof.Proof.KernelIdealLoops
public import proofs.«01_k».proof.Proof.Chunk
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

theorem idx0 : ∀ t : Fin cfg0.N, win0_0.index t = ![t.val % 8, 0, 0] := by decide +kernel
theorem idx1 : ∀ t : Fin cfg0.N, win0_1.index t = ![0, 38 + t.val / 8] := by decide +kernel
theorem idx2 : ∀ t : Fin cfg0.N, win0_2.index t = ![0, t.val / 8] := by decide +kernel
theorem idx3 : ∀ t : Fin cfg0.N, win0_3.index t = ![0, t.val / 8] := by decide +kernel
theorem idx4 : ∀ t : Fin cfg0.N, win0_4.index t = ![t.val % 8, 0, t.val / 8] := by decide +kernel

theorem point_lt (t : Fin cfg0.N) : t.val < 96 := Nat.lt_of_lt_of_eq t.isLt N_0

theorem iblk0_at (c : Dev nD) (t : Fin cfg0.N) (R k : Fin 2048) :
    iblk m c 0 t (ix3 (0 : Fin 1) R k) = m ((c : Thread nD τ).loc main_arg0) (ix3 (⟨t.val % 8, by omega⟩ : Fin 8) R k) := by
  have ht := point_lt t
  blk_ext [iblk, V, idx0 t]

/-- The weights, the taps and the bias as the call takes them: the arguments with their unit axis moved. -/
theorem entry_w (c : Dev nD) : V m c main_v0 = shapeCast S2048x29824 (m ((c : Thread nD τ).loc main_arg1)) shapeCasts_S1x2048x29824_S2048x29824 := by
  unfold_abbrev_sides
  after_results
  rfl

theorem entry_taps (c : Dev nD) : V m c main_v1 = shapeCast S5x6144 (m ((c : Thread nD τ).loc main_arg2)) shapeCasts_S1x5x6144_S5x6144 := by
  unfold_abbrev_sides
  after_results
  rfl

theorem entry_bias (c : Dev nD) : V m c main_v3
    = broadcastInDim S1x6144 ![1] bcast_S6144_S1x6144_1 (shapeCast S6144 (m ((c : Thread nD τ).loc main_arg3)) shapeCasts_S1x6144_S6144) := by
  unfold_abbrev_sides
  after_results
  rfl

theorem bias_at (x : Vec Ideal S1x6144 .f32) (q : Fin 6144) :
    broadcastInDim S1x6144 ![1] bcast_S6144_S1x6144_1 (shapeCast S6144 x shapeCasts_S1x6144_S6144) (ix2 (0 : Fin 1) q) = x (ix2 (0 : Fin 1) q) := by
  refine (broadcastInDim_apply _ _ _ _ (ix1 q) fun a => ?_).trans (ValueIdx.shapeCast_1a_a_apply _ _ _)
  match a with
  | ⟨0, _⟩ => rfl

theorem iblk1_at (c : Dev nD) (t : Fin cfg0.N) (k : Fin 2048) (l : Fin 512) :
    X0_1 m c t (ix2 k l) = m ((c : Thread nD τ).loc main_arg1) (ix3 (0 : Fin 1) k (⟨512 * (38 + t.val / 8) + l.val, by have := point_lt t; omega⟩ : Fin 29824)) := by
  have ht := point_lt t
  have e : X0_1 m c t (ix2 k l) = V m c main_v0 (ix2 k (⟨512 * (38 + t.val / 8) + l.val, by omega⟩ : Fin 29824)) := by
    unfold X0_1 Pipeline.Window.fill
    rw [dif_pos (moved0_1 t _)]
    unfold iblk
    generalize V m c = X
    blk_ext [idx1 t]
  rw [e, entry_w]
  exact ValueIdx.shapeCast_1ab_ab_apply _ _ _ _

theorem iblk2_at (c : Dev nD) (t : Fin cfg0.N) (d : Fin 5) (l : Fin 512) :
    iblk m c 2 t (ix2 d l) = m ((c : Thread nD τ).loc main_arg2) (ix3 (0 : Fin 1) d (⟨512 * (t.val / 8) + l.val, by have := point_lt t; omega⟩ : Fin 6144)) := by
  have ht := point_lt t
  have e : iblk m c 2 t (ix2 d l) = V m c main_v1 (ix2 d (⟨512 * (t.val / 8) + l.val, by omega⟩ : Fin 6144)) := by
    unfold iblk
    generalize V m c = X
    blk_ext [idx2 t]
  rw [e, entry_taps]
  exact ValueIdx.shapeCast_1ab_ab_apply _ _ _ _

theorem iblk3_at (c : Dev nD) (t : Fin cfg0.N) (l : Fin 512) :
    iblk m c 3 t (ix2 (0 : Fin 1) l) = m ((c : Thread nD τ).loc main_arg3) (ix2 (0 : Fin 1) (⟨512 * (t.val / 8) + l.val, by have := point_lt t; omega⟩ : Fin 6144)) := by
  have ht := point_lt t
  have e : iblk m c 3 t (ix2 (0 : Fin 1) l) = V m c main_v3 (ix2 (0 : Fin 1) (⟨512 * (t.val / 8) + l.val, by omega⟩ : Fin 6144)) := by
    unfold iblk
    generalize V m c = X
    blk_ext [idx3 t]
  rw [e, entry_bias]
  exact bias_at _ _

/-- The weight block depends on the column tile alone. -/
theorem weights_tile (c : Dev nD) (t t' : Fin cfg0.N) (h : t.val / 8 = t'.val / 8) : X0_1 m c t = X0_1 m c t' := by
  have key : ∀ (k : Fin 2048) (l : Fin 512), X0_1 m c t (ix2 k l) = X0_1 m c t' (ix2 k l) := by
    intro k l
    rw [iblk1_at, iblk1_at]
    simp only [h]
  funext (j : S2048x512.Idx)
  exact (congrArg (X0_1 m c t) (eq_ix2 j)).trans ((key _ _).trans (congrArg (X0_1 m c t') (eq_ix2 j)).symm)

end Cert.Proof.KernelIdeal

end
-- ==== Proof.KernelIdealFrame.lean ====
/- The run of `KernelIdeal`: the frame, and what the result array holds. -/
module

public import proofs.«01_k».proof.Proof.KernelIdealBody
public import proofs.«01_k».proof.Proof.KernelIdealBlocks
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev blkM0 (t : Fin cfg0.N) : Memref sig .tc .vmem S1x2048x2048 .bf16 := win0_0.stage (cfg0.slots t 0)
abbrev blkM1 (t : Fin cfg0.N) : Memref sig .tc .vmem S2048x512 .f32 := win0_1.stage (cfg0.slots t 1)
abbrev blkM2 (t : Fin cfg0.N) : Memref sig .tc .vmem S5x512 .f32 := win0_2.stage (cfg0.slots t 2)
abbrev blkM3 (t : Fin cfg0.N) : Memref sig .tc .vmem S1x512 .f32 := win0_3.stage (cfg0.slots t 3)
abbrev blkM4 (t : Fin cfg0.N) : Memref sig .tc .vmem S1x2048x512 .bf16 := win0_4.stage (cfg0.slots t 4)
abbrev scrM0 : Memref sig .tc .vmem S2048x512 .bf16 := Memref.whole cc0_scratch0
abbrev scrM1 : Memref sig .tc .vmem S4x544x128 .f32 := Memref.whole cc0_scratch1
abbrev scrM2 : Memref sig .tc .vmem S4x544x128 .f32 := Memref.whole cc0_scratch2
abbrev scrM3 : Memref sig .tc .vmem S4x544x128 .f32 := Memref.whole cc0_scratch3
abbrev scrM4 : Memref sig .tc .vmem S4x544x128 .f32 := Memref.whole cc0_scratch4
abbrev scrM5 : Memref sig .tc .vmem S2x520x2x128 .bf16 := Memref.whole cc0_scratch5
abbrev scrM6 : Memref sig .tc .vmem S2x520x2x128 .bf16 := Memref.whole cc0_scratch6
abbrev scrM7 : Memref sig .tc .vmem S2x520x2x128 .bf16 := Memref.whole cc0_scratch7
abbrev scrM8 : Memref sig .tc .vmem S2x520x2x128 .bf16 := Memref.whole cc0_scratch8

/-- The class invariant with each scratch buffer owned at something. -/
theorem inv_eq (c : Dev nD) :
    (Pipeline.ΦA spec0 c : sProp 𝕄)
      = iprop(iprop((∃ d, owns (c : Thread nD τ) scrM0 fullShare d) ∗ (∃ d, owns (c : Thread nD τ) scrM1 fullShare d) ∗ (∃ d, owns (c : Thread nD τ) scrM2 fullShare d) ∗ (∃ d, owns (c : Thread nD τ) scrM3 fullShare d) ∗ (∃ d, owns (c : Thread nD τ) scrM4 fullShare d) ∗ (∃ d, owns (c : Thread nD τ) scrM5 fullShare d) ∗ (∃ d, owns (c : Thread nD τ) scrM6 fullShare d) ∗ (∃ d, owns (c : Thread nD τ) scrM7 fullShare d) ∗ (∃ d, owns (c : Thread nD τ) scrM8 fullShare d)) ∗ ∃ r, prngReg c r) := by
  unfold Pipeline.ΦA; rw [scopedRest0_eq]; simp only [scrM0, scrM1, scrM2, scrM3, scrM4, scrM5, scrM6, scrM7, scrM8, owns_whole]; try rfl

/-- The cast weights' buffer before point `n`: at first anything, then the weights of the point before. -/
def carried (c : Dev nD) : (n : ℕ) → n ≤ cfg0.N → sProp 𝕄
  | 0, _ => iprop(∃ d, owns (c : Thread nD τ) scrM0 fullShare d)
  | n + 1, h => owns (c : Thread nD τ) scrM0 fullShare (castW (X0_1 m c ⟨n, h⟩))

theorem carried_any (c : Dev nD) (n : ℕ) (h : n ≤ cfg0.N) : carried m c n h ⊢ iprop(∃ d, owns (c : Thread nD τ) scrM0 fullShare d) := by
  cases n with
  | zero => exact Idealize.SL.BI.Entails.refl _
  | succ n =>
    show owns (c : Thread nD τ) scrM0 fullShare (castW (X0_1 m c ⟨n, h⟩)) ⊢ _
    iintro H
    iexists _; iexact H

/-- Within a column tile it holds that tile's weights. -/
theorem carried_tile (c : Dev nD) (t : Fin cfg0.N) (ht : ¬ t.val % 8 = 0) :
    carried m c t.val (Nat.le_of_lt t.isLt) = owns (c : Thread nD τ) scrM0 fullShare (castW (X0_1 m c t)) := by
  obtain ⟨n, hn⟩ := t
  cases n with
  | zero => exact absurd rfl ht
  | succ n =>
    show owns (c : Thread nD τ) scrM0 fullShare (castW (X0_1 m c ⟨n, _⟩)) = _
    rw [weights_tile m c ⟨n, by omega⟩ ⟨n + 1, hn⟩ (by change ¬ (n + 1) % 8 = 0 at ht; show n / 8 = (n + 1) / 8; omega)]

def inv (c : Dev nD) (n : ℕ) (h : n ≤ cfg0.N) : sProp 𝕄 :=
  iprop(iprop(carried m c n h ∗ (∃ d, owns (c : Thread nD τ) scrM1 fullShare d) ∗ (∃ d, owns (c : Thread nD τ) scrM2 fullShare d) ∗ (∃ d, owns (c : Thread nD τ) scrM3 fullShare d) ∗ (∃ d, owns (c : Thread nD τ) scrM4 fullShare d) ∗ (∃ d, owns (c : Thread nD τ) scrM5 fullShare d) ∗ (∃ d, owns (c : Thread nD τ) scrM6 fullShare d) ∗ (∃ d, owns (c : Thread nD τ) scrM7 fullShare d) ∗ (∃ d, owns (c : Thread nD τ) scrM8 fullShare d)) ∗ ∃ r, prngReg c r)

/-- What the launch's points leave. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => outB (iblk m c 0 t) (X0_1 m c t) (iblk m c 2 t) (iblk m c 3 t)
  Φ t := inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outB (iblk m c 0 t) (X0_1 m c t) (iblk m c 2 t) (iblk m c 3 t) := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = X0_1 m c t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

theorem cast_iff (t : Fin cfg0.N) : castCond (grid0.coords t) ↔ t.val % 8 = 0 := by
  have ht : t.val < 96 := point_lt t
  have e0 : (grid0.coords t 0).val = t.val / 8 % 12 := Pipeline.Grid.coords_val t 0 (by decide) rfl
  have e1 : (grid0.coords t 1).val = t.val / 1 % 8 := Pipeline.Grid.coords_val t 1 (by decide) rfl
  simp only [castCond, e0, e1]
  word_cmp

def pre (c : Dev nD) (t : Fin cfg0.N) : sProp 𝕄 :=
  iprop((dats m 0 c).Φ t.castSucc ∗ (dats m 0 c).owesAt () t.castSucc
    ∗ (∃ d, owns (c : Thread nD τ) (blkM0 t) fullShare ((dats m 0 c).before 0 t d))
    ∗ (∃ d, owns (c : Thread nD τ) (blkM1 t) fullShare ((dats m 0 c).before 1 t d))
    ∗ (∃ d, owns (c : Thread nD τ) (blkM2 t) fullShare ((dats m 0 c).before 2 t d))
    ∗ (∃ d, owns (c : Thread nD τ) (blkM3 t) fullShare ((dats m 0 c).before 3 t d))
    ∗ (∃ d, owns (c : Thread nD τ) (blkM4 t) fullShare ((dats m 0 c).before 4 t d)))

def post (c : Dev nD) (t : Fin cfg0.N) : sProp 𝕄 :=
  iprop((dats m 0 c).Φ t.succ ∗ (dats m 0 c).owesAt () t.succ
    ∗ owns (c : Thread nD τ) (blkM0 t) fullShare ((dats m 0 c).after 0 t)
    ∗ owns (c : Thread nD τ) (blkM1 t) fullShare ((dats m 0 c).after 1 t)
    ∗ owns (c : Thread nD τ) (blkM2 t) fullShare ((dats m 0 c).after 2 t)
    ∗ owns (c : Thread nD τ) (blkM3 t) fullShare ((dats m 0 c).after 3 t)
    ∗ owns (c : Thread nD τ) (blkM4 t) fullShare ((dats m 0 c).after 4 t))

set_option maxHeartbeats 4000000 in
theorem body_at (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, after_4]
  rw [show (dats m 0 c).Φ t.succ = inv m c (t.val + 1) t.isLt from rfl, inv_castSucc]
  unfold inv
  rw [show carried m c (t.val + 1) t.isLt = owns (c : Thread nD τ) scrM0 fullShare (castW (X0_1 m c t)) from rfl]
  by_cases h0 : t.val % 8 = 0
  · iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩⟩
    iapply (body_cast c (grid0.coords t) _ _ _ _ _ _ _ _ _ _ _ _ _ _ _ _ _ _ _ _ _ _ _ _ _ _ _ _ (iblk m c 0 t) (X0_1 m c t) (iblk m c 2 t) (iblk m c 3 t) ((cast_iff t).mpr h0) _)
    isplitl [H0]; · iexact H0
    isplitl [H1]; · iexact H1
    isplitl [H2]; · iexact H2
    isplitl [H3]; · iexact H3
    isplitl [H4]; · iexists _; iexact H4
    isplitl [HS0]; · iapply (carried_any m c t.val _); iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    iexact H4
  · rw [carried_tile m c t h0]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩⟩
    iapply (body_keep c (grid0.coords t) _ _ _ _ _ _ _ _ _ _ _ _ _ _ _ _ _ _ _ _ _ _ _ _ _ _ _ _ (iblk m c 0 t) (X0_1 m c t) (iblk m c 2 t) (iblk m c 3 t) (fun h => h0 ((cast_iff t).mp h)) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := Ideal) .tc cfg0.body (cfg0.bodyArgs t (cfg0.slots t)) = bodyAt0 t := by
  unfold defs₀; rw [Defs.onTc_tc]

theorem body_ob (c : Dev nD) : BodyObligation (dats m 0 c) (defs₀ (F := Ideal)) Variants.none () Set.univ := fun t => by
  rw [bigSep_W0, bigSep_W0, body_row]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_eq]
  unfold inv
  exact Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N (le_refl _) from rfl, inv_eq]
  unfold inv
  iintro ⟨⟨HS0, HR⟩, Hg⟩
  isplitl [HS0 HR]
  · isplitl [HS0]
    · iapply (carried_any m c cfg0.N _); iexact HS0
    iexact HR
  iexact Hg

set_option backward.isDefEq.respectTransparency.types false in
/-- The launch: the arrays the call reads keep their contents, its result holds every point's block, and every semaphore ends at zero. -/
theorem launch_run : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_ob m c).loose) (hshare := fun c => (dats m 0 c).share_full fun _ => rfl)
    (howed := fun _ _ => rfl) (V := V m) (hmain := hmain m Variants.none) (hA := dats_A m) (hin := inv_in m) (hout := inv_out m)

theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (dats_A m) ((θ_run defs _ _).mono (fun _ h => h.1) (launch_run m ρ))) ((θ_run defs _ _).mono (fun _ h => h.2) (launch_run m ρ))

end Cert.Proof.KernelIdeal

end
-- ==== Proof.KernelIdealValue.lean ====
/- What the result array of `KernelIdeal` holds, entry by entry, in terms of the arguments. -/
module

public import proofs.«01_k».proof.Proof.KernelIdealFrame
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation cellOf)

/-- Entry `(b, R, C)` of the projection: row `R` of batch `b` against column `19456 + C` of the weights. -/
def proj (h : Vec Ideal S8x2048x2048 .bf16) (w : Vec Ideal S1x2048x29824 .f32) (b : Fin 8) (R : Fin 2048) (C : Fin 6144) : EReal :=
  ∑ k : Fin 2048, h (ix3 b R k) * w (ix3 (0 : Fin 1) k (⟨19456 + C.val, by omega⟩ : Fin 29824))

/-- The projection's rows counted from 8 above the first, zeros off the array. -/
def projPad (h : Vec Ideal S8x2048x2048 .bf16) (w : Vec Ideal S1x2048x29824 .f32) (b : Fin 8) (i : ℕ) (C : Fin 6144) : EReal :=
  if 8 ≤ i ∧ i < 2056 then proj h w b (⟨(i - 8) % 2048, Nat.mod_lt _ (by decide)⟩ : Fin 2048) C else 0

/-- The five taps of column `C` over rows `R - 2` to `R + 2`, and the bias. -/
def conv (h : Vec Ideal S8x2048x2048 .bf16) (w : Vec Ideal S1x2048x29824 .f32) (cw : Vec Ideal S1x5x6144 .f32) (cb : Vec Ideal S1x6144 .f32)
    (b : Fin 8) (R : ℕ) (C : Fin 6144) : EReal :=
  conv5 (cw (ix3 (0 : Fin 1) (0 : Fin 5) C)) (cw (ix3 (0 : Fin 1) (1 : Fin 5) C)) (cw (ix3 (0 : Fin 1) (2 : Fin 5) C))
    (cw (ix3 (0 : Fin 1) (3 : Fin 5) C)) (cw (ix3 (0 : Fin 1) (4 : Fin 5) C)) (cb (ix2 (0 : Fin 1) C))
    (projPad h w b (R + 6) C) (projPad h w b (R + 7) C) (projPad h w b (R + 8) C) (projPad h w b (R + 9) C) (projPad h w b (R + 10) C)

/-- The whole result: the convolution, gated. -/
def result (h : Vec Ideal S8x2048x2048 .bf16) (w : Vec Ideal S1x2048x29824 .f32) (cw : Vec Ideal S1x5x6144 .f32) (cb : Vec Ideal S1x6144 .f32) :
    Vec Ideal S8x2048x6144 .bf16 := fun z => gate (conv h w cw cb (z 0) (z 1).val (z 2))

variable (m : (ℓ : Loc nD τ sig) → Buf (Elt Ideal) ℓ) (ρ : Dev nD → PrngReg)

abbrev argH (c : Dev nD) : Vec Ideal S8x2048x2048 .bf16 := m ((c : Thread nD τ).loc main_arg0)
abbrev argW (c : Dev nD) : Vec Ideal S1x2048x29824 .f32 := m ((c : Thread nD τ).loc main_arg1)
abbrev argT (c : Dev nD) : Vec Ideal S1x5x6144 .f32 := m ((c : Thread nD τ).loc main_arg2)
abbrev argB (c : Dev nD) : Vec Ideal S1x6144 .f32 := m ((c : Thread nD τ).loc main_arg3)

/-- The column of the result that column `l` of point `t`'s block is. -/
def colOf (t : Fin cfg0.N) (l : ℕ) : Fin 6144 := ⟨512 * (t.val / 8) + l % 512, by have := point_lt t; omega⟩

/-- The batch of point `t`. -/
def batchOf (t : Fin cfg0.N) : Fin 8 := ⟨t.val % 8, by omega⟩

theorem xz_eq (c : Dev nD) (t : Fin cfg0.N) (R l : ℕ) :
    xz (iblk m c 0 t) (X0_1 m c t) R l = proj (argH m c) (argW m c) (batchOf t) (⟨R % 2048, Nat.mod_lt _ (by decide)⟩ : Fin 2048) (colOf t l) := by
  unfold xz proj
  refine Finset.sum_congr rfl fun k _ => congrArg₂ _ (iblk0_at m c t _ k) ((iblk1_at m c t k _).trans (congrArg (argW m c) ?_))
  refine congrArg (ix3 (0 : Fin 1) k) (Fin.ext ?_)
  show 512 * (38 + t.val / 8) + l % 512 = 19456 + (512 * (t.val / 8) + l % 512)
  omega

theorem xzPad_eq (c : Dev nD) (t : Fin cfg0.N) (i l : ℕ) :
    xzPad (iblk m c 0 t) (X0_1 m c t) i l = projPad (argH m c) (argW m c) (batchOf t) i (colOf t l) := by
  unfold xzPad projPad
  rw [xz_eq]

/-- Every point's block, at an entry. -/
theorem outV_eq (c : Dev nD) (t : Fin cfg0.N) (R l : ℕ) :
    outV (iblk m c 0 t) (X0_1 m c t) (iblk m c 2 t) (iblk m c 3 t) R l
      = gate (conv (argH m c) (argW m c) (argT m c) (argB m c) (batchOf t) R (colOf t l)) := by
  have hT : ∀ d : Fin 5, iblk m c 2 t (ix2 d (⟨l % 512, Nat.mod_lt _ (by decide)⟩ : Fin 512)) = argT m c (ix3 (0 : Fin 1) d (colOf t l)) :=
    fun d => iblk2_at m c t d _
  have hB : iblk m c 3 t (ix2 (0 : Fin 1) (⟨l % 512, Nat.mod_lt _ (by decide)⟩ : Fin 512)) = argB m c (ix2 (0 : Fin 1) (colOf t l)) := iblk3_at m c t _
  unfold outV conv
  simp only [xzPad_eq]
  exact congrArg gate (by rw [← hT, ← hT, ← hT, ← hT, ← hT, ← hB])

theorem result_arr (c : Dev nD) : (dats m 0 c).arrAt 4 (cfgs 0).N = result (argH m c) (argW m c) (argT m c) (argB m c) := by
  refine (dats m 0 c).arrAt_eq_of_covers 4 _ (by decide +kernel) fun t hf y => ?_
  blk_simp
  rw [after_4]
  have h1 : (y 1).val < 2048 := (y 1).isLt
  have h2 : (y 2).val < 512 := (y 2).isLt
  have h0 : (y 0).val < 1 := (y 0).isLt
  refine (outV_eq m c t (y 1).val (y 2).val).trans ?_
  have e0 : (win0_4.blk t).view.emb y 0 = batchOf t := Fin.ext (by
    show _ = t.val % 8
    blk_simp [idx4 t])
  have e1 : ((win0_4.blk t).view.emb y 1).val = (y 1).val := by
    blk_simp [idx4 t]
  have e2 : (win0_4.blk t).view.emb y 2 = colOf t (y 2).val := Fin.ext (by
    show _ = 512 * (t.val / 8) + (y 2).val % 512
    blk_simp [idx4 t]
    omega)
  unfold result
  rw [e0, e1, e2]

end Cert.Proof.KernelIdeal

end
-- ==== Proof.ReferenceValue.lean ====
/- What the reference's result holds, entry by entry. -/
module

public import proofs.«01_k».proof.Proof.Gen.ReferenceIdeal.Run
public import proofs.«01_k».proof.Proof.KernelIdealValue
public import Idealize.ShloMosaic.Lib.Claim
public import Idealize.ShloMosaic.Lib.IdealHost
public import Idealize.ShloMosaic.Lib.KernelVsHost
public import Idealize.ShloMosaic.Lib.StackMember
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Cert.Proof.KernelIdeal (proj projPad conv conv5 gate result)

/-- The f32 pattern `0x3F000000` is one half. -/
theorem half_eq : Ideal.ofBits FTy.f32 1056964608#32 = ((1 / 2 : ℝ) : EReal) := by
  simp [Ideal.ofBits, Ideal.ieee, -EReal.coe_mul]; norm_num

theorem half_tanh (r : ℝ) : 1 / 2 * Real.tanh (1 / 2 * r) + 1 / 2 = (1 + Real.exp (-r))⁻¹ := by
  have e1 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, Real.exp_neg (1 / 2 * r), e1]
  have hp := Real.exp_pos (1 / 2 * r)
  generalize Real.exp (1 / 2 * r) = e at hp
  have h2 : e ≠ 0 := hp.ne'
  field_simp
  ring

/-- Half of `tanh (x / 2)`, shifted by a half, is the logistic function. -/
theorem gate_eq (x : EReal) : gate x = x * Ideal.logistic x := by
  unfold gate
  rw [half_eq]
  congr 1
  induction x with
  | bot =>
    rw [EReal.coe_mul_bot_of_pos (by norm_num), Ideal.tanh_bot, Ideal.logistic_bot, show (-1 : EReal) = ((-1 : ℝ) : EReal) by norm_num,
      ← EReal.coe_mul, ← EReal.coe_add]
    norm_num
  | top =>
    rw [EReal.coe_mul_top_of_pos (by norm_num), Ideal.tanh_top, Ideal.logistic_top, show (1 : EReal) = ((1 : ℝ) : EReal) by norm_num,
      ← EReal.coe_mul, ← EReal.coe_add]
    norm_num
  | coe r =>
    rw [← EReal.coe_mul, Ideal.tanh_coe, Ideal.logistic_coe, ← EReal.coe_mul, ← EReal.coe_add, half_tanh]

/-- The projection, padded by two rows of zeros on each side. -/
def padded (h : Vec Ideal S8x2048x2048 .bf16) (w : Vec Ideal S1x2048x29824 .f32) : Vec Ideal S8x2052x6144 .f32 :=
  pad S8x2052x6144 ![0, 2, 0] ![0, 2, 0] ![0, 0, 0] (Host.dotGeneral (F := Ideal) (φ₁ := .f32) (φ₂ := .f32) dot_S8x2048x2048_S2048x6144_S8x2048x6144_2_0_01_1_n_n none (extf (F := Ideal) .f32 h bitsLt_bf16_f32)
    (extractStridedSlice S2048x6144 ![0, 19456] (shapeCast S2048x29824 w shapeCasts_S1x2048x29824_S2048x29824) slices_S2048x29824_S2048x6144_0_19456))
    (sitofp (F := Ideal) .f32 (constantI S_ 32 0#32)) pads_S8x2048x6144_S8x2052x6144_000_220_000 h_S_

/-- A row of taps over the whole result. -/
def tap (v : Vec Ideal S1x1x6144 .f32) : Vec Ideal S8x2048x6144 .f32 :=
  broadcastInDim S8x2048x6144 ![0, 1, 2] bcast_S1x1x6144_S8x2048x6144_0_1_2 (broadcastInDim S1x1x6144 ![2] bcast_S6144_S1x1x6144_2 (shapeCast S6144 v shapeCasts_S1x1x6144_S6144))

/-- The bias over the whole result. -/
def bias (v : Vec Ideal S1x6144 .f32) : Vec Ideal S8x2048x6144 .f32 :=
  broadcastInDim S8x2048x6144 ![0, 1, 2] bcast_S1x1x6144_S8x2048x6144_0_1_2 (broadcastInDim S1x1x6144 ![2] bcast_S6144_S1x1x6144_2 (shapeCast S6144 v shapeCasts_S1x6144_S6144))

/-- Five shifted products and the bias, added in the reference's order. -/
def summed (P : Vec Ideal S8x2052x6144 .f32) (cw : Vec Ideal S1x5x6144 .f32) (cb : Vec Ideal S1x6144 .f32) : Vec Ideal S8x2048x6144 .f32 :=
  addf (F := Ideal) (addf (addf (addf (addf (addf (broadcastInDim S8x2048x6144 ![] bcast_S_S8x2048x6144 (constant S_ .f32 0x00000000#32))
    (mulf (extractStridedSlice S8x2048x6144 ![0, 0, 0] P slices_S8x2052x6144_S8x2048x6144_0_0_0) (tap (extractStridedSlice S1x1x6144 ![0, 0, 0] cw slices_S1x5x6144_S1x1x6144_0_0_0))))
    (mulf (extractStridedSlice S8x2048x6144 ![0, 1, 0] P slices_S8x2052x6144_S8x2048x6144_0_1_0) (tap (extractStridedSlice S1x1x6144 ![0, 1, 0] cw slices_S1x5x6144_S1x1x6144_0_1_0))))
    (mulf (extractStridedSlice S8x2048x6144 ![0, 2, 0] P slices_S8x2052x6144_S8x2048x6144_0_2_0) (tap (extractStridedSlice S1x1x6144 ![0, 2, 0] cw slices_S1x5x6144_S1x1x6144_0_2_0))))
    (mulf (extractStridedSlice S8x2048x6144 ![0, 3, 0] P slices_S8x2052x6144_S8x2048x6144_0_3_0) (tap (extractStridedSlice S1x1x6144 ![0, 3, 0] cw slices_S1x5x6144_S1x1x6144_0_3_0))))
    (mulf (extractStridedSlice S8x2048x6144 ![0, 4, 0] P slices_S8x2052x6144_S8x2048x6144_0_4_0) (tap (extractStridedSlice S1x1x6144 ![0, 4, 0] cw slices_S1x5x6144_S1x1x6144_0_4_0))))
    (bias cb)

/-- `x` times the reference's spelling of the logistic function, entry by entry. -/
def gated (X : Vec Ideal S8x2048x6144 .f32) : Vec Ideal S8x2048x6144 .bf16 :=
  truncf (F := Ideal) .bf16 (mulf X (Host.divf (broadcastInDim S8x2048x6144 ![] bcast_S_S8x2048x6144 (constant S_ .f32 0x3F800000#32))
    (addf (broadcastInDim S8x2048x6144 ![] bcast_S_S8x2048x6144 (constant S_ .f32 0x3F800000#32)) (Host.exp (Host.negf X))))) bitsLt_bf16_f32

variable (m : (ℓ : Loc nD τ sig) → Buf (Elt Ideal) ℓ)

abbrev argH (c : Dev nD) : Vec Ideal S8x2048x2048 .bf16 := m ((c.tc : Thread nD τ).loc main_arg0)
abbrev argW (c : Dev nD) : Vec Ideal S1x2048x29824 .f32 := m ((c.tc : Thread nD τ).loc main_arg1)
abbrev argT (c : Dev nD) : Vec Ideal S1x5x6144 .f32 := m ((c.tc : Thread nD τ).loc main_arg2)
abbrev argB (c : Dev nD) : Vec Ideal S1x6144 .f32 := m ((c.tc : Thread nD τ).loc main_arg3)

theorem res_eq (c : Dev nD) : Value.res_main_v46 m c = gated (summed (padded (argH m c) (argW m c)) (argT m c) (argB m c)) := by
  unfold Value.res_main_v46; rfl

theorem gated_at (X : Vec Ideal S8x2048x6144 .f32) (z : S8x2048x6144.Idx) : gated X z = gate (X z) := by
  have h1 : Ideal.ofBits .f32 0x3F800000#32 = 1 := Ideal.ofBits_one_f32
  rw [gate_eq]
  unfold gated Ideal.logistic
  show X z * Ideal.div (Ideal.ofBits .f32 0x3F800000#32) (Ideal.ofBits .f32 0x3F800000#32 + Ideal.exp (-(X z))) = _
  rw [h1]

theorem tap_at (v : Vec Ideal S1x1x6144 .f32) (b : Fin 8) (R : Fin 2048) (C : Fin 6144) : tap v (ix3 b R C) = v (ix3 (0 : Fin 1) (0 : Fin 1) C) := by
  have : tap v (ix3 b R C) = (v (ix3 (0 : Fin 1) (0 : Fin 1) C) : EReal) := by
    pointwise [tap]
  exact this

theorem bias_at (v : Vec Ideal S1x6144 .f32) (b : Fin 8) (R : Fin 2048) (C : Fin 6144) : bias v (ix3 b R C) = v (ix2 (0 : Fin 1) C) := by
  have : bias v (ix3 b R C) = (v (ix2 (0 : Fin 1) C) : EReal) := by
    pointwise [bias]
  exact this

theorem dot_at (h : Vec Ideal S8x2048x2048 .bf16) (w : Vec Ideal S1x2048x29824 .f32) (b : Fin 8) (R : Fin 2048) (C : Fin 6144) :
    (Host.dotGeneral (F := Ideal) (φ₁ := .f32) (φ₂ := .f32) dot_S8x2048x2048_S2048x6144_S8x2048x6144_2_0_01_1_n_n none (extf (F := Ideal) .f32 h bitsLt_bf16_f32)
    (extractStridedSlice S2048x6144 ![0, 19456] (shapeCast S2048x29824 w shapeCasts_S1x2048x29824_S2048x29824) slices_S2048x29824_S2048x6144_0_19456) (ix3 b R C) : EReal)
      = proj h w b R C := by
  unfold proj
  pointwise

theorem padded_at (h : Vec Ideal S8x2048x2048 .bf16) (w : Vec Ideal S1x2048x29824 .f32) (b : Fin 8) (i : ℕ) (hi : i < 2052) (C : Fin 6144) :
    (padded h w (ix3 b (⟨i, hi⟩ : Fin 2052) C) : EReal) = projPad h w b (i + 6) C := by
  unfold padded projPad
  by_cases hin : 2 ≤ i ∧ i < 2050
  · rw [if_pos (by omega)]
    refine (pad_apply_of_inside (s := S8x2048x6144) (t := S8x2052x6144) ![0, 2, 0] ![0, 2, 0] ![0, 0, 0] _ _ pads_S8x2048x6144_S8x2052x6144_000_220_000 h_S_ _
      (ix3 b (⟨(i + 6 - 8) % 2048, Nat.mod_lt _ (by decide)⟩ : Fin 2048) C) ?_).trans (dot_at h w b _ C)
    intro a
    match a with
    | ⟨0, _⟩ => show b.val = 0 + b.val * (0 + 1); omega
    | ⟨1, _⟩ => show i = 2 + (i + 6 - 8) % 2048 * (0 + 1); omega
    | ⟨2, _⟩ => show C.val = 0 + C.val * (0 + 1); omega
  · rw [if_neg (by omega)]
    refine (pad_apply_of_not_inside (s := S8x2048x6144) (t := S8x2052x6144) ![0, 2, 0] ![0, 2, 0] ![0, 0, 0] _ _ pads_S8x2048x6144_S8x2052x6144_000_220_000 h_S_ _
      (1 : Fin 3) ?_).trans ?_
    · show ¬(2 ≤ i ∧ (i - 2) % (0 + 1) = 0 ∧ (i - 2) / (0 + 1) < 2048)
      omega
    · show (((0#32 : BitVec 32).toInt : ℝ) : EReal) = 0
      simp

theorem summed_at (h : Vec Ideal S8x2048x2048 .bf16) (w : Vec Ideal S1x2048x29824 .f32) (cw : Vec Ideal S1x5x6144 .f32) (cb : Vec Ideal S1x6144 .f32)
    (b : Fin 8) (R : Fin 2048) (C : Fin 6144) : (summed (padded h w) cw cb (ix3 b R C) : EReal) = conv h w cw cb b R.val C := by
  have key : ∀ P : Vec Ideal S8x2052x6144 .f32, (summed P cw cb (ix3 b R C) : EReal)
      = (((((0 + P (ix3 b (⟨R.val, by omega⟩ : Fin 2052) C) * cw (ix3 (0 : Fin 1) (0 : Fin 5) C))
        + P (ix3 b (⟨1 + R.val, by omega⟩ : Fin 2052) C) * cw (ix3 (0 : Fin 1) (1 : Fin 5) C))
        + P (ix3 b (⟨2 + R.val, by omega⟩ : Fin 2052) C) * cw (ix3 (0 : Fin 1) (2 : Fin 5) C))
        + P (ix3 b (⟨3 + R.val, by omega⟩ : Fin 2052) C) * cw (ix3 (0 : Fin 1) (3 : Fin 5) C))
        + P (ix3 b (⟨4 + R.val, by omega⟩ : Fin 2052) C) * cw (ix3 (0 : Fin 1) (4 : Fin 5) C))
        + cb (ix2 (0 : Fin 1) C) := by
    intro P
    pointwise [summed, tap, bias]
  rw [key]
  unfold conv conv5
  rw [show R.val + 7 = 1 + R.val + 6 by omega, show R.val + 8 = 2 + R.val + 6 by omega, show R.val + 9 = 3 + R.val + 6 by omega,
    show R.val + 10 = 4 + R.val + 6 by omega]
  simp only [padded_at, zero_add]
  rw [add_comm _ (cb _), mul_comm (projPad h w b (R.val + 6) C), mul_comm (projPad h w b (1 + R.val + 6) C), mul_comm (projPad h w b (2 + R.val + 6) C),
    mul_comm (projPad h w b (3 + R.val + 6) C), mul_comm (projPad h w b (4 + R.val + 6) C)]
  simp only [add_assoc]

/-- The reference's result is the gated convolution of its arguments. -/
theorem res_value (c : Dev nD) : Value.res_main_v46 m c = result (argH m c) (argW m c) (argT m c) (argB m c) := by
  rw [res_eq]
  funext z
  rw [gated_at, show z = ix3 (z 0) (z 1) (z 2) from eq_ix3 z]
  exact congrArg gate (summed_at _ _ _ _ (z 0) (z 1) (z 2))

end Cert.Proof.ReferenceIdeal

end
-- ==== Proof.Claims.lean ====
/- The five claims, each from the module that proves its part. -/
module

public import proofs.«01_k».proof.Defs
public import proofs.«01_k».proof.Proof.KernelFrame
public import proofs.«01_k».proof.Proof.KernelIdealValue
public import proofs.«01_k».proof.Proof.ReferenceValue
public import Idealize.ShloMosaic.Lib.Bf16PairInverse
public import Idealize.ShloMosaic.Lib.Quiescent

@[expose] public section

set_option maxRecDepth 16384

noncomputable section

namespace Cert.Proof

open Idealize.ShloMosaic Idealize.ShloMosaic.TcCoe Idealize.SL.Sem

theorem frame_p : Cert.quiescent_Kernel := fun m ρ _ => Cert.Proof.Kernel.quiescent m ρ

theorem frame_pi : Cert.quiescent_KernelIdeal := fun m ρ _ => Cert.Proof.KernelIdeal.quiescent m ρ

/-- The reference is host operations alone: it names no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The words of a pair of rows: the scratch that holds them, the pack, the accesses of 8 and of 512 rows, and the words read as rows. -/
theorem preserves : Cert.preserves_Kernel_KernelIdeal :=
  open Cert.KernelIdeal IdealRules.bf16_pair in
  ⟨bufferStatement S2x520x2x128 S2x520x1x128, packStatement S8x128, statement S1x8x2x128 S1x8x1x128,
    statement S1x512x2x128 S1x512x1x128, statement S1024x128 S512x128⟩

/-- The kernel leaves the gated convolution of its arguments in its result. -/
theorem kernel_run (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4)
        = KernelIdeal.result (KernelIdeal.argH m c) (KernelIdeal.argW m c) (KernelIdeal.argT m c) (KernelIdeal.argB m c)) :=
  (θ_run _ _ _).mono (fun _ h c => ((h.1 c).1 4).trans (KernelIdeal.result_arr m c)) (KernelIdeal.launch_run m ρ)

theorem algebraic : Cert.algebraic_KernelIdeal_ReferenceIdeal := by
  intro m g m' g' _ hargs
  refine ⟨fun c => KernelIdeal.result (KernelIdeal.argH m c) (KernelIdeal.argW m c) (KernelIdeal.argT m c) (KernelIdeal.argB m c), ?_, ?_⟩
  · refine (θ_run _ _ _).mono (fun r h c => ⟨h.1 c, ?_⟩) (θ_run_and (kernel_run m g) (KernelIdeal.quiescent m g))
    exact h.2.1 c
  · refine (θ_run _ _ _).mono (fun r h c => ⟨(h c).1.trans ((ReferenceIdeal.res_value m' c).trans ?_), (h c).2⟩) (Cert.ReferenceIdeal.Value.run (F := Ideal) m' g')
    obtain ⟨h0, h1, h2, h3⟩ := hargs c
    show KernelIdeal.result (ReferenceIdeal.argH m' c) (ReferenceIdeal.argW m' c) (ReferenceIdeal.argT m' c) (ReferenceIdeal.argB m' c) = _
    unfold ReferenceIdeal.argH ReferenceIdeal.argW ReferenceIdeal.argT ReferenceIdeal.argB
    rw [h0, h1, h2, h3]

end Cert.Proof

end
-- ==== Proof.Projection.lean ====
/- A column of the input projection, and the activations its calls end in, at the ideal instance. -/
module

public import proofs.«01_k».proof.Proof.ReferenceValue
public import Idealize.ShloMosaic.Lib.Pipeline.ValueKit

@[expose] public section

noncomputable section

namespace Cert.Proof.Projection

open Idealize.ShloMosaic
open Cert.Proof.KernelIdeal (gate)
open Cert.Proof.ReferenceIdeal (gate_eq half_eq half_tanh)

/-- The activations `[8, 2048, 2048]`. -/
abbrev Acts : Shape := ⟨3, ![8, 2048, 2048]⟩

/-- The weights `[1, 2048, 29824]`. -/
abbrev Weights : Shape := ⟨3, ![1, 2048, 29824]⟩

/-- Row `R` of batch `b` against column `C` of the weights. -/
def column (h : Vec Ideal Acts .bf16) (w : Vec Ideal Weights .f32) (b : Fin 8) (R : Fin 2048) (C : Fin 29824) : EReal :=
  ∑ k : Fin 2048, h (ix3 b R k) * w (ix3 (0 : Fin 1) k C)

/-- The first coordinate of an axis of extent one is zero. -/
theorem eq_unit3 {n k : ℕ} (x : (⟨3, ![1, n, k]⟩ : Shape).Idx) : x = ix3 (0 : Fin 1) (x 1) (x 2) := by
  funext a
  match a with
  | ⟨0, _⟩ => exact Fin.ext (by have h : (x 0).val < 1 := (x 0).isLt; show (x 0).val = 0; omega)
  | ⟨1, _⟩ => rfl
  | ⟨2, _⟩ => rfl

/-- The columns from `off` on of the projection, each entry through `act`. -/
def result (act : EReal → EReal) (off n : ℕ) (hn : off + n ≤ 29824) (h : Vec Ideal Acts .bf16) (w : Vec Ideal Weights .f32) :
    (⟨3, ![8, 2048, n]⟩ : Shape).Idx → EReal :=
  fun z => act (column h w (z 0) (z 1) (⟨off + (z 2).val, by have : (z 2).val < n := (z 2).isLt; omega⟩ : Fin 29824))

/-- One entry of a grid point's block: a row of the batch against a column of the weight tile. -/
def tileOut (act : EReal → EReal) {n : ℕ} (x0 : (⟨3, ![1, 2048, 2048]⟩ : Shape).Idx → EReal) (x1 : (⟨2, ![2048, n]⟩ : Shape).Idx → EReal)
    (y : (⟨3, ![1, 2048, n]⟩ : Shape).Idx) : EReal :=
  act (∑ k : Fin 2048, x0 (ix3 (0 : Fin 1) (y 1) k) * x1 (ix2 k (y 2)))

/-- A chunk of 512 rows from row `o` on, stored at the rows it was read from. -/
theorem chunk_rows (act : EReal → EReal) {n : ℕ} (x0 : Vec Ideal (⟨3, ![1, 2048, 2048]⟩ : Shape) .bf16) (w : (⟨2, ![2048, n]⟩ : Shape).Idx → EReal) (o : ℕ)
    (inb : ∀ a, ![0, o, 0] a + ![1, 512, 2048] a ≤ (⟨3, ![1, 2048, 2048]⟩ : Shape).size a) (pay : (⟨3, ![1, 512, n]⟩ : Shape).Idx → EReal)
    (hpay : ∀ (r : Fin 512) (l : Fin n), pay (ix3 (0 : Fin 1) r l)
      = act (∑ k : Fin 2048, View.ld x0 (Rect.unit ![0, o, 0] ![1, 512, 2048] inb) (ix3 (0 : Fin 1) r k) * w (ix2 k l)))
    (x : (⟨3, ![1, 512, n]⟩ : Shape).Idx) (y : (⟨3, ![1, 2048, n]⟩ : Shape).Idx) (h1 : (y 1).val = o + (x 1).val) (h2 : (y 2).val = (x 2).val) :
    pay x = tileOut act x0 w y := by
  rw [eq_unit3 x]
  refine (hpay (x 1) (x 2)).trans ?_
  unfold tileOut
  refine congrArg act (Finset.sum_congr rfl fun k _ => congrArg₂ _ ?_ ?_)
  · refine View.ld_unit_apply_of x0 _ _ _ _ _ fun a => ?_
    match a with
    | ⟨0, _⟩ => rfl
    | ⟨1, _⟩ => exact h1
    | ⟨2, _⟩ => exact (Nat.zero_add _).symm
  · exact congrArg (fun l => w (ix2 k l)) (Fin.ext h2.symm)

/-- The kernels' spelling of the logistic function: half of `tanh (x / 2)`, shifted by a half. -/
def sigm (x : EReal) : EReal :=
  Ideal.ofBits FTy.f32 1056964608#32 * Ideal.tanh (Ideal.ofBits FTy.f32 1056964608#32 * x) + Ideal.ofBits FTy.f32 1056964608#32

theorem sigm_eq (x : EReal) : sigm x = Ideal.logistic x := by
  unfold sigm
  rw [half_eq]
  induction x with
  | bot =>
    rw [EReal.coe_mul_bot_of_pos (by norm_num), Ideal.tanh_bot, Ideal.logistic_bot, show (-1 : EReal) = ((-1 : ℝ) : EReal) by norm_num,
      ← EReal.coe_mul, ← EReal.coe_add]
    norm_num
  | top =>
    rw [EReal.coe_mul_top_of_pos (by norm_num), Ideal.tanh_top, Ideal.logistic_top, show (1 : EReal) = ((1 : ℝ) : EReal) by norm_num,
      ← EReal.coe_mul, ← EReal.coe_add]
    norm_num
  | coe r =>
    rw [← EReal.coe_mul, Ideal.tanh_coe, Ideal.logistic_coe, ← EReal.coe_mul, ← EReal.coe_add, half_tanh]

/-- The reference's spelling of the logistic function. -/
theorem logistic_host (x : EReal) :
    Ideal.div (Ideal.ofBits .f32 0x3F800000#32) (Ideal.ofBits .f32 0x3F800000#32 + Ideal.exp (-x)) = Ideal.logistic x := by
  have h1 : Ideal.ofBits .f32 0x3F800000#32 = 1 := Ideal.ofBits_one_f32
  unfold Ideal.logistic
  rw [h1]

end Cert.Proof.Projection

end
-- ==== Proof.ZaIdealValue.lean ====
/- What the result array of `ZaIdeal` holds, entry by entry, in terms of the arguments. -/
module

public import proofs.«01_k».proof.Proof.Projection
public import proofs.«01_k».proof.Proof.Gen.ZaIdeal.Value
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.ZaIdeal

open Cert.ZaIdeal Cert.ZaIdeal.Gen
open Idealize.ShloMosaic Idealize.ShloMosaic.TcCoe Idealize.ShloMosaic.Tactic
open Idealize.ShloMosaic.Pipeline (Dat Cfg Window BodyObligation cellOf)
open Cert.Proof.KernelIdeal (gate)
open Cert.Proof.Projection (column eq_unit3 result tileOut chunk_rows)

section Body
variable (c : Dev nD) (i : grid0.Coords) (arg2 : Memref sig .tc .vmem S1x2048x2048 .bf16) (harg2 : arg2.IsWhole)
  (arg3 : Memref sig .tc .vmem S2048x768 .f32) (harg3 : arg3.IsWhole) (arg4 : Memref sig .tc .vmem S1x2048x768 .bf16) (harg4 : arg4.IsWhole)
  (arg5 : Memref sig .tc .vmem S2048x768 .bf16) (harg5 : arg5.IsWhole)

theorem pay_at (v : Vec Ideal S1x512x2048 .bf16) (w : Vec Ideal S2048x768 .bf16) (r : Fin 512) (l : Fin 768) :
    (k0_pay3 v w (ix3 (0 : Fin 1) r l) : EReal) = gate (∑ k : Fin 2048, v (ix3 (0 : Fin 1) r k) * w (ix2 k l)) := by
  unfold gate
  pointwise [k0_pay3]

theorem out_B (hc : ¬cond0_0 i) (x0 : Vec Ideal S1x2048x2048 .bf16) (x1 : Vec Ideal S2048x768 .f32) (xs : Vec Ideal S2048x768 .bf16) (y : S1x2048x768.Idx) :
    out0_B_2 c i arg2 harg2 arg3 harg3 arg4 harg4 arg5 harg5 hc x0 x1 xs y = tileOut gate x0 xs y := by
  frame_out
  canon_tiles x h
  all_goals refine chunk_rows gate x0 xs _ _ _ (pay_at _ _) x y ?_ ?_ <;> omega

theorem out_A (hc : cond0_0 i) (x0 : Vec Ideal S1x2048x2048 .bf16) (x1 : Vec Ideal S2048x768 .f32) (y : S1x2048x768.Idx) :
    out0_A_2 c i arg2 harg2 arg3 harg3 arg4 harg4 arg5 harg5 hc x0 x1 y = tileOut gate x0 x1 y := by
  have hw : (k0_pay2 x1 : S2048x768.Idx → EReal) = x1 := by
    funext j
    rw [eq_ix2 j]
    pointwise [k0_pay2]
  rw [show tileOut gate x0 x1 y = tileOut gate x0 (k0_pay2 x1) y from congrArg (fun X => tileOut gate x0 X y) hw.symm]
  frame_out
  canon_tiles x h
  all_goals
    refine chunk_rows gate x0 (k0_pay2 x1) _ _ _ (pay_at _ _) x y ?_ ?_ <;> omega

theorem sout_A (hc : cond0_0 i) (x0 : Vec Ideal S1x2048x2048 .bf16) (x1 : Vec Ideal S2048x768 .f32) (y : S2048x768.Idx) :
    sout0_A_0 c i arg2 harg2 arg3 harg3 arg4 harg4 arg5 harg5 hc x0 x1 y = (x1 y : EReal) := by
  frame_out
  rw [eq_ix2 y]
  pointwise [k0_pay2]
end Body

variable (m : (ℓ : Loc nD τ sig) → Buf (Elt Ideal) ℓ)

abbrev argH (c : Dev nD) : Vec Ideal S8x2048x2048 .bf16 := m ((c : Thread nD τ).loc main_arg0)
abbrev argW (c : Dev nD) : Vec Ideal S1x2048x29824 .f32 := m ((c : Thread nD τ).loc main_arg1)

theorem idx0 : ∀ t : Fin cfg0.N, win0_0.index t = ![t.val % 8, 0, 0] := by decide +kernel
theorem idx1 : ∀ t : Fin cfg0.N, win0_1.index t = ![0, 18 + t.val / 8] := by decide +kernel
theorem idx2 : ∀ t : Fin cfg0.N, win0_2.index t = ![t.val % 8, 0, t.val / 8] := by decide +kernel

theorem point_lt (t : Fin cfg0.N) : t.val < 16 := Nat.lt_of_lt_of_eq t.isLt N_0

theorem acts_at (c : Dev nD) (t : Fin cfg0.N) (R k : Fin 2048) :
    iblk m c 0 t (ix3 (0 : Fin 1) R k) = argH m c (ix3 (⟨t.val % 8, by omega⟩ : Fin 8) R k) := by
  have ht := point_lt t
  blk_ext [iblk, V, idx0 t]

theorem entry_w (c : Dev nD) : V m c main_v0 = shapeCast S2048x29824 (argW m c) shapeCasts_S1x2048x29824_S2048x29824 := by
  unfold_abbrev_sides
  after_results
  rfl

theorem weights_at (c : Dev nD) (t : Fin cfg0.N) (k : Fin 2048) (l : Fin 768) :
    X0_1 m c t (ix2 k l) = argW m c (ix3 (0 : Fin 1) k (⟨768 * (18 + t.val / 8) + l.val, by have := point_lt t; omega⟩ : Fin 29824)) := by
  have ht := point_lt t
  have e : X0_1 m c t (ix2 k l) = V m c main_v0 (ix2 k (⟨768 * (18 + t.val / 8) + l.val, by omega⟩ : Fin 29824)) := by
    unfold X0_1 Pipeline.Window.fill
    rw [dif_pos (moved0_1 t _)]
    unfold iblk
    generalize V m c = X
    blk_ext [idx1 t]
  rw [e, entry_w]
  exact ValueIdx.shapeCast_1ab_ab_apply _ _ _ _

/-- The first batch of a tile stores the weight tile in the scratch. -/
theorem scratch_first (c : Dev nD) (t : Fin cfg0.N) (h0 : t.val % 8 = 0) (y : S2048x768.Idx) :
    ((outsAt0 m c t.val t.isLt).2 y : EReal) = X0_1 m c t y := by
  rw [outsAt0_A m c t h0]
  dsimp only
  rw [sout_A]

/-- The other batches keep it. -/
theorem scratch_next (c : Dev nD) (t : Fin cfg0.N) (h0 : ¬t.val % 8 = 0) (y : S2048x768.Idx) :
    ((outsAt0 m c t.val t.isLt).2 y : EReal) = (outsAt0 m c (t.val - 1) (Nat.lt_of_le_of_lt (Nat.sub_le _ _) t.isLt)).2 y := by
  rw [outsAt0_B m c t h0]
  rfl

/-- So the scratch holds the point's weight tile. -/
theorem scratch_at (c : Dev nD) (t : Fin cfg0.N) (k : Fin 2048) (l : Fin 768) :
    ((outsAt0 m c t.val t.isLt).2 (ix2 k l) : EReal)
      = argW m c (ix3 (0 : Fin 1) k (⟨768 * (18 + t.val / 8) + l.val, by have := point_lt t; omega⟩ : Fin 29824)) := by
  have ht := point_lt t
  refine (Pipeline.eq_of_write_hold (M := EReal) (fun n h => (outsAt0 m c n h).2 (ix2 k l)) 8 (fun t => X0_1 m c t (ix2 k l))
    (fun t h0 => scratch_first m c t h0 _) (fun t h0 => scratch_next m c t h0 _) t).trans ?_
  rw [weights_at]
  refine congrArg (fun C => argW m c (ix3 (0 : Fin 1) k C)) (Fin.ext ?_)
  show 768 * (18 + 8 * (t.val / 8) / 8) + l.val = 768 * (18 + t.val / 8) + l.val
  omega

/-- What a point writes back. -/
theorem after_at (c : Dev nD) (t : Fin cfg0.N) (R : Fin 2048) (l : Fin 768) :
    ((outsAt0 m c t.val t.isLt).1 (ix3 (0 : Fin 1) R l) : EReal)
      = gate (column (argH m c) (argW m c) (⟨t.val % 8, by omega⟩ : Fin 8) R (⟨768 * (18 + t.val / 8) + l.val, by have := point_lt t; omega⟩ : Fin 29824)) := by
  have ht := point_lt t
  by_cases h0 : t.val % 8 = 0
  · rw [outsAt0_A m c t h0]
    dsimp only
    rw [out_A]
    unfold tileOut column
    refine congrArg gate (Finset.sum_congr rfl fun k _ => congrArg₂ _ ?_ ?_)
    · exact acts_at m c t R k
    · exact weights_at m c t k l
  · have hs := scratch_at m c t
    rw [outsAt0_B m c t h0] at hs ⊢
    dsimp only at hs ⊢
    rw [out_B]
    unfold tileOut column
    refine congrArg gate (Finset.sum_congr rfl fun k _ => congrArg₂ _ ?_ ?_)
    · exact acts_at m c t R k
    · exact hs k l

theorem result_arr (c : Dev nD) : (dats m 0 c).arrAt 2 cfg0.N = result gate 13824 1536 (by decide) (argH m c) (argW m c) := by
  refine (dats m 0 c).arrAt_eq_of_covers 2 _ (by decide +kernel) fun t hf y => ?_
  blk_simp
  rw [after0_2]
  have ht := point_lt t
  have hy : y = ix3 (0 : Fin 1) (y 1) (y 2) := eq_unit3 y
  have h0 : (y 0).val < 1 := (y 0).isLt
  have h2 : (y 2).val < 768 := (y 2).isLt
  refine ((congrArg (outsAt0 m c t.val t.isLt).1 hy).trans (after_at m c t (y 1) (y 2))).trans ?_
  have e0 : (⟨t.val % 8, by omega⟩ : Fin 8) = (win0_2.blk t).view.emb y 0 := Fin.ext (by
    show t.val % 8 = _
    blk_simp [idx2 t])
  have e1 : y 1 = (win0_2.blk t).view.emb y 1 := Fin.ext (by
    blk_simp [idx2 t])
  have e2 : (⟨768 * (18 + t.val / 8) + (y 2).val, by omega⟩ : Fin 29824)
      = ⟨13824 + ((win0_2.blk t).view.emb y 2).val, by have : ((win0_2.blk t).view.emb y 2).val < 1536 := ((win0_2.blk t).view.emb y 2).isLt; omega⟩ := Fin.ext (by
    show 768 * (18 + t.val / 8) + (y 2).val = 13824 + ((win0_2.blk t).view.emb y 2).val
    blk_simp [idx2 t]
    omega)
  unfold result
  rw [e0, e2]
  exact congrArg (fun R => gate (column _ _ _ R _)) e1

end Cert.Proof.ZaIdeal

end
-- ==== Proof.ZaClaims.lean ====
/- What the reference of `Za` holds, and the claims of the call. -/
module

public import proofs.«01_k».proof.Defs
public import proofs.«01_k».proof.Proof.ZaIdealValue
public import proofs.«01_k».proof.Proof.Gen.Za.Frame
public import proofs.«01_k».proof.Proof.Gen.ZaRefIdeal.Run
public import Idealize.ShloMosaic.Lib.Claim
public import Idealize.ShloMosaic.Lib.IdealHost
public import Idealize.ShloMosaic.Lib.Quiescent

@[expose] public section

set_option maxRecDepth 16384

noncomputable section

namespace Cert.Proof.ZaRefIdeal

open Cert.ZaRefIdeal Cert.ZaRefIdeal.Gen
open Idealize.ShloMosaic Idealize.ShloMosaic.TcCoe Idealize.ShloMosaic.Tactic
open Cert.Proof.KernelIdeal (gate)
open Cert.Proof.ReferenceIdeal (gate_eq)
open Cert.Proof.Projection (column logistic_host)

/-- The reference's product. -/
def projected (h : Vec Ideal S8x2048x2048 .bf16) (w : Vec Ideal S1x2048x29824 .f32) : Vec Ideal S8x2048x1536 .f32 :=
  Host.dotGeneral (F := Ideal) (φ₁ := .f32) (φ₂ := .f32) dot_S8x2048x2048_S2048x1536_S8x2048x1536_2_0_01_1_n_n none (extf (F := Ideal) .f32 h bitsLt_bf16_f32)
    (extractStridedSlice S2048x1536 ![0, 13824] (shapeCast S2048x29824 w shapeCasts_S1x2048x29824_S2048x29824) slices_S2048x29824_S2048x1536_0_13824)

/-- `x` times the logistic function of `x`, as the reference spells it. -/
def gated (X : Vec Ideal S8x2048x1536 .f32) : Vec Ideal S8x2048x1536 .bf16 :=
  truncf (F := Ideal) .bf16 (mulf X (Host.divf (broadcastInDim S8x2048x1536 ![] bcast_S_S8x2048x1536 (constant S_ .f32 0x3F800000#32))
    (addf (broadcastInDim S8x2048x1536 ![] bcast_S_S8x2048x1536 (constant S_ .f32 0x3F800000#32)) (Host.exp (Host.negf X))))) bitsLt_bf16_f32

theorem projected_at (h : Vec Ideal S8x2048x2048 .bf16) (w : Vec Ideal S1x2048x29824 .f32) (b : Fin 8) (R : Fin 2048) (C : Fin 1536) :
    (projected h w (ix3 b R C) : EReal) = column h w b R (⟨13824 + C.val, by omega⟩ : Fin 29824) := by
  unfold column
  pointwise [projected]

theorem gated_at (X : Vec Ideal S8x2048x1536 .f32) (z : S8x2048x1536.Idx) : gated X z = gate (X z) :=
  (congrArg (X z * ·) (logistic_host (X z))).trans (gate_eq (X z)).symm

theorem value (h : Vec Ideal S8x2048x2048 .bf16) (w : Vec Ideal S1x2048x29824 .f32) : gated (projected h w) = Projection.result gate 13824 1536 (by decide) h w := by
  funext z
  rw [gated_at, show z = ix3 (z 0) (z 1) (z 2) from eq_ix3 z]
  exact congrArg gate (projected_at h w (z 0) (z 1) (z 2))

end Cert.Proof.ZaRefIdeal

namespace Cert.Proof.Za

open Idealize.ShloMosaic Idealize.ShloMosaic.TcCoe Idealize.SL.Sem
open Cert.Proof.KernelIdeal (gate)

theorem frame_p : Cert.quiescent_Za := fun m ρ _ => Cert.Za.Gen.frame m ρ
theorem frame_pi : Cert.quiescent_ZaIdeal := fun m ρ _ => Cert.ZaIdeal.Gen.frame m ρ
theorem frame_ri : Cert.quiescent_ZaRefIdeal := fun m ρ _ =>
  (θ_run Cert.ZaRefIdeal.defs _ _).mono (fun r h => ⟨fun c => (h c).2, sem_eq_zero_of_no_sems (by decide) r.2⟩) (Cert.ZaRefIdeal.Value.run (F := Ideal) m ρ)
theorem preserves : Cert.preserves_Za_ZaIdeal := trivial

theorem algebraic : Cert.algebraic_ZaIdeal_ZaRefIdeal := by
  intro m g m' g' _ hargs
  refine ⟨fun c => Projection.result gate 13824 1536 (by decide) (ZaIdeal.argH m c) (ZaIdeal.argW m c), ?_, ?_⟩
  · exact (θ_run _ _ _).mono (fun r h c => ⟨(h c).1.trans (ZaIdeal.result_arr m c), (h c).2⟩) (Cert.ZaIdeal.Value.run_blocks m g)
  · refine (θ_run _ _ _).mono (fun r h c => ⟨(h c).1.trans ((ZaRefIdeal.value _ _).trans ?_), (h c).2⟩) (Cert.ZaRefIdeal.Value.run (F := Ideal) m' g')
    obtain ⟨h0, h1⟩ := hargs c
    show Projection.result _ _ _ _ _ _ = Projection.result _ _ _ _ _ _
    rw [h0, h1]

end Cert.Proof.Za

end
-- ==== Proof.ZsIdealValue.lean ====
/- What the result array of `ZsIdeal` holds, entry by entry, in terms of the arguments. -/
module

public import proofs.«01_k».proof.Proof.Projection
public import proofs.«01_k».proof.Proof.Gen.ZsIdeal.Value
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.ZsIdeal

open Cert.ZsIdeal Cert.ZsIdeal.Gen
open Idealize.ShloMosaic Idealize.ShloMosaic.TcCoe Idealize.ShloMosaic.Tactic
open Idealize.ShloMosaic.Pipeline (Dat Cfg Window BodyObligation cellOf)
open Cert.Proof.KernelIdeal (gate)
open Cert.Proof.Projection (column eq_unit3 result tileOut chunk_rows)

section Body
variable (c : Dev nD) (i : grid0.Coords) (arg2 : Memref sig .tc .vmem S1x2048x2048 .bf16) (harg2 : arg2.IsWhole)
  (arg3 : Memref sig .tc .vmem S2048x1024 .f32) (harg3 : arg3.IsWhole) (arg4 : Memref sig .tc .vmem S1x2048x1024 .bf16) (harg4 : arg4.IsWhole)
  (arg5 : Memref sig .tc .vmem S2048x1024 .bf16) (harg5 : arg5.IsWhole)

theorem pay_at (v : Vec Ideal S1x512x2048 .bf16) (w : Vec Ideal S2048x1024 .bf16) (r : Fin 512) (l : Fin 1024) :
    (k0_pay3 v w (ix3 (0 : Fin 1) r l) : EReal) = gate (∑ k : Fin 2048, v (ix3 (0 : Fin 1) r k) * w (ix2 k l)) := by
  unfold gate
  pointwise [k0_pay3]

theorem out_B (hc : ¬cond0_0 i) (x0 : Vec Ideal S1x2048x2048 .bf16) (x1 : Vec Ideal S2048x1024 .f32) (xs : Vec Ideal S2048x1024 .bf16) (y : S1x2048x1024.Idx) :
    out0_B_2 c i arg2 harg2 arg3 harg3 arg4 harg4 arg5 harg5 hc x0 x1 xs y = tileOut gate x0 xs y := by
  frame_out
  canon_tiles x h
  all_goals refine chunk_rows gate x0 xs _ _ _ (pay_at _ _) x y ?_ ?_ <;> omega

theorem out_A (hc : cond0_0 i) (x0 : Vec Ideal S1x2048x2048 .bf16) (x1 : Vec Ideal S2048x1024 .f32) (y : S1x2048x1024.Idx) :
    out0_A_2 c i arg2 harg2 arg3 harg3 arg4 harg4 arg5 harg5 hc x0 x1 y = tileOut gate x0 x1 y := by
  have hw : (k0_pay2 x1 : S2048x1024.Idx → EReal) = x1 := by
    funext j
    rw [eq_ix2 j]
    pointwise [k0_pay2]
  rw [show tileOut gate x0 x1 y = tileOut gate x0 (k0_pay2 x1) y from congrArg (fun X => tileOut gate x0 X y) hw.symm]
  frame_out
  canon_tiles x h
  all_goals
    refine chunk_rows gate x0 (k0_pay2 x1) _ _ _ (pay_at _ _) x y ?_ ?_ <;> omega

theorem sout_A (hc : cond0_0 i) (x0 : Vec Ideal S1x2048x2048 .bf16) (x1 : Vec Ideal S2048x1024 .f32) (y : S2048x1024.Idx) :
    sout0_A_0 c i arg2 harg2 arg3 harg3 arg4 harg4 arg5 harg5 hc x0 x1 y = (x1 y : EReal) := by
  frame_out
  rw [eq_ix2 y]
  pointwise [k0_pay2]
end Body

variable (m : (ℓ : Loc nD τ sig) → Buf (Elt Ideal) ℓ)

abbrev argH (c : Dev nD) : Vec Ideal S8x2048x2048 .bf16 := m ((c : Thread nD τ).loc main_arg0)
abbrev argW (c : Dev nD) : Vec Ideal S1x2048x29824 .f32 := m ((c : Thread nD τ).loc main_arg1)

theorem idx0 : ∀ t : Fin cfg0.N, win0_0.index t = ![t.val % 8, 0, 0] := by decide +kernel
theorem idx1 : ∀ t : Fin cfg0.N, win0_1.index t = ![0, 15 + t.val / 8] := by decide +kernel
theorem idx2 : ∀ t : Fin cfg0.N, win0_2.index t = ![t.val % 8, 0, t.val / 8] := by decide +kernel

theorem point_lt (t : Fin cfg0.N) : t.val < 32 := Nat.lt_of_lt_of_eq t.isLt N_0

theorem acts_at (c : Dev nD) (t : Fin cfg0.N) (R k : Fin 2048) :
    iblk m c 0 t (ix3 (0 : Fin 1) R k) = argH m c (ix3 (⟨t.val % 8, by omega⟩ : Fin 8) R k) := by
  have ht := point_lt t
  blk_ext [iblk, V, idx0 t]

theorem entry_w (c : Dev nD) : V m c main_v0 = shapeCast S2048x29824 (argW m c) shapeCasts_S1x2048x29824_S2048x29824 := by
  unfold_abbrev_sides
  after_results
  rfl

theorem weights_at (c : Dev nD) (t : Fin cfg0.N) (k : Fin 2048) (l : Fin 1024) :
    X0_1 m c t (ix2 k l) = argW m c (ix3 (0 : Fin 1) k (⟨1024 * (15 + t.val / 8) + l.val, by have := point_lt t; omega⟩ : Fin 29824)) := by
  have ht := point_lt t
  have e : X0_1 m c t (ix2 k l) = V m c main_v0 (ix2 k (⟨1024 * (15 + t.val / 8) + l.val, by omega⟩ : Fin 29824)) := by
    unfold X0_1 Pipeline.Window.fill
    rw [dif_pos (moved0_1 t _)]
    unfold iblk
    generalize V m c = X
    blk_ext [idx1 t]
  rw [e, entry_w]
  exact ValueIdx.shapeCast_1ab_ab_apply _ _ _ _

/-- The first batch of a tile stores the weight tile in the scratch. -/
theorem scratch_first (c : Dev nD) (t : Fin cfg0.N) (h0 : t.val % 8 = 0) (y : S2048x1024.Idx) :
    ((outsAt0 m c t.val t.isLt).2 y : EReal) = X0_1 m c t y := by
  rw [outsAt0_A m c t h0]
  dsimp only
  rw [sout_A]

/-- The other batches keep it. -/
theorem scratch_next (c : Dev nD) (t : Fin cfg0.N) (h0 : ¬t.val % 8 = 0) (y : S2048x1024.Idx) :
    ((outsAt0 m c t.val t.isLt).2 y : EReal) = (outsAt0 m c (t.val - 1) (Nat.lt_of_le_of_lt (Nat.sub_le _ _) t.isLt)).2 y := by
  rw [outsAt0_B m c t h0]
  rfl

/-- So the scratch holds the point's weight tile. -/
theorem scratch_at (c : Dev nD) (t : Fin cfg0.N) (k : Fin 2048) (l : Fin 1024) :
    ((outsAt0 m c t.val t.isLt).2 (ix2 k l) : EReal)
      = argW m c (ix3 (0 : Fin 1) k (⟨1024 * (15 + t.val / 8) + l.val, by have := point_lt t; omega⟩ : Fin 29824)) := by
  have ht := point_lt t
  refine (Pipeline.eq_of_write_hold (M := EReal) (fun n h => (outsAt0 m c n h).2 (ix2 k l)) 8 (fun t => X0_1 m c t (ix2 k l))
    (fun t h0 => scratch_first m c t h0 _) (fun t h0 => scratch_next m c t h0 _) t).trans ?_
  rw [weights_at]
  refine congrArg (fun C => argW m c (ix3 (0 : Fin 1) k C)) (Fin.ext ?_)
  show 1024 * (15 + 8 * (t.val / 8) / 8) + l.val = 1024 * (15 + t.val / 8) + l.val
  omega

/-- What a point writes back. -/
theorem after_at (c : Dev nD) (t : Fin cfg0.N) (R : Fin 2048) (l : Fin 1024) :
    ((outsAt0 m c t.val t.isLt).1 (ix3 (0 : Fin 1) R l) : EReal)
      = gate (column (argH m c) (argW m c) (⟨t.val % 8, by omega⟩ : Fin 8) R (⟨1024 * (15 + t.val / 8) + l.val, by have := point_lt t; omega⟩ : Fin 29824)) := by
  have ht := point_lt t
  by_cases h0 : t.val % 8 = 0
  · rw [outsAt0_A m c t h0]
    dsimp only
    rw [out_A]
    unfold tileOut column
    refine congrArg gate (Finset.sum_congr rfl fun k _ => congrArg₂ _ ?_ ?_)
    · exact acts_at m c t R k
    · exact weights_at m c t k l
  · have hs := scratch_at m c t
    rw [outsAt0_B m c t h0] at hs ⊢
    dsimp only at hs ⊢
    rw [out_B]
    unfold tileOut column
    refine congrArg gate (Finset.sum_congr rfl fun k _ => congrArg₂ _ ?_ ?_)
    · exact acts_at m c t R k
    · exact hs k l

theorem result_arr (c : Dev nD) : (dats m 0 c).arrAt 2 cfg0.N = result gate 15360 4096 (by decide) (argH m c) (argW m c) := by
  refine (dats m 0 c).arrAt_eq_of_covers 2 _ (by decide +kernel) fun t hf y => ?_
  blk_simp
  rw [after0_2]
  have ht := point_lt t
  have hy : y = ix3 (0 : Fin 1) (y 1) (y 2) := eq_unit3 y
  have h0 : (y 0).val < 1 := (y 0).isLt
  have h2 : (y 2).val < 1024 := (y 2).isLt
  refine ((congrArg (outsAt0 m c t.val t.isLt).1 hy).trans (after_at m c t (y 1) (y 2))).trans ?_
  have e0 : (⟨t.val % 8, by omega⟩ : Fin 8) = (win0_2.blk t).view.emb y 0 := Fin.ext (by
    show t.val % 8 = _
    blk_simp [idx2 t])
  have e1 : y 1 = (win0_2.blk t).view.emb y 1 := Fin.ext (by
    blk_simp [idx2 t])
  have e2 : (⟨1024 * (15 + t.val / 8) + (y 2).val, by omega⟩ : Fin 29824)
      = ⟨15360 + ((win0_2.blk t).view.emb y 2).val, by have : ((win0_2.blk t).view.emb y 2).val < 4096 := ((win0_2.blk t).view.emb y 2).isLt; omega⟩ := Fin.ext (by
    show 1024 * (15 + t.val / 8) + (y 2).val = 15360 + ((win0_2.blk t).view.emb y 2).val
    blk_simp [idx2 t]
    omega)
  unfold result
  rw [e0, e2]
  exact congrArg (fun R => gate (column _ _ _ R _)) e1

end Cert.Proof.ZsIdeal

end
-- ==== Proof.ZsClaims.lean ====
/- What the reference of `Zs` holds, and the claims of the call. -/
module

public import proofs.«01_k».proof.Defs
public import proofs.«01_k».proof.Proof.ZsIdealValue
public import proofs.«01_k».proof.Proof.Gen.Zs.Frame
public import proofs.«01_k».proof.Proof.Gen.ZsRefIdeal.Run
public import Idealize.ShloMosaic.Lib.Claim
public import Idealize.ShloMosaic.Lib.IdealHost
public import Idealize.ShloMosaic.Lib.Quiescent

@[expose] public section

set_option maxRecDepth 16384

noncomputable section

namespace Cert.Proof.ZsRefIdeal

open Cert.ZsRefIdeal Cert.ZsRefIdeal.Gen
open Idealize.ShloMosaic Idealize.ShloMosaic.TcCoe Idealize.ShloMosaic.Tactic
open Cert.Proof.KernelIdeal (gate)
open Cert.Proof.ReferenceIdeal (gate_eq)
open Cert.Proof.Projection (column logistic_host)

/-- The reference's product. -/
def projected (h : Vec Ideal S8x2048x2048 .bf16) (w : Vec Ideal S1x2048x29824 .f32) : Vec Ideal S8x2048x4096 .f32 :=
  Host.dotGeneral (F := Ideal) (φ₁ := .f32) (φ₂ := .f32) dot_S8x2048x2048_S2048x4096_S8x2048x4096_2_0_01_1_n_n none (extf (F := Ideal) .f32 h bitsLt_bf16_f32)
    (extractStridedSlice S2048x4096 ![0, 15360] (shapeCast S2048x29824 w shapeCasts_S1x2048x29824_S2048x29824) slices_S2048x29824_S2048x4096_0_15360)

/-- `x` times the logistic function of `x`, as the reference spells it. -/
def gated (X : Vec Ideal S8x2048x4096 .f32) : Vec Ideal S8x2048x4096 .bf16 :=
  truncf (F := Ideal) .bf16 (mulf X (Host.divf (broadcastInDim S8x2048x4096 ![] bcast_S_S8x2048x4096 (constant S_ .f32 0x3F800000#32))
    (addf (broadcastInDim S8x2048x4096 ![] bcast_S_S8x2048x4096 (constant S_ .f32 0x3F800000#32)) (Host.exp (Host.negf X))))) bitsLt_bf16_f32

theorem projected_at (h : Vec Ideal S8x2048x2048 .bf16) (w : Vec Ideal S1x2048x29824 .f32) (b : Fin 8) (R : Fin 2048) (C : Fin 4096) :
    (projected h w (ix3 b R C) : EReal) = column h w b R (⟨15360 + C.val, by omega⟩ : Fin 29824) := by
  unfold column
  pointwise [projected]

theorem gated_at (X : Vec Ideal S8x2048x4096 .f32) (z : S8x2048x4096.Idx) : gated X z = gate (X z) :=
  (congrArg (X z * ·) (logistic_host (X z))).trans (gate_eq (X z)).symm

theorem value (h : Vec Ideal S8x2048x2048 .bf16) (w : Vec Ideal S1x2048x29824 .f32) : gated (projected h w) = Projection.result gate 15360 4096 (by decide) h w := by
  funext z
  rw [gated_at, show z = ix3 (z 0) (z 1) (z 2) from eq_ix3 z]
  exact congrArg gate (projected_at h w (z 0) (z 1) (z 2))

end Cert.Proof.ZsRefIdeal

namespace Cert.Proof.Zs

open Idealize.ShloMosaic Idealize.ShloMosaic.TcCoe Idealize.SL.Sem
open Cert.Proof.KernelIdeal (gate)

theorem frame_p : Cert.quiescent_Zs := fun m ρ _ => Cert.Zs.Gen.frame m ρ
theorem frame_pi : Cert.quiescent_ZsIdeal := fun m ρ _ => Cert.ZsIdeal.Gen.frame m ρ
theorem frame_ri : Cert.quiescent_ZsRefIdeal := fun m ρ _ =>
  (θ_run Cert.ZsRefIdeal.defs _ _).mono (fun r h => ⟨fun c => (h c).2, sem_eq_zero_of_no_sems (by decide) r.2⟩) (Cert.ZsRefIdeal.Value.run (F := Ideal) m ρ)
theorem preserves : Cert.preserves_Zs_ZsIdeal := trivial

theorem algebraic : Cert.algebraic_ZsIdeal_ZsRefIdeal := by
  intro m g m' g' _ hargs
  refine ⟨fun c => Projection.result gate 15360 4096 (by decide) (ZsIdeal.argH m c) (ZsIdeal.argW m c), ?_, ?_⟩
  · exact (θ_run _ _ _).mono (fun r h c => ⟨(h c).1.trans (ZsIdeal.result_arr m c), (h c).2⟩) (Cert.ZsIdeal.Value.run_blocks m g)
  · refine (θ_run _ _ _).mono (fun r h c => ⟨(h c).1.trans ((ZsRefIdeal.value _ _).trans ?_), (h c).2⟩) (Cert.ZsRefIdeal.Value.run (F := Ideal) m' g')
    obtain ⟨h0, h1⟩ := hargs c
    show Projection.result _ _ _ _ _ _ = Projection.result _ _ _ _ _ _
    rw [h0, h1]

end Cert.Proof.Zs

end
-- ==== Proof.GatesIdealValue.lean ====
/- What the result array of `GatesIdeal` holds, entry by entry, in terms of the arguments. -/
module

public import proofs.«01_k».proof.Proof.Projection
public import proofs.«01_k».proof.Proof.Gen.GatesIdeal.Value
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.GatesIdeal

open Cert.GatesIdeal Cert.GatesIdeal.Gen
open Idealize.ShloMosaic Idealize.ShloMosaic.TcCoe Idealize.ShloMosaic.Tactic
open Idealize.ShloMosaic.Pipeline (Dat Cfg Window BodyObligation cellOf)
open Cert.Proof.Projection (sigm)
open Cert.Proof.Projection (column eq_unit3 result tileOut chunk_rows)

section Body
variable (c : Dev nD) (i : grid0.Coords) (arg2 : Memref sig .tc .vmem S1x2048x2048 .bf16) (harg2 : arg2.IsWhole)
  (arg3 : Memref sig .tc .vmem S2048x1024 .f32) (harg3 : arg3.IsWhole) (arg4 : Memref sig .tc .vmem S1x2048x1024 .bf16) (harg4 : arg4.IsWhole)
  (arg5 : Memref sig .tc .vmem S2048x1024 .bf16) (harg5 : arg5.IsWhole)

theorem pay_at (v : Vec Ideal S1x512x2048 .bf16) (w : Vec Ideal S2048x1024 .bf16) (r : Fin 512) (l : Fin 1024) :
    (k0_pay2 v w (ix3 (0 : Fin 1) r l) : EReal) = sigm (∑ k : Fin 2048, v (ix3 (0 : Fin 1) r k) * w (ix2 k l)) := by
  unfold sigm
  pointwise [k0_pay2]

theorem out_B (hc : ¬cond0_0 i) (x0 : Vec Ideal S1x2048x2048 .bf16) (x1 : Vec Ideal S2048x1024 .f32) (xs : Vec Ideal S2048x1024 .bf16) (y : S1x2048x1024.Idx) :
    out0_B_2 c i arg2 harg2 arg3 harg3 arg4 harg4 arg5 harg5 hc x0 x1 xs y = tileOut sigm x0 xs y := by
  frame_out
  canon_tiles x h
  all_goals refine chunk_rows sigm x0 xs _ _ _ (pay_at _ _) x y ?_ ?_ <;> omega

theorem out_A (hc : cond0_0 i) (x0 : Vec Ideal S1x2048x2048 .bf16) (x1 : Vec Ideal S2048x1024 .f32) (y : S1x2048x1024.Idx) :
    out0_A_2 c i arg2 harg2 arg3 harg3 arg4 harg4 arg5 harg5 hc x0 x1 y = tileOut sigm x0 x1 y := by
  have hw : (k0_pay1 x1 : S2048x1024.Idx → EReal) = x1 := by
    funext j
    rw [eq_ix2 j]
    pointwise [k0_pay1]
  rw [show tileOut sigm x0 x1 y = tileOut sigm x0 (k0_pay1 x1) y from congrArg (fun X => tileOut sigm x0 X y) hw.symm]
  frame_out
  canon_tiles x h
  all_goals
    refine chunk_rows sigm x0 (k0_pay1 x1) _ _ _ (pay_at _ _) x y ?_ ?_ <;> omega

theorem sout_A (hc : cond0_0 i) (x0 : Vec Ideal S1x2048x2048 .bf16) (x1 : Vec Ideal S2048x1024 .f32) (y : S2048x1024.Idx) :
    sout0_A_0 c i arg2 harg2 arg3 harg3 arg4 harg4 arg5 harg5 hc x0 x1 y = (x1 y : EReal) := by
  frame_out
  rw [eq_ix2 y]
  pointwise [k0_pay1]
end Body

variable (m : (ℓ : Loc nD τ sig) → Buf (Elt Ideal) ℓ)

abbrev argH (c : Dev nD) : Vec Ideal S8x2048x2048 .bf16 := m ((c : Thread nD τ).loc main_arg0)
abbrev argW (c : Dev nD) : Vec Ideal S1x2048x29824 .f32 := m ((c : Thread nD τ).loc main_arg1)

theorem idx0 : ∀ t : Fin cfg0.N, win0_0.index t = ![t.val % 8, 0, 0] := by decide +kernel
theorem idx1 : ∀ t : Fin cfg0.N, win0_1.index t = ![0, t.val / 8] := by decide +kernel
theorem idx2 : ∀ t : Fin cfg0.N, win0_2.index t = ![t.val % 8, 0, t.val / 8] := by decide +kernel

theorem point_lt (t : Fin cfg0.N) : t.val < 32 := Nat.lt_of_lt_of_eq t.isLt N_0

theorem acts_at (c : Dev nD) (t : Fin cfg0.N) (R k : Fin 2048) :
    iblk m c 0 t (ix3 (0 : Fin 1) R k) = argH m c (ix3 (⟨t.val % 8, by omega⟩ : Fin 8) R k) := by
  have ht := point_lt t
  blk_ext [iblk, V, idx0 t]

theorem entry_w (c : Dev nD) : V m c main_v1 = extractStridedSlice S2048x4096 ![0, 25728]
    (shapeCast S2048x29824 (argW m c) shapeCasts_S1x2048x29824_S2048x29824) slices_S2048x29824_S2048x4096_0_25728 := by
  unfold_abbrev_sides
  after_results
  rfl

theorem gate_columns (w : Vec Ideal S1x2048x29824 .f32) (k : Fin 2048) (C : Fin 4096) :
    (extractStridedSlice S2048x4096 ![0, 25728] (shapeCast S2048x29824 w shapeCasts_S1x2048x29824_S2048x29824) slices_S2048x29824_S2048x4096_0_25728 (ix2 k C) : EReal)
      = w (ix3 (0 : Fin 1) k (⟨25728 + C.val, by omega⟩ : Fin 29824)) := by
  pointwise

theorem weights_at (c : Dev nD) (t : Fin cfg0.N) (k : Fin 2048) (l : Fin 1024) :
    iblk m c 1 t (ix2 k l) = argW m c (ix3 (0 : Fin 1) k (⟨25728 + (1024 * (t.val / 8) + l.val), by have := point_lt t; omega⟩ : Fin 29824)) := by
  have ht := point_lt t
  have e : iblk m c 1 t (ix2 k l) = V m c main_v1 (ix2 k (⟨1024 * (t.val / 8) + l.val, by omega⟩ : Fin 4096)) := by
    unfold iblk
    generalize V m c = X
    blk_ext [idx1 t]
  rw [e, entry_w]
  exact gate_columns _ _ _

/-- The first batch of a tile stores the weight tile in the scratch. -/
theorem scratch_first (c : Dev nD) (t : Fin cfg0.N) (h0 : t.val % 8 = 0) (y : S2048x1024.Idx) :
    ((outsAt0 m c t.val t.isLt).2 y : EReal) = iblk m c 1 t y := by
  rw [outsAt0_A m c t h0]
  dsimp only
  rw [sout_A]

/-- The other batches keep it. -/
theorem scratch_next (c : Dev nD) (t : Fin cfg0.N) (h0 : ¬t.val % 8 = 0) (y : S2048x1024.Idx) :
    ((outsAt0 m c t.val t.isLt).2 y : EReal) = (outsAt0 m c (t.val - 1) (Nat.lt_of_le_of_lt (Nat.sub_le _ _) t.isLt)).2 y := by
  rw [outsAt0_B m c t h0]
  rfl

/-- So the scratch holds the point's weight tile. -/
theorem scratch_at (c : Dev nD) (t : Fin cfg0.N) (k : Fin 2048) (l : Fin 1024) :
    ((outsAt0 m c t.val t.isLt).2 (ix2 k l) : EReal)
      = argW m c (ix3 (0 : Fin 1) k (⟨25728 + (1024 * (t.val / 8) + l.val), by have := point_lt t; omega⟩ : Fin 29824)) := by
  have ht := point_lt t
  refine (Pipeline.eq_of_write_hold (M := EReal) (fun n h => (outsAt0 m c n h).2 (ix2 k l)) 8 (fun t => iblk m c 1 t (ix2 k l))
    (fun t h0 => scratch_first m c t h0 _) (fun t h0 => scratch_next m c t h0 _) t).trans ?_
  rw [weights_at]
  refine congrArg (fun C => argW m c (ix3 (0 : Fin 1) k C)) (Fin.ext ?_)
  show 25728 + (1024 * (8 * (t.val / 8) / 8) + l.val) = 25728 + (1024 * (t.val / 8) + l.val)
  omega

/-- What a point writes back. -/
theorem after_at (c : Dev nD) (t : Fin cfg0.N) (R : Fin 2048) (l : Fin 1024) :
    ((outsAt0 m c t.val t.isLt).1 (ix3 (0 : Fin 1) R l) : EReal)
      = sigm (column (argH m c) (argW m c) (⟨t.val % 8, by omega⟩ : Fin 8) R (⟨25728 + (1024 * (t.val / 8) + l.val), by have := point_lt t; omega⟩ : Fin 29824)) := by
  have ht := point_lt t
  by_cases h0 : t.val % 8 = 0
  · rw [outsAt0_A m c t h0]
    dsimp only
    rw [out_A]
    unfold tileOut column
    refine congrArg sigm (Finset.sum_congr rfl fun k _ => congrArg₂ _ ?_ ?_)
    · exact acts_at m c t R k
    · exact weights_at m c t k l
  · have hs := scratch_at m c t
    rw [outsAt0_B m c t h0] at hs ⊢
    dsimp only at hs ⊢
    rw [out_B]
    unfold tileOut column
    refine congrArg sigm (Finset.sum_congr rfl fun k _ => congrArg₂ _ ?_ ?_)
    · exact acts_at m c t R k
    · exact hs k l

theorem result_arr (c : Dev nD) : (dats m 0 c).arrAt 2 cfg0.N = result sigm 25728 4096 (by decide) (argH m c) (argW m c) := by
  refine (dats m 0 c).arrAt_eq_of_covers 2 _ (by decide +kernel) fun t hf y => ?_
  blk_simp
  rw [after0_2]
  have ht := point_lt t
  have hy : y = ix3 (0 : Fin 1) (y 1) (y 2) := eq_unit3 y
  have h0 : (y 0).val < 1 := (y 0).isLt
  have h2 : (y 2).val < 1024 := (y 2).isLt
  refine ((congrArg (outsAt0 m c t.val t.isLt).1 hy).trans (after_at m c t (y 1) (y 2))).trans ?_
  have e0 : (⟨t.val % 8, by omega⟩ : Fin 8) = (win0_2.blk t).view.emb y 0 := Fin.ext (by
    show t.val % 8 = _
    blk_simp [idx2 t])
  have e1 : y 1 = (win0_2.blk t).view.emb y 1 := Fin.ext (by
    blk_simp [idx2 t])
  have e2 : (⟨25728 + (1024 * (t.val / 8) + (y 2).val), by omega⟩ : Fin 29824)
      = ⟨25728 + ((win0_2.blk t).view.emb y 2).val, by have : ((win0_2.blk t).view.emb y 2).val < 4096 := ((win0_2.blk t).view.emb y 2).isLt; omega⟩ := Fin.ext (by
    show 25728 + (1024 * (t.val / 8) + (y 2).val) = 25728 + ((win0_2.blk t).view.emb y 2).val
    blk_simp [idx2 t]
    omega)
  unfold result
  rw [e0, e2]
  exact congrArg (fun R => sigm (column _ _ _ R _)) e1

end Cert.Proof.GatesIdeal

end
-- ==== Proof.GatesClaims.lean ====
/- What the reference of `Gates` holds, and the claims of the call. -/
module

public import proofs.«01_k».proof.Defs
public import proofs.«01_k».proof.Proof.GatesIdealValue
public import proofs.«01_k».proof.Proof.Gen.Gates.Frame
public import proofs.«01_k».proof.Proof.Gen.GatesRefIdeal.Run
public import Idealize.ShloMosaic.Lib.Claim
public import Idealize.ShloMosaic.Lib.IdealHost
public import Idealize.ShloMosaic.Lib.Quiescent

@[expose] public section

set_option maxRecDepth 16384

noncomputable section

namespace Cert.Proof.GatesRefIdeal

open Cert.GatesRefIdeal Cert.GatesRefIdeal.Gen
open Idealize.ShloMosaic Idealize.ShloMosaic.TcCoe Idealize.ShloMosaic.Tactic
open Cert.Proof.Projection (sigm)
open Cert.Proof.Projection (column logistic_host sigm_eq)

/-- The reference's product. -/
def projected (h : Vec Ideal S8x2048x2048 .bf16) (w : Vec Ideal S1x2048x29824 .f32) : Vec Ideal S8x2048x4096 .f32 :=
  Host.dotGeneral (F := Ideal) (φ₁ := .f32) (φ₂ := .f32) dot_S8x2048x2048_S2048x4096_S8x2048x4096_2_0_01_1_n_n none (extf (F := Ideal) .f32 h bitsLt_bf16_f32)
    (extractStridedSlice S2048x4096 ![0, 25728] (shapeCast S2048x29824 w shapeCasts_S1x2048x29824_S2048x29824) slices_S2048x29824_S2048x4096_0_25728)

/-- The logistic function, as the reference spells it. -/
def gated (X : Vec Ideal S8x2048x4096 .f32) : Vec Ideal S8x2048x4096 .bf16 :=
  truncf (F := Ideal) .bf16 (Host.divf (broadcastInDim S8x2048x4096 ![] bcast_S_S8x2048x4096 (constant S_ .f32 0x3F800000#32))
    (addf (broadcastInDim S8x2048x4096 ![] bcast_S_S8x2048x4096 (constant S_ .f32 0x3F800000#32)) (Host.exp (Host.negf X)))) bitsLt_bf16_f32

theorem projected_at (h : Vec Ideal S8x2048x2048 .bf16) (w : Vec Ideal S1x2048x29824 .f32) (b : Fin 8) (R : Fin 2048) (C : Fin 4096) :
    (projected h w (ix3 b R C) : EReal) = column h w b R (⟨25728 + C.val, by omega⟩ : Fin 29824) := by
  unfold column
  pointwise [projected]

theorem gated_at (X : Vec Ideal S8x2048x4096 .f32) (z : S8x2048x4096.Idx) : gated X z = sigm (X z) :=
  (logistic_host (X z)).trans (sigm_eq (X z)).symm

theorem value (h : Vec Ideal S8x2048x2048 .bf16) (w : Vec Ideal S1x2048x29824 .f32) : gated (projected h w) = Projection.result sigm 25728 4096 (by decide) h w := by
  funext z
  rw [gated_at, show z = ix3 (z 0) (z 1) (z 2) from eq_ix3 z]
  exact congrArg sigm (projected_at h w (z 0) (z 1) (z 2))

end Cert.Proof.GatesRefIdeal

namespace Cert.Proof.Gates

open Idealize.ShloMosaic Idealize.ShloMosaic.TcCoe Idealize.SL.Sem
open Cert.Proof.Projection (sigm)

theorem frame_p : Cert.quiescent_Gates := fun m ρ _ => Cert.Gates.Gen.frame m ρ
theorem frame_pi : Cert.quiescent_GatesIdeal := fun m ρ _ => Cert.GatesIdeal.Gen.frame m ρ
theorem frame_ri : Cert.quiescent_GatesRefIdeal := fun m ρ _ =>
  (θ_run Cert.GatesRefIdeal.defs _ _).mono (fun r h => ⟨fun c => (h c).2, sem_eq_zero_of_no_sems (by decide) r.2⟩) (Cert.GatesRefIdeal.Value.run (F := Ideal) m ρ)
theorem preserves : Cert.preserves_Gates_GatesIdeal := trivial

theorem algebraic : Cert.algebraic_GatesIdeal_GatesRefIdeal := by
  intro m g m' g' _ hargs
  refine ⟨fun c => Projection.result sigm 25728 4096 (by decide) (GatesIdeal.argH m c) (GatesIdeal.argW m c), ?_, ?_⟩
  · exact (θ_run _ _ _).mono (fun r h c => ⟨(h c).1.trans (GatesIdeal.result_arr m c), (h c).2⟩) (Cert.GatesIdeal.Value.run_blocks m g)
  · refine (θ_run _ _ _).mono (fun r h c => ⟨(h c).1.trans ((GatesRefIdeal.value _ _).trans ?_), (h c).2⟩) (Cert.GatesRefIdeal.Value.run (F := Ideal) m' g')
    obtain ⟨h0, h1⟩ := hargs c
    show Projection.result _ _ _ _ _ _ = Projection.result _ _ _ _ _ _
    rw [h0, h1]

end Cert.Proof.Gates

end
-- ==== Proof.Rotary.lean ====
/- Heads of the query, key and value projection, the queries and keys turned by the rotary tables: what a call leaves, one chunk of
   rows of one head as the kernel computes it, and the full-width tables that it takes. -/
module

public import proofs.«01_k».proof.Proof.Projection
public import Idealize.ShloMosaic.Lib.Pointwise
public import Idealize.ShloMosaic.Lib.Pipeline.ValueKit

@[expose] public section

noncomputable section

namespace Cert.Proof.Rotary

open Idealize.ShloMosaic Idealize.ShloMosaic.TcCoe Idealize.ShloMosaic.Tactic
open Cert.Proof.Projection (column Acts Weights)

/-- The half-width tables `[3, 8, 2048, 64]`: a group's, of each batch and position. -/
abbrev Tables : Shape := ⟨4, ![3, 8, 2048, 64]⟩

/-- The full-width tables, and those of all the groups and batches one after another. -/
abbrev Wide : Shape := ⟨4, ![3, 8, 2048, 128]⟩
abbrev Flat : Shape := ⟨3, ![24, 2048, 128]⟩

/-- A head's row turned by the angles whose cosines and sines are given: entry `l` is turned with entry `l` plus or minus 64. -/
def turn (X : Fin 128 → EReal) (cs sn : Fin 64 → EReal) (l : Fin 128) : EReal :=
  if h : l.val < 64 then X l * cs ⟨l.val, h⟩ - X ⟨64 + l.val, by omega⟩ * sn ⟨l.val, h⟩
  else X l * cs ⟨l.val - 64, by omega⟩ + X ⟨l.val - 64, by omega⟩ * sn ⟨l.val - 64, by omega⟩

/-- Column `l` of head `n` (queries, then keys, then values, twelve of each) of group `g`. -/
def headCol (g : Fin 3) (n : Fin 36) (l : Fin 128) : Fin 29824 :=
  ⟨n.val / 12 * 4608 + g.val * 1536 + n.val % 12 * 128 + l.val, by omega⟩

/-- Entry `l` at position `r` of head `n` of batch `b`. -/
def entry (g : Fin 3) (h : Vec Ideal Acts .bf16) (w : Vec Ideal Weights .f32) (cos sin : Vec Ideal Tables .f32) (b : Fin 8) (n : Fin 36) (r : Fin 2048) (l : Fin 128) : EReal :=
  if n.val < 24 then
    turn (fun l => column h w b r (headCol g n l)) (fun l => cos (ix4 g b r l)) (fun l => sin (ix4 g b r l)) l
  else column h w b r (headCol g n l)

/-- What the call for group `g` leaves. -/
def result (g : Fin 3) (h : Vec Ideal Acts .bf16) (w : Vec Ideal Weights .f32) (cos sin : Vec Ideal Tables .f32) :
    (⟨4, ![8, 36, 2048, 128]⟩ : Shape).Idx → EReal :=
  fun z => entry g h w cos sin (z 0) (z 1) (z 2) (z 3)

/-! ## The full-width tables -/

theorem side_by_side : Shape.Concatenates [Tables, Tables] Wide 3 := by decide

def wideCos (cos : Vec Ideal Tables .f32) : Vec Ideal Flat .f32 :=
  shapeCast Flat (concatenate Wide 3 [⟨Tables, cos⟩, ⟨Tables, cos⟩] side_by_side) (by decide)

def wideSin (sin : Vec Ideal Tables .f32) : Vec Ideal Flat .f32 :=
  shapeCast Flat (concatenate Wide 3 [⟨Tables, Host.negf (F := Ideal) (φ := .f32) sin⟩, ⟨Tables, sin⟩] side_by_side) (by decide)

theorem wideCos_at (cos : Vec Ideal Tables .f32) (g : Fin 3) (b : Fin 8) (r : Fin 2048) (l : Fin 128) :
    (wideCos cos (ix3 (⟨8 * g.val + b.val, by omega⟩ : Fin 24) r l) : EReal) = cos (ix4 g b r (⟨l.val % 64, by omega⟩ : Fin 64)) := by
  pointwise [wideCos]
  split
  · have e3 : l.val % 64 = l.val := by omega
    simp only [e3]
  · have e3 : l.val % 64 = l.val - 64 := by omega
    simp only [e3]

theorem wideSin_at (sin : Vec Ideal Tables .f32) (g : Fin 3) (b : Fin 8) (r : Fin 2048) (l : Fin 128) :
    (wideSin sin (ix3 (⟨8 * g.val + b.val, by omega⟩ : Fin 24) r l) : EReal)
      = if l.val < 64 then -(sin (ix4 g b r (⟨l.val % 64, by omega⟩ : Fin 64)) : EReal) else sin (ix4 g b r (⟨l.val % 64, by omega⟩ : Fin 64)) := by
  pointwise [wideSin]
  split
  · have e3 : l.val % 64 = l.val := by omega
    simp only [e3]
  · have e3 : l.val % 64 = l.val - 64 := by omega
    simp only [e3]

/-- The kernel's spelling of the turn: the row times the cosines, and the row rotated by 64 times the signed sines. -/
theorem turn_wide (X : Fin 128 → EReal) (cs sn : Fin 64 → EReal) (l : Fin 128) :
    X l * cs ⟨l.val % 64, by omega⟩ + X ⟨(l.val + 64) % 128, by omega⟩ * (if l.val < 64 then -sn ⟨l.val % 64, by omega⟩ else sn ⟨l.val % 64, by omega⟩)
      = turn X cs sn l := by
  unfold turn
  split
  · rename_i h
    have e3 : l.val % 64 = l.val := by omega
    have e4 : (l.val + 64) % 128 = 64 + l.val := by omega
    simp only [e3, e4]
    rw [mul_neg, sub_eq_add_neg]
  · rename_i h
    have e3 : l.val % 64 = l.val - 64 := by omega
    have e4 : (l.val + 64) % 128 = l.val - 64 := by omega
    simp only [e3, e4]

/-! ## One chunk of one head -/

section Chunk

abbrev Rows : Shape := ⟨3, ![1, 2048, 2048]⟩
abbrev Tile : Shape := ⟨2, ![2048, 768]⟩
abbrev Table : Shape := ⟨3, ![1, 2048, 128]⟩
abbrev Prod : Shape := ⟨2, ![512, 768]⟩
abbrev Head : Shape := ⟨2, ![512, 128]⟩
abbrev Piece : Shape := ⟨4, ![1, 1, 512, 128]⟩
abbrev Block : Shape := ⟨4, ![1, 6, 2048, 128]⟩

/-- The kernel's turn of a head of a product, `C` and `S` being the chunk's tables. -/
def turned (o : ℕ) (hs : Prod.Slices ![0, o] Head) (M : FVec Ideal Prod .f32) (C S : FVec Ideal Head .f32) : FVec Ideal Piece .bf16 :=
  shapeCast Piece (truncf (F := Ideal) .bf16 (addf (mulf (extractStridedSlice Head ![0, o] M hs) C)
    (mulf (dynamicRotate 1 64#32 none (extractStridedSlice Head ![0, o] M hs) (by decide)) S)) (by decide)) (by decide)

/-- A head of a product as it is. -/
def kept (o : ℕ) (hs : Prod.Slices ![0, o] Head) (M : FVec Ideal Prod .f32) : FVec Ideal Piece .bf16 :=
  shapeCast Piece (truncf (F := Ideal) .bf16 (extractStridedSlice Head ![0, o] M hs) (by decide)) (by decide)

theorem slice_lt {o : ℕ} (hs : Prod.Slices ![0, o] Head) : o + 128 ≤ 768 := hs.2 1

theorem turned_at (o : ℕ) (hs : Prod.Slices ![0, o] Head) (M : FVec Ideal Prod .f32) (C S : FVec Ideal Head .f32) (r : Fin 512) (l : Fin 128) :
    (turned o hs M C S (ix4 (0 : Fin 1) (0 : Fin 1) r l) : EReal)
      = M (ix2 r (⟨o + l.val, by have := slice_lt hs; omega⟩ : Fin 768)) * C (ix2 r l)
        + M (ix2 r (⟨o + (l.val + 64) % 128, by have := slice_lt hs; omega⟩ : Fin 768)) * S (ix2 r l) := by
  have e : (l.val + 128 - 64) % 128 = (l.val + 64) % 128 := by omega
  pointwise [turned]
  simp only [e]

theorem kept_at (o : ℕ) (hs : Prod.Slices ![0, o] Head) (M : FVec Ideal Prod .f32) (r : Fin 512) (l : Fin 128) :
    (kept o hs M (ix4 (0 : Fin 1) (0 : Fin 1) r l) : EReal) = M (ix2 r (⟨o + l.val, by have := slice_lt hs; omega⟩ : Fin 768)) := by
  pointwise [kept]

/-- A row of the block against column `l` of head `n` of the weight tile. -/
def tileCol (x0 : Rows.Idx → EReal) (w : Tile.Idx → EReal) (n : Fin 6) (r : Fin 2048) (l : Fin 128) : EReal :=
  ∑ k : Fin 2048, x0 (ix3 (0 : Fin 1) r k) * w (ix2 k (⟨128 * n.val + l.val, by omega⟩ : Fin 768))

/-- An entry of a turned block, and of one that is kept. -/
def tileTurned (x0 : Rows.Idx → EReal) (w : Tile.Idx → EReal) (cs sn : Table.Idx → EReal) (y : Block.Idx) : EReal :=
  tileCol x0 w (y 1) (y 2) (y 3) * cs (ix3 (0 : Fin 1) (y 2) (y 3))
    + tileCol x0 w (y 1) (y 2) (⟨((y 3).val + 64) % 128, Nat.mod_lt _ (by decide)⟩ : Fin 128) * sn (ix3 (0 : Fin 1) (y 2) (y 3))
def tileKept (x0 : Rows.Idx → EReal) (w : Tile.Idx → EReal) (y : Block.Idx) : EReal := tileCol x0 w (y 1) (y 2) (y 3)

theorem eq_piece (x : Piece.Idx) : x = ix4 (0 : Fin 1) (0 : Fin 1) (x 2) (x 3) := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

/-- A load of 512 rows of an array of one matrix, at the row of the array. -/
theorem load_rows {n : ℕ} {e : EltTy} (X : Vec Ideal (⟨3, ![1, 2048, n]⟩ : Shape) e) (p : ℕ)
    (inb : ∀ a, ![0, p, 0] a + ![1, 512, n] a ≤ (⟨3, ![1, 2048, n]⟩ : Shape).size a) (r : Fin 512) (R : Fin 2048) (l : Fin n) (hR : R.val = p + r.val) :
    View.ld X (Rect.unit ![0, p, 0] ![1, 512, n] inb) (ix3 (0 : Fin 1) r l) = X (ix3 (0 : Fin 1) R l) := by
  refine View.ld_unit_apply_of X _ _ _ _ _ fun a => ?_
  match a with
  | ⟨0, _⟩ => rfl
  | ⟨1, _⟩ => exact hR
  | ⟨2, _⟩ => exact (Nat.zero_add _).symm

/-- The product of the chunk of rows from `p` on, at a row and a column of head `n`. -/
theorem product_at (x0 : Vec Ideal Rows .bf16) (w : Tile.Idx → EReal) (p o : ℕ) (inb : ∀ a, ![0, p, 0] a + ![1, 512, 2048] a ≤ Rows.size a) (M : Prod.Idx → EReal)
    (hM : ∀ (r : Fin 512) (c : Fin 768), M (ix2 r c) = ∑ k : Fin 2048, View.ld x0 (Rect.unit ![0, p, 0] ![1, 512, 2048] inb) (ix3 (0 : Fin 1) r k) * w (ix2 k c))
    (n : Fin 6) (hn : o = 128 * n.val) (r : Fin 512) (R : Fin 2048) (hR : R.val = p + r.val) (l l' : Fin 128) (hl : l'.val = l.val) (h : o + l.val < 768) :
    M (ix2 r (⟨o + l.val, h⟩ : Fin 768)) = tileCol x0 w n R l' := by
  subst hn
  rw [hM, show l' = l from Fin.ext hl]
  exact Finset.sum_congr rfl fun k _ => congrArg (· * _) (load_rows x0 p inb r R k hR)

/-- A chunk of a turned head, stored at the rows it was read from. -/
theorem turned_rows (x0 : Vec Ideal Rows .bf16) (w : Tile.Idx → EReal) (cs sn : Vec Ideal Table .f32) (p o : ℕ)
    (inb : ∀ a, ![0, p, 0] a + ![1, 512, 2048] a ≤ Rows.size a) (inbc : ∀ a, ![0, p, 0] a + ![1, 512, 128] a ≤ Table.size a)
    (hs : Prod.Slices ![0, o] Head) (M : FVec Ideal Prod .f32) (C S : FVec Ideal Head .f32)
    (hM : ∀ (r : Fin 512) (c : Fin 768), (M (ix2 r c) : EReal) = ∑ k : Fin 2048, View.ld x0 (Rect.unit ![0, p, 0] ![1, 512, 2048] inb) (ix3 (0 : Fin 1) r k) * w (ix2 k c))
    (hC : ∀ (r : Fin 512) (l : Fin 128), (C (ix2 r l) : EReal) = View.ld cs (Rect.unit ![0, p, 0] ![1, 512, 128] inbc) (ix3 (0 : Fin 1) r l))
    (hS : ∀ (r : Fin 512) (l : Fin 128), (S (ix2 r l) : EReal) = View.ld sn (Rect.unit ![0, p, 0] ![1, 512, 128] inbc) (ix3 (0 : Fin 1) r l))
    (x : Piece.Idx) (y : Block.Idx) (h1 : o = 128 * (y 1).val) (h2 : (y 2).val = p + (x 2).val) (h3 : (y 3).val = (x 3).val) :
    (turned o hs M C S x : EReal) = tileTurned x0 w cs sn y := by
  have e3 : (y 3 : Fin 128) = x 3 := Fin.ext h3
  have l3 : (x 3).val < 128 := (x 3).isLt
  have ho : o + 128 ≤ 768 := slice_lt hs
  rw [eq_piece x]
  refine (turned_at o hs M C S (x 2) (x 3)).trans ?_
  unfold tileTurned
  refine congrArg₂ (· + ·) (congrArg₂ (· * ·) ?_ ?_) (congrArg₂ (· * ·) ?_ ?_)
  · exact product_at x0 w p o inb M hM (y 1) h1 (x 2) (y 2) h2 (x 3) (y 3) h3 (by omega)
  · refine (hC (x 2) (x 3)).trans ((load_rows cs p inbc (x 2) (y 2) (x 3) h2).trans ?_)
    exact congrArg (fun l => cs (ix3 (0 : Fin 1) (y 2) l)) e3.symm
  · exact product_at x0 w p o inb M hM (y 1) h1 (x 2) (y 2) h2 (⟨((x 3).val + 64) % 128, Nat.mod_lt _ (by decide)⟩ : Fin 128) _ (by show _ % 128 = _ % 128; rw [h3]) (by show o + _ % 128 < 768; omega)
  · refine (hS (x 2) (x 3)).trans ((load_rows sn p inbc (x 2) (y 2) (x 3) h2).trans ?_)
    exact congrArg (fun l => sn (ix3 (0 : Fin 1) (y 2) l)) e3.symm

/-- A chunk of a kept head. -/
theorem kept_rows (x0 : Vec Ideal Rows .bf16) (w : Tile.Idx → EReal) (p o : ℕ) (inb : ∀ a, ![0, p, 0] a + ![1, 512, 2048] a ≤ Rows.size a)
    (hs : Prod.Slices ![0, o] Head) (M : FVec Ideal Prod .f32)
    (hM : ∀ (r : Fin 512) (c : Fin 768), (M (ix2 r c) : EReal) = ∑ k : Fin 2048, View.ld x0 (Rect.unit ![0, p, 0] ![1, 512, 2048] inb) (ix3 (0 : Fin 1) r k) * w (ix2 k c))
    (x : Piece.Idx) (y : Block.Idx) (h1 : o = 128 * (y 1).val) (h2 : (y 2).val = p + (x 2).val) (h3 : (y 3).val = (x 3).val) :
    (kept o hs M x : EReal) = tileKept x0 w y := by
  have l3 : (x 3).val < 128 := (x 3).isLt
  have ho : o + 128 ≤ 768 := slice_lt hs
  rw [eq_piece x]
  refine (kept_at o hs M (x 2) (x 3)).trans ?_
  exact product_at x0 w p o inb M hM (y 1) h1 (x 2) (y 2) h2 (x 3) (y 3) h3 (by omega)

end Chunk

/-! ## A grid point's block -/

section Point

theorem eq_block {a b k : ℕ} (y : (⟨4, ![1, a, b, k]⟩ : Shape).Idx) : y = ix4 (0 : Fin 1) (y 1) (y 2) (y 3) := by
  funext a
  match a with
  | ⟨0, _⟩ => exact Fin.ext (by have h : (y 0).val < 1 := (y 0).isLt; show (y 0).val = 0; omega)
  | ⟨1, _⟩ => rfl
  | ⟨2, _⟩ => rfl
  | ⟨3, _⟩ => rfl

variable (g : Fin 3) (h : Vec Ideal Acts .bf16) (w : Vec Ideal Weights .f32) (cos sin : Vec Ideal Tables .f32)
  (x0 : Rows.Idx → EReal) (x1 : Tile.Idx → EReal) (x2 x3 : Table.Idx → EReal) (t : ℕ) (ht : t < 48)

include ht in
/-- The tile that a point reads, as columns of its heads. -/
theorem tile_column (b : Fin 8) (h0 : ∀ (R k : Fin 2048), x0 (ix3 (0 : Fin 1) R k) = h (ix3 b R k))
    (hw : ∀ (k : Fin 2048) (l : Fin 768), x1 (ix2 k l) = w (ix3 (0 : Fin 1) k (⟨768 * (t / 8 / 2 * 6 + g.val * 2 + t / 8 % 2) + l.val, by omega⟩ : Fin 29824)))
    (n : Fin 6) (R : Fin 2048) (l : Fin 128) : tileCol x0 x1 n R l = column h w b R (headCol g (⟨6 * (t / 8) + n.val, by omega⟩ : Fin 36) l) := by
  unfold tileCol column
  have e : (6 * (t / 8) + n.val) / 12 = t / 8 / 2 := by omega
  have e' : (6 * (t / 8) + n.val) % 12 = 6 * (t / 8 % 2) + n.val := by omega
  have hC : (⟨768 * (t / 8 / 2 * 6 + g.val * 2 + t / 8 % 2) + (128 * n.val + l.val), by omega⟩ : Fin 29824) = headCol g (⟨6 * (t / 8) + n.val, by omega⟩ : Fin 36) l := Fin.ext (by
    show 768 * (t / 8 / 2 * 6 + g.val * 2 + t / 8 % 2) + (128 * n.val + l.val) = (6 * (t / 8) + n.val) / 12 * 4608 + g.val * 1536 + (6 * (t / 8) + n.val) % 12 * 128 + l.val
    rw [e, e']
    omega)
  refine Finset.sum_congr rfl fun k _ => ?_
  rw [h0 R k, hw k, hC]

theorem turned_entry (h1 : t < 32) (h0 : ∀ (R k : Fin 2048), x0 (ix3 (0 : Fin 1) R k) = h (ix3 (⟨t % 8, by omega⟩ : Fin 8) R k))
    (hw : ∀ (k : Fin 2048) (l : Fin 768), x1 (ix2 k l) = w (ix3 (0 : Fin 1) k (⟨768 * (t / 8 / 2 * 6 + g.val * 2 + t / 8 % 2) + l.val, by omega⟩ : Fin 29824)))
    (h2 : ∀ (R : Fin 2048) (l : Fin 128), x2 (ix3 (0 : Fin 1) R l) = wideCos cos (ix3 (⟨8 * g.val + t % 8, by omega⟩ : Fin 24) R l))
    (h3 : ∀ (R : Fin 2048) (l : Fin 128), x3 (ix3 (0 : Fin 1) R l) = wideSin sin (ix3 (⟨8 * g.val + t % 8, by omega⟩ : Fin 24) R l))
    (n : Fin 6) (R : Fin 2048) (l : Fin 128) :
    tileTurned x0 x1 x2 x3 (ix4 (0 : Fin 1) n R l) = entry g h w cos sin (⟨t % 8, by omega⟩ : Fin 8) (⟨6 * (t / 8) + n.val, by omega⟩ : Fin 36) R l := by
  have hc := tile_column g h w x0 x1 t ht _ h0 hw n R
  unfold entry
  rw [if_pos (by show 6 * (t / 8) + n.val < 24; omega), ← turn_wide]
  unfold tileTurned
  refine congrArg₂ (· + ·) (congrArg₂ (· * ·) (hc _) ((h2 R l).trans (wideCos_at cos g (⟨t % 8, by omega⟩ : Fin 8) R l)))
    (congrArg₂ (· * ·) (hc _) ((h3 R l).trans (wideSin_at sin g (⟨t % 8, by omega⟩ : Fin 8) R l)))

theorem kept_entry (h1 : ¬t < 32) (h0 : ∀ (R k : Fin 2048), x0 (ix3 (0 : Fin 1) R k) = h (ix3 (⟨t % 8, by omega⟩ : Fin 8) R k))
    (hw : ∀ (k : Fin 2048) (l : Fin 768), x1 (ix2 k l) = w (ix3 (0 : Fin 1) k (⟨768 * (t / 8 / 2 * 6 + g.val * 2 + t / 8 % 2) + l.val, by omega⟩ : Fin 29824)))
    (n : Fin 6) (R : Fin 2048) (l : Fin 128) :
    tileKept x0 x1 (ix4 (0 : Fin 1) n R l) = entry g h w cos sin (⟨t % 8, by omega⟩ : Fin 8) (⟨6 * (t / 8) + n.val, by omega⟩ : Fin 36) R l := by
  unfold entry
  rw [if_neg (by show ¬6 * (t / 8) + n.val < 24; omega)]
  exact tile_column g h w x0 x1 t ht _ h0 hw n R l

end Point

end Cert.Proof.Rotary

end
-- ==== Proof.QkvAIdealValue.lean ====
/- What the result array of `QkvAIdeal` holds, entry by entry, in terms of the arguments. -/
module

public import proofs.«01_k».proof.Proof.Rotary
public import proofs.«01_k».proof.Proof.Gen.QkvAIdeal.Value
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.QkvAIdeal

open Cert.QkvAIdeal Cert.QkvAIdeal.Gen
open Idealize.ShloMosaic Idealize.ShloMosaic.TcCoe Idealize.ShloMosaic.Tactic
open Idealize.ShloMosaic.Pipeline (Dat Cfg Window BodyObligation cellOf)
open Cert.Proof.Projection (column)
open Cert.Proof.Rotary (entry result tileTurned tileKept turned_rows kept_rows)

section Body
variable (c : Dev nD) (i : grid0.Coords) (arg2 : Memref sig .tc .vmem S1x2048x2048 .bf16) (harg2 : arg2.IsWhole)
  (arg3 : Memref sig .tc .vmem S2048x768 .f32) (harg3 : arg3.IsWhole) (arg4 : Memref sig .tc .vmem S1x2048x128 .f32) (harg4 : arg4.IsWhole)
  (arg5 : Memref sig .tc .vmem S1x2048x128 .f32) (harg5 : arg5.IsWhole) (arg6 : Memref sig .tc .vmem S1x6x2048x128 .bf16) (harg6 : arg6.IsWhole)
  (arg7 : Memref sig .tc .vmem S2048x768 .bf16) (harg7 : arg7.IsWhole)

theorem product_at (v : Vec Ideal S1x512x2048 .bf16) (w : Vec Ideal S2048x768 .bf16) (r : Fin 512) (l : Fin 768) :
    (k0_pay8 v w (ix2 r l) : EReal) = ∑ k : Fin 2048, v (ix3 (0 : Fin 1) r k) * w (ix2 k l) := by
  pointwise [k0_pay8]

theorem table_at (v : Vec Ideal S1x512x128 .f32) (r : Fin 512) (l : Fin 128) : (k0_pay9 v (ix2 r l) : EReal) = v (ix3 (0 : Fin 1) r l) := by
  pointwise [k0_pay9]

theorem narrowed (x1 : Vec Ideal S2048x768 .f32) : (k0_pay1 x1 : S2048x768.Idx → EReal) = x1 := by
  funext j
  rw [eq_ix2 j]
  pointwise [k0_pay1]

theorem out_B (hc0 hc1 hc2) (x0 : Vec Ideal S1x2048x2048 .bf16) (x1 : Vec Ideal S2048x768 .f32) (x2 x3 : Vec Ideal S1x2048x128 .f32) (xs : Vec Ideal S2048x768 .bf16) (y : S1x6x2048x128.Idx) :
    out0_B_4 c i arg2 harg2 arg3 harg3 arg4 harg4 arg5 harg5 arg6 harg6 arg7 harg7 hc0 hc1 hc2 x0 x1 x2 x3 xs y = tileTurned x0 xs x2 x3 y := by
  frame_out
  canon_tiles x h
  all_goals
    have b1 : (x 1).val < 1 := (x 1).isLt
    refine turned_rows x0 xs x2 x3 _ _ _ _ (by decide) _ _ _ (product_at _ _) (table_at _) (table_at _) x y ?_ ?_ ?_ <;> omega

theorem out_D (hc0 hc1 hc2) (x0 : Vec Ideal S1x2048x2048 .bf16) (x1 : Vec Ideal S2048x768 .f32) (x2 x3 : Vec Ideal S1x2048x128 .f32) (xs : Vec Ideal S2048x768 .bf16) (y : S1x6x2048x128.Idx) :
    out0_D_4 c i arg2 harg2 arg3 harg3 arg4 harg4 arg5 harg5 arg6 harg6 arg7 harg7 hc0 hc1 hc2 x0 x1 x2 x3 xs y = tileKept x0 xs y := by
  frame_out
  canon_tiles x h
  all_goals
    have b1 : (x 1).val < 1 := (x 1).isLt
    refine kept_rows x0 xs _ _ _ (by decide) _ (product_at _ _) x y ?_ ?_ ?_ <;> omega

theorem out_A (hc0 hc1 hc2) (x0 : Vec Ideal S1x2048x2048 .bf16) (x1 : Vec Ideal S2048x768 .f32) (x2 x3 : Vec Ideal S1x2048x128 .f32) (y : S1x6x2048x128.Idx) :
    out0_A_4 c i arg2 harg2 arg3 harg3 arg4 harg4 arg5 harg5 arg6 harg6 arg7 harg7 hc0 hc1 hc2 x0 x1 x2 x3 y = tileTurned x0 x1 x2 x3 y := by
  rw [show tileTurned x0 x1 x2 x3 y = tileTurned x0 (k0_pay1 x1) x2 x3 y from congrArg (fun X => tileTurned x0 X x2 x3 y) (narrowed x1).symm]
  frame_out
  canon_tiles x h
  all_goals
    have b1 : (x 1).val < 1 := (x 1).isLt
    refine turned_rows x0 (k0_pay1 x1) x2 x3 _ _ _ _ (by decide) _ _ _ (product_at _ _) (table_at _) (table_at _) x y ?_ ?_ ?_ <;> omega

theorem out_C (hc0 hc1 hc2) (x0 : Vec Ideal S1x2048x2048 .bf16) (x1 : Vec Ideal S2048x768 .f32) (x2 x3 : Vec Ideal S1x2048x128 .f32) (y : S1x6x2048x128.Idx) :
    out0_C_4 c i arg2 harg2 arg3 harg3 arg4 harg4 arg5 harg5 arg6 harg6 arg7 harg7 hc0 hc1 hc2 x0 x1 x2 x3 y = tileKept x0 x1 y := by
  rw [show tileKept x0 x1 y = tileKept x0 (k0_pay1 x1) y from congrArg (fun X => tileKept x0 X y) (narrowed x1).symm]
  frame_out
  canon_tiles x h
  all_goals
    have b1 : (x 1).val < 1 := (x 1).isLt
    refine kept_rows x0 (k0_pay1 x1) _ _ _ (by decide) _ (product_at _ _) x y ?_ ?_ ?_ <;> omega

theorem sout_A (hc0 hc1 hc2) (x0 : Vec Ideal S1x2048x2048 .bf16) (x1 : Vec Ideal S2048x768 .f32) (x2 x3 : Vec Ideal S1x2048x128 .f32) (y : S2048x768.Idx) :
    sout0_A_0 c i arg2 harg2 arg3 harg3 arg4 harg4 arg5 harg5 arg6 harg6 arg7 harg7 hc0 hc1 hc2 x0 x1 x2 x3 y = (x1 y : EReal) := by
  frame_out
  exact congrFun (narrowed x1) y

theorem sout_C (hc0 hc1 hc2) (x0 : Vec Ideal S1x2048x2048 .bf16) (x1 : Vec Ideal S2048x768 .f32) (x2 x3 : Vec Ideal S1x2048x128 .f32) (y : S2048x768.Idx) :
    sout0_C_0 c i arg2 harg2 arg3 harg3 arg4 harg4 arg5 harg5 arg6 harg6 arg7 harg7 hc0 hc1 hc2 x0 x1 x2 x3 y = (x1 y : EReal) := by
  frame_out
  exact congrFun (narrowed x1) y
end Body

variable (m : (ℓ : Loc nD τ sig) → Buf (Elt Ideal) ℓ)

abbrev argH (c : Dev nD) : Vec Ideal S8x2048x2048 .bf16 := m ((c : Thread nD τ).loc main_arg0)
abbrev argW (c : Dev nD) : Vec Ideal S1x2048x29824 .f32 := m ((c : Thread nD τ).loc main_arg1)
abbrev argCos (c : Dev nD) : Vec Ideal S3x8x2048x64 .f32 := m ((c : Thread nD τ).loc main_arg2)
abbrev argSin (c : Dev nD) : Vec Ideal S3x8x2048x64 .f32 := m ((c : Thread nD τ).loc main_arg3)

/-- The call's group. -/
abbrev group : Fin 3 := 0

/-- The tile of the weights that a point reads: the two tiles of the group's queries, of its keys, of its values. -/
def tile (t : ℕ) : ℕ := t / 8 / 2 * 6 + group.val * 2 + t / 8 % 2

theorem idx0 : ∀ t : Fin cfg0.N, win0_0.index t = ![t.val % 8, 0, 0] := by decide +kernel
theorem idx1 : ∀ t : Fin cfg0.N, win0_1.index t = ![0, tile t.val] := by decide +kernel
theorem idx2 : ∀ t : Fin cfg0.N, win0_2.index t = ![8 * group.val + t.val % 8, 0, 0] := by decide +kernel
theorem idx3 : ∀ t : Fin cfg0.N, win0_3.index t = ![8 * group.val + t.val % 8, 0, 0] := by decide +kernel
theorem idx4 : ∀ t : Fin cfg0.N, win0_4.index t = ![t.val % 8, t.val / 8, 0, 0] := by decide +kernel

theorem point_lt (t : Fin cfg0.N) : t.val < 48 := Nat.lt_of_lt_of_eq t.isLt N_0

theorem tile_lt (t : Fin cfg0.N) : tile t.val < 18 := by
  have := point_lt t
  have : group.val < 3 := group.isLt
  unfold tile
  omega

theorem acts_at (c : Dev nD) (t : Fin cfg0.N) (R k : Fin 2048) :
    iblk m c 0 t (ix3 (0 : Fin 1) R k) = argH m c (ix3 (⟨t.val % 8, by omega⟩ : Fin 8) R k) := by
  have ht := point_lt t
  blk_ext [iblk, V, idx0 t]

theorem entry_w (c : Dev nD) : V m c main_v0 = shapeCast S2048x29824 (argW m c) shapeCasts_S1x2048x29824_S2048x29824 := by
  unfold_abbrev_sides
  after_results
  rfl

theorem entry_cos (c : Dev nD) : V m c main_v2 = Rotary.wideCos (argCos m c) := by
  unfold_abbrev_sides
  after_results
  rfl

theorem entry_sin (c : Dev nD) : V m c main_v5 = Rotary.wideSin (argSin m c) := by
  unfold_abbrev_sides
  after_results
  rfl

theorem weights_at (c : Dev nD) (t : Fin cfg0.N) (k : Fin 2048) (l : Fin 768) :
    X0_1 m c t (ix2 k l) = argW m c (ix3 (0 : Fin 1) k (⟨768 * tile t.val + l.val, by have := tile_lt t; omega⟩ : Fin 29824)) := by
  have ht := tile_lt t
  have e : X0_1 m c t (ix2 k l) = V m c main_v0 (ix2 k (⟨768 * tile t.val + l.val, by omega⟩ : Fin 29824)) := by
    unfold X0_1 Pipeline.Window.fill
    rw [dif_pos (moved0_1 t _)]
    unfold iblk
    generalize V m c = X
    blk_ext [idx1 t]
  rw [e, entry_w]
  exact ValueIdx.shapeCast_1ab_ab_apply _ _ _ _

theorem cos_at (c : Dev nD) (t : Fin cfg0.N) (R : Fin 2048) (l : Fin 128) :
    iblk m c 2 t (ix3 (0 : Fin 1) R l) = Rotary.wideCos (argCos m c) (ix3 (⟨8 * group.val + t.val % 8, by have := group.isLt; omega⟩ : Fin 24) R l) := by
  have ht := point_lt t
  rw [← entry_cos]
  unfold iblk
  generalize V m c = X
  blk_ext [idx2 t]

theorem sin_at (c : Dev nD) (t : Fin cfg0.N) (R : Fin 2048) (l : Fin 128) :
    iblk m c 3 t (ix3 (0 : Fin 1) R l) = Rotary.wideSin (argSin m c) (ix3 (⟨8 * group.val + t.val % 8, by have := group.isLt; omega⟩ : Fin 24) R l) := by
  have ht := point_lt t
  rw [← entry_sin]
  unfold iblk
  generalize V m c = X
  blk_ext [idx3 t]

/-- The first batch of a tile stores the weight tile in the scratch. -/
theorem scratch_first (c : Dev nD) (t : Fin cfg0.N) (h0 : t.val % 8 = 0) (y : S2048x768.Idx) :
    ((outsAt0 m c t.val t.isLt).2 y : EReal) = X0_1 m c t y := by
  by_cases h1 : t.val < 32
  · rw [outsAt0_A m c t h0 h1 (by omega)]
    dsimp only
    rw [sout_A]
  · rw [outsAt0_C m c t h0 h1 (by omega)]
    dsimp only
    rw [sout_C]

/-- The other batches keep it. -/
theorem scratch_next (c : Dev nD) (t : Fin cfg0.N) (h0 : ¬t.val % 8 = 0) (y : S2048x768.Idx) :
    ((outsAt0 m c t.val t.isLt).2 y : EReal) = (outsAt0 m c (t.val - 1) (Nat.lt_of_le_of_lt (Nat.sub_le _ _) t.isLt)).2 y := by
  by_cases h1 : t.val < 32
  · rw [outsAt0_B m c t h0 h1 (by omega)]
    rfl
  · rw [outsAt0_D m c t h0 h1 (by omega)]
    rfl

/-- So the scratch holds the point's weight tile. -/
theorem scratch_at (c : Dev nD) (t : Fin cfg0.N) (k : Fin 2048) (l : Fin 768) :
    ((outsAt0 m c t.val t.isLt).2 (ix2 k l) : EReal) = argW m c (ix3 (0 : Fin 1) k (⟨768 * tile t.val + l.val, by have := tile_lt t; omega⟩ : Fin 29824)) := by
  refine (Pipeline.eq_of_write_hold (M := EReal) (fun n h => (outsAt0 m c n h).2 (ix2 k l)) 8 (fun t => X0_1 m c t (ix2 k l))
    (fun t h0 => scratch_first m c t h0 _) (fun t h0 => scratch_next m c t h0 _) t).trans ?_
  rw [weights_at]
  refine congrArg (fun C => argW m c (ix3 (0 : Fin 1) k C)) (Fin.ext ?_)
  show 768 * tile (8 * (t.val / 8)) + l.val = 768 * tile t.val + l.val
  unfold tile
  omega

/-- What a point writes back, the tile's weights being in the scratch or read. -/
theorem after_at (c : Dev nD) (t : Fin cfg0.N) (n : Fin 6) (R : Fin 2048) (l : Fin 128) :
    ((outsAt0 m c t.val t.isLt).1 (ix4 (0 : Fin 1) n R l) : EReal)
      = entry group (argH m c) (argW m c) (argCos m c) (argSin m c) (⟨t.val % 8, by omega⟩ : Fin 8) (⟨6 * (t.val / 8) + n.val, by have := point_lt t; omega⟩ : Fin 36) R l := by
  have ht := point_lt t
  by_cases h0 : t.val % 8 = 0 <;> by_cases h1 : t.val < 32
  · rw [outsAt0_A m c t h0 h1 (by omega)]
    dsimp only
    rw [out_A]
    exact Rotary.turned_entry group _ _ _ _ _ _ _ _ t.val ht h1 (acts_at m c t) (weights_at m c t) (cos_at m c t) (sin_at m c t) n R l
  · rw [outsAt0_C m c t h0 h1 (by omega)]
    dsimp only
    rw [out_C]
    exact Rotary.kept_entry group _ _ _ _ _ _ t.val ht h1 (acts_at m c t) (weights_at m c t) n R l
  · have hs := scratch_at m c t
    rw [outsAt0_B m c t h0 h1 (by omega)] at hs ⊢
    dsimp only at hs ⊢
    rw [out_B]
    exact Rotary.turned_entry group _ _ _ _ _ _ _ _ t.val ht h1 (acts_at m c t) hs (cos_at m c t) (sin_at m c t) n R l
  · have hs := scratch_at m c t
    rw [outsAt0_D m c t h0 h1 (by omega)] at hs ⊢
    dsimp only at hs ⊢
    rw [out_D]
    exact Rotary.kept_entry group _ _ _ _ _ _ t.val ht h1 (acts_at m c t) hs n R l

theorem result_arr (c : Dev nD) : (dats m 0 c).arrAt 4 cfg0.N = result group (argH m c) (argW m c) (argCos m c) (argSin m c) := by
  refine (dats m 0 c).arrAt_eq_of_covers 4 _ (by decide +kernel) fun t hf y => ?_
  blk_simp
  rw [after0_4]
  have ht := point_lt t
  have hy : y = ix4 (0 : Fin 1) (y 1) (y 2) (y 3) := Rotary.eq_block y
  have h0 : (y 0).val < 1 := (y 0).isLt
  have h1 : (y 1).val < 6 := (y 1).isLt
  refine ((congrArg (outsAt0 m c t.val t.isLt).1 hy).trans (after_at m c t (y 1) (y 2) (y 3))).trans ?_
  have e0 : (⟨t.val % 8, by omega⟩ : Fin 8) = (win0_4.blk t).view.emb y 0 := Fin.ext (by
    show t.val % 8 = _
    blk_simp [idx4 t])
  have e1 : (⟨6 * (t.val / 8) + (y 1).val, by omega⟩ : Fin 36) = (win0_4.blk t).view.emb y 1 := Fin.ext (by
    show 6 * (t.val / 8) + (y 1).val = _
    blk_simp [idx4 t]
    omega)
  have e2 : y 2 = (win0_4.blk t).view.emb y 2 := Fin.ext (by
    blk_simp [idx4 t])
  have e3 : y 3 = (win0_4.blk t).view.emb y 3 := Fin.ext (by
    blk_simp [idx4 t])
  unfold result
  rw [e0, e1]
  exact congrArg₂ (fun R l => entry _ _ _ _ _ _ _ R l) e2 e3

end Cert.Proof.QkvAIdeal

end
-- ==== Proof.RotaryReference.lean ====
/- The reference's heads of queries, keys and values, from its product on: each piece, its entries, and the whole. -/
module

public import proofs.«01_k».proof.Proof.Rotary

@[expose] public section

set_option maxRecDepth 4096

noncomputable section

namespace Cert.Proof.Rotary

open Idealize.ShloMosaic Idealize.ShloMosaic.TcCoe Idealize.ShloMosaic.Tactic
open Cert.Proof.Projection (column Acts Weights)

abbrev Flats : Shape := ⟨3, ![8, 2048, 13824]⟩
abbrev Roles : Shape := ⟨6, ![8, 2048, 3, 3, 12, 128]⟩
abbrev Role : Shape := ⟨6, ![8, 2048, 1, 1, 12, 128]⟩
abbrev Heads : Shape := ⟨4, ![8, 2048, 12, 128]⟩
abbrev Halves : Shape := ⟨4, ![8, 2048, 12, 64]⟩
abbrev AllHeads : Shape := ⟨4, ![8, 2048, 36, 128]⟩
abbrev Out : Shape := ⟨4, ![8, 36, 2048, 128]⟩
abbrev GroupTable : Shape := ⟨4, ![1, 8, 2048, 64]⟩

/-- The heads of one role (queries, keys or values) and one group. -/
def heads (o g : ℕ) (hs : Roles.Slices ![0, 0, o, g, 0, 0] Role) (X : FVec Ideal Flats .f32) : FVec Ideal Heads .f32 :=
  shapeCast Heads (extractStridedSlice Role ![0, 0, o, g, 0, 0] (shapeCast Roles X (by decide)) hs) (by decide)

/-- A group's half-width table, the same for each head. -/
def angles (g : ℕ) (hs : Tables.Slices ![g, 0, 0, 0] GroupTable) (T : FVec Ideal Tables .f32) : FVec Ideal Halves .f32 :=
  broadcastInDim Halves ![0, 1, 2, 3] (by decide) (broadcastInDim (⟨4, ![8, 2048, 1, 64]⟩ : Shape) ![0, 1, 3] (by decide)
    (shapeCast (⟨3, ![8, 2048, 64]⟩ : Shape) (extractStridedSlice GroupTable ![g, 0, 0, 0] T hs) (by decide)))

def lower (X : FVec Ideal Heads .f32) : FVec Ideal Halves .f32 := extractStridedSlice Halves ![0, 0, 0, 0] X (by decide)
def upper (X : FVec Ideal Heads .f32) : FVec Ideal Halves .f32 := extractStridedSlice Halves ![0, 0, 0, 64] X (by decide)

theorem halves_join : Shape.Concatenates [Halves, Halves] Heads 3 := by decide
theorem roles_join : Shape.Concatenates [Heads, Heads, Heads] AllHeads 2 := by decide

/-- Heads turned by the angles. -/
def rotated (X : FVec Ideal Heads .f32) (C S : FVec Ideal Halves .f32) : FVec Ideal Heads .f32 :=
  concatenate Heads 3 [⟨Halves, subf (mulf (lower X) C) (mulf (upper X) S)⟩, ⟨Halves, addf (mulf (upper X) C) (mulf (lower X) S)⟩] halves_join

/-- The queries, the keys and the values, the heads before the positions. -/
def stacked (q k v : FVec Ideal Heads .f32) : FVec Ideal Out .bf16 :=
  truncf (F := Ideal) .bf16 (transpose Out [0, 2, 1, 3] (concatenate AllHeads 2 [⟨Heads, q⟩, ⟨Heads, k⟩, ⟨Heads, v⟩] roles_join) (by decide)) (by decide)

theorem heads_at (o g : Fin 3) (hs : Roles.Slices ![0, 0, o.val, g.val, 0, 0] Role) (X : FVec Ideal Flats .f32) (b : Fin 8) (r : Fin 2048) (n : Fin 12) (l : Fin 128) :
    heads o.val g.val hs X (ix4 b r n l) = X (ix3 b r (⟨o.val * 4608 + g.val * 1536 + n.val * 128 + l.val, by omega⟩ : Fin 13824)) := by
  pointwise [heads]

theorem angles_at (g : Fin 3) (hs : Tables.Slices ![g.val, 0, 0, 0] GroupTable) (T : FVec Ideal Tables .f32) (b : Fin 8) (r : Fin 2048) (n : Fin 12) (l : Fin 64) :
    angles g.val hs T (ix4 b r n l) = T (ix4 g b r l) := by
  pointwise [angles]

theorem rotated_at (X : FVec Ideal Heads .f32) (C S : FVec Ideal Halves .f32) (b : Fin 8) (r : Fin 2048) (n : Fin 12) (l : Fin 128) :
    (rotated X C S (ix4 b r n l) : EReal) = turn (fun l => X (ix4 b r n l)) (fun l => C (ix4 b r n l)) (fun l => S (ix4 b r n l)) l := by
  unfold turn
  pointwise [rotated, lower, upper]
  split
  · rfl
  · have e : 64 + (l.val - 64) = l.val := by omega
    simp only [e, Fin.eta]

theorem stacked_at (q k v : FVec Ideal Heads .f32) (b : Fin 8) (n : Fin 36) (r : Fin 2048) (l : Fin 128) :
    (stacked q k v (ix4 b n r l) : EReal) = if h : n.val < 12 then q (ix4 b r (⟨n.val, h⟩ : Fin 12) l)
      else if h : n.val < 24 then k (ix4 b r (⟨n.val - 12, by omega⟩ : Fin 12) l) else v (ix4 b r (⟨n.val - 24, by omega⟩ : Fin 12) l) := by
  have e : (n.val - 12 < 12) = (n.val < 24) := propext (by omega)
  have e' : n.val - 12 - 12 = n.val - 24 := by omega
  pointwise [stacked]
  simp only [e, e']

/-- The reference, from its product `X` on, is what the call leaves. -/
theorem reference_value (g : Fin 3) (h : Vec Ideal Acts .bf16) (w : Vec Ideal Weights .f32) (cos sin : Vec Ideal Tables .f32) (X : FVec Ideal Flats .f32)
    (hX : ∀ (b : Fin 8) (r : Fin 2048) (C : Fin 13824), (X (ix3 b r C) : EReal) = column h w b r (⟨C.val, by omega⟩ : Fin 29824))
    (h0 : Roles.Slices ![0, 0, (0 : Fin 3).val, g.val, 0, 0] Role) (h1 : Roles.Slices ![0, 0, (1 : Fin 3).val, g.val, 0, 0] Role)
    (h2 : Roles.Slices ![0, 0, (2 : Fin 3).val, g.val, 0, 0] Role) (ht : Tables.Slices ![g.val, 0, 0, 0] GroupTable) :
    stacked (rotated (heads (0 : Fin 3).val g.val h0 X) (angles g.val ht cos) (angles g.val ht sin))
      (rotated (heads (1 : Fin 3).val g.val h1 X) (angles g.val ht cos) (angles g.val ht sin)) (heads (2 : Fin 3).val g.val h2 X) = result g h w cos sin := by
  have col (o : Fin 3) (hs) (b : Fin 8) (r : Fin 2048) (n : Fin 12) (N : Fin 36) (hN : N.val = 12 * o.val + n.val) (l : Fin 128) :
      (heads o.val g.val hs X (ix4 b r n l) : EReal) = column h w b r (headCol g N l) := by
    have e1 : N.val / 12 = o.val := by omega
    have e2 : N.val % 12 = n.val := by omega
    have e : headCol g N l = (⟨o.val * 4608 + g.val * 1536 + n.val * 128 + l.val, by omega⟩ : Fin 29824) := Fin.ext (by
      show N.val / 12 * 4608 + g.val * 1536 + N.val % 12 * 128 + l.val = o.val * 4608 + g.val * 1536 + n.val * 128 + l.val
      rw [e1, e2])
    rw [heads_at, e]
    exact hX b r _
  have turned (o : Fin 3) (hs) (b : Fin 8) (r : Fin 2048) (n : Fin 12) (N : Fin 36) (hN : N.val = 12 * o.val + n.val) (l : Fin 128) :
      (rotated (heads o.val g.val hs X) (angles g.val ht cos) (angles g.val ht sin) (ix4 b r n l) : EReal)
        = turn (fun l => column h w b r (headCol g N l)) (fun l => cos (ix4 g b r l)) (fun l => sin (ix4 g b r l)) l := by
    rw [rotated_at]
    simp only [angles_at, col o hs b r n N hN]
  funext z
  refine (congrArg (stacked _ _ _) (eq_ix4 z)).trans ((stacked_at _ _ _ (z 0) (z 1) (z 2) (z 3)).trans ?_)
  have hz : (z 1).val < 36 := (z 1).isLt
  unfold result entry
  split
  · rename_i h12
    rw [if_pos (by omega)]
    exact turned 0 h0 _ _ _ (z 1) (by show _ = 12 * 0 + (z 1).val; omega) _
  · split
    · rename_i h12 h24
      exact turned 1 h1 _ _ _ (z 1) (by show _ = 12 * 1 + ((z 1).val - 12); omega) _
    · rename_i h12 h24
      exact col 2 h2 _ _ _ (z 1) (by show _ = 12 * 2 + ((z 1).val - 24); omega) _

end Cert.Proof.Rotary

end
-- ==== Proof.QkvAClaims.lean ====
/- What the reference of `QkvA` holds, and the claims of the call. -/
module

public import proofs.«01_k».proof.Defs
public import proofs.«01_k».proof.Proof.QkvAIdealValue
public import proofs.«01_k».proof.Proof.RotaryReference
public import proofs.«01_k».proof.Proof.Gen.QkvA.Frame
public import proofs.«01_k».proof.Proof.Gen.QkvARefIdeal.Run
public import Idealize.ShloMosaic.Lib.Claim
public import Idealize.ShloMosaic.Lib.IdealHost
public import Idealize.ShloMosaic.Lib.Quiescent

@[expose] public section

set_option maxRecDepth 16384

noncomputable section

namespace Cert.Proof.QkvARefIdeal

open Cert.QkvARefIdeal Cert.QkvARefIdeal.Gen
open Idealize.ShloMosaic Idealize.ShloMosaic.TcCoe Idealize.ShloMosaic.Tactic
open Cert.Proof.Projection (column)
open Cert.Proof.QkvAIdeal (group)

/-- The reference's product. -/
def projected (h : Vec Ideal S8x2048x2048 .bf16) (w : Vec Ideal S1x2048x29824 .f32) : Vec Ideal S8x2048x13824 .f32 :=
  Host.dotGeneral (F := Ideal) (φ₁ := .f32) (φ₂ := .f32) dot_S8x2048x2048_S2048x13824_S8x2048x13824_2_0_01_1_n_n none (extf (F := Ideal) .f32 h bitsLt_bf16_f32)
    (extractStridedSlice S2048x13824 ![0, 0] (shapeCast S2048x29824 w shapeCasts_S1x2048x29824_S2048x29824) slices_S2048x29824_S2048x13824_0_0)

theorem projected_at (h : Vec Ideal S8x2048x2048 .bf16) (w : Vec Ideal S1x2048x29824 .f32) (b : Fin 8) (R : Fin 2048) (C : Fin 13824) :
    (projected h w (ix3 b R C) : EReal) = column h w b R (⟨C.val, by omega⟩ : Fin 29824) := by
  unfold column
  pointwise [projected]

theorem value (m : (ℓ : Loc nD τ sig) → Buf (Elt Ideal) ℓ) (c : Dev nD) :
    Value.res_main_v51 (F := Ideal) m c = Rotary.result group (m (c.tc.loc main_arg0)) (m (c.tc.loc main_arg1)) (m (c.tc.loc main_arg2)) (m (c.tc.loc main_arg3)) :=
  Rotary.reference_value group (m (c.tc.loc main_arg0)) (m (c.tc.loc main_arg1)) (m (c.tc.loc main_arg2)) (m (c.tc.loc main_arg3))
    (projected (m (c.tc.loc main_arg0)) (m (c.tc.loc main_arg1))) (projected_at _ _) (by decide) (by decide) (by decide) (by decide)

end Cert.Proof.QkvARefIdeal

namespace Cert.Proof.QkvA

open Idealize.ShloMosaic Idealize.ShloMosaic.TcCoe Idealize.SL.Sem
open Cert.Proof.QkvAIdeal (group)

theorem frame_p : Cert.quiescent_QkvA := fun m ρ _ => Cert.QkvA.Gen.frame m ρ
theorem frame_pi : Cert.quiescent_QkvAIdeal := fun m ρ _ => Cert.QkvAIdeal.Gen.frame m ρ
theorem frame_ri : Cert.quiescent_QkvARefIdeal := fun m ρ _ =>
  (θ_run Cert.QkvARefIdeal.defs _ _).mono (fun r h => ⟨fun c => (h c).2, sem_eq_zero_of_no_sems (by decide) r.2⟩) (Cert.QkvARefIdeal.Value.run (F := Ideal) m ρ)
theorem preserves : Cert.preserves_QkvA_QkvAIdeal := trivial

theorem algebraic : Cert.algebraic_QkvAIdeal_QkvARefIdeal := by
  intro m g m' g' _ hargs
  refine ⟨fun c => Rotary.result group (QkvAIdeal.argH m c) (QkvAIdeal.argW m c) (QkvAIdeal.argCos m c) (QkvAIdeal.argSin m c), ?_, ?_⟩
  · exact (θ_run _ _ _).mono (fun r h c => ⟨(h c).1.trans (QkvAIdeal.result_arr m c), (h c).2⟩) (Cert.QkvAIdeal.Value.run_blocks m g)
  · refine (θ_run _ _ _).mono (fun r h c => ⟨(h c).1.trans ((QkvARefIdeal.value m' c).trans ?_), (h c).2⟩) (Cert.QkvARefIdeal.Value.run (F := Ideal) m' g')
    obtain ⟨h0, h1, h2, h3⟩ := hargs c
    show Rotary.result _ _ _ _ _ = Rotary.result _ _ _ _ _
    rw [h0, h1, h2, h3]

end Cert.Proof.QkvA

end
-- ==== Proof.QkvBIdealValue.lean ====
/- What the result array of `QkvBIdeal` holds, entry by entry, in terms of the arguments. -/
module

public import proofs.«01_k».proof.Proof.Rotary
public import proofs.«01_k».proof.Proof.Gen.QkvBIdeal.Value
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.QkvBIdeal

open Cert.QkvBIdeal Cert.QkvBIdeal.Gen
open Idealize.ShloMosaic Idealize.ShloMosaic.TcCoe Idealize.ShloMosaic.Tactic
open Idealize.ShloMosaic.Pipeline (Dat Cfg Window BodyObligation cellOf)
open Cert.Proof.Projection (column)
open Cert.Proof.Rotary (entry result tileTurned tileKept turned_rows kept_rows)

section Body
variable (c : Dev nD) (i : grid0.Coords) (arg2 : Memref sig .tc .vmem S1x2048x2048 .bf16) (harg2 : arg2.IsWhole)
  (arg3 : Memref sig .tc .vmem S2048x768 .f32) (harg3 : arg3.IsWhole) (arg4 : Memref sig .tc .vmem S1x2048x128 .f32) (harg4 : arg4.IsWhole)
  (arg5 : Memref sig .tc .vmem S1x2048x128 .f32) (harg5 : arg5.IsWhole) (arg6 : Memref sig .tc .vmem S1x6x2048x128 .bf16) (harg6 : arg6.IsWhole)
  (arg7 : Memref sig .tc .vmem S2048x768 .bf16) (harg7 : arg7.IsWhole)

theorem product_at (v : Vec Ideal S1x512x2048 .bf16) (w : Vec Ideal S2048x768 .bf16) (r : Fin 512) (l : Fin 768) :
    (k0_pay8 v w (ix2 r l) : EReal) = ∑ k : Fin 2048, v (ix3 (0 : Fin 1) r k) * w (ix2 k l) := by
  pointwise [k0_pay8]

theorem table_at (v : Vec Ideal S1x512x128 .f32) (r : Fin 512) (l : Fin 128) : (k0_pay9 v (ix2 r l) : EReal) = v (ix3 (0 : Fin 1) r l) := by
  pointwise [k0_pay9]

theorem narrowed (x1 : Vec Ideal S2048x768 .f32) : (k0_pay1 x1 : S2048x768.Idx → EReal) = x1 := by
  funext j
  rw [eq_ix2 j]
  pointwise [k0_pay1]

theorem out_B (hc0 hc1 hc2) (x0 : Vec Ideal S1x2048x2048 .bf16) (x1 : Vec Ideal S2048x768 .f32) (x2 x3 : Vec Ideal S1x2048x128 .f32) (xs : Vec Ideal S2048x768 .bf16) (y : S1x6x2048x128.Idx) :
    out0_B_4 c i arg2 harg2 arg3 harg3 arg4 harg4 arg5 harg5 arg6 harg6 arg7 harg7 hc0 hc1 hc2 x0 x1 x2 x3 xs y = tileTurned x0 xs x2 x3 y := by
  frame_out
  canon_tiles x h
  all_goals
    have b1 : (x 1).val < 1 := (x 1).isLt
    refine turned_rows x0 xs x2 x3 _ _ _ _ (by decide) _ _ _ (product_at _ _) (table_at _) (table_at _) x y ?_ ?_ ?_ <;> omega

theorem out_D (hc0 hc1 hc2) (x0 : Vec Ideal S1x2048x2048 .bf16) (x1 : Vec Ideal S2048x768 .f32) (x2 x3 : Vec Ideal S1x2048x128 .f32) (xs : Vec Ideal S2048x768 .bf16) (y : S1x6x2048x128.Idx) :
    out0_D_4 c i arg2 harg2 arg3 harg3 arg4 harg4 arg5 harg5 arg6 harg6 arg7 harg7 hc0 hc1 hc2 x0 x1 x2 x3 xs y = tileKept x0 xs y := by
  frame_out
  canon_tiles x h
  all_goals
    have b1 : (x 1).val < 1 := (x 1).isLt
    refine kept_rows x0 xs _ _ _ (by decide) _ (product_at _ _) x y ?_ ?_ ?_ <;> omega

theorem out_A (hc0 hc1 hc2) (x0 : Vec Ideal S1x2048x2048 .bf16) (x1 : Vec Ideal S2048x768 .f32) (x2 x3 : Vec Ideal S1x2048x128 .f32) (y : S1x6x2048x128.Idx) :
    out0_A_4 c i arg2 harg2 arg3 harg3 arg4 harg4 arg5 harg5 arg6 harg6 arg7 harg7 hc0 hc1 hc2 x0 x1 x2 x3 y = tileTurned x0 x1 x2 x3 y := by
  rw [show tileTurned x0 x1 x2 x3 y = tileTurned x0 (k0_pay1 x1) x2 x3 y from congrArg (fun X => tileTurned x0 X x2 x3 y) (narrowed x1).symm]
  frame_out
  canon_tiles x h
  all_goals
    have b1 : (x 1).val < 1 := (x 1).isLt
    refine turned_rows x0 (k0_pay1 x1) x2 x3 _ _ _ _ (by decide) _ _ _ (product_at _ _) (table_at _) (table_at _) x y ?_ ?_ ?_ <;> omega

theorem out_C (hc0 hc1 hc2) (x0 : Vec Ideal S1x2048x2048 .bf16) (x1 : Vec Ideal S2048x768 .f32) (x2 x3 : Vec Ideal S1x2048x128 .f32) (y : S1x6x2048x128.Idx) :
    out0_C_4 c i arg2 harg2 arg3 harg3 arg4 harg4 arg5 harg5 arg6 harg6 arg7 harg7 hc0 hc1 hc2 x0 x1 x2 x3 y = tileKept x0 x1 y := by
  rw [show tileKept x0 x1 y = tileKept x0 (k0_pay1 x1) y from congrArg (fun X => tileKept x0 X y) (narrowed x1).symm]
  frame_out
  canon_tiles x h
  all_goals
    have b1 : (x 1).val < 1 := (x 1).isLt
    refine kept_rows x0 (k0_pay1 x1) _ _ _ (by decide) _ (product_at _ _) x y ?_ ?_ ?_ <;> omega

theorem sout_A (hc0 hc1 hc2) (x0 : Vec Ideal S1x2048x2048 .bf16) (x1 : Vec Ideal S2048x768 .f32) (x2 x3 : Vec Ideal S1x2048x128 .f32) (y : S2048x768.Idx) :
    sout0_A_0 c i arg2 harg2 arg3 harg3 arg4 harg4 arg5 harg5 arg6 harg6 arg7 harg7 hc0 hc1 hc2 x0 x1 x2 x3 y = (x1 y : EReal) := by
  frame_out
  exact congrFun (narrowed x1) y

theorem sout_C (hc0 hc1 hc2) (x0 : Vec Ideal S1x2048x2048 .bf16) (x1 : Vec Ideal S2048x768 .f32) (x2 x3 : Vec Ideal S1x2048x128 .f32) (y : S2048x768.Idx) :
    sout0_C_0 c i arg2 harg2 arg3 harg3 arg4 harg4 arg5 harg5 arg6 harg6 arg7 harg7 hc0 hc1 hc2 x0 x1 x2 x3 y = (x1 y : EReal) := by
  frame_out
  exact congrFun (narrowed x1) y
end Body

variable (m : (ℓ : Loc nD τ sig) → Buf (Elt Ideal) ℓ)

abbrev argH (c : Dev nD) : Vec Ideal S8x2048x2048 .bf16 := m ((c : Thread nD τ).loc main_arg0)
abbrev argW (c : Dev nD) : Vec Ideal S1x2048x29824 .f32 := m ((c : Thread nD τ).loc main_arg1)
abbrev argCos (c : Dev nD) : Vec Ideal S3x8x2048x64 .f32 := m ((c : Thread nD τ).loc main_arg2)
abbrev argSin (c : Dev nD) : Vec Ideal S3x8x2048x64 .f32 := m ((c : Thread nD τ).loc main_arg3)

/-- The call's group. -/
abbrev group : Fin 3 := 1

/-- The tile of the weights that a point reads: the two tiles of the group's queries, of its keys, of its values. -/
def tile (t : ℕ) : ℕ := t / 8 / 2 * 6 + group.val * 2 + t / 8 % 2

theorem idx0 : ∀ t : Fin cfg0.N, win0_0.index t = ![t.val % 8, 0, 0] := by decide +kernel
theorem idx1 : ∀ t : Fin cfg0.N, win0_1.index t = ![0, tile t.val] := by decide +kernel
theorem idx2 : ∀ t : Fin cfg0.N, win0_2.index t = ![8 * group.val + t.val % 8, 0, 0] := by decide +kernel
theorem idx3 : ∀ t : Fin cfg0.N, win0_3.index t = ![8 * group.val + t.val % 8, 0, 0] := by decide +kernel
theorem idx4 : ∀ t : Fin cfg0.N, win0_4.index t = ![t.val % 8, t.val / 8, 0, 0] := by decide +kernel

theorem point_lt (t : Fin cfg0.N) : t.val < 48 := Nat.lt_of_lt_of_eq t.isLt N_0

theorem tile_lt (t : Fin cfg0.N) : tile t.val < 18 := by
  have := point_lt t
  have : group.val < 3 := group.isLt
  unfold tile
  omega

theorem acts_at (c : Dev nD) (t : Fin cfg0.N) (R k : Fin 2048) :
    iblk m c 0 t (ix3 (0 : Fin 1) R k) = argH m c (ix3 (⟨t.val % 8, by omega⟩ : Fin 8) R k) := by
  have ht := point_lt t
  blk_ext [iblk, V, idx0 t]

theorem entry_w (c : Dev nD) : V m c main_v0 = shapeCast S2048x29824 (argW m c) shapeCasts_S1x2048x29824_S2048x29824 := by
  unfold_abbrev_sides
  after_results
  rfl

theorem entry_cos (c : Dev nD) : V m c main_v2 = Rotary.wideCos (argCos m c) := by
  unfold_abbrev_sides
  after_results
  rfl

theorem entry_sin (c : Dev nD) : V m c main_v5 = Rotary.wideSin (argSin m c) := by
  unfold_abbrev_sides
  after_results
  rfl

theorem weights_at (c : Dev nD) (t : Fin cfg0.N) (k : Fin 2048) (l : Fin 768) :
    X0_1 m c t (ix2 k l) = argW m c (ix3 (0 : Fin 1) k (⟨768 * tile t.val + l.val, by have := tile_lt t; omega⟩ : Fin 29824)) := by
  have ht := tile_lt t
  have e : X0_1 m c t (ix2 k l) = V m c main_v0 (ix2 k (⟨768 * tile t.val + l.val, by omega⟩ : Fin 29824)) := by
    unfold X0_1 Pipeline.Window.fill
    rw [dif_pos (moved0_1 t _)]
    unfold iblk
    generalize V m c = X
    blk_ext [idx1 t]
  rw [e, entry_w]
  exact ValueIdx.shapeCast_1ab_ab_apply _ _ _ _

theorem cos_at (c : Dev nD) (t : Fin cfg0.N) (R : Fin 2048) (l : Fin 128) :
    iblk m c 2 t (ix3 (0 : Fin 1) R l) = Rotary.wideCos (argCos m c) (ix3 (⟨8 * group.val + t.val % 8, by have := group.isLt; omega⟩ : Fin 24) R l) := by
  have ht := point_lt t
  rw [← entry_cos]
  unfold iblk
  generalize V m c = X
  blk_ext [idx2 t]

theorem sin_at (c : Dev nD) (t : Fin cfg0.N) (R : Fin 2048) (l : Fin 128) :
    iblk m c 3 t (ix3 (0 : Fin 1) R l) = Rotary.wideSin (argSin m c) (ix3 (⟨8 * group.val + t.val % 8, by have := group.isLt; omega⟩ : Fin 24) R l) := by
  have ht := point_lt t
  rw [← entry_sin]
  unfold iblk
  generalize V m c = X
  blk_ext [idx3 t]

/-- The first batch of a tile stores the weight tile in the scratch. -/
theorem scratch_first (c : Dev nD) (t : Fin cfg0.N) (h0 : t.val % 8 = 0) (y : S2048x768.Idx) :
    ((outsAt0 m c t.val t.isLt).2 y : EReal) = X0_1 m c t y := by
  by_cases h1 : t.val < 32
  · rw [outsAt0_A m c t h0 h1 (by omega)]
    dsimp only
    rw [sout_A]
  · rw [outsAt0_C m c t h0 h1 (by omega)]
    dsimp only
    rw [sout_C]

/-- The other batches keep it. -/
theorem scratch_next (c : Dev nD) (t : Fin cfg0.N) (h0 : ¬t.val % 8 = 0) (y : S2048x768.Idx) :
    ((outsAt0 m c t.val t.isLt).2 y : EReal) = (outsAt0 m c (t.val - 1) (Nat.lt_of_le_of_lt (Nat.sub_le _ _) t.isLt)).2 y := by
  by_cases h1 : t.val < 32
  · rw [outsAt0_B m c t h0 h1 (by omega)]
    rfl
  · rw [outsAt0_D m c t h0 h1 (by omega)]
    rfl

/-- So the scratch holds the point's weight tile. -/
theorem scratch_at (c : Dev nD) (t : Fin cfg0.N) (k : Fin 2048) (l : Fin 768) :
    ((outsAt0 m c t.val t.isLt).2 (ix2 k l) : EReal) = argW m c (ix3 (0 : Fin 1) k (⟨768 * tile t.val + l.val, by have := tile_lt t; omega⟩ : Fin 29824)) := by
  refine (Pipeline.eq_of_write_hold (M := EReal) (fun n h => (outsAt0 m c n h).2 (ix2 k l)) 8 (fun t => X0_1 m c t (ix2 k l))
    (fun t h0 => scratch_first m c t h0 _) (fun t h0 => scratch_next m c t h0 _) t).trans ?_
  rw [weights_at]
  refine congrArg (fun C => argW m c (ix3 (0 : Fin 1) k C)) (Fin.ext ?_)
  show 768 * tile (8 * (t.val / 8)) + l.val = 768 * tile t.val + l.val
  unfold tile
  omega

/-- What a point writes back, the tile's weights being in the scratch or read. -/
theorem after_at (c : Dev nD) (t : Fin cfg0.N) (n : Fin 6) (R : Fin 2048) (l : Fin 128) :
    ((outsAt0 m c t.val t.isLt).1 (ix4 (0 : Fin 1) n R l) : EReal)
      = entry group (argH m c) (argW m c) (argCos m c) (argSin m c) (⟨t.val % 8, by omega⟩ : Fin 8) (⟨6 * (t.val / 8) + n.val, by have := point_lt t; omega⟩ : Fin 36) R l := by
  have ht := point_lt t
  by_cases h0 : t.val % 8 = 0 <;> by_cases h1 : t.val < 32
  · rw [outsAt0_A m c t h0 h1 (by omega)]
    dsimp only
    rw [out_A]
    exact Rotary.turned_entry group _ _ _ _ _ _ _ _ t.val ht h1 (acts_at m c t) (weights_at m c t) (cos_at m c t) (sin_at m c t) n R l
  · rw [outsAt0_C m c t h0 h1 (by omega)]
    dsimp only
    rw [out_C]
    exact Rotary.kept_entry group _ _ _ _ _ _ t.val ht h1 (acts_at m c t) (weights_at m c t) n R l
  · have hs := scratch_at m c t
    rw [outsAt0_B m c t h0 h1 (by omega)] at hs ⊢
    dsimp only at hs ⊢
    rw [out_B]
    exact Rotary.turned_entry group _ _ _ _ _ _ _ _ t.val ht h1 (acts_at m c t) hs (cos_at m c t) (sin_at m c t) n R l
  · have hs := scratch_at m c t
    rw [outsAt0_D m c t h0 h1 (by omega)] at hs ⊢
    dsimp only at hs ⊢
    rw [out_D]
    exact Rotary.kept_entry group _ _ _ _ _ _ t.val ht h1 (acts_at m c t) hs n R l

theorem result_arr (c : Dev nD) : (dats m 0 c).arrAt 4 cfg0.N = result group (argH m c) (argW m c) (argCos m c) (argSin m c) := by
  refine (dats m 0 c).arrAt_eq_of_covers 4 _ (by decide +kernel) fun t hf y => ?_
  blk_simp
  rw [after0_4]
  have ht := point_lt t
  have hy : y = ix4 (0 : Fin 1) (y 1) (y 2) (y 3) := Rotary.eq_block y
  have h0 : (y 0).val < 1 := (y 0).isLt
  have h1 : (y 1).val < 6 := (y 1).isLt
  refine ((congrArg (outsAt0 m c t.val t.isLt).1 hy).trans (after_at m c t (y 1) (y 2) (y 3))).trans ?_
  have e0 : (⟨t.val % 8, by omega⟩ : Fin 8) = (win0_4.blk t).view.emb y 0 := Fin.ext (by
    show t.val % 8 = _
    blk_simp [idx4 t])
  have e1 : (⟨6 * (t.val / 8) + (y 1).val, by omega⟩ : Fin 36) = (win0_4.blk t).view.emb y 1 := Fin.ext (by
    show 6 * (t.val / 8) + (y 1).val = _
    blk_simp [idx4 t]
    omega)
  have e2 : y 2 = (win0_4.blk t).view.emb y 2 := Fin.ext (by
    blk_simp [idx4 t])
  have e3 : y 3 = (win0_4.blk t).view.emb y 3 := Fin.ext (by
    blk_simp [idx4 t])
  unfold result
  rw [e0, e1]
  exact congrArg₂ (fun R l => entry _ _ _ _ _ _ _ R l) e2 e3

end Cert.Proof.QkvBIdeal

end
-- ==== Proof.QkvBClaims.lean ====
/- What the reference of `QkvB` holds, and the claims of the call. -/
module

public import proofs.«01_k».proof.Defs
public import proofs.«01_k».proof.Proof.QkvBIdealValue
public import proofs.«01_k».proof.Proof.RotaryReference
public import proofs.«01_k».proof.Proof.Gen.QkvB.Frame
public import proofs.«01_k».proof.Proof.Gen.QkvBRefIdeal.Run
public import Idealize.ShloMosaic.Lib.Claim
public import Idealize.ShloMosaic.Lib.IdealHost
public import Idealize.ShloMosaic.Lib.Quiescent

@[expose] public section

set_option maxRecDepth 16384

noncomputable section

namespace Cert.Proof.QkvBRefIdeal

open Cert.QkvBRefIdeal Cert.QkvBRefIdeal.Gen
open Idealize.ShloMosaic Idealize.ShloMosaic.TcCoe Idealize.ShloMosaic.Tactic
open Cert.Proof.Projection (column)
open Cert.Proof.QkvBIdeal (group)

/-- The reference's product. -/
def projected (h : Vec Ideal S8x2048x2048 .bf16) (w : Vec Ideal S1x2048x29824 .f32) : Vec Ideal S8x2048x13824 .f32 :=
  Host.dotGeneral (F := Ideal) (φ₁ := .f32) (φ₂ := .f32) dot_S8x2048x2048_S2048x13824_S8x2048x13824_2_0_01_1_n_n none (extf (F := Ideal) .f32 h bitsLt_bf16_f32)
    (extractStridedSlice S2048x13824 ![0, 0] (shapeCast S2048x29824 w shapeCasts_S1x2048x29824_S2048x29824) slices_S2048x29824_S2048x13824_0_0)

theorem projected_at (h : Vec Ideal S8x2048x2048 .bf16) (w : Vec Ideal S1x2048x29824 .f32) (b : Fin 8) (R : Fin 2048) (C : Fin 13824) :
    (projected h w (ix3 b R C) : EReal) = column h w b R (⟨C.val, by omega⟩ : Fin 29824) := by
  unfold column
  pointwise [projected]

theorem value (m : (ℓ : Loc nD τ sig) → Buf (Elt Ideal) ℓ) (c : Dev nD) :
    Value.res_main_v51 (F := Ideal) m c = Rotary.result group (m (c.tc.loc main_arg0)) (m (c.tc.loc main_arg1)) (m (c.tc.loc main_arg2)) (m (c.tc.loc main_arg3)) :=
  Rotary.reference_value group (m (c.tc.loc main_arg0)) (m (c.tc.loc main_arg1)) (m (c.tc.loc main_arg2)) (m (c.tc.loc main_arg3))
    (projected (m (c.tc.loc main_arg0)) (m (c.tc.loc main_arg1))) (projected_at _ _) (by decide) (by decide) (by decide) (by decide)

end Cert.Proof.QkvBRefIdeal

namespace Cert.Proof.QkvB

open Idealize.ShloMosaic Idealize.ShloMosaic.TcCoe Idealize.SL.Sem
open Cert.Proof.QkvBIdeal (group)

theorem frame_p : Cert.quiescent_QkvB := fun m ρ _ => Cert.QkvB.Gen.frame m ρ
theorem frame_pi : Cert.quiescent_QkvBIdeal := fun m ρ _ => Cert.QkvBIdeal.Gen.frame m ρ
theorem frame_ri : Cert.quiescent_QkvBRefIdeal := fun m ρ _ =>
  (θ_run Cert.QkvBRefIdeal.defs _ _).mono (fun r h => ⟨fun c => (h c).2, sem_eq_zero_of_no_sems (by decide) r.2⟩) (Cert.QkvBRefIdeal.Value.run (F := Ideal) m ρ)
theorem preserves : Cert.preserves_QkvB_QkvBIdeal := trivial

theorem algebraic : Cert.algebraic_QkvBIdeal_QkvBRefIdeal := by
  intro m g m' g' _ hargs
  refine ⟨fun c => Rotary.result group (QkvBIdeal.argH m c) (QkvBIdeal.argW m c) (QkvBIdeal.argCos m c) (QkvBIdeal.argSin m c), ?_, ?_⟩
  · exact (θ_run _ _ _).mono (fun r h c => ⟨(h c).1.trans (QkvBIdeal.result_arr m c), (h c).2⟩) (Cert.QkvBIdeal.Value.run_blocks m g)
  · refine (θ_run _ _ _).mono (fun r h c => ⟨(h c).1.trans ((QkvBRefIdeal.value m' c).trans ?_), (h c).2⟩) (Cert.QkvBRefIdeal.Value.run (F := Ideal) m' g')
    obtain ⟨h0, h1, h2, h3⟩ := hargs c
    show Rotary.result _ _ _ _ _ = Rotary.result _ _ _ _ _
    rw [h0, h1, h2, h3]

end Cert.Proof.QkvB

end
-- ==== Proof.QkvCIdealValue.lean ====
/- What the result array of `QkvCIdeal` holds, entry by entry, in terms of the arguments. -/
module

public import proofs.«01_k».proof.Proof.Rotary
public import proofs.«01_k».proof.Proof.Gen.QkvCIdeal.Value
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.QkvCIdeal

open Cert.QkvCIdeal Cert.QkvCIdeal.Gen
open Idealize.ShloMosaic Idealize.ShloMosaic.TcCoe Idealize.ShloMosaic.Tactic
open Idealize.ShloMosaic.Pipeline (Dat Cfg Window BodyObligation cellOf)
open Cert.Proof.Projection (column)
open Cert.Proof.Rotary (entry result tileTurned tileKept turned_rows kept_rows)

section Body
variable (c : Dev nD) (i : grid0.Coords) (arg2 : Memref sig .tc .vmem S1x2048x2048 .bf16) (harg2 : arg2.IsWhole)
  (arg3 : Memref sig .tc .vmem S2048x768 .f32) (harg3 : arg3.IsWhole) (arg4 : Memref sig .tc .vmem S1x2048x128 .f32) (harg4 : arg4.IsWhole)
  (arg5 : Memref sig .tc .vmem S1x2048x128 .f32) (harg5 : arg5.IsWhole) (arg6 : Memref sig .tc .vmem S1x6x2048x128 .bf16) (harg6 : arg6.IsWhole)
  (arg7 : Memref sig .tc .vmem S2048x768 .bf16) (harg7 : arg7.IsWhole)

theorem product_at (v : Vec Ideal S1x512x2048 .bf16) (w : Vec Ideal S2048x768 .bf16) (r : Fin 512) (l : Fin 768) :
    (k0_pay8 v w (ix2 r l) : EReal) = ∑ k : Fin 2048, v (ix3 (0 : Fin 1) r k) * w (ix2 k l) := by
  pointwise [k0_pay8]

theorem table_at (v : Vec Ideal S1x512x128 .f32) (r : Fin 512) (l : Fin 128) : (k0_pay9 v (ix2 r l) : EReal) = v (ix3 (0 : Fin 1) r l) := by
  pointwise [k0_pay9]

theorem narrowed (x1 : Vec Ideal S2048x768 .f32) : (k0_pay1 x1 : S2048x768.Idx → EReal) = x1 := by
  funext j
  rw [eq_ix2 j]
  pointwise [k0_pay1]

theorem out_B (hc0 hc1 hc2) (x0 : Vec Ideal S1x2048x2048 .bf16) (x1 : Vec Ideal S2048x768 .f32) (x2 x3 : Vec Ideal S1x2048x128 .f32) (xs : Vec Ideal S2048x768 .bf16) (y : S1x6x2048x128.Idx) :
    out0_B_4 c i arg2 harg2 arg3 harg3 arg4 harg4 arg5 harg5 arg6 harg6 arg7 harg7 hc0 hc1 hc2 x0 x1 x2 x3 xs y = tileTurned x0 xs x2 x3 y := by
  frame_out
  canon_tiles x h
  all_goals
    have b1 : (x 1).val < 1 := (x 1).isLt
    refine turned_rows x0 xs x2 x3 _ _ _ _ (by decide) _ _ _ (product_at _ _) (table_at _) (table_at _) x y ?_ ?_ ?_ <;> omega

theorem out_D (hc0 hc1 hc2) (x0 : Vec Ideal S1x2048x2048 .bf16) (x1 : Vec Ideal S2048x768 .f32) (x2 x3 : Vec Ideal S1x2048x128 .f32) (xs : Vec Ideal S2048x768 .bf16) (y : S1x6x2048x128.Idx) :
    out0_D_4 c i arg2 harg2 arg3 harg3 arg4 harg4 arg5 harg5 arg6 harg6 arg7 harg7 hc0 hc1 hc2 x0 x1 x2 x3 xs y = tileKept x0 xs y := by
  frame_out
  canon_tiles x h
  all_goals
    have b1 : (x 1).val < 1 := (x 1).isLt
    refine kept_rows x0 xs _ _ _ (by decide) _ (product_at _ _) x y ?_ ?_ ?_ <;> omega

theorem out_A (hc0 hc1 hc2) (x0 : Vec Ideal S1x2048x2048 .bf16) (x1 : Vec Ideal S2048x768 .f32) (x2 x3 : Vec Ideal S1x2048x128 .f32) (y : S1x6x2048x128.Idx) :
    out0_A_4 c i arg2 harg2 arg3 harg3 arg4 harg4 arg5 harg5 arg6 harg6 arg7 harg7 hc0 hc1 hc2 x0 x1 x2 x3 y = tileTurned x0 x1 x2 x3 y := by
  rw [show tileTurned x0 x1 x2 x3 y = tileTurned x0 (k0_pay1 x1) x2 x3 y from congrArg (fun X => tileTurned x0 X x2 x3 y) (narrowed x1).symm]
  frame_out
  canon_tiles x h
  all_goals
    have b1 : (x 1).val < 1 := (x 1).isLt
    refine turned_rows x0 (k0_pay1 x1) x2 x3 _ _ _ _ (by decide) _ _ _ (product_at _ _) (table_at _) (table_at _) x y ?_ ?_ ?_ <;> omega

theorem out_C (hc0 hc1 hc2) (x0 : Vec Ideal S1x2048x2048 .bf16) (x1 : Vec Ideal S2048x768 .f32) (x2 x3 : Vec Ideal S1x2048x128 .f32) (y : S1x6x2048x128.Idx) :
    out0_C_4 c i arg2 harg2 arg3 harg3 arg4 harg4 arg5 harg5 arg6 harg6 arg7 harg7 hc0 hc1 hc2 x0 x1 x2 x3 y = tileKept x0 x1 y := by
  rw [show tileKept x0 x1 y = tileKept x0 (k0_pay1 x1) y from congrArg (fun X => tileKept x0 X y) (narrowed x1).symm]
  frame_out
  canon_tiles x h
  all_goals
    have b1 : (x 1).val < 1 := (x 1).isLt
    refine kept_rows x0 (k0_pay1 x1) _ _ _ (by decide) _ (product_at _ _) x y ?_ ?_ ?_ <;> omega

theorem sout_A (hc0 hc1 hc2) (x0 : Vec Ideal S1x2048x2048 .bf16) (x1 : Vec Ideal S2048x768 .f32) (x2 x3 : Vec Ideal S1x2048x128 .f32) (y : S2048x768.Idx) :
    sout0_A_0 c i arg2 harg2 arg3 harg3 arg4 harg4 arg5 harg5 arg6 harg6 arg7 harg7 hc0 hc1 hc2 x0 x1 x2 x3 y = (x1 y : EReal) := by
  frame_out
  exact congrFun (narrowed x1) y

theorem sout_C (hc0 hc1 hc2) (x0 : Vec Ideal S1x2048x2048 .bf16) (x1 : Vec Ideal S2048x768 .f32) (x2 x3 : Vec Ideal S1x2048x128 .f32) (y : S2048x768.Idx) :
    sout0_C_0 c i arg2 harg2 arg3 harg3 arg4 harg4 arg5 harg5 arg6 harg6 arg7 harg7 hc0 hc1 hc2 x0 x1 x2 x3 y = (x1 y : EReal) := by
  frame_out
  exact congrFun (narrowed x1) y
end Body

variable (m : (ℓ : Loc nD τ sig) → Buf (Elt Ideal) ℓ)

abbrev argH (c : Dev nD) : Vec Ideal S8x2048x2048 .bf16 := m ((c : Thread nD τ).loc main_arg0)
abbrev argW (c : Dev nD) : Vec Ideal S1x2048x29824 .f32 := m ((c : Thread nD τ).loc main_arg1)
abbrev argCos (c : Dev nD) : Vec Ideal S3x8x2048x64 .f32 := m ((c : Thread nD τ).loc main_arg2)
abbrev argSin (c : Dev nD) : Vec Ideal S3x8x2048x64 .f32 := m ((c : Thread nD τ).loc main_arg3)

/-- The call's group. -/
abbrev group : Fin 3 := 2

/-- The tile of the weights that a point reads: the two tiles of the group's queries, of its keys, of its values. -/
def tile (t : ℕ) : ℕ := t / 8 / 2 * 6 + group.val * 2 + t / 8 % 2

theorem idx0 : ∀ t : Fin cfg0.N, win0_0.index t = ![t.val % 8, 0, 0] := by decide +kernel
theorem idx1 : ∀ t : Fin cfg0.N, win0_1.index t = ![0, tile t.val] := by decide +kernel
theorem idx2 : ∀ t : Fin cfg0.N, win0_2.index t = ![8 * group.val + t.val % 8, 0, 0] := by decide +kernel
theorem idx3 : ∀ t : Fin cfg0.N, win0_3.index t = ![8 * group.val + t.val % 8, 0, 0] := by decide +kernel
theorem idx4 : ∀ t : Fin cfg0.N, win0_4.index t = ![t.val % 8, t.val / 8, 0, 0] := by decide +kernel

theorem point_lt (t : Fin cfg0.N) : t.val < 48 := Nat.lt_of_lt_of_eq t.isLt N_0

theorem tile_lt (t : Fin cfg0.N) : tile t.val < 18 := by
  have := point_lt t
  have : group.val < 3 := group.isLt
  unfold tile
  omega

theorem acts_at (c : Dev nD) (t : Fin cfg0.N) (R k : Fin 2048) :
    iblk m c 0 t (ix3 (0 : Fin 1) R k) = argH m c (ix3 (⟨t.val % 8, by omega⟩ : Fin 8) R k) := by
  have ht := point_lt t
  blk_ext [iblk, V, idx0 t]

theorem entry_w (c : Dev nD) : V m c main_v0 = shapeCast S2048x29824 (argW m c) shapeCasts_S1x2048x29824_S2048x29824 := by
  unfold_abbrev_sides
  after_results
  rfl

theorem entry_cos (c : Dev nD) : V m c main_v2 = Rotary.wideCos (argCos m c) := by
  unfold_abbrev_sides
  after_results
  rfl

theorem entry_sin (c : Dev nD) : V m c main_v5 = Rotary.wideSin (argSin m c) := by
  unfold_abbrev_sides
  after_results
  rfl

theorem weights_at (c : Dev nD) (t : Fin cfg0.N) (k : Fin 2048) (l : Fin 768) :
    X0_1 m c t (ix2 k l) = argW m c (ix3 (0 : Fin 1) k (⟨768 * tile t.val + l.val, by have := tile_lt t; omega⟩ : Fin 29824)) := by
  have ht := tile_lt t
  have e : X0_1 m c t (ix2 k l) = V m c main_v0 (ix2 k (⟨768 * tile t.val + l.val, by omega⟩ : Fin 29824)) := by
    unfold X0_1 Pipeline.Window.fill
    rw [dif_pos (moved0_1 t _)]
    unfold iblk
    generalize V m c = X
    blk_ext [idx1 t]
  rw [e, entry_w]
  exact ValueIdx.shapeCast_1ab_ab_apply _ _ _ _

theorem cos_at (c : Dev nD) (t : Fin cfg0.N) (R : Fin 2048) (l : Fin 128) :
    iblk m c 2 t (ix3 (0 : Fin 1) R l) = Rotary.wideCos (argCos m c) (ix3 (⟨8 * group.val + t.val % 8, by have := group.isLt; omega⟩ : Fin 24) R l) := by
  have ht := point_lt t
  rw [← entry_cos]
  unfold iblk
  generalize V m c = X
  blk_ext [idx2 t]

theorem sin_at (c : Dev nD) (t : Fin cfg0.N) (R : Fin 2048) (l : Fin 128) :
    iblk m c 3 t (ix3 (0 : Fin 1) R l) = Rotary.wideSin (argSin m c) (ix3 (⟨8 * group.val + t.val % 8, by have := group.isLt; omega⟩ : Fin 24) R l) := by
  have ht := point_lt t
  rw [← entry_sin]
  unfold iblk
  generalize V m c = X
  blk_ext [idx3 t]

/-- The first batch of a tile stores the weight tile in the scratch. -/
theorem scratch_first (c : Dev nD) (t : Fin cfg0.N) (h0 : t.val % 8 = 0) (y : S2048x768.Idx) :
    ((outsAt0 m c t.val t.isLt).2 y : EReal) = X0_1 m c t y := by
  by_cases h1 : t.val < 32
  · rw [outsAt0_A m c t h0 h1 (by omega)]
    dsimp only
    rw [sout_A]
  · rw [outsAt0_C m c t h0 h1 (by omega)]
    dsimp only
    rw [sout_C]

/-- The other batches keep it. -/
theorem scratch_next (c : Dev nD) (t : Fin cfg0.N) (h0 : ¬t.val % 8 = 0) (y : S2048x768.Idx) :
    ((outsAt0 m c t.val t.isLt).2 y : EReal) = (outsAt0 m c (t.val - 1) (Nat.lt_of_le_of_lt (Nat.sub_le _ _) t.isLt)).2 y := by
  by_cases h1 : t.val < 32
  · rw [outsAt0_B m c t h0 h1 (by omega)]
    rfl
  · rw [outsAt0_D m c t h0 h1 (by omega)]
    rfl

/-- So the scratch holds the point's weight tile. -/
theorem scratch_at (c : Dev nD) (t : Fin cfg0.N) (k : Fin 2048) (l : Fin 768) :
    ((outsAt0 m c t.val t.isLt).2 (ix2 k l) : EReal) = argW m c (ix3 (0 : Fin 1) k (⟨768 * tile t.val + l.val, by have := tile_lt t; omega⟩ : Fin 29824)) := by
  refine (Pipeline.eq_of_write_hold (M := EReal) (fun n h => (outsAt0 m c n h).2 (ix2 k l)) 8 (fun t => X0_1 m c t (ix2 k l))
    (fun t h0 => scratch_first m c t h0 _) (fun t h0 => scratch_next m c t h0 _) t).trans ?_
  rw [weights_at]
  refine congrArg (fun C => argW m c (ix3 (0 : Fin 1) k C)) (Fin.ext ?_)
  show 768 * tile (8 * (t.val / 8)) + l.val = 768 * tile t.val + l.val
  unfold tile
  omega

/-- What a point writes back, the tile's weights being in the scratch or read. -/
theorem after_at (c : Dev nD) (t : Fin cfg0.N) (n : Fin 6) (R : Fin 2048) (l : Fin 128) :
    ((outsAt0 m c t.val t.isLt).1 (ix4 (0 : Fin 1) n R l) : EReal)
      = entry group (argH m c) (argW m c) (argCos m c) (argSin m c) (⟨t.val % 8, by omega⟩ : Fin 8) (⟨6 * (t.val / 8) + n.val, by have := point_lt t; omega⟩ : Fin 36) R l := by
  have ht := point_lt t
  by_cases h0 : t.val % 8 = 0 <;> by_cases h1 : t.val < 32
  · rw [outsAt0_A m c t h0 h1 (by omega)]
    dsimp only
    rw [out_A]
    exact Rotary.turned_entry group _ _ _ _ _ _ _ _ t.val ht h1 (acts_at m c t) (weights_at m c t) (cos_at m c t) (sin_at m c t) n R l
  · rw [outsAt0_C m c t h0 h1 (by omega)]
    dsimp only
    rw [out_C]
    exact Rotary.kept_entry group _ _ _ _ _ _ t.val ht h1 (acts_at m c t) (weights_at m c t) n R l
  · have hs := scratch_at m c t
    rw [outsAt0_B m c t h0 h1 (by omega)] at hs ⊢
    dsimp only at hs ⊢
    rw [out_B]
    exact Rotary.turned_entry group _ _ _ _ _ _ _ _ t.val ht h1 (acts_at m c t) hs (cos_at m c t) (sin_at m c t) n R l
  · have hs := scratch_at m c t
    rw [outsAt0_D m c t h0 h1 (by omega)] at hs ⊢
    dsimp only at hs ⊢
    rw [out_D]
    exact Rotary.kept_entry group _ _ _ _ _ _ t.val ht h1 (acts_at m c t) hs n R l

theorem result_arr (c : Dev nD) : (dats m 0 c).arrAt 4 cfg0.N = result group (argH m c) (argW m c) (argCos m c) (argSin m c) := by
  refine (dats m 0 c).arrAt_eq_of_covers 4 _ (by decide +kernel) fun t hf y => ?_
  blk_simp
  rw [after0_4]
  have ht := point_lt t
  have hy : y = ix4 (0 : Fin 1) (y 1) (y 2) (y 3) := Rotary.eq_block y
  have h0 : (y 0).val < 1 := (y 0).isLt
  have h1 : (y 1).val < 6 := (y 1).isLt
  refine ((congrArg (outsAt0 m c t.val t.isLt).1 hy).trans (after_at m c t (y 1) (y 2) (y 3))).trans ?_
  have e0 : (⟨t.val % 8, by omega⟩ : Fin 8) = (win0_4.blk t).view.emb y 0 := Fin.ext (by
    show t.val % 8 = _
    blk_simp [idx4 t])
  have e1 : (⟨6 * (t.val / 8) + (y 1).val, by omega⟩ : Fin 36) = (win0_4.blk t).view.emb y 1 := Fin.ext (by
    show 6 * (t.val / 8) + (y 1).val = _
    blk_simp [idx4 t]
    omega)
  have e2 : y 2 = (win0_4.blk t).view.emb y 2 := Fin.ext (by
    blk_simp [idx4 t])
  have e3 : y 3 = (win0_4.blk t).view.emb y 3 := Fin.ext (by
    blk_simp [idx4 t])
  unfold result
  rw [e0, e1]
  exact congrArg₂ (fun R l => entry _ _ _ _ _ _ _ R l) e2 e3

end Cert.Proof.QkvCIdeal

end
-- ==== Proof.QkvCClaims.lean ====
/- What the reference of `QkvC` holds, and the claims of the call. -/
module

public import proofs.«01_k».proof.Defs
public import proofs.«01_k».proof.Proof.QkvCIdealValue
public import proofs.«01_k».proof.Proof.RotaryReference
public import proofs.«01_k».proof.Proof.Gen.QkvC.Frame
public import proofs.«01_k».proof.Proof.Gen.QkvCRefIdeal.Run
public import Idealize.ShloMosaic.Lib.Claim
public import Idealize.ShloMosaic.Lib.IdealHost
public import Idealize.ShloMosaic.Lib.Quiescent

@[expose] public section

set_option maxRecDepth 16384

noncomputable section

namespace Cert.Proof.QkvCRefIdeal

open Cert.QkvCRefIdeal Cert.QkvCRefIdeal.Gen
open Idealize.ShloMosaic Idealize.ShloMosaic.TcCoe Idealize.ShloMosaic.Tactic
open Cert.Proof.Projection (column)
open Cert.Proof.QkvCIdeal (group)

/-- The reference's product. -/
def projected (h : Vec Ideal S8x2048x2048 .bf16) (w : Vec Ideal S1x2048x29824 .f32) : Vec Ideal S8x2048x13824 .f32 :=
  Host.dotGeneral (F := Ideal) (φ₁ := .f32) (φ₂ := .f32) dot_S8x2048x2048_S2048x13824_S8x2048x13824_2_0_01_1_n_n none (extf (F := Ideal) .f32 h bitsLt_bf16_f32)
    (extractStridedSlice S2048x13824 ![0, 0] (shapeCast S2048x29824 w shapeCasts_S1x2048x29824_S2048x29824) slices_S2048x29824_S2048x13824_0_0)

theorem projected_at (h : Vec Ideal S8x2048x2048 .bf16) (w : Vec Ideal S1x2048x29824 .f32) (b : Fin 8) (R : Fin 2048) (C : Fin 13824) :
    (projected h w (ix3 b R C) : EReal) = column h w b R (⟨C.val, by omega⟩ : Fin 29824) := by
  unfold column
  pointwise [projected]

theorem value (m : (ℓ : Loc nD τ sig) → Buf (Elt Ideal) ℓ) (c : Dev nD) :
    Value.res_main_v51 (F := Ideal) m c = Rotary.result group (m (c.tc.loc main_arg0)) (m (c.tc.loc main_arg1)) (m (c.tc.loc main_arg2)) (m (c.tc.loc main_arg3)) :=
  Rotary.reference_value group (m (c.tc.loc main_arg0)) (m (c.tc.loc main_arg1)) (m (c.tc.loc main_arg2)) (m (c.tc.loc main_arg3))
    (projected (m (c.tc.loc main_arg0)) (m (c.tc.loc main_arg1))) (projected_at _ _) (by decide) (by decide) (by decide) (by decide)

end Cert.Proof.QkvCRefIdeal

namespace Cert.Proof.QkvC

open Idealize.ShloMosaic Idealize.ShloMosaic.TcCoe Idealize.SL.Sem
open Cert.Proof.QkvCIdeal (group)

theorem frame_p : Cert.quiescent_QkvC := fun m ρ _ => Cert.QkvC.Gen.frame m ρ
theorem frame_pi : Cert.quiescent_QkvCIdeal := fun m ρ _ => Cert.QkvCIdeal.Gen.frame m ρ
theorem frame_ri : Cert.quiescent_QkvCRefIdeal := fun m ρ _ =>
  (θ_run Cert.QkvCRefIdeal.defs _ _).mono (fun r h => ⟨fun c => (h c).2, sem_eq_zero_of_no_sems (by decide) r.2⟩) (Cert.QkvCRefIdeal.Value.run (F := Ideal) m ρ)
theorem preserves : Cert.preserves_QkvC_QkvCIdeal := trivial

theorem algebraic : Cert.algebraic_QkvCIdeal_QkvCRefIdeal := by
  intro m g m' g' _ hargs
  refine ⟨fun c => Rotary.result group (QkvCIdeal.argH m c) (QkvCIdeal.argW m c) (QkvCIdeal.argCos m c) (QkvCIdeal.argSin m c), ?_, ?_⟩
  · exact (θ_run _ _ _).mono (fun r h c => ⟨(h c).1.trans (QkvCIdeal.result_arr m c), (h c).2⟩) (Cert.QkvCIdeal.Value.run_blocks m g)
  · refine (θ_run _ _ _).mono (fun r h c => ⟨(h c).1.trans ((QkvCRefIdeal.value m' c).trans ?_), (h c).2⟩) (Cert.QkvCRefIdeal.Value.run (F := Ideal) m' g')
    obtain ⟨h0, h1, h2, h3⟩ := hargs c
    show Rotary.result _ _ _ _ _ = Rotary.result _ _ _ _ _
    rw [h0, h1, h2, h3]

end Cert.Proof.QkvC

end
-- ==== Proof.Norm.lean ====
/- One row of an RMS normalization: each entry over the root of the row's mean square, times the gain. -/
module

public import Idealize.ShloMosaic.Lib.Pointwise
public import Idealize.ShloMosaic.Lib.IdealHost

@[expose] public section

noncomputable section

namespace Cert.Proof.Norm

open Idealize.ShloMosaic Idealize.ShloMosaic.TcCoe

/-- Entry `C` of the row `f` of `n` entries, `len` being the word that the sum of squares is divided by. -/
def normed {n : Nat} (len : BitVec 32) (f g : Fin n → EReal) (C : Fin n) : EReal :=
  f C * Ideal.rsqrt (Ideal.div (∑ k, f k * f k) (Ideal.ofBits .f32 len) + Ideal.ofBits .f32 0x358637BD#32) * g C

/-- Row `R` of the eight batches of 2048 rows is row `R % 2048` of batch `R / 2048`. -/
abbrev batch (R : Fin 16384) : Fin 8 := ⟨R.val / 2048, by omega⟩
abbrev pos (R : Fin 16384) : Fin 2048 := ⟨R.val % 2048, by omega⟩

end Cert.Proof.Norm

end
-- ==== Proof.TailAIdealValue.lean ====
/- The merge of the two branches: the attention branch's projection, the RMS norm and the projection of the state-space branch,
   each times its gate, added: the array that the kernel writes. -/
module

public import proofs.«01_k».proof.Proof.Norm
public import proofs.«01_k».proof.Proof.Gen.TailAIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.TailAIdeal

open Cert.TailAIdeal Cert.TailAIdeal.Gen
open Idealize.ShloMosaic Idealize.ShloMosaic.TcCoe Idealize.ShloMosaic.Tactic
open Cert.Proof.Norm

/-- The merged branches, at row `r` of batch `b` and column `C`. -/
def merged (o : Vec Ideal S8x2048x1536 .bf16) (y g : Vec Ideal S8x2048x4096 .bf16) (n : Vec Ideal S1x4096 .f32) (wa : Vec Ideal S1x1536x2048 .f32)
    (ws : Vec Ideal S1x4096x2048 .f32) (b : Fin 8) (r C : Fin 2048) : EReal :=
  g (ix3 b r (⟨C.val, by omega⟩ : Fin 4096)) * (∑ k, o (ix3 b r k) * wa (ix3 (0 : Fin 1) k C))
    + g (ix3 b r (⟨2048 + C.val, by omega⟩ : Fin 4096)) * ∑ k, normed 0x45800000#32 (fun c => y (ix3 b r c)) (fun c => n (ix2 (0 : Fin 1) c)) k * ws (ix3 (0 : Fin 1) k C)

/-- The result: the batches' rows one after another. -/
def result (o : Vec Ideal S8x2048x1536 .bf16) (y g : Vec Ideal S8x2048x4096 .bf16) (n : Vec Ideal S1x4096 .f32) (wa : Vec Ideal S1x1536x2048 .f32)
    (ws : Vec Ideal S1x4096x2048 .f32) : Vec Ideal S16384x2048 .bf16 :=
  fun z => merged o y g n wa ws (batch (z 0)) (pos (z 0)) (z 1)

theorem pay_at (v0 : Vec Ideal S256x1536 .bf16) (v2 : Vec Ideal S1536x2048 .bf16) (v5 : Vec Ideal S256x4096 .bf16) (v18 : Vec Ideal S1x4096 .f32)
    (v23 : Vec Ideal S4096x2048 .bf16) (v26 v29 : Vec Ideal S256x2048 .bf16) (R : Fin 256) (C : Fin 2048) :
    (k0_pay1 v0 v2 v5 v18 v23 v26 v29 (ix2 R C) : EReal)
      = v26 (ix2 R C) * (∑ k, v0 (ix2 R k) * v2 (ix2 k C))
        + v29 (ix2 R C) * ∑ k, normed 0x45800000#32 (fun c => v5 (ix2 R c)) (fun c => v18 (ix2 (0 : Fin 1) c)) k * v23 (ix2 k C) := by
  unfold normed
  pointwise [k0_pay1]

theorem out_at (x0 : Vec Ideal S256x1536 .bf16) (x1 x2 : Vec Ideal S256x4096 .bf16) (x3 : Vec Ideal S1x4096 .f32) (x4 : Vec Ideal S1536x2048 .bf16)
    (x5 : Vec Ideal S4096x2048 .bf16) (R : Fin 256) (C : Fin 2048) :
    (out0_6 x0 x1 x2 x3 x4 x5 (ix2 R C) : EReal)
      = x2 (ix2 R (⟨C.val, by omega⟩ : Fin 4096)) * (∑ k, x0 (ix2 R k) * x4 (ix2 k C))
        + x2 (ix2 R (⟨2048 + C.val, by omega⟩ : Fin 4096)) * ∑ k, normed 0x45800000#32 (fun c => x1 (ix2 R c)) (fun c => x3 (ix2 (0 : Fin 1) c)) k * x5 (ix2 k C) := by
  frame_out
  rw [pay_at]
  have ha : (View.ld x2 r0_5 (ix2 R C) : EReal) = x2 (ix2 R (⟨C.val, by omega⟩ : Fin 4096)) := by
    pointwise [r0_5]
  have hs : (View.ld x2 r0_6 (ix2 R C) : EReal) = x2 (ix2 R (⟨2048 + C.val, by omega⟩ : Fin 4096)) := by
    pointwise [r0_6]
  rw [ha, hs]

variable (m : (ℓ : Loc nD τ sig) → Buf (Elt Ideal) ℓ)

abbrev argO (c : Dev nD) : Vec Ideal S8x2048x1536 .bf16 := m ((c : Thread nD τ).loc main_arg0)
abbrev argY (c : Dev nD) : Vec Ideal S8x2048x4096 .bf16 := m ((c : Thread nD τ).loc main_arg1)
abbrev argG (c : Dev nD) : Vec Ideal S8x2048x4096 .bf16 := m ((c : Thread nD τ).loc main_arg2)
abbrev argN (c : Dev nD) : Vec Ideal S1x4096 .f32 := m ((c : Thread nD τ).loc main_arg3)
abbrev argA (c : Dev nD) : Vec Ideal S1x1536x2048 .f32 := m ((c : Thread nD τ).loc main_arg4)
abbrev argS (c : Dev nD) : Vec Ideal S1x4096x2048 .f32 := m ((c : Thread nD τ).loc main_arg5)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel

theorem point_lt (t : Fin cfg0.N) : t.val < 64 := Nat.lt_of_lt_of_eq t.isLt N_0

/-- The array's row that a point's block holds at `R`. -/
abbrev row (t : Fin cfg0.N) (R : Fin 256) : Fin 16384 := ⟨256 * t.val + R.val, by have := point_lt t; omega⟩

theorem entry_o (c : Dev nD) : V m c main_v0 = shapeCast S16384x1536 (argO m c) shapeCasts_S8x2048x1536_S16384x1536 := by
  unfold_abbrev_sides
  after_results
  rfl
theorem entry_y (c : Dev nD) : V m c main_v1 = shapeCast S16384x4096 (argY m c) shapeCasts_S8x2048x4096_S16384x4096 := by
  unfold_abbrev_sides
  after_results
  rfl
theorem entry_g (c : Dev nD) : V m c main_v2 = shapeCast S16384x4096 (argG m c) shapeCasts_S8x2048x4096_S16384x4096 := by
  unfold_abbrev_sides
  after_results
  rfl
theorem entry_n (c : Dev nD) : V m c main_v4 = broadcastInDim S1x4096 ![1] bcast_S4096_S1x4096_1 (shapeCast S4096 (argN m c) shapeCasts_S1x4096_S4096) := by
  unfold_abbrev_sides
  after_results
  rfl
theorem entry_a (c : Dev nD) : V m c main_v6 = truncf (F := Ideal) .bf16 (shapeCast S1536x2048 (argA m c) shapeCasts_S1x1536x2048_S1536x2048) bitsLt_bf16_f32 := by
  unfold_abbrev_sides
  after_results
  rfl
theorem entry_s (c : Dev nD) : V m c main_v8 = truncf (F := Ideal) .bf16 (shapeCast S4096x2048 (argS m c) shapeCasts_S1x4096x2048_S4096x2048) bitsLt_bf16_f32 := by
  unfold_abbrev_sides
  after_results
  rfl

theorem flat1536 (x : Vec Ideal S8x2048x1536 .bf16) (R : Fin 16384) (C : Fin 1536) :
    (shapeCast S16384x1536 x shapeCasts_S8x2048x1536_S16384x1536 (ix2 R C) : EReal) = x (ix3 (batch R) (pos R) C) := by
  pointwise
theorem flat4096 (x : Vec Ideal S8x2048x4096 .bf16) (R : Fin 16384) (C : Fin 4096) :
    (shapeCast S16384x4096 x shapeCasts_S8x2048x4096_S16384x4096 (ix2 R C) : EReal) = x (ix3 (batch R) (pos R) C) := by
  pointwise

theorem o_at (c : Dev nD) (t : Fin cfg0.N) (R : Fin 256) (k : Fin 1536) :
    iblk m c 0 t (ix2 R k) = argO m c (ix3 (batch (row t R)) (pos (row t R)) k) := by
  have ht := point_lt t
  have e : iblk m c 0 t (ix2 R k) = V m c main_v0 (ix2 (row t R) k) := by
    unfold iblk
    generalize V m c = X
    blk_ext [idx0 t]
  rw [e, entry_o]
  exact flat1536 _ _ _

theorem y_at (c : Dev nD) (t : Fin cfg0.N) (R : Fin 256) (k : Fin 4096) :
    iblk m c 1 t (ix2 R k) = argY m c (ix3 (batch (row t R)) (pos (row t R)) k) := by
  have ht := point_lt t
  have e : iblk m c 1 t (ix2 R k) = V m c main_v1 (ix2 (row t R) k) := by
    unfold iblk
    generalize V m c = X
    blk_ext [idx1 t]
  rw [e, entry_y]
  exact flat4096 _ _ _

theorem g_at (c : Dev nD) (t : Fin cfg0.N) (R : Fin 256) (k : Fin 4096) :
    iblk m c 2 t (ix2 R k) = argG m c (ix3 (batch (row t R)) (pos (row t R)) k) := by
  have ht := point_lt t
  have e : iblk m c 2 t (ix2 R k) = V m c main_v2 (ix2 (row t R) k) := by
    unfold iblk
    generalize V m c = X
    blk_ext [idx2 t]
  rw [e, entry_g]
  exact flat4096 _ _ _

theorem n_at (c : Dev nD) (t : Fin cfg0.N) (C : Fin 4096) : iblk m c 3 t (ix2 (0 : Fin 1) C) = argN m c (ix2 (0 : Fin 1) C) := by
  have e : iblk m c 3 t (ix2 (0 : Fin 1) C) = V m c main_v4 (ix2 (0 : Fin 1) C) := by
    unfold iblk
    generalize V m c = X
    blk_ext [idx3 t]
  rw [e, entry_n]
  pointwise

theorem wa_at (c : Dev nD) (t : Fin cfg0.N) (k : Fin 1536) (C : Fin 2048) : iblk m c 4 t (ix2 k C) = argA m c (ix3 (0 : Fin 1) k C) := by
  have e : iblk m c 4 t (ix2 k C) = V m c main_v6 (ix2 k C) := by
    unfold iblk
    generalize V m c = X
    blk_ext [idx4 t]
  rw [e, entry_a]
  pointwise

theorem ws_at (c : Dev nD) (t : Fin cfg0.N) (k : Fin 4096) (C : Fin 2048) : iblk m c 5 t (ix2 k C) = argS m c (ix3 (0 : Fin 1) k C) := by
  have e : iblk m c 5 t (ix2 k C) = V m c main_v8 (ix2 k C) := by
    unfold iblk
    generalize V m c = X
    blk_ext [idx5 t]
  rw [e, entry_s]
  pointwise

theorem result_arr (c : Dev nD) : (dats m 0 c).arrAt 6 cfg0.N = result (argO m c) (argY m c) (argG m c) (argN m c) (argA m c) (argS m c) := by
  refine (dats m 0 c).arrAt_eq_of_covers 6 _ (by decide +kernel) fun t hf y => ?_
  blk_simp
  rw [after0_6]
  have ht := point_lt t
  have hy : y = ix2 (y 0) (y 1) := eq_ix2 y
  refine ((congrArg (out0_6 (iblk m c 0 t) (iblk m c 1 t) (iblk m c 2 t) (iblk m c 3 t) (iblk m c 4 t) (iblk m c 5 t)) hy).trans (out_at _ _ _ _ _ _ (y 0) (y 1))).trans ?_
  have e0 : row t (y 0) = (win0_6.blk t).view.emb y 0 := Fin.ext (by
    show 256 * t.val + (y 0).val = _
    blk_simp [idx6 t]
    omega)
  have e1 : y 1 = (win0_6.blk t).view.emb y 1 := Fin.ext (by
    blk_simp [idx6 t])
  unfold result
  rw [← e0]
  refine Eq.trans ?_ (congrArg (merged _ _ _ _ _ _ _ _) e1)
  unfold merged
  refine congrArg₂ (· + ·)
    (congrArg₂ (· * ·) (g_at m c t (y 0) _) (Finset.sum_congr rfl fun k _ => congrArg₂ (· * ·) (o_at m c t (y 0) k) (wa_at m c t k (y 1))))
    (congrArg₂ (· * ·) (g_at m c t (y 0) _) (Finset.sum_congr rfl fun k _ => congrArg₂ (· * ·) ?_ (ws_at m c t k (y 1))))
  exact congrArg₂ (fun f g => normed 0x45800000#32 f g k) (funext fun C => y_at m c t (y 0) C) (funext fun C => n_at m c t C)

end Cert.Proof.TailAIdeal

end
-- ==== Proof.TailAClaims.lean ====
/- What the reference of `TailA` holds, and the claims of the call. -/
module

public import proofs.«01_k».proof.Defs
public import proofs.«01_k».proof.Proof.TailAIdealValue
public import proofs.«01_k».proof.Proof.Gen.TailA.Frame
public import proofs.«01_k».proof.Proof.Gen.TailARefIdeal.Run
public import Idealize.ShloMosaic.Lib.Claim
public import Idealize.ShloMosaic.Lib.IdealHost
public import Idealize.ShloMosaic.Lib.Quiescent

@[expose] public section

set_option maxRecDepth 16384

noncomputable section

namespace Cert.Proof.TailARefIdeal

open Cert.TailARefIdeal Cert.TailARefIdeal.Gen
open Idealize.ShloMosaic Idealize.ShloMosaic.TcCoe Idealize.ShloMosaic.Tactic
open Cert.Proof.Norm
open Cert.Proof.TailAIdeal (merged result)

/-- The attention branch's projection. -/
def attn (o : Vec Ideal S8x2048x1536 .bf16) (wa : Vec Ideal S1x1536x2048 .f32) : Vec Ideal S8x2048x2048 .f32 :=
  Host.dotGeneral (F := Ideal) (φ₁ := .f32) (φ₂ := .f32) dot_S8x2048x1536_S1536x2048_S8x2048x2048_2_0_01_1_n_n none (extf (F := Ideal) .f32 o bitsLt_bf16_f32)
    (shapeCast S1536x2048 wa shapeCasts_S1x1536x2048_S1536x2048)

/-- The RMS norm of the state-space branch. -/
def ssdNorm (y : Vec Ideal S8x2048x4096 .bf16) (n : Vec Ideal S1x4096 .f32) : Vec Ideal S8x2048x4096 .f32 :=
  mulf (F := Ideal) (φ := .f32) (mulf (extf (F := Ideal) .f32 y bitsLt_bf16_f32) (broadcastInDim S8x2048x4096 ![0, 1, 2] bcast_S8x2048x1_S8x2048x4096_0_1_2 (Host.rsqrt (addf (Host.divf
    (broadcastInDim S8x2048x1 ![0, 1] bcast_S8x2048_S8x2048x1_0_1 (Host.reduceAdd (mulf (extf (F := Ideal) .f32 y bitsLt_bf16_f32) (extf (F := Ideal) .f32 y bitsLt_bf16_f32)) (constant S_ .f32 0x00000000#32)
      reducesTo_S8x2048x4096_S8x2048_d2 h_S_)) (broadcastInDim S8x2048x1 ![] bcast_S_S8x2048x1 (constant S_ .f32 0x45800000#32)))
    (broadcastInDim S8x2048x1 ![] bcast_S_S8x2048x1 (constant S_ .f32 0x358637BD#32))))))
    (broadcastInDim S8x2048x4096 ![0, 1, 2] bcast_S1x1x4096_S8x2048x4096_0_1_2 (broadcastInDim S1x1x4096 ![2] bcast_S4096_S1x1x4096_2 (shapeCast S4096 n shapeCasts_S1x4096_S4096)))

/-- Its projection. -/
def ssd (y : Vec Ideal S8x2048x4096 .f32) (ws : Vec Ideal S1x4096x2048 .f32) : Vec Ideal S8x2048x2048 .f32 :=
  Host.dotGeneral (F := Ideal) (φ₁ := .f32) (φ₂ := .f32) dot_S8x2048x4096_S4096x2048_S8x2048x2048_2_0_01_1_n_n none y
    (shapeCast S4096x2048 ws shapeCasts_S1x4096x2048_S4096x2048)

/-- The two branches times their gates, added. -/
def sum (g : Vec Ideal S8x2048x4096 .bf16) (a s : Vec Ideal S8x2048x2048 .f32) : Vec Ideal S8x2048x2048 .f32 :=
  addf (F := Ideal) (φ := .f32) (mulf (extractStridedSlice S8x2048x2048 ![0, 0, 0] (extf (F := Ideal) .f32 g bitsLt_bf16_f32) slices_S8x2048x4096_S8x2048x2048_0_0_0) a)
    (mulf (extractStridedSlice S8x2048x2048 ![0, 0, 2048] (extf (F := Ideal) .f32 g bitsLt_bf16_f32) slices_S8x2048x4096_S8x2048x2048_0_0_2048) s)

theorem attn_at (o : Vec Ideal S8x2048x1536 .bf16) (wa : Vec Ideal S1x1536x2048 .f32) (b : Fin 8) (r C : Fin 2048) :
    (attn o wa (ix3 b r C) : EReal) = ∑ k, o (ix3 b r k) * wa (ix3 (0 : Fin 1) k C) := by
  pointwise [attn]

theorem ssdNorm_at (y : Vec Ideal S8x2048x4096 .bf16) (n : Vec Ideal S1x4096 .f32) (b : Fin 8) (r : Fin 2048) (k : Fin 4096) :
    (ssdNorm y n (ix3 b r k) : EReal) = normed 0x45800000#32 (fun c => y (ix3 b r c)) (fun c => n (ix2 (0 : Fin 1) c)) k := by
  unfold normed
  pointwise [ssdNorm]

theorem ssd_at (y : Vec Ideal S8x2048x4096 .f32) (ws : Vec Ideal S1x4096x2048 .f32) (b : Fin 8) (r C : Fin 2048) :
    (ssd y ws (ix3 b r C) : EReal) = ∑ k, y (ix3 b r k) * ws (ix3 (0 : Fin 1) k C) := by
  pointwise [ssd]

theorem sum_at (g : Vec Ideal S8x2048x4096 .bf16) (a s : Vec Ideal S8x2048x2048 .f32) (b : Fin 8) (r C : Fin 2048) :
    (sum g a s (ix3 b r C) : EReal)
      = g (ix3 b r (⟨C.val, by omega⟩ : Fin 4096)) * a (ix3 b r C) + g (ix3 b r (⟨2048 + C.val, by omega⟩ : Fin 4096)) * s (ix3 b r C) := by
  pointwise [sum]

theorem flat_at (f : Vec Ideal S8x2048x2048 .f32) (R : Fin 16384) (C : Fin 2048) :
    (truncf (F := Ideal) .bf16 (shapeCast S16384x2048 f shapeCasts_S8x2048x2048_S16384x2048) bitsLt_bf16_f32 (ix2 R C) : EReal) = f (ix3 (batch R) (pos R) C) := by
  pointwise

theorem value (o : Vec Ideal S8x2048x1536 .bf16) (y g : Vec Ideal S8x2048x4096 .bf16) (n : Vec Ideal S1x4096 .f32) (wa : Vec Ideal S1x1536x2048 .f32)
    (ws : Vec Ideal S1x4096x2048 .f32) :
    truncf (F := Ideal) .bf16 (shapeCast S16384x2048 (sum g (attn o wa) (ssd (ssdNorm y n) ws)) shapeCasts_S8x2048x2048_S16384x2048) bitsLt_bf16_f32
      = result o y g n wa ws := by
  funext z
  refine (congrArg (truncf (F := Ideal) .bf16 (shapeCast S16384x2048 (sum g (attn o wa) (ssd (ssdNorm y n) ws)) shapeCasts_S8x2048x2048_S16384x2048) bitsLt_bf16_f32) (eq_ix2 z)).trans ?_
  refine (flat_at _ (z 0) (z 1)).trans ((sum_at _ _ _ _ _ _).trans ?_)
  unfold result merged
  exact congrArg₂ (fun a s => _ * a + _ * s) (attn_at _ _ _ _ _)
    ((ssd_at _ _ _ _ _).trans (Finset.sum_congr rfl fun k _ => congrArg (· * _) (ssdNorm_at y n _ _ k)))

end Cert.Proof.TailARefIdeal

namespace Cert.Proof.TailA

open Idealize.ShloMosaic Idealize.ShloMosaic.TcCoe Idealize.SL.Sem

theorem frame_p : Cert.quiescent_TailA := fun m ρ _ => Cert.TailA.Gen.frame m ρ
theorem frame_pi : Cert.quiescent_TailAIdeal := fun m ρ _ => Cert.TailAIdeal.Gen.frame m ρ
theorem frame_ri : Cert.quiescent_TailARefIdeal := fun m ρ _ =>
  (θ_run Cert.TailARefIdeal.defs _ _).mono (fun r h => ⟨fun c => (h c).2, sem_eq_zero_of_no_sems (by decide) r.2⟩) (Cert.TailARefIdeal.Value.run (F := Ideal) m ρ)
theorem preserves : Cert.preserves_TailA_TailAIdeal := trivial

theorem algebraic : Cert.algebraic_TailAIdeal_TailARefIdeal := by
  intro m g m' g' _ hargs
  refine ⟨fun c => TailAIdeal.result (TailAIdeal.argO m c) (TailAIdeal.argY m c) (TailAIdeal.argG m c) (TailAIdeal.argN m c) (TailAIdeal.argA m c) (TailAIdeal.argS m c), ?_, ?_⟩
  · exact (θ_run _ _ _).mono (fun r h c => ⟨(h c).1.trans (TailAIdeal.result_arr m c), (h c).2⟩) (Cert.TailAIdeal.Value.run_blocks m g)
  · refine (θ_run _ _ _).mono (fun r h c => ⟨(h c).1.trans ((TailARefIdeal.value (m' (c.tc.loc Cert.TailARefIdeal.main_arg0)) (m' (c.tc.loc Cert.TailARefIdeal.main_arg1)) (m' (c.tc.loc Cert.TailARefIdeal.main_arg2))
      (m' (c.tc.loc Cert.TailARefIdeal.main_arg3)) (m' (c.tc.loc Cert.TailARefIdeal.main_arg4)) (m' (c.tc.loc Cert.TailARefIdeal.main_arg5))).trans ?_), (h c).2⟩) (Cert.TailARefIdeal.Value.run (F := Ideal) m' g')
    obtain ⟨h0, h1, h2, h3, h4, h5⟩ := hargs c
    show TailAIdeal.result _ _ _ _ _ _ = TailAIdeal.result _ _ _ _ _ _
    rw [h0, h1, h2, h3, h4, h5]

end Cert.Proof.TailA

end
-- ==== Proof.TailBIdealValue.lean ====
/- The output projection, its gate, the residual and the final RMS norm: the array that the kernel writes. -/
module

public import proofs.«01_k».proof.Proof.Norm
public import proofs.«01_k».proof.Proof.Gen.TailBIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.TailBIdeal

open Cert.TailBIdeal Cert.TailBIdeal.Gen
open Idealize.ShloMosaic Idealize.ShloMosaic.TcCoe Idealize.ShloMosaic.Tactic
open Cert.Proof.Norm

/-- The stream after the block's residual, at row `R` and column `C`. -/
def withResidual (o : Vec Ideal S16384x2048 .bf16) (x : Vec Ideal S8x2048x2048 .f32) (ada : Vec Ideal S8x6144 .f32) (w : Vec Ideal S1x2048x2048 .f32)
    (R : Fin 16384) (C : Fin 2048) : EReal :=
  x (ix3 (batch R) (pos R) C) + ada (ix2 (batch R) (⟨4096 + C.val, by omega⟩ : Fin 6144)) * ∑ k, o (ix2 R k) * w (ix3 (0 : Fin 1) k C)

/-- The result. -/
def result (o : Vec Ideal S16384x2048 .bf16) (x : Vec Ideal S8x2048x2048 .f32) (ada : Vec Ideal S8x6144 .f32) (w : Vec Ideal S1x2048x2048 .f32)
    (g : Vec Ideal S2048 .f32) : Vec Ideal S16384x2048 .f32 :=
  fun z => normed 0x45000000#32 (withResidual o x ada w (z 0)) (fun C => g (ix1 C)) (z 1)

theorem pay_at (v0 : Vec Ideal S512x2048 .bf16) (v1 : Vec Ideal S2048x2048 .bf16) (v4 : Vec Ideal S512x2048 .f32) (v6 : Vec Ideal S1x1x2048 .f32) (v21 : Vec Ideal S1x2048 .f32)
    (R : Fin 512) (C : Fin 2048) :
    (k0_pay1 v0 v1 v4 v6 v21 (ix2 R C) : EReal)
      = normed 0x45000000#32 (fun c => v4 (ix2 R c) + v6 (ix3 (0 : Fin 1) (0 : Fin 1) c) * ∑ k, v0 (ix2 R k) * v1 (ix2 k c)) (fun c => v21 (ix2 (0 : Fin 1) c)) C := by
  unfold normed
  pointwise [k0_pay1]

theorem out_at (x0 : Vec Ideal S512x2048 .bf16) (x1 : Vec Ideal S512x2048 .f32) (x2 : Vec Ideal S1x3x2048 .f32) (x3 : Vec Ideal S2048x2048 .bf16) (x4 : Vec Ideal S1x2048 .f32)
    (R : Fin 512) (C : Fin 2048) :
    (out0_5 x0 x1 x2 x3 x4 (ix2 R C) : EReal)
      = normed 0x45000000#32 (fun c => x1 (ix2 R c) + x2 (ix3 (0 : Fin 1) (2 : Fin 3) c) * ∑ k, x0 (ix2 R k) * x3 (ix2 k c)) (fun c => x4 (ix2 (0 : Fin 1) c)) C := by
  frame_out
  rw [pay_at]
  have hl : ∀ c : Fin 2048, (View.ld x2 r0_2 (ix3 (0 : Fin 1) (0 : Fin 1) c) : EReal) = x2 (ix3 (0 : Fin 1) (2 : Fin 3) c) := fun c => by
    pointwise [r0_2]
  simp only [hl]

variable (m : (ℓ : Loc nD τ sig) → Buf (Elt Ideal) ℓ)

abbrev argO (c : Dev nD) : Vec Ideal S16384x2048 .bf16 := m ((c : Thread nD τ).loc main_arg0)
abbrev argX (c : Dev nD) : Vec Ideal S8x2048x2048 .f32 := m ((c : Thread nD τ).loc main_arg1)
abbrev argA (c : Dev nD) : Vec Ideal S8x6144 .f32 := m ((c : Thread nD τ).loc main_arg2)
abbrev argW (c : Dev nD) : Vec Ideal S1x2048x2048 .f32 := m ((c : Thread nD τ).loc main_arg3)
abbrev argG (c : Dev nD) : Vec Ideal S2048 .f32 := m ((c : Thread nD τ).loc main_arg4)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val / 4, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

theorem point_lt (t : Fin cfg0.N) : t.val < 32 := Nat.lt_of_lt_of_eq t.isLt N_0

/-- The array's row that a point's block holds at `R`. -/
abbrev row (t : Fin cfg0.N) (R : Fin 512) : Fin 16384 := ⟨512 * t.val + R.val, by have := point_lt t; omega⟩

theorem entry_x (c : Dev nD) : V m c main_v0 = shapeCast S16384x2048 (argX m c) shapeCasts_S8x2048x2048_S16384x2048 := by
  unfold_abbrev_sides
  after_results
  rfl
theorem entry_a (c : Dev nD) : V m c main_v1 = shapeCast S8x3x2048 (argA m c) shapeCasts_S8x6144_S8x3x2048 := by
  unfold_abbrev_sides
  after_results
  rfl
theorem entry_w (c : Dev nD) : V m c main_v3 = truncf (F := Ideal) .bf16 (shapeCast S2048x2048 (argW m c) shapeCasts_S1x2048x2048_S2048x2048) bitsLt_bf16_f32 := by
  unfold_abbrev_sides
  after_results
  rfl
theorem entry_g (c : Dev nD) : V m c main_v4 = broadcastInDim S1x2048 ![1] bcast_S2048_S1x2048_1 (argG m c) := by
  unfold_abbrev_sides
  after_results

theorem o_at (c : Dev nD) (t : Fin cfg0.N) (R : Fin 512) (k : Fin 2048) : iblk m c 0 t (ix2 R k) = argO m c (ix2 (row t R) k) := by
  have ht := point_lt t
  blk_ext [iblk, V, idx0 t]

theorem x_flat (x : Vec Ideal S8x2048x2048 .f32) (R : Fin 16384) (C : Fin 2048) :
    (shapeCast S16384x2048 x shapeCasts_S8x2048x2048_S16384x2048 (ix2 R C) : EReal) = x (ix3 (batch R) (pos R) C) := by
  pointwise

theorem a_flat (x : Vec Ideal S8x6144 .f32) (b : Fin 8) (C : Fin 2048) :
    (shapeCast S8x3x2048 x shapeCasts_S8x6144_S8x3x2048 (ix3 b (2 : Fin 3) C) : EReal) = x (ix2 b (⟨4096 + C.val, by omega⟩ : Fin 6144)) := by
  pointwise

theorem x_at (c : Dev nD) (t : Fin cfg0.N) (R : Fin 512) (C : Fin 2048) :
    iblk m c 1 t (ix2 R C) = argX m c (ix3 (batch (row t R)) (pos (row t R)) C) := by
  have ht := point_lt t
  have e : iblk m c 1 t (ix2 R C) = V m c main_v0 (ix2 (row t R) C) := by
    unfold iblk
    generalize V m c = X
    blk_ext [idx1 t]
  rw [e, entry_x]
  exact x_flat _ _ _

theorem a_at (c : Dev nD) (t : Fin cfg0.N) (R : Fin 512) (C : Fin 2048) :
    iblk m c 2 t (ix3 (0 : Fin 1) (2 : Fin 3) C) = argA m c (ix2 (batch (row t R)) (⟨4096 + C.val, by omega⟩ : Fin 6144)) := by
  have ht := point_lt t
  have e : iblk m c 2 t (ix3 (0 : Fin 1) (2 : Fin 3) C) = V m c main_v1 (ix3 (batch (row t R)) (2 : Fin 3) C) := by
    unfold iblk
    generalize V m c = X
    blk_ext [idx2 t]
  rw [e, entry_a]
  exact a_flat _ _ _

theorem w_at (c : Dev nD) (t : Fin cfg0.N) (k C : Fin 2048) : iblk m c 3 t (ix2 k C) = argW m c (ix3 (0 : Fin 1) k C) := by
  have e : iblk m c 3 t (ix2 k C) = V m c main_v3 (ix2 k C) := by
    unfold iblk
    generalize V m c = X
    blk_ext [idx3 t]
  rw [e, entry_w]
  pointwise

theorem g_at (c : Dev nD) (t : Fin cfg0.N) (C : Fin 2048) : iblk m c 4 t (ix2 (0 : Fin 1) C) = argG m c (ix1 C) := by
  have e : iblk m c 4 t (ix2 (0 : Fin 1) C) = V m c main_v4 (ix2 (0 : Fin 1) C) := by
    unfold iblk
    generalize V m c = X
    blk_ext [idx4 t]
  rw [e, entry_g]
  pointwise

theorem result_arr (c : Dev nD) : (dats m 0 c).arrAt 5 cfg0.N = result (argO m c) (argX m c) (argA m c) (argW m c) (argG m c) := by
  refine (dats m 0 c).arrAt_eq_of_covers 5 _ (by decide +kernel) fun t hf y => ?_
  blk_simp
  rw [after0_5]
  have ht := point_lt t
  have hy : y = ix2 (y 0) (y 1) := eq_ix2 y
  refine ((congrArg (out0_5 (iblk m c 0 t) (iblk m c 1 t) (iblk m c 2 t) (iblk m c 3 t) (iblk m c 4 t)) hy).trans (out_at _ _ _ _ _ (y 0) (y 1))).trans ?_
  have e0 : row t (y 0) = (win0_5.blk t).view.emb y 0 := Fin.ext (by
    show 512 * t.val + (y 0).val = _
    blk_simp [idx5 t]
    omega)
  have e1 : y 1 = (win0_5.blk t).view.emb y 1 := Fin.ext (by
    blk_simp [idx5 t])
  unfold result
  rw [← e0]
  refine Eq.trans ?_ (congrArg (normed _ _ _) e1)
  refine congrArg₂ (fun f g => normed 0x45000000#32 f g (y 1)) (funext fun C => ?_) (funext fun C => g_at m c t C)
  unfold withResidual
  refine congrArg₂ (· + ·) (x_at m c t (y 0) C) (congrArg₂ (· * ·) (a_at m c t (y 0) C) (Finset.sum_congr rfl fun k _ => congrArg₂ (· * ·) (o_at m c t (y 0) k) (w_at m c t k C)))

end Cert.Proof.TailBIdeal

end
-- ==== Proof.TailBClaims.lean ====
/- What the reference of `TailB` holds, and the claims of the call. -/
module

public import proofs.«01_k».proof.Defs
public import proofs.«01_k».proof.Proof.TailBIdealValue
public import proofs.«01_k».proof.Proof.Gen.TailB.Frame
public import proofs.«01_k».proof.Proof.Gen.TailBRefIdeal.Run
public import Idealize.ShloMosaic.Lib.Claim
public import Idealize.ShloMosaic.Lib.IdealHost
public import Idealize.ShloMosaic.Lib.Quiescent

@[expose] public section

set_option maxRecDepth 16384

noncomputable section

namespace Cert.Proof.TailBRefIdeal

open Cert.TailBRefIdeal Cert.TailBRefIdeal.Gen
open Idealize.ShloMosaic Idealize.ShloMosaic.TcCoe Idealize.ShloMosaic.Tactic
open Cert.Proof.Norm
open Cert.Proof.TailBIdeal (withResidual result)

/-- The reference's output projection. -/
def projected (o : Vec Ideal S16384x2048 .bf16) (w : Vec Ideal S1x2048x2048 .f32) : Vec Ideal S8x2048x2048 .f32 :=
  shapeCast S8x2048x2048 (Host.dotGeneral (F := Ideal) (φ₁ := .f32) (φ₂ := .f32) dot_S16384x2048_S2048x2048_S16384x2048_1_0_0_1_n_n none (extf (F := Ideal) .f32 o bitsLt_bf16_f32)
    (shapeCast S2048x2048 w shapeCasts_S1x2048x2048_S2048x2048)) shapeCasts_S16384x2048_S8x2048x2048

/-- The stream after the residual. -/
def stream (x : Vec Ideal S8x2048x2048 .f32) (ada : Vec Ideal S8x6144 .f32) (p : Vec Ideal S8x2048x2048 .f32) : Vec Ideal S8x2048x2048 .f32 :=
  addf (F := Ideal) (φ := .f32) x (mulf (broadcastInDim S8x2048x2048 ![0, 1, 2] bcast_S8x1x2048_S8x2048x2048_0_1_2 (broadcastInDim S8x1x2048 ![0, 2] bcast_S8x2048_S8x1x2048_0_2
    (extractStridedSlice S8x2048 ![0, 4096] ada slices_S8x6144_S8x2048_0_4096))) p)

/-- The final norm. -/
def final (f : Vec Ideal S8x2048x2048 .f32) (g : Vec Ideal S2048 .f32) : Vec Ideal S8x2048x2048 .f32 :=
  mulf (F := Ideal) (φ := .f32) (mulf f (broadcastInDim S8x2048x2048 ![0, 1, 2] bcast_S8x2048x1_S8x2048x2048_0_1_2 (Host.rsqrt (addf (Host.divf (broadcastInDim S8x2048x1 ![0, 1] bcast_S8x2048_S8x2048x1_0_1
    (Host.reduceAdd (mulf f f) (constant S_ .f32 0x00000000#32) reducesTo_S8x2048x2048_S8x2048_d2 h_S_)) (broadcastInDim S8x2048x1 ![] bcast_S_S8x2048x1 (constant S_ .f32 0x45000000#32)))
    (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

theorem projected_at (o : Vec Ideal S16384x2048 .bf16) (w : Vec Ideal S1x2048x2048 .f32) (b : Fin 8) (r C : Fin 2048) :
    (projected o w (ix3 b r C) : EReal) = ∑ k, o (ix2 (⟨b.val * 2048 + r.val, by omega⟩ : Fin 16384) k) * w (ix3 (0 : Fin 1) k C) := by
  pointwise [projected]

theorem stream_at (x : Vec Ideal S8x2048x2048 .f32) (ada : Vec Ideal S8x6144 .f32) (p : Vec Ideal S8x2048x2048 .f32) (b : Fin 8) (r C : Fin 2048) :
    (stream x ada p (ix3 b r C) : EReal) = x (ix3 b r C) + ada (ix2 b (⟨4096 + C.val, by omega⟩ : Fin 6144)) * p (ix3 b r C) := by
  pointwise [stream]

theorem final_at (f : Vec Ideal S8x2048x2048 .f32) (g : Vec Ideal S2048 .f32) (b : Fin 8) (r C : Fin 2048) :
    (final f g (ix3 b r C) : EReal) = normed 0x45000000#32 (fun c => f (ix3 b r c)) (fun c => g (ix1 c)) C := by
  unfold normed
  pointwise [final]

theorem flat_at (f : Vec Ideal S8x2048x2048 .f32) (R : Fin 16384) (C : Fin 2048) :
    (shapeCast S16384x2048 f shapeCasts_S8x2048x2048_S16384x2048 (ix2 R C) : EReal) = f (ix3 (batch R) (pos R) C) := by
  pointwise

theorem value (o : Vec Ideal S16384x2048 .bf16) (x : Vec Ideal S8x2048x2048 .f32) (ada : Vec Ideal S8x6144 .f32) (w : Vec Ideal S1x2048x2048 .f32)
    (g : Vec Ideal S2048 .f32) :
    shapeCast S16384x2048 (final (stream x ada (projected o w)) g) shapeCasts_S8x2048x2048_S16384x2048 = result o x ada w g := by
  funext z
  refine (congrArg (shapeCast S16384x2048 (final (stream x ada (projected o w)) g) shapeCasts_S8x2048x2048_S16384x2048) (eq_ix2 z)).trans ?_
  refine (flat_at _ (z 0) (z 1)).trans ((final_at _ _ _ _ _).trans ?_)
  refine congrArg (fun f => normed 0x45000000#32 f (fun c => g (ix1 c)) (z 1)) (funext fun C => ?_)
  rw [stream_at, projected_at]
  unfold withResidual
  have e : (⟨(batch (z 0)).val * 2048 + (pos (z 0)).val, by omega⟩ : Fin 16384) = z 0 := Fin.ext (Nat.div_add_mod' _ _)
  rw [e]

end Cert.Proof.TailBRefIdeal

namespace Cert.Proof.TailB

open Idealize.ShloMosaic Idealize.ShloMosaic.TcCoe Idealize.SL.Sem

theorem frame_p : Cert.quiescent_TailB := fun m ρ _ => Cert.TailB.Gen.frame m ρ
theorem frame_pi : Cert.quiescent_TailBIdeal := fun m ρ _ => Cert.TailBIdeal.Gen.frame m ρ
theorem frame_ri : Cert.quiescent_TailBRefIdeal := fun m ρ _ =>
  (θ_run Cert.TailBRefIdeal.defs _ _).mono (fun r h => ⟨fun c => (h c).2, sem_eq_zero_of_no_sems (by decide) r.2⟩) (Cert.TailBRefIdeal.Value.run (F := Ideal) m ρ)
theorem preserves : Cert.preserves_TailB_TailBIdeal := trivial

theorem algebraic : Cert.algebraic_TailBIdeal_TailBRefIdeal := by
  intro m g m' g' _ hargs
  refine ⟨fun c => TailBIdeal.result (TailBIdeal.argO m c) (TailBIdeal.argX m c) (TailBIdeal.argA m c) (TailBIdeal.argW m c) (TailBIdeal.argG m c), ?_, ?_⟩
  · exact (θ_run _ _ _).mono (fun r h c => ⟨(h c).1.trans (TailBIdeal.result_arr m c), (h c).2⟩) (Cert.TailBIdeal.Value.run_blocks m g)
  · refine (θ_run _ _ _).mono (fun r h c => ⟨(h c).1.trans ((TailBRefIdeal.value (m' (c.tc.loc Cert.TailBRefIdeal.main_arg0)) (m' (c.tc.loc Cert.TailBRefIdeal.main_arg1)) (m' (c.tc.loc Cert.TailBRefIdeal.main_arg2))
      (m' (c.tc.loc Cert.TailBRefIdeal.main_arg3)) (m' (c.tc.loc Cert.TailBRefIdeal.main_arg4))).trans ?_), (h c).2⟩) (Cert.TailBRefIdeal.Value.run (F := Ideal) m' g')
    obtain ⟨h0, h1, h2, h3, h4⟩ := hargs c
    show TailBIdeal.result _ _ _ _ _ = TailBIdeal.result _ _ _ _ _
    rw [h0, h1, h2, h3, h4]

end Cert.Proof.TailB

end
-- ==== Proof.AdaIdealValue.lean ====
/- The modulation `c @ w_ada + b_ada`: the array that the kernel writes. -/
module

public import proofs.«01_k».proof.Proof.Norm
public import proofs.«01_k».proof.Proof.Gen.AdaIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.AdaIdeal

open Cert.AdaIdeal Cert.AdaIdeal.Gen
open Idealize.ShloMosaic Idealize.ShloMosaic.TcCoe Idealize.ShloMosaic.Tactic

/-- The modulation of a batch at a column. -/
def entry (x : Vec Ideal S8x2048 .f32) (w : Vec Ideal S1x2048x6144 .f32) (d : Vec Ideal S1x6144 .f32) (b : Fin 8) (C : Fin 6144) : EReal :=
  (∑ k, x (ix2 b k) * w (ix3 (0 : Fin 1) k C)) + d (ix2 (0 : Fin 1) C)

/-- The result. -/
def result (x : Vec Ideal S8x2048 .f32) (w : Vec Ideal S1x2048x6144 .f32) (d : Vec Ideal S1x6144 .f32) : Vec Ideal S8x6144 .f32 :=
  fun z => entry x w d (z 0) (z 1)

theorem pay_at (v0 : Vec Ideal S8x2048 .f32) (v1 : Vec Ideal S2048x768 .f32) (v2 : Vec Ideal S1x768 .f32) (b : Fin 8) (l : Fin 768) :
    (k0_pay1 v0 v1 v2 (ix2 b l) : EReal) = (∑ k, v0 (ix2 b k) * v1 (ix2 k l)) + v2 (ix2 (0 : Fin 1) l) := by
  pointwise [k0_pay1]

theorem out_at (x0 : Vec Ideal S8x2048 .f32) (x1 : Vec Ideal S2048x768 .f32) (x2 : Vec Ideal S1x768 .f32) (b : Fin 8) (l : Fin 768) :
    (out0_3 x0 x1 x2 (ix2 b l) : EReal) = (∑ k, x0 (ix2 b k) * x1 (ix2 k l)) + x2 (ix2 (0 : Fin 1) l) := by
  frame_out
  rw [pay_at]

variable (m : (ℓ : Loc nD τ sig) → Buf (Elt Ideal) ℓ)

abbrev argC (c : Dev nD) : Vec Ideal S8x2048 .f32 := m ((c : Thread nD τ).loc main_arg0)
abbrev argW (c : Dev nD) : Vec Ideal S1x2048x6144 .f32 := m ((c : Thread nD τ).loc main_arg1)
abbrev argB (c : Dev nD) : Vec Ideal S1x6144 .f32 := m ((c : Thread nD τ).loc main_arg2)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![0, t.val] := by decide +kernel

theorem point_lt (t : Fin cfg0.N) : t.val < 8 := Nat.lt_of_lt_of_eq t.isLt N_0

/-- The array's column that a point's block holds at `l`. -/
abbrev col (t : Fin cfg0.N) (l : Fin 768) : Fin 6144 := ⟨768 * t.val + l.val, by have := point_lt t; omega⟩

theorem entry_w (c : Dev nD) : V m c main_v0 = shapeCast S2048x6144 (argW m c) shapeCasts_S1x2048x6144_S2048x6144 := by
  unfold_abbrev_sides
  after_results
  rfl
theorem entry_b (c : Dev nD) : V m c main_v2 = broadcastInDim S1x6144 ![1] bcast_S6144_S1x6144_1 (shapeCast S6144 (argB m c) shapeCasts_S1x6144_S6144) := by
  unfold_abbrev_sides
  after_results
  rfl

theorem c_at (c : Dev nD) (t : Fin cfg0.N) (b : Fin 8) (k : Fin 2048) : iblk m c 0 t (ix2 b k) = argC m c (ix2 b k) := by
  blk_ext [iblk, V, idx0 t]

theorem w_at (c : Dev nD) (t : Fin cfg0.N) (k : Fin 2048) (l : Fin 768) : iblk m c 1 t (ix2 k l) = argW m c (ix3 (0 : Fin 1) k (col t l)) := by
  have ht := point_lt t
  have e : iblk m c 1 t (ix2 k l) = V m c main_v0 (ix2 k (col t l)) := by
    unfold iblk
    generalize V m c = X
    blk_ext [idx1 t]
  rw [e, entry_w]
  generalize col t l = C
  pointwise

theorem b_at (c : Dev nD) (t : Fin cfg0.N) (l : Fin 768) : iblk m c 2 t (ix2 (0 : Fin 1) l) = argB m c (ix2 (0 : Fin 1) (col t l)) := by
  have ht := point_lt t
  have e : iblk m c 2 t (ix2 (0 : Fin 1) l) = V m c main_v2 (ix2 (0 : Fin 1) (col t l)) := by
    unfold iblk
    generalize V m c = X
    blk_ext [idx2 t]
  rw [e, entry_b]
  generalize col t l = C
  pointwise

theorem result_arr (c : Dev nD) : (dats m 0 c).arrAt 3 cfg0.N = result (argC m c) (argW m c) (argB m c) := by
  refine (dats m 0 c).arrAt_eq_of_covers 3 _ (by decide +kernel) fun t hf y => ?_
  blk_simp
  rw [after0_3]
  have ht := point_lt t
  have hy : y = ix2 (y 0) (y 1) := eq_ix2 y
  refine ((congrArg (out0_3 (iblk m c 0 t) (iblk m c 1 t) (iblk m c 2 t)) hy).trans (out_at _ _ _ (y 0) (y 1))).trans ?_
  have e0 : y 0 = (win0_3.blk t).view.emb y 0 := Fin.ext (by
    blk_simp [idx3 t])
  have e1 : col t (y 1) = (win0_3.blk t).view.emb y 1 := Fin.ext (by
    show 768 * t.val + (y 1).val = _
    blk_simp [idx3 t]
    omega)
  unfold result
  rw [← e1]
  refine Eq.trans ?_ (congrArg (fun b => entry _ _ _ b (col t (y 1))) e0)
  unfold entry
  exact congrArg₂ (· + ·) (Finset.sum_congr rfl fun k _ => congrArg₂ (· * ·) (c_at m c t (y 0) k) (w_at m c t k (y 1))) (b_at m c t (y 1))

end Cert.Proof.AdaIdeal

end
-- ==== Proof.AdaClaims.lean ====
/- What the reference of `Ada` holds, and the claims of the call. -/
module

public import proofs.«01_k».proof.Defs
public import proofs.«01_k».proof.Proof.AdaIdealValue
public import proofs.«01_k».proof.Proof.Gen.Ada.Frame
public import proofs.«01_k».proof.Proof.Gen.AdaRefIdeal.Run
public import Idealize.ShloMosaic.Lib.Claim
public import Idealize.ShloMosaic.Lib.IdealHost
public import Idealize.ShloMosaic.Lib.Quiescent

@[expose] public section

set_option maxRecDepth 16384

noncomputable section

namespace Cert.Proof.AdaRefIdeal

open Cert.AdaRefIdeal Cert.AdaRefIdeal.Gen
open Idealize.ShloMosaic Idealize.ShloMosaic.TcCoe Idealize.ShloMosaic.Tactic
open Cert.Proof.AdaIdeal (entry result)

/-- The reference. -/
def modulation (x : Vec Ideal S8x2048 .f32) (w : Vec Ideal S1x2048x6144 .f32) (d : Vec Ideal S1x6144 .f32) : Vec Ideal S8x6144 .f32 :=
  addf (F := Ideal) (φ := .f32) (Host.dotGeneral (F := Ideal) (φ₁ := .f32) (φ₂ := .f32) dot_S8x2048_S2048x6144_S8x6144_1_0_0_1_n_n none x (shapeCast S2048x6144 w shapeCasts_S1x2048x6144_S2048x6144))
    (broadcastInDim S8x6144 ![0, 1] bcast_S1x6144_S8x6144_0_1 (broadcastInDim S1x6144 ![1] bcast_S6144_S1x6144_1 (shapeCast S6144 d shapeCasts_S1x6144_S6144)))

theorem modulation_at (x : Vec Ideal S8x2048 .f32) (w : Vec Ideal S1x2048x6144 .f32) (d : Vec Ideal S1x6144 .f32) (b : Fin 8) (C : Fin 6144) :
    (modulation x w d (ix2 b C) : EReal) = entry x w d b C := by
  unfold entry
  pointwise [modulation]

theorem value (x : Vec Ideal S8x2048 .f32) (w : Vec Ideal S1x2048x6144 .f32) (d : Vec Ideal S1x6144 .f32) : modulation x w d = result x w d := by
  funext z
  exact (congrArg (modulation x w d) (eq_ix2 z)).trans (modulation_at x w d (z 0) (z 1))

end Cert.Proof.AdaRefIdeal

namespace Cert.Proof.Ada

open Idealize.ShloMosaic Idealize.ShloMosaic.TcCoe Idealize.SL.Sem

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_AdaRefIdeal := fun m ρ _ =>
  (θ_run Cert.AdaRefIdeal.defs _ _).mono (fun r h => ⟨fun c => (h c).2, sem_eq_zero_of_no_sems (by decide) r.2⟩) (Cert.AdaRefIdeal.Value.run (F := Ideal) m ρ)
theorem preserves : Cert.preserves_Ada_AdaIdeal := trivial

theorem algebraic : Cert.algebraic_AdaIdeal_AdaRefIdeal := by
  intro m g m' g' _ hargs
  refine ⟨fun c => AdaIdeal.result (AdaIdeal.argC m c) (AdaIdeal.argW m c) (AdaIdeal.argB m c), ?_, ?_⟩
  · exact (θ_run _ _ _).mono (fun r h c => ⟨(h c).1.trans (AdaIdeal.result_arr m c), (h c).2⟩) (Cert.AdaIdeal.Value.run_blocks m g)
  · refine (θ_run _ _ _).mono (fun r h c => ⟨(h c).1.trans ((AdaRefIdeal.value (m' (c.tc.loc Cert.AdaRefIdeal.main_arg0)) (m' (c.tc.loc Cert.AdaRefIdeal.main_arg1)) (m' (c.tc.loc Cert.AdaRefIdeal.main_arg2))).trans ?_), (h c).2⟩) (Cert.AdaRefIdeal.Value.run (F := Ideal) m' g')
    obtain ⟨h0, h1, h2⟩ := hargs c
    show AdaIdeal.result _ _ _ = AdaIdeal.result _ _ _
    rw [h0, h1, h2]

end Cert.Proof.Ada

end
-- ==== Proof.Classes.lean ====
/- A tile of 512 rows spread over its residue classes modulo 4 and 16 by way of two scratch buffers: what the stores of the four
   buffers hold, step by step. -/
module

public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Classes

open Idealize.ShloMosaic Idealize.ShloMosaic.TcCoe Idealize.ShloMosaic.Tactic

/-- The tile, and its 16 blocks of columns. -/
abbrev Tile : Shape := ⟨2, ![512, 2048]⟩
abbrev Cols : Shape := ⟨3, ![16, 512, 128]⟩
abbrev By4 : Shape := ⟨4, ![1, 4, 128, 2048]⟩
abbrev By16 : Shape := ⟨4, ![1, 16, 32, 2048]⟩

/-- The column blocks of the tile, with the rows in order. -/
def cols (Y : Vec Ideal Tile .f32) : Cols.Idx → EReal := fun y =>
  Y (ix2 (y 1 : Fin 512) (⟨128 * (y 0).val + (y 2).val, by
    have h0 : (y 0).val < 16 := (y 0).isLt
    have h2 : (y 2).val < 128 := (y 2).isLt
    omega⟩ : Fin 2048))

/-- The column blocks of the tile, with the rows by residue class modulo 4. -/
def quarters (Y : Vec Ideal Tile .f32) : Cols.Idx → EReal := fun y =>
  Y (ix2 (⟨(y 1).val % 128 * 4 + (y 1).val / 128, by
    have h1 : (y 1).val < 512 := (y 1).isLt
    omega⟩ : Fin 512) (⟨128 * (y 0).val + (y 2).val, by
    have h0 : (y 0).val < 16 := (y 0).isLt
    have h2 : (y 2).val < 128 := (y 2).isLt
    omega⟩ : Fin 2048))

/-- The residue classes modulo 4. -/
def by4 (Y : Vec Ideal Tile .f32) : By4.Idx → EReal := fun y =>
  Y (ix2 (⟨4 * (y 2).val + (y 1).val, by
    have h1 : (y 1).val < 4 := (y 1).isLt
    have h2 : (y 2).val < 128 := (y 2).isLt
    omega⟩ : Fin 512) (y 3 : Fin 2048))

/-- The residue classes modulo 16. -/
def by16 (Y : Vec Ideal Tile .f32) : By16.Idx → EReal := fun y =>
  Y (ix2 (⟨16 * (y 2).val + (y 1).val, by
    have h1 : (y 1).val < 16 := (y 1).isLt
    have h2 : (y 2).val < 32 := (y 2).isLt
    omega⟩ : Fin 512) (y 3 : Fin 2048))

/-- The stores of the two scratch buffers and of the two outputs are blocks of these, and cover the blocks counted by the numbers. -/
structure Held (Y : Vec Ideal Tile .f32) (n₁ n₂ n₃ n₄ : ℕ) (L₁ L₂ : List (View.Piece (Elt Ideal) Cols .f32))
    (L₃ : List (View.Piece (Elt Ideal) By4 .bf16)) (L₄ : List (View.Piece (Elt Ideal) By16 .bf16)) : Prop where
  p₁ : View.PiecesOf (cols Y) L₁
  c₁ : ∀ y : Cols.Idx, (y 0).val < n₁ → ∃ p ∈ L₁, y ∈ p.1.set
  p₂ : View.PiecesOf (quarters Y) L₂
  c₂ : ∀ y : Cols.Idx, 512 * (y 0).val + (y 1).val < n₂ → ∃ p ∈ L₂, y ∈ p.1.set
  p₃ : View.PiecesOf (Val := Elt Ideal) (e := .bf16) (by4 Y) L₃
  c₃ : ∀ y : By4.Idx, 4 * ((y 3).val / 128) + (y 1).val < n₃ → ∃ p ∈ L₃, y ∈ p.1.set
  p₄ : View.PiecesOf (Val := Elt Ideal) (e := .bf16) (by16 Y) L₄
  c₄ : ∀ y : By16.Idx, 16 * ((y 3).val / 128) + (y 1).val < n₄ → ∃ p ∈ L₄, y ∈ p.1.set

theorem Held.start (Y : Vec Ideal Tile .f32) : Held Y 0 0 0 0 [] [] [] [] :=
  ⟨trivial, fun _ h => absurd h (Nat.not_lt_zero _), trivial, fun _ h => absurd h (Nat.not_lt_zero _),
   trivial, fun _ h => absurd h (Nat.not_lt_zero _), trivial, fun _ h => absurd h (Nat.not_lt_zero _)⟩

variable {Y : Vec Ideal Tile .f32} {n₁ n₂ n₃ n₄ : ℕ} {L₁ L₂ : List (View.Piece (Elt Ideal) Cols .f32)}
  {L₃ : List (View.Piece (Elt Ideal) By4 .bf16)} {L₄ : List (View.Piece (Elt Ideal) By16 .bf16)}

/-- What the outputs hold in the end. -/
theorem Held.canon₃ (h : Held Y n₁ n₂ 64 n₄ L₁ L₂ L₃ L₄) (y : By4.Idx) : (View.canon L₃ y : EReal) = by4 Y y :=
  View.canon_apply_of_pieces (Val := Elt Ideal) (e := .bf16) (by4 Y) L₃ h.p₃.mem y (h.c₃ y (by
    have h1 : (y 1).val < 4 := (y 1).isLt
    have h3 : (y 3).val < 2048 := (y 3).isLt
    omega))

theorem Held.canon₄ (h : Held Y n₁ n₂ n₃ 256 L₁ L₂ L₃ L₄) (y : By16.Idx) : (View.canon L₄ y : EReal) = by16 Y y :=
  View.canon_apply_of_pieces (Val := Elt Ideal) (e := .bf16) (by16 Y) L₄ h.p₄.mem y (h.c₄ y (by
    have h1 : (y 1).val < 16 := (y 1).isLt
    have h3 : (y 3).val < 2048 := (y 3).isLt
    omega))

/-- A block of columns of the tile, as it is stored. -/
theorem slice_at {o : ℕ} (Z : Vec Ideal Tile .f32) (hs : Tile.Slices ![0, o] ⟨2, ![512, 128]⟩) (hc : (⟨2, ![512, 128]⟩ : Shape).ShapeCasts ⟨3, ![1, 512, 128]⟩)
    (ho : o + 128 ≤ 2048) (R : Fin 512) (C : Fin 128) :
    (shapeCast ⟨3, ![1, 512, 128]⟩ (extractStridedSlice ⟨2, ![512, 128]⟩ ![0, o] Z hs) hc (ix3 (0 : Fin 1) R C) : EReal)
      = Z (ix2 R (⟨o + C.val, by omega⟩ : Fin 2048)) := by
  have e : (shapeCast ⟨3, ![1, 512, 128]⟩ (extractStridedSlice ⟨2, ![512, 128]⟩ ![0, o] Z hs) hc (ix3 (0 : Fin 1) R C) : EReal)
      = extractStridedSlice ⟨2, ![512, 128]⟩ ![0, o] Z hs (ix2 R C) := by
    generalize extractStridedSlice ⟨2, ![512, 128]⟩ ![0, o] Z hs = W
    pointwise
  refine e.trans (congrArg Z ?_)
  funext a
  match a with
  | ⟨0, _⟩ => exact Fin.ext (Nat.zero_add _)
  | ⟨1, _⟩ => rfl

theorem split4 {m n : ℕ} (x : (⟨4, ![1, 1, m, n]⟩ : Shape).Idx) : x = ix4 (0 : Fin 1) (0 : Fin 1) (x 2 : Fin m) (x 3 : Fin n) := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

theorem cast4_at (u : (⟨3, ![1, 128, 128]⟩ : Shape).Idx → EReal) (h₁ : (⟨3, ![1, 128, 128]⟩ : Shape).ShapeCasts ⟨2, ![128, 128]⟩) (hb)
    (h₂ : (⟨2, ![128, 128]⟩ : Shape).ShapeCasts ⟨4, ![1, 1, 128, 128]⟩) (R C : Fin 128) :
    (shapeCast ⟨4, ![1, 1, 128, 128]⟩ (truncf (F := Ideal) (φ := .f32) .bf16 (shapeCast ⟨2, ![128, 128]⟩ u h₁) hb) h₂ (ix4 (0 : Fin 1) (0 : Fin 1) R C) : EReal) = u (ix3 (0 : Fin 1) R C) := by
  pointwise

theorem cast16_at (u : (⟨3, ![1, 32, 128]⟩ : Shape).Idx → EReal) (h₁ : (⟨3, ![1, 32, 128]⟩ : Shape).ShapeCasts ⟨2, ![32, 128]⟩) (hb)
    (h₂ : (⟨2, ![32, 128]⟩ : Shape).ShapeCasts ⟨4, ![1, 1, 32, 128]⟩) (R : Fin 32) (C : Fin 128) :
    (shapeCast ⟨4, ![1, 1, 32, 128]⟩ (truncf (F := Ideal) (φ := .f32) .bf16 (shapeCast ⟨2, ![32, 128]⟩ u h₁) hb) h₂ (ix4 (0 : Fin 1) (0 : Fin 1) R C) : EReal) = u (ix3 (0 : Fin 1) R C) := by
  pointwise

theorem store4_at (u : Vec Ideal ⟨3, ![1, 128, 128]⟩ .f32) (h₁ : (⟨3, ![1, 128, 128]⟩ : Shape).ShapeCasts ⟨2, ![128, 128]⟩) (hb : FTy.bits .bf16 < FTy.bits .f32)
    (h₂ : (⟨2, ![128, 128]⟩ : Shape).ShapeCasts ⟨4, ![1, 1, 128, 128]⟩) (x : (⟨4, ![1, 1, 128, 128]⟩ : Shape).Idx) :
    (shapeCast ⟨4, ![1, 1, 128, 128]⟩ (truncf (F := Ideal) (φ := .f32) .bf16 (shapeCast ⟨2, ![128, 128]⟩ u h₁) hb) h₂ x : EReal) = u (ix3 (0 : Fin 1) (x 2 : Fin 128) (x 3 : Fin 128)) := by
  have h := cast4_at u h₁ hb h₂ (x 2 : Fin 128) (x 3 : Fin 128)
  generalize shapeCast ⟨4, ![1, 1, 128, 128]⟩ (truncf (F := Ideal) (φ := .f32) .bf16 (shapeCast ⟨2, ![128, 128]⟩ u h₁) hb) h₂ = f at h ⊢
  exact (congrArg f (split4 x)).trans h

theorem store16_at (u : Vec Ideal ⟨3, ![1, 32, 128]⟩ .f32) (h₁ : (⟨3, ![1, 32, 128]⟩ : Shape).ShapeCasts ⟨2, ![32, 128]⟩) (hb : FTy.bits .bf16 < FTy.bits .f32)
    (h₂ : (⟨2, ![32, 128]⟩ : Shape).ShapeCasts ⟨4, ![1, 1, 32, 128]⟩) (x : (⟨4, ![1, 1, 32, 128]⟩ : Shape).Idx) :
    (shapeCast ⟨4, ![1, 1, 32, 128]⟩ (truncf (F := Ideal) (φ := .f32) .bf16 (shapeCast ⟨2, ![32, 128]⟩ u h₁) hb) h₂ x : EReal) = u (ix3 (0 : Fin 1) (x 2 : Fin 32) (x 3 : Fin 128)) := by
  have h := cast16_at u h₁ hb h₂ (x 2 : Fin 32) (x 3 : Fin 128)
  generalize shapeCast ⟨4, ![1, 1, 32, 128]⟩ (truncf (F := Ideal) (φ := .f32) .bf16 (shapeCast ⟨2, ![32, 128]⟩ u h₁) hb) h₂ = f at h ⊢
  exact (congrArg f (split4 x)).trans h

theorem at_eq {a a' : Fin 512} {b b' : Fin 2048} (ha : a.val = a'.val) (hb : b.val = b'.val) : (Y (ix2 a b) : EReal) = Y (ix2 a' b') := by
  rw [Fin.ext ha, Fin.ext hb]

theorem split3 {m n : ℕ} (x : (⟨3, ![1, m, n]⟩ : Shape).Idx) : x = ix3 (0 : Fin 1) (x 1 : Fin m) (x 2 : Fin n) := by
  funext a
  match a with
  | ⟨0, _⟩ => exact Fin.ext (by have h : (x 0).val < 1 := (x 0).isLt; show (x 0).val = 0; omega)
  | ⟨1, _⟩ => rfl
  | ⟨2, _⟩ => rfl

/-- A load of every fourth row from the first buffer. -/
theorem Held.read₁ (H : Held Y n₁ n₂ n₃ n₄ L₁ L₂ L₃ L₄) {sig : RefSig} {κ : Kind} {sp : Space} {v : View sig κ sp Cols .f32} {cb r k : ℕ} {inb}
    (h : cb < 16 ∧ cb < n₁ ∧ r + 4 * (k - 1) < 512) (x : (⟨3, ![1, k, 128]⟩ : Shape).Idx) (a : Fin 512) (b : Fin 2048)
    (ha : a.val = r + 4 * (x 1).val) (hb : b.val = 128 * cb + (x 2).val) :
    (v.readCov L₁ ⟨![cb, r, 0], ![1, k, 128], ![1, 4, 1], inb⟩ x : EReal) = Y (ix2 a b) := by
  have h0 : (x 0).val < 1 := (x 0).isLt
  have h1 : (x 1).val < k := (x 1).isLt
  rw [View.readCov_eq_canon']
  refine (View.canon_apply_of_pieces (cols Y) L₁ H.p₁.mem _ (H.c₁ _ ?_)).trans (at_eq ?_ ?_)
  · show cb + 1 * (x 0).val < n₁
    omega
  · show r + 4 * (x 1).val = a.val
    omega
  · show 128 * (cb + 1 * (x 0).val) + (0 + 1 * (x 2).val) = b.val
    omega

/-- A load of every fourth row from the second buffer. -/
theorem Held.read₂ (H : Held Y n₁ n₂ n₃ n₄ L₁ L₂ L₃ L₄) {sig : RefSig} {κ : Kind} {sp : Space} {v : View sig κ sp Cols .f32} {cb s k : ℕ} {inb}
    (h : cb < 16 ∧ 512 * cb + s + 4 * (k - 1) < n₂ ∧ s + 4 * (k - 1) < 512) (x : (⟨3, ![1, k, 128]⟩ : Shape).Idx) (a : Fin 512) (b : Fin 2048)
    (ha : a.val = (s + 4 * (x 1).val) % 128 * 4 + (s + 4 * (x 1).val) / 128) (hb : b.val = 128 * cb + (x 2).val) :
    (v.readCov L₂ ⟨![cb, s, 0], ![1, k, 128], ![1, 4, 1], inb⟩ x : EReal) = Y (ix2 a b) := by
  have h0 : (x 0).val < 1 := (x 0).isLt
  have h1 : (x 1).val < k := (x 1).isLt
  rw [View.readCov_eq_canon']
  refine (View.canon_apply_of_pieces (quarters Y) L₂ H.p₂.mem _ (H.c₂ _ ?_)).trans (at_eq ?_ ?_)
  · show 512 * (cb + 1 * (x 0).val) + (s + 4 * (x 1).val) < n₂
    omega
  · show (s + 4 * (x 1).val) % 128 * 4 + (s + 4 * (x 1).val) / 128 = a.val
    omega
  · show 128 * (cb + 1 * (x 0).val) + (0 + 1 * (x 2).val) = b.val
    omega

/-- A block of columns is stored in the first buffer. -/
theorem next₁ {cb o : ℕ} {inb hs hc}
    (h : cb < 16 ∧ o = 128 * cb ∧ n₁ = cb + 1) (H : Held Y cb n₂ n₃ n₄ L₁ L₂ L₃ L₄) :
    Held Y n₁ n₂ n₃ n₄
      (⟨Rect.unit (s := Cols) ![cb, 0, 0] ![1, 512, 128] inb,
        shapeCast ⟨3, ![1, 512, 128]⟩ (extractStridedSlice ⟨2, ![512, 128]⟩ ![0, o] Y hs) hc⟩ :: L₁) L₂ L₃ L₄ := by
  obtain ⟨hcb, ho, hn⟩ := h
  refine ⟨⟨fun x => ?_, H.p₁⟩, fun y hy => ?_, H.p₂, H.c₂, H.p₃, H.c₃, H.p₄, H.c₄⟩
  · have h0 : (x 0).val < 1 := (x 0).isLt
    refine (congrArg _ (split3 x)).trans ((slice_at Y hs hc (by omega) (x 1 : Fin 512) (x 2 : Fin 128)).trans (at_eq ?_ ?_))
    · show (x 1).val = 0 + 1 * (x 1).val
      omega
    · show o + (x 2).val = 128 * (cb + 1 * (x 0).val) + (0 + 1 * (x 2).val)
      omega
  · by_cases hlt : (y 0).val < cb
    · obtain ⟨p, hp, hm⟩ := H.c₁ y hlt
      exact ⟨p, List.mem_cons_of_mem _ hp, hm⟩
    · refine ⟨_, List.mem_cons_self, (Rect.mem_set_unit (inb := inb)).mpr fun a => ?_⟩
      have h1 : (y 1).val < 512 := (y 1).isLt
      have h2 : (y 2).val < 128 := (y 2).isLt
      match a with
      | ⟨0, _⟩ => exact ⟨show cb ≤ (y 0).val by omega, show (y 0).val < cb + 1 by omega⟩
      | ⟨1, _⟩ => exact ⟨Nat.zero_le _, show (y 1).val < 0 + 512 by omega⟩
      | ⟨2, _⟩ => exact ⟨Nat.zero_le _, show (y 2).val < 0 + 128 by omega⟩

/-- A residue class modulo 4 is stored in the second buffer. -/
theorem next₂ {sig : RefSig} {κ : Kind} {sp : Space} {v : View sig κ sp Cols .f32} {cb r q : ℕ} {inb inb'}
    (h : cb < 16 ∧ cb < n₁ ∧ r < 4 ∧ q = 128 * r ∧ n₂ = 512 * cb + 128 * r + 128) (H : Held Y n₁ (512 * cb + 128 * r) n₃ n₄ L₁ L₂ L₃ L₄) :
    Held Y n₁ n₂ n₃ n₄ L₁
      (⟨Rect.unit (s := Cols) ![cb, q, 0] ![1, 128, 128] inb, v.readCov L₁ ⟨![cb, r, 0], ![1, 128, 128], ![1, 4, 1], inb'⟩⟩ :: L₂) L₃ L₄ := by
  obtain ⟨hcb, hn₁, hr, hq, hn⟩ := h
  refine ⟨H.p₁, H.c₁, ⟨fun x => ?_, H.p₂⟩, fun y hy => ?_, H.p₃, H.c₃, H.p₄, H.c₄⟩
  · have h0 : (x 0).val < 1 := (x 0).isLt
    have h1 : (x 1).val < 128 := (x 1).isLt
    refine H.read₁ (by omega) x _ _ ?_ ?_
    · show (q + 1 * (x 1).val) % 128 * 4 + (q + 1 * (x 1).val) / 128 = r + 4 * (x 1).val
      omega
    · show 128 * (cb + 1 * (x 0).val) + (0 + 1 * (x 2).val) = 128 * cb + (x 2).val
      omega
  · by_cases hlt : 512 * (y 0).val + (y 1).val < 512 * cb + 128 * r
    · obtain ⟨p, hp, hm⟩ := H.c₂ y hlt
      exact ⟨p, List.mem_cons_of_mem _ hp, hm⟩
    · refine ⟨_, List.mem_cons_self, (Rect.mem_set_unit (inb := inb)).mpr fun a => ?_⟩
      have h1 : (y 1).val < 512 := (y 1).isLt
      have h2 : (y 2).val < 128 := (y 2).isLt
      match a with
      | ⟨0, _⟩ => exact ⟨show cb ≤ (y 0).val by omega, show (y 0).val < cb + 1 by omega⟩
      | ⟨1, _⟩ => exact ⟨show q ≤ (y 1).val by omega, show (y 1).val < q + 128 by omega⟩
      | ⟨2, _⟩ => exact ⟨Nat.zero_le _, show (y 2).val < 0 + 128 by omega⟩

/-- A residue class modulo 4 is stored in the first output. -/
theorem next₃ {sig : RefSig} {κ : Kind} {sp : Space} {v : View sig κ sp Cols .f32} {cb r o : ℕ} {inb inb' h₁ hb h₂}
    (h : cb < 16 ∧ cb < n₁ ∧ r < 4 ∧ o = 128 * cb ∧ n₃ = 4 * cb + r + 1) (H : Held Y n₁ n₂ (4 * cb + r) n₄ L₁ L₂ L₃ L₄) :
    Held Y n₁ n₂ n₃ n₄ L₁ L₂
      (⟨Rect.unit (s := By4) ![0, r, 0, o] ![1, 1, 128, 128] inb,
        shapeCast ⟨4, ![1, 1, 128, 128]⟩ (truncf (F := Ideal) (φ := .f32) .bf16 (shapeCast ⟨2, ![128, 128]⟩
          (v.readCov L₁ ⟨![cb, r, 0], ![1, 128, 128], ![1, 4, 1], inb'⟩) h₁) hb) h₂⟩ :: L₃) L₄ := by
  obtain ⟨hcb, hn₁, hr, ho, hn⟩ := h
  refine ⟨H.p₁, H.c₁, H.p₂, H.c₂, ⟨fun x => ?_, H.p₃⟩, fun y hy => ?_, H.p₄, H.c₄⟩
  · have h0 : (x 0).val < 1 := (x 0).isLt
    have h1 : (x 1).val < 1 := (x 1).isLt
    have h2 : (x 2).val < 128 := (x 2).isLt
    have h3 : (x 3).val < 128 := (x 3).isLt
    have e := store4_at (v.readCov L₁ ⟨![cb, r, 0], ![1, 128, 128], ![1, 4, 1], inb'⟩) h₁ hb h₂ x
    have e' := H.read₁ (v := v) (inb := inb') (by omega) (ix3 (0 : Fin 1) (x 2 : Fin 128) (x 3 : Fin 128)) ⟨r + 4 * (x 2).val, by omega⟩ ⟨128 * cb + (x 3).val, by omega⟩ rfl rfl
    refine (e.trans e').trans (at_eq ?_ ?_)
    · show r + 4 * (x 2).val = 4 * (0 + 1 * (x 2).val) + (r + 1 * (x 1).val)
      omega
    · show 128 * cb + (x 3).val = o + 1 * (x 3).val
      omega
  · by_cases hlt : 4 * ((y 3).val / 128) + (y 1).val < 4 * cb + r
    · obtain ⟨p, hp, hm⟩ := H.c₃ y hlt
      exact ⟨p, List.mem_cons_of_mem _ hp, hm⟩
    · refine ⟨_, List.mem_cons_self, (Rect.mem_set_unit (inb := inb)).mpr fun a => ?_⟩
      have h0 : (y 0).val < 1 := (y 0).isLt
      have h1 : (y 1).val < 4 := (y 1).isLt
      have h2 : (y 2).val < 128 := (y 2).isLt
      match a with
      | ⟨0, _⟩ => exact ⟨Nat.zero_le _, show (y 0).val < 0 + 1 by omega⟩
      | ⟨1, _⟩ => exact ⟨show r ≤ (y 1).val by omega, show (y 1).val < r + 1 by omega⟩
      | ⟨2, _⟩ => exact ⟨Nat.zero_le _, show (y 2).val < 0 + 128 by omega⟩
      | ⟨3, _⟩ => exact ⟨show o ≤ (y 3).val by omega, show (y 3).val < o + 128 by omega⟩

/-- A residue class modulo 16 is stored in the second output. -/
theorem next₄ {sig : RefSig} {κ : Kind} {sp : Space} {v : View sig κ sp Cols .f32} {cb r s o : ℕ} {inb inb' h₁ hb h₂}
    (h : cb < 16 ∧ 512 * cb + 512 ≤ n₂ ∧ r < 16 ∧ s = r % 4 * 128 + r / 4 ∧ o = 128 * cb ∧ n₄ = 16 * cb + r + 1)
    (H : Held Y n₁ n₂ n₃ (16 * cb + r) L₁ L₂ L₃ L₄) :
    Held Y n₁ n₂ n₃ n₄ L₁ L₂ L₃
      (⟨Rect.unit (s := By16) ![0, r, 0, o] ![1, 1, 32, 128] inb,
        shapeCast ⟨4, ![1, 1, 32, 128]⟩ (truncf (F := Ideal) (φ := .f32) .bf16 (shapeCast ⟨2, ![32, 128]⟩
          (v.readCov L₂ ⟨![cb, s, 0], ![1, 32, 128], ![1, 4, 1], inb'⟩) h₁) hb) h₂⟩ :: L₄) := by
  obtain ⟨hcb, hn₂, hr, hs, ho, hn⟩ := h
  refine ⟨H.p₁, H.c₁, H.p₂, H.c₂, H.p₃, H.c₃, ⟨fun x => ?_, H.p₄⟩, fun y hy => ?_⟩
  · have h0 : (x 0).val < 1 := (x 0).isLt
    have h1 : (x 1).val < 1 := (x 1).isLt
    have h2 : (x 2).val < 32 := (x 2).isLt
    have h3 : (x 3).val < 128 := (x 3).isLt
    have e := store16_at (v.readCov L₂ ⟨![cb, s, 0], ![1, 32, 128], ![1, 4, 1], inb'⟩) h₁ hb h₂ x
    have e' := H.read₂ (v := v) (inb := inb') (by omega) (ix3 (0 : Fin 1) (x 2 : Fin 32) (x 3 : Fin 128))
      ⟨(s + 4 * (x 2).val) % 128 * 4 + (s + 4 * (x 2).val) / 128, by omega⟩ ⟨128 * cb + (x 3).val, by omega⟩ rfl rfl
    refine (e.trans e').trans (at_eq ?_ ?_)
    · show (s + 4 * (x 2).val) % 128 * 4 + (s + 4 * (x 2).val) / 128 = 16 * (0 + 1 * (x 2).val) + (r + 1 * (x 1).val)
      omega
    · show 128 * cb + (x 3).val = o + 1 * (x 3).val
      omega
  · by_cases hlt : 16 * ((y 3).val / 128) + (y 1).val < 16 * cb + r
    · obtain ⟨p, hp, hm⟩ := H.c₄ y hlt
      exact ⟨p, List.mem_cons_of_mem _ hp, hm⟩
    · refine ⟨_, List.mem_cons_self, (Rect.mem_set_unit (inb := inb)).mpr fun a => ?_⟩
      have h0 : (y 0).val < 1 := (y 0).isLt
      have h1 : (y 1).val < 16 := (y 1).isLt
      have h2 : (y 2).val < 32 := (y 2).isLt
      match a with
      | ⟨0, _⟩ => exact ⟨Nat.zero_le _, show (y 0).val < 0 + 1 by omega⟩
      | ⟨1, _⟩ => exact ⟨show r ≤ (y 1).val by omega, show (y 1).val < r + 1 by omega⟩
      | ⟨2, _⟩ => exact ⟨Nat.zero_le _, show (y 2).val < 0 + 32 by omega⟩
      | ⟨3, _⟩ => exact ⟨show o ≤ (y 3).val by omega, show (y 3).val < o + 128 by omega⟩

end Cert.Proof.Classes

end
-- ==== Proof.NormIdealValue.lean ====
/- The modulated norm: the three arrays that the kernel writes. -/
module

public import proofs.«01_k».proof.Proof.Norm
public import proofs.«01_k».proof.Proof.Classes
public import proofs.«01_k».proof.Proof.Gen.NormIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.NormIdeal

open Cert.NormIdeal Cert.NormIdeal.Gen
open Idealize.ShloMosaic Idealize.ShloMosaic.TcCoe Idealize.ShloMosaic.Tactic
open Cert.Proof.Norm (normed)
open Cert.Proof.Classes (Held next₁ next₂ next₃ next₄ by4 by16)

/-- The modulated norm of a row, at a column. -/
def hidden (x : Vec Ideal S8x2048x2048 .f32) (ada : Vec Ideal S8x6144 .f32) (g : Vec Ideal S1x2048 .f32) (b : Fin 8) (R C : Fin 2048) : EReal :=
  normed 0x45000000#32 (fun c => x (ix3 b R c)) (fun c => g (ix2 (0 : Fin 1) c)) C
    * (Ideal.ofBits .f32 0x3F800000#32 + ada (ix2 b (⟨2048 + C.val, by omega⟩ : Fin 6144))) + ada (ix2 b (⟨C.val, by omega⟩ : Fin 6144))

/-- The result, and its rows by residue class modulo 4 and 16. -/
def plain (H : Fin 8 → Fin 2048 → Fin 2048 → EReal) : Vec Ideal S8x2048x2048 .bf16 := fun z => H (z 0) (z 1) (z 2)
def class4 (H : Fin 8 → Fin 2048 → Fin 2048 → EReal) : Vec Ideal S8x4x512x2048 .bf16 := fun z =>
  H (z 0) ⟨4 * (z 2).val + (z 1).val, by
    have h1 : (z 1).val < 4 := (z 1).isLt
    have h2 : (z 2).val < 512 := (z 2).isLt
    omega⟩ (z 3)
def class16 (H : Fin 8 → Fin 2048 → Fin 2048 → EReal) : Vec Ideal S8x16x128x2048 .bf16 := fun z =>
  H (z 0) ⟨16 * (z 2).val + (z 1).val, by
    have h1 : (z 1).val < 16 := (z 1).isLt
    have h2 : (z 2).val < 128 := (z 2).isLt
    omega⟩ (z 3)

theorem pay_at (v0 : Vec Ideal S1x512x2048 .f32) (v12 : Vec Ideal S1x2048 .f32) (v16 v22 : Vec Ideal S1x1x2048 .f32) (R : Fin 512) (C : Fin 2048) :
    (k0_pay2 v0 v12 v16 v22 (ix2 R C) : EReal)
      = normed 0x45000000#32 (fun c => v0 (ix3 (0 : Fin 1) R c)) (fun c => v12 (ix2 (0 : Fin 1) c)) C * (Ideal.ofBits .f32 0x3F800000#32 + v16 (ix3 (0 : Fin 1) (0 : Fin 1) C)) + v22 (ix3 (0 : Fin 1) (0 : Fin 1) C) := by
  unfold normed
  pointwise [k0_pay2]

section

variable (c : Dev nD) (i : grid0.Coords) (arg2 : Memref sig .tc .vmem S1x512x2048 .f32) (harg2 : arg2.IsWhole) (arg3 : Memref sig .tc .vmem S1x3x2048 .f32) (harg3 : arg3.IsWhole)
  (arg4 : Memref sig .tc .vmem S1x2048 .f32) (harg4 : arg4.IsWhole) (arg5 : Memref sig .tc .vmem S1x512x2048 .bf16) (harg5 : arg5.IsWhole)
  (arg6 : Memref sig .tc .vmem S1x4x128x2048 .bf16) (harg6 : arg6.IsWhole) (arg7 : Memref sig .tc .vmem S1x16x32x2048 .bf16) (harg7 : arg7.IsWhole)
  (arg8 : Memref sig .tc .vmem S16x512x128 .f32) (harg8 : arg8.IsWhole) (arg9 : Memref sig .tc .vmem S16x512x128 .f32) (harg9 : arg9.IsWhole)

/-- The tile that the body makes of its blocks. -/
abbrev tile (x0 : Vec Ideal S1x512x2048 .f32) (x1 : Vec Ideal S1x3x2048 .f32) (x2 : Vec Ideal S1x2048 .f32) : Vec Ideal S512x2048 .f32 :=
  k0_pay2 x0 x2 (View.ld x1 (Rect.unit ![0, 1, 0] ![1, 1, 2048] inb_S1x3x2048_S1x1x2048_0_1_0)) (View.ld x1 (Rect.unit ![0, 0, 0] ![1, 1, 2048] inb_S1x3x2048_S1x1x2048_0_0_0))

set_option maxHeartbeats 4000000 in
/-- What the stores of the two scratch buffers and of the two regrouped outputs hold. -/
theorem held (x0 : Vec Ideal S1x512x2048 .f32) (x1 : Vec Ideal S1x3x2048 .f32) (x2 : Vec Ideal S1x2048 .f32) :
    Held (tile x0 x1 x2) 16 8192 64 256 (kernelRun0_A c i arg2 harg2 arg3 harg3 arg4 harg4 arg5 harg5 arg6 harg6 arg7 harg7 arg8 harg8 arg9 harg9 x0 x1 x2).2.2.2.1
      (kernelRun0_A c i arg2 harg2 arg3 harg3 arg4 harg4 arg5 harg5 arg6 harg6 arg7 harg7 arg8 harg8 arg9 harg9 x0 x1 x2).2.2.2.2.1
      (kernelRun0_A c i arg2 harg2 arg3 harg3 arg4 harg4 arg5 harg5 arg6 harg6 arg7 harg7 arg8 harg8 arg9 harg9 x0 x1 x2).2.1
      (kernelRun0_A c i arg2 harg2 arg3 harg3 arg4 harg4 arg5 harg5 arg6 harg6 arg7 harg7 arg8 harg8 arg9 harg9 x0 x1 x2).2.2.1 := by
  frame_open
  simp (disch := decide) only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, shapeCast_shapeCast, View.ld_unit_lit', View.readAt_eq_ld, Memref.IsWhole.read_unread]
  unfold tile
  generalize k0_pay2 (F := Ideal) _ _ _ _ = Y
  iterate 16
    iterate 16 refine next₄ (by decide) ?_
    iterate 4
      refine next₂ (by decide) ?_
      refine next₃ (by decide) ?_
    refine next₁ (by decide) ?_
  exact Held.start _

theorem out_classes4 (x0 : Vec Ideal S1x512x2048 .f32) (x1 : Vec Ideal S1x3x2048 .f32) (x2 : Vec Ideal S1x2048 .f32) (y : S1x4x128x2048.Idx) :
    (out0_A_4 c i arg2 harg2 arg3 harg3 arg4 harg4 arg5 harg5 arg6 harg6 arg7 harg7 arg8 harg8 arg9 harg9 x0 x1 x2 y : EReal) = by4 (tile x0 x1 x2) y := by
  unfold out0_A_4
  exact (congrFun (View.read_writes_junk_eq_canon _ _) y).trans
    ((held c i arg2 harg2 arg3 harg3 arg4 harg4 arg5 harg5 arg6 harg6 arg7 harg7 arg8 harg8 arg9 harg9 x0 x1 x2).canon₃ y)

theorem out_classes16 (x0 : Vec Ideal S1x512x2048 .f32) (x1 : Vec Ideal S1x3x2048 .f32) (x2 : Vec Ideal S1x2048 .f32) (y : S1x16x32x2048.Idx) :
    (out0_A_5 c i arg2 harg2 arg3 harg3 arg4 harg4 arg5 harg5 arg6 harg6 arg7 harg7 arg8 harg8 arg9 harg9 x0 x1 x2 y : EReal) = by16 (tile x0 x1 x2) y := by
  unfold out0_A_5
  exact (congrFun (View.read_writes_junk_eq_canon _ _) y).trans
    ((held c i arg2 harg2 arg3 harg3 arg4 harg4 arg5 harg5 arg6 harg6 arg7 harg7 arg8 harg8 arg9 harg9 x0 x1 x2).canon₄ y)

theorem cast_at (Y : Vec Ideal S512x2048 .f32) (R : Fin 512) (C : Fin 2048) :
    (shapeCast S1x512x2048 (truncf (F := Ideal) (φ := .f32) .bf16 Y bitsLt_bf16_f32) shapeCasts_S512x2048_S1x512x2048 (ix3 (0 : Fin 1) R C) : EReal) = Y (ix2 R C) := by
  pointwise

theorem out_plain (x0 : Vec Ideal S1x512x2048 .f32) (x1 : Vec Ideal S1x3x2048 .f32) (x2 : Vec Ideal S1x2048 .f32) (R : Fin 512) (C : Fin 2048) :
    (out0_A_3 c i arg2 harg2 arg3 harg3 arg4 harg4 arg5 harg5 arg6 harg6 arg7 harg7 arg8 harg8 arg9 harg9 x0 x1 x2 (ix3 (0 : Fin 1) R C) : EReal) = tile x0 x1 x2 (ix2 R C) := by
  frame_out
  exact cast_at _ R C

end

variable (m : (ℓ : Loc nD τ sig) → Buf (Elt Ideal) ℓ)

abbrev argX (c : Dev nD) : Vec Ideal S8x2048x2048 .f32 := m ((c : Thread nD τ).loc main_arg0)
abbrev argA (c : Dev nD) : Vec Ideal S8x6144 .f32 := m ((c : Thread nD τ).loc main_arg1)
abbrev argG (c : Dev nD) : Vec Ideal S1x2048 .f32 := m ((c : Thread nD τ).loc main_arg2)

theorem idx0 : ∀ t : Fin cfg0.N, win0_0.index t = ![t.val / 4, t.val % 4, 0] := by decide +kernel
theorem idx1 : ∀ t : Fin cfg0.N, win0_1.index t = ![t.val / 4, 0, 0] := by decide +kernel
theorem idx2 : ∀ t : Fin cfg0.N, win0_2.index t = ![0, 0] := by decide +kernel
theorem idx3 : ∀ t : Fin cfg0.N, win0_3.index t = ![t.val / 4, t.val % 4, 0] := by decide +kernel
theorem idx4 : ∀ t : Fin cfg0.N, win0_4.index t = ![t.val / 4, 0, t.val % 4, 0] := by decide +kernel
theorem idx5 : ∀ t : Fin cfg0.N, win0_5.index t = ![t.val / 4, 0, t.val % 4, 0] := by decide +kernel

theorem point_lt (t : Fin cfg0.N) : t.val < 32 := Nat.lt_of_lt_of_eq t.isLt N_0

/-- A point's batch, and the row that its tile holds at `R`. -/
abbrev batch (t : Fin cfg0.N) : Fin 8 := ⟨t.val / 4, by have := point_lt t; omega⟩
abbrev row (t : Fin cfg0.N) (R : Fin 512) : Fin 2048 := ⟨512 * (t.val % 4) + R.val, by omega⟩

theorem entry_a (c : Dev nD) : V m c main_v0 = shapeCast S8x3x2048 (argA m c) shapeCasts_S8x6144_S8x3x2048 := by
  unfold_abbrev_sides
  after_results
  rfl
theorem entry_g (c : Dev nD) : V m c main_v2 = broadcastInDim S1x2048 ![1] bcast_S2048_S1x2048_1 (shapeCast S2048 (argG m c) shapeCasts_S1x2048_S2048) := by
  unfold_abbrev_sides
  after_results
  rfl

theorem scale_flat (x : Vec Ideal S8x6144 .f32) (b : Fin 8) (C : Fin 2048) :
    (shapeCast S8x3x2048 x shapeCasts_S8x6144_S8x3x2048 (ix3 b (1 : Fin 3) C) : EReal) = x (ix2 b (⟨2048 + C.val, by omega⟩ : Fin 6144)) := by
  pointwise
theorem shift_flat (x : Vec Ideal S8x6144 .f32) (b : Fin 8) (C : Fin 2048) :
    (shapeCast S8x3x2048 x shapeCasts_S8x6144_S8x3x2048 (ix3 b (0 : Fin 3) C) : EReal) = x (ix2 b (⟨C.val, by omega⟩ : Fin 6144)) := by
  pointwise

theorem x_at (c : Dev nD) (t : Fin cfg0.N) (R : Fin 512) (C : Fin 2048) : iblk m c 0 t (ix3 (0 : Fin 1) R C) = argX m c (ix3 (batch t) (row t R) C) := by
  have ht := point_lt t
  blk_ext [iblk, V, idx0 t]

theorem a_at (c : Dev nD) (t : Fin cfg0.N) (j : Fin 3) (C : Fin 2048) :
    iblk m c 1 t (ix3 (0 : Fin 1) j C) = V m c main_v0 (ix3 (batch t) j C) := by
  have ht := point_lt t
  unfold iblk
  generalize V m c = X
  blk_ext [idx1 t]

theorem scale_at (c : Dev nD) (t : Fin cfg0.N) (C : Fin 2048) :
    (View.ld (iblk m c 1 t) (Rect.unit ![0, 1, 0] ![1, 1, 2048] inb_S1x3x2048_S1x1x2048_0_1_0) (ix3 (0 : Fin 1) (0 : Fin 1) C) : EReal)
      = argA m c (ix2 (batch t) (⟨2048 + C.val, by omega⟩ : Fin 6144)) := by
  have e : (View.ld (iblk m c 1 t) (Rect.unit ![0, 1, 0] ![1, 1, 2048] inb_S1x3x2048_S1x1x2048_0_1_0) (ix3 (0 : Fin 1) (0 : Fin 1) C) : EReal)
      = iblk m c 1 t (ix3 (0 : Fin 1) (1 : Fin 3) C) := by
    generalize iblk m c 1 t = X
    pointwise
  rw [e, a_at, entry_a]
  exact scale_flat _ _ _

theorem shift_at (c : Dev nD) (t : Fin cfg0.N) (C : Fin 2048) :
    (View.ld (iblk m c 1 t) (Rect.unit ![0, 0, 0] ![1, 1, 2048] inb_S1x3x2048_S1x1x2048_0_0_0) (ix3 (0 : Fin 1) (0 : Fin 1) C) : EReal)
      = argA m c (ix2 (batch t) (⟨C.val, by omega⟩ : Fin 6144)) := by
  have e : (View.ld (iblk m c 1 t) (Rect.unit ![0, 0, 0] ![1, 1, 2048] inb_S1x3x2048_S1x1x2048_0_0_0) (ix3 (0 : Fin 1) (0 : Fin 1) C) : EReal)
      = iblk m c 1 t (ix3 (0 : Fin 1) (0 : Fin 3) C) := by
    generalize iblk m c 1 t = X
    pointwise
  rw [e, a_at, entry_a]
  exact shift_flat _ _ _

theorem g_at (c : Dev nD) (t : Fin cfg0.N) (C : Fin 2048) : iblk m c 2 t (ix2 (0 : Fin 1) C) = argG m c (ix2 (0 : Fin 1) C) := by
  have e : iblk m c 2 t (ix2 (0 : Fin 1) C) = V m c main_v2 (ix2 (0 : Fin 1) C) := by
    unfold iblk
    generalize V m c = X
    blk_ext [idx2 t]
  rw [e, entry_g]
  pointwise

/-- The norm of the arguments. -/
abbrev value (c : Dev nD) : Fin 8 → Fin 2048 → Fin 2048 → EReal := hidden (argX m c) (argA m c) (argG m c)

theorem tile_at (c : Dev nD) (t : Fin cfg0.N) (R : Fin 512) (C : Fin 2048) :
    (tile (iblk m c 0 t) (iblk m c 1 t) (iblk m c 2 t) (ix2 R C) : EReal) = value m c (batch t) (row t R) C := by
  refine (pay_at _ _ _ _ R C).trans ?_
  refine congrArg₂ (· + ·) (congrArg₂ (· * ·) ?_ (congrArg (Ideal.ofBits .f32 0x3F800000#32 + ·) (scale_at m c t C))) (shift_at m c t C)
  exact congrArg₂ (fun f g => normed 0x45000000#32 f g C) (funext fun k => x_at m c t R k) (funext fun k => g_at m c t k)

theorem plain_arr (c : Dev nD) : (dats m 0 c).arrAt 3 cfg0.N = plain (value m c) := by
  refine (dats m 0 c).arrAt_eq_of_covers 3 _ (by decide +kernel) fun t hf y => ?_
  have hY : ((dats m 0 c).after 3 t y : EReal) = value m c (batch t) (row t (y 1)) (y 2) := by
    rw [after0_3]
    simp only [outsAt0]
    exact (congrArg _ (Cert.Proof.Classes.split3 y)).trans ((out_plain c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
        (iblk m c 0 t) (iblk m c 1 t) (iblk m c 2 t) (y 1) (y 2)).trans (tile_at m c t (y 1) (y 2)))
  refine hY.trans ?_
  generalize value m c = T
  have ht := point_lt t
  have e0 : batch t = (win0_3.blk t).view.emb y 0 := Fin.ext (by
    have h0 : (y 0).val < 1 := (y 0).isLt
    show t.val / 4 = _
    blk_simp [idx3 t])
  have e1 : row t (y 1) = (win0_3.blk t).view.emb y 1 := Fin.ext (by
    show 512 * (t.val % 4) + (y 1).val = _
    blk_simp [idx3 t]
    omega)
  have e2 : y 2 = (win0_3.blk t).view.emb y 2 := Fin.ext (by
    blk_simp [idx3 t])
  blk_simp
  unfold plain
  rw [← e0, ← e1, ← e2]

theorem classes4_arr (c : Dev nD) : (dats m 0 c).arrAt 4 cfg0.N = class4 (value m c) := by
  refine (dats m 0 c).arrAt_eq_of_covers 4 _ (by decide +kernel) fun t hf y => ?_
  have h1 : (y 1).val < 4 := (y 1).isLt
  have h2 : (y 2).val < 128 := (y 2).isLt
  have hY : ((dats m 0 c).after 4 t y : EReal) = value m c (batch t) (row t ⟨4 * (y 2).val + (y 1).val, by omega⟩) (y 3) := by
    rw [after0_4]
    simp only [outsAt0]
    exact (out_classes4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) y).trans (tile_at m c t _ (y 3))
  refine hY.trans ?_
  generalize value m c = T
  have ht := point_lt t
  have e0 : batch t = (win0_4.blk t).view.emb y 0 := Fin.ext (by
    have h0 : (y 0).val < 1 := (y 0).isLt
    show t.val / 4 = _
    blk_simp [idx4 t])
  have e1 : (y 1).val = ((win0_4.blk t).view.emb y 1).val := by
    blk_simp [idx4 t]
  have e2 : 128 * (t.val % 4) + (y 2).val = ((win0_4.blk t).view.emb y 2).val := by
    blk_simp [idx4 t]
    omega
  have e3 : y 3 = (win0_4.blk t).view.emb y 3 := Fin.ext (by
    blk_simp [idx4 t])
  blk_simp
  unfold class4
  rw [← e0, ← e3]
  refine congrArg (fun r => T (batch t) r (y 3)) (Fin.ext ?_)
  show 512 * (t.val % 4) + (4 * (y 2).val + (y 1).val) = 4 * ((win0_4.blk t).view.emb y 2).val + ((win0_4.blk t).view.emb y 1).val
  omega

theorem classes16_arr (c : Dev nD) : (dats m 0 c).arrAt 5 cfg0.N = class16 (value m c) := by
  refine (dats m 0 c).arrAt_eq_of_covers 5 _ (by decide +kernel) fun t hf y => ?_
  have h1 : (y 1).val < 16 := (y 1).isLt
  have h2 : (y 2).val < 32 := (y 2).isLt
  have hY : ((dats m 0 c).after 5 t y : EReal) = value m c (batch t) (row t ⟨16 * (y 2).val + (y 1).val, by omega⟩) (y 3) := by
    rw [after0_5]
    simp only [outsAt0]
    exact (out_classes16 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) y).trans (tile_at m c t _ (y 3))
  refine hY.trans ?_
  generalize value m c = T
  have ht := point_lt t
  have e0 : batch t = (win0_5.blk t).view.emb y 0 := Fin.ext (by
    have h0 : (y 0).val < 1 := (y 0).isLt
    show t.val / 4 = _
    blk_simp [idx5 t])
  have e1 : (y 1).val = ((win0_5.blk t).view.emb y 1).val := by
    blk_simp [idx5 t]
  have e2 : 32 * (t.val % 4) + (y 2).val = ((win0_5.blk t).view.emb y 2).val := by
    blk_simp [idx5 t]
    omega
  have e3 : y 3 = (win0_5.blk t).view.emb y 3 := Fin.ext (by
    blk_simp [idx5 t])
  blk_simp
  unfold class16
  rw [← e0, ← e3]
  refine congrArg (fun r => T (batch t) r (y 3)) (Fin.ext ?_)
  show 512 * (t.val % 4) + (16 * (y 2).val + (y 1).val) = 16 * ((win0_5.blk t).view.emb y 2).val + ((win0_5.blk t).view.emb y 1).val
  omega

end Cert.Proof.NormIdeal

end
-- ==== Proof.NormClaims.lean ====
/- What the reference of `Norm` holds, and the claims of the call. -/
module

public import proofs.«01_k».proof.Defs
public import proofs.«01_k».proof.Proof.NormIdealValue
public import proofs.«01_k».proof.Proof.Gen.Norm.Frame
public import proofs.«01_k».proof.Proof.Gen.NormRefIdeal.Run
public import Idealize.ShloMosaic.Lib.Claim
public import Idealize.ShloMosaic.Lib.IdealHost
public import Idealize.ShloMosaic.Lib.Quiescent

@[expose] public section

set_option maxRecDepth 16384

noncomputable section

namespace Cert.Proof.NormRefIdeal

open Cert.NormRefIdeal Cert.NormRefIdeal.Gen
open Idealize.ShloMosaic Idealize.ShloMosaic.TcCoe Idealize.ShloMosaic.Tactic
open Cert.Proof.Norm (normed)
open Cert.Proof.NormIdeal (hidden plain class4 class16)

/-- The norm with its gain. -/
def gained (x : Vec Ideal S8x2048x2048 .f32) (g : Vec Ideal S1x2048 .f32) : Vec Ideal S8x2048x2048 .f32 :=
  mulf (F := Ideal) (φ := .f32) (mulf x (broadcastInDim S8x2048x2048 ![0, 1, 2] bcast_S8x2048x1_S8x2048x2048_0_1_2 (Host.rsqrt (addf (Host.divf (broadcastInDim S8x2048x1 ![0, 1] bcast_S8x2048_S8x2048x1_0_1
    (Host.reduceAdd (mulf x x) (constant S_ .f32 0x00000000#32) reducesTo_S8x2048x2048_S8x2048_d2 h_S_)) (broadcastInDim S8x2048x1 ![] bcast_S_S8x2048x1 (constant S_ .f32 0x45000000#32)))
    (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 (shapeCast S2048 g shapeCasts_S1x2048_S2048)))

/-- The scale and shift of the columns. -/
def modulated (f : Vec Ideal S8x2048x2048 .f32) (ada : Vec Ideal S8x6144 .f32) : Vec Ideal S8x2048x2048 .bf16 :=
  truncf (F := Ideal) (φ := .f32) .bf16 (addf (mulf f (broadcastInDim S8x2048x2048 ![0, 1, 2] bcast_S8x1x2048_S8x2048x2048_0_1_2 (addf (broadcastInDim S8x1x2048 ![] bcast_S_S8x1x2048 (constant S_ .f32 0x3F800000#32))
    (broadcastInDim S8x1x2048 ![0, 2] bcast_S8x2048_S8x1x2048_0_2 (extractStridedSlice S8x2048 ![0, 2048] ada slices_S8x6144_S8x2048_0_2048)))))
    (broadcastInDim S8x2048x2048 ![0, 1, 2] bcast_S8x1x2048_S8x2048x2048_0_1_2 (broadcastInDim S8x1x2048 ![0, 2] bcast_S8x2048_S8x1x2048_0_2
      (extractStridedSlice S8x2048 ![0, 0] ada slices_S8x6144_S8x2048_0_0)))) bitsLt_bf16_f32

/-- The rows by residue class. -/
def regroup4 (h : Vec Ideal S8x2048x2048 .bf16) : Vec Ideal S8x4x512x2048 .bf16 :=
  transpose S8x4x512x2048 [0, 2, 1, 3] (shapeCast S8x512x4x2048 h shapeCasts_S8x2048x2048_S8x512x4x2048) transposes_S8x512x4x2048_S8x4x512x2048_0_2_1_3
def regroup16 (h : Vec Ideal S8x2048x2048 .bf16) : Vec Ideal S8x16x128x2048 .bf16 :=
  transpose S8x16x128x2048 [0, 2, 1, 3] (shapeCast S8x128x16x2048 h shapeCasts_S8x2048x2048_S8x128x16x2048) transposes_S8x128x16x2048_S8x16x128x2048_0_2_1_3

theorem gained_at (x : Vec Ideal S8x2048x2048 .f32) (g : Vec Ideal S1x2048 .f32) (b : Fin 8) (R C : Fin 2048) :
    (gained x g (ix3 b R C) : EReal) = normed 0x45000000#32 (fun c => x (ix3 b R c)) (fun c => g (ix2 (0 : Fin 1) c)) C := by
  unfold normed
  pointwise [gained]

theorem modulated_at (f : Vec Ideal S8x2048x2048 .f32) (ada : Vec Ideal S8x6144 .f32) (b : Fin 8) (R C : Fin 2048) :
    (modulated f ada (ix3 b R C) : EReal) = f (ix3 b R C) * (Ideal.ofBits .f32 0x3F800000#32 + ada (ix2 b (⟨2048 + C.val, by omega⟩ : Fin 6144)))
      + ada (ix2 b (⟨C.val, by omega⟩ : Fin 6144)) := by
  pointwise [modulated]

theorem regroup4_at (h : Vec Ideal S8x2048x2048 .bf16) (b : Fin 8) (r : Fin 4) (q : Fin 512) (C : Fin 2048) :
    (regroup4 h (ix4 b r q C) : EReal) = h (ix3 b (⟨4 * q.val + r.val, by omega⟩ : Fin 2048) C) := by
  pointwise [regroup4]
  exact congrArg (fun x => h (ix3 b x C)) (Fin.ext (by show q.val * 4 + r.val = 4 * q.val + r.val; omega))

theorem regroup16_at (h : Vec Ideal S8x2048x2048 .bf16) (b : Fin 8) (r : Fin 16) (q : Fin 128) (C : Fin 2048) :
    (regroup16 h (ix4 b r q C) : EReal) = h (ix3 b (⟨16 * q.val + r.val, by omega⟩ : Fin 2048) C) := by
  pointwise [regroup16]
  exact congrArg (fun x => h (ix3 b x C)) (Fin.ext (by show q.val * 16 + r.val = 16 * q.val + r.val; omega))

theorem plain_eq (x : Vec Ideal S8x2048x2048 .f32) (ada : Vec Ideal S8x6144 .f32) (g : Vec Ideal S1x2048 .f32) : modulated (gained x g) ada = plain (hidden x ada g) := by
  funext z
  refine (congrArg (modulated (gained x g) ada) (eq_ix3 z)).trans ((modulated_at _ ada (z 0) (z 1) (z 2)).trans ?_)
  exact congrArg (fun u : EReal => u * (Ideal.ofBits .f32 0x3F800000#32 + ada (ix2 (z 0 : Fin 8) (⟨2048 + (z 2).val, by have h2 : (z 2).val < 2048 := (z 2).isLt; omega⟩ : Fin 6144)))
    + ada (ix2 (z 0 : Fin 8) (⟨(z 2).val, by have h2 : (z 2).val < 2048 := (z 2).isLt; omega⟩ : Fin 6144))) (gained_at x g (z 0) (z 1) (z 2))

theorem class4_eq (H : Fin 8 → Fin 2048 → Fin 2048 → EReal) : regroup4 (plain H) = class4 H := by
  funext z
  exact (congrArg (regroup4 (plain H)) (eq_ix4 z)).trans (regroup4_at _ (z 0) (z 1) (z 2) (z 3))

theorem class16_eq (H : Fin 8 → Fin 2048 → Fin 2048 → EReal) : regroup16 (plain H) = class16 H := by
  funext z
  exact (congrArg (regroup16 (plain H)) (eq_ix4 z)).trans (regroup16_at _ (z 0) (z 1) (z 2) (z 3))

theorem class4_of (x : Vec Ideal S8x2048x2048 .f32) (ada : Vec Ideal S8x6144 .f32) (g : Vec Ideal S1x2048 .f32) :
    regroup4 (modulated (gained x g) ada) = class4 (hidden x ada g) := (congrArg regroup4 (plain_eq x ada g)).trans (class4_eq _)

theorem class16_of (x : Vec Ideal S8x2048x2048 .f32) (ada : Vec Ideal S8x6144 .f32) (g : Vec Ideal S1x2048 .f32) :
    regroup16 (modulated (gained x g) ada) = class16 (hidden x ada g) := (congrArg regroup16 (plain_eq x ada g)).trans (class16_eq _)

end Cert.Proof.NormRefIdeal

namespace Cert.Proof.NormCall

open Idealize.ShloMosaic Idealize.ShloMosaic.TcCoe Idealize.SL.Sem

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormRefIdeal := fun m ρ _ =>
  (θ_run Cert.NormRefIdeal.defs _ _).mono (fun r h => ⟨fun c => (h c).2.2.2, sem_eq_zero_of_no_sems (by decide) r.2⟩) (Cert.NormRefIdeal.Value.run (F := Ideal) m ρ)
theorem preserves : Cert.preserves_Norm_NormIdeal := trivial

theorem algebraic : Cert.algebraic_NormIdeal_NormRefIdeal := by
  intro m g m' g' _ hargs
  refine ⟨fun c => NormIdeal.plain (NormIdeal.value m c), fun c => NormIdeal.class4 (NormIdeal.value m c), fun c => NormIdeal.class16 (NormIdeal.value m c), ?_, ?_⟩
  · exact (θ_run _ _ _).mono (fun r h c => ⟨(h c).1.trans (NormIdeal.plain_arr m c), (h c).2.1.trans (NormIdeal.classes4_arr m c), (h c).2.2.1.trans (NormIdeal.classes16_arr m c), (h c).2.2.2⟩)
      (Cert.NormIdeal.Value.run_blocks m g)
  · refine (θ_run _ _ _).mono (fun r h c => ?_) (Cert.NormRefIdeal.Value.run (F := Ideal) m' g')
    obtain ⟨h0, h1, h2⟩ := hargs c
    have e : NormIdeal.hidden (m' (c.tc.loc Cert.NormRefIdeal.main_arg0)) (m' (c.tc.loc Cert.NormRefIdeal.main_arg1)) (m' (c.tc.loc Cert.NormRefIdeal.main_arg2)) = NormIdeal.value m c := by
      rw [h0, h1, h2]
    exact ⟨(h c).1.trans ((NormRefIdeal.plain_eq _ _ _).trans (congrArg NormIdeal.plain e)), (h c).2.1.trans ((NormRefIdeal.class4_of _ _ _).trans (congrArg NormIdeal.class4 e)),
      (h c).2.2.1.trans ((NormRefIdeal.class16_of _ _ _).trans (congrArg NormIdeal.class16 e)), (h c).2.2.2⟩

end Cert.Proof.NormCall

end
-- ==== Proof.Tables.lean ====
/- Rows in residue-class order, and a buffer of three row orders of one table that is filled plane by plane, the second and the
   third plane by strided reads of the plane before. -/
module

public import Idealize.ShloMosaic.Lib.Pipeline.ValueKit
public import Idealize.ShloMosaic.Lib.Pipeline.ReadBack

@[expose] public section

set_option maxRecDepth 16384

noncomputable section

namespace Cert.Proof.Tables

open Idealize.ShloMosaic

/-- Three planes of 2048 rows. -/
abbrev Planes : Shape := ⟨4, ![3, 1, 2048, 128]⟩

/-- The position of row `R` of group `g`: the groups hold the rows of the residue classes modulo 1, 4 and 16 one class after the other. -/
def place (g R : ℕ) : ℕ := if g = 0 then R else if g = 1 then R % 512 * 4 + R / 512 else R % 128 * 16 + R / 128

theorem place_lt (g R : ℕ) (h : R < 2048) : place g R < 2048 := by
  unfold place
  split_ifs <;> omega

/-- The table `T`, its rows in the three orders. -/
def ordered (T : Fin 2048 → Fin 128 → EReal) : Planes.Idx → EReal :=
  fun y => T ⟨place (y 0).val (y 2).val, place_lt _ _ (y 2).isLt⟩ (y 3)

/-- The stores `L` are blocks of `ordered T`, and cover the first `n` rows, counted through the planes. -/
def Filled (T : Fin 2048 → Fin 128 → EReal) (n : ℕ) (L : List (View.Piece (Elt Ideal) Planes .f32)) : Prop :=
  View.PiecesOf (ordered T) L ∧ ∀ y : Planes.Idx, 2048 * (y 0).val + (y 2).val < n → ∃ p ∈ L, y ∈ p.1.set

/-- Once all rows are covered, the buffer holds `ordered T`. -/
theorem Filled.canon {T : Fin 2048 → Fin 128 → EReal} {L : List (View.Piece (Elt Ideal) Planes .f32)} (h : Filled T 6144 L) (y : Planes.Idx) :
    View.canon L y = ordered T y :=
  View.canon_apply_of_pieces _ L h.1.mem y (h.2 y (by
    have h0 : (y 0).val < 3 := (y 0).isLt
    have h2 : (y 2).val < 2048 := (y 2).isLt
    omega))

/-- The first plane is stored whole. -/
theorem Filled.first {T : Fin 2048 → Fin 128 → EReal} {inb} {w : (⟨4, ![1, 1, 2048, 128]⟩ : Shape).Idx → EReal}
    (hw : ∀ (R : Fin 2048) (C : Fin 128), w (ix4 (0 : Fin 1) (0 : Fin 1) R C) = T R C) :
    Filled T 2048 [⟨Rect.unit ![0, 0, 0, 0] ![1, 1, 2048, 128] inb, w⟩] := by
  refine ⟨⟨fun x => ?_, trivial⟩, fun y hy => ⟨_, List.mem_singleton.mpr rfl, ?_⟩⟩
  · have hx : x = ix4 (0 : Fin 1) (0 : Fin 1) (x 2) (x 3) := by
      funext a
      match a with
      | ⟨0, _⟩ => exact Fin.ext (by have h : (x 0).val < 1 := (x 0).isLt; show (x 0).val = 0; omega)
      | ⟨1, _⟩ => exact Fin.ext (by have h : (x 1).val < 1 := (x 1).isLt; show (x 1).val = 0; omega)
      | ⟨2, _⟩ => rfl
      | ⟨3, _⟩ => rfl
    refine (congrArg w hx).trans ((hw (x 2) (x 3)).trans ?_)
    have h0 : (x 0).val < 1 := (x 0).isLt
    refine congrArg₂ T (Fin.ext ?_) (Fin.ext ?_)
    · show (x 2).val = place (0 + 1 * (x 0).val) (0 + 1 * (x 2).val)
      rw [show 0 + 1 * (x 0).val = 0 by omega]
      show (x 2).val = 0 + 1 * (x 2).val
      omega
    · show (x 3).val = 0 + 1 * (x 3).val
      omega
  · refine (Rect.mem_set_unit (inb := inb)).mpr fun a => ?_
    have h1 : (y 1).val < 1 := (y 1).isLt
    have h2 : (y 2).val < 2048 := (y 2).isLt
    have h3 : (y 3).val < 128 := (y 3).isLt
    match a with
    | ⟨0, _⟩ => exact ⟨Nat.zero_le _, show (y 0).val < 0 + 1 by omega⟩
    | ⟨1, _⟩ => exact ⟨Nat.zero_le _, show (y 1).val < 0 + 1 by omega⟩
    | ⟨2, _⟩ => exact ⟨Nat.zero_le _, show (y 2).val < 0 + 2048 by omega⟩
    | ⟨3, _⟩ => exact ⟨Nat.zero_le _, show (y 3).val < 0 + 128 by omega⟩

/-- Each further block of `k` rows is the plane before, read at every fourth row. -/
theorem Filled.next {T : Fin 2048 → Fin 128 → EReal} {n : ℕ} {L : List (View.Piece (Elt Ideal) Planes .f32)} {sig : RefSig} {κ : Kind} {sp : Space}
    {v : View sig κ sp Planes .f32} {g g' o s k : ℕ} {inb inb'}
    (hn : n = 2048 * g + o + k ∧ k ≤ n ∧ g = g' + 1 ∧ s + 4 * (k - 1) < 2048) (hp : ∀ x < k, place g' (s + 4 * x) = place g (o + x)) (hL : Filled T (n - k) L) :
    Filled T n (⟨Rect.unit ![g, 0, o, 0] ![1, 1, k, 128] inb, v.readCov L ⟨![g', 0, s, 0], ![1, 1, k, 128], ![1, 1, 4, 1], inb'⟩⟩ :: L) := by
  obtain ⟨hn, hk, hg, hs⟩ := hn
  refine ⟨⟨fun x => ?_, hL.1⟩, fun y hy => ?_⟩
  · have h0 : (x 0).val < 1 := (x 0).isLt
    have h1 : (x 1).val < 1 := (x 1).isLt
    have h2 : (x 2).val < k := (x 2).isLt
    have h3 : (x 3).val < 128 := (x 3).isLt
    rw [View.readCov_eq_canon']
    refine (View.canon_apply_of_pieces (ordered T) L hL.1.mem _ (hL.2 _ ?_)).trans ?_
    · show 2048 * (g' + 1 * (x 0).val) + (s + 4 * (x 2).val) < n - k
      omega
    · refine congrArg₂ T (Fin.ext ?_) (Fin.ext ?_)
      · show place (g' + 1 * (x 0).val) (s + 4 * (x 2).val) = place (g + 1 * (x 0).val) (o + 1 * (x 2).val)
        rw [show g' + 1 * (x 0).val = g' by omega, show g + 1 * (x 0).val = g by omega, show o + 1 * (x 2).val = o + (x 2).val by omega]
        exact hp _ h2
      · rfl
  · by_cases hy' : 2048 * (y 0).val + (y 2).val < n - k
    · obtain ⟨p, hp, hm⟩ := hL.2 y hy'
      exact ⟨p, List.mem_cons_of_mem _ hp, hm⟩
    · refine ⟨_, List.mem_cons_self, (Rect.mem_set_unit (inb := inb)).mpr fun a => ?_⟩
      have ho : o + k ≤ 2048 := inb 2
      have h1 : (y 1).val < 1 := (y 1).isLt
      have h2 : (y 2).val < 2048 := (y 2).isLt
      have h3 : (y 3).val < 128 := (y 3).isLt
      match a with
      | ⟨0, _⟩ => exact ⟨show g ≤ (y 0).val by omega, show (y 0).val < g + 1 by omega⟩
      | ⟨1, _⟩ => exact ⟨Nat.zero_le _, show (y 1).val < 0 + 1 by omega⟩
      | ⟨2, _⟩ => exact ⟨show o ≤ (y 2).val by omega, show (y 2).val < o + k by omega⟩
      | ⟨3, _⟩ => exact ⟨Nat.zero_le _, show (y 3).val < 0 + 128 by omega⟩

end Cert.Proof.Tables

end
-- ==== Proof.RopeIdealValue.lean ====
/- The rotary tables: the two arrays that the kernel writes. -/
module

public import proofs.«01_k».proof.Proof.Norm
public import proofs.«01_k».proof.Proof.Tables
public import proofs.«01_k».proof.Proof.Gen.RopeIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.RopeIdeal

open Cert.RopeIdeal Cert.RopeIdeal.Gen
open Idealize.ShloMosaic Idealize.ShloMosaic.TcCoe Idealize.ShloMosaic.Tactic
open Cert.Proof.Tables (place place_lt ordered Filled)

/-- The inverse frequencies. -/
def freq : Vec Ideal S64 .f32 :=
  Host.powf (F := Ideal) (φ := .f32) (broadcastInDim S64 ![] bcast_S_S64 (constant S_ .f32 0x461C4000#32))
    (Host.divf (F := Ideal) (φ := .f32) (Host.negf (F := Ideal) (φ := .f32) (addf (F := Ideal) (φ := .f32) (broadcastInDim S64 ![] bcast_S_S64 (constant S_ .f32 0x00000000#32))
      (mulf (F := Ideal) (φ := .f32) (broadcastInDim S64 ![] bcast_S_S64 (constant S_ .f32 0x40000000#32)) (sitofp .f32 (iotaInDim S64 32 0)))))
      (broadcastInDim S64 ![] bcast_S_S64 (constant S_ .f32 0x43000000#32)))

/-- The frequency of a lane of either half. -/
abbrev half (C : Fin 128) : Fin 64 := ⟨C.val % 64, Nat.mod_lt _ (by decide)⟩

/-- The angle of a position at a lane. -/
def angle (p : Vec Ideal S8x2048 .i32) (b : Fin 8) (R : Fin 2048) (C : Fin 128) : EReal :=
  (FloatOps.sitofp (F := Ideal) .f32 (p (ix2 b R)) : EReal) * freq (ix1 (half C))

/-- The cosine of a position at a lane. -/
def cosOf (p : Vec Ideal S8x2048 .i32) (b : Fin 8) (R : Fin 2048) (C : Fin 128) : EReal := Ideal.cos (angle p b R C)

/-- The sine of a position at a lane, negated in the lower half. -/
def sinOf (p : Vec Ideal S8x2048 .i32) (b : Fin 8) (R : Fin 2048) (C : Fin 128) : EReal :=
  if C.val < 64 then -Ideal.sin (angle p b R C) else Ideal.sin (angle p b R C)

/-- A table of every batch, its rows in the three orders. -/
def tables (T : Fin 8 → Fin 2048 → Fin 128 → EReal) : Vec Ideal S3x8x2048x128 .f32 :=
  fun z => T (z 1) ⟨place (z 0).val (z 2).val, place_lt _ _ (z 2).isLt⟩ (z 3)

theorem pay_cos (v0 : Vec Ideal S1x2048x1 .i32) (v1 : Vec Ideal S1x128 .f32) (R : Fin 2048) (C : Fin 128) :
    (k0_pay2 v0 v1 (ix4 (0 : Fin 1) (0 : Fin 1) R C) : EReal) = Ideal.cos ((FloatOps.sitofp (F := Ideal) .f32 (v0 (ix3 (0 : Fin 1) R (0 : Fin 1))) : EReal) * v1 (ix2 (0 : Fin 1) C)) := by
  pointwise [k0_pay2, k0_pay1]

theorem lane_lt : ∀ C : Fin 128, IntOp.cmpi CmpIPredicate.slt (BitVec.ofNat 32 C.val) 64#32 = if C.val < 64 then 1#1 else 0#1 := by decide +kernel

theorem pay_sin (v0 : Vec Ideal S1x2048x1 .i32) (v1 : Vec Ideal S1x128 .f32) (R : Fin 2048) (C : Fin 128) :
    (k0_pay3 v0 v1 (ix4 (0 : Fin 1) (0 : Fin 1) R C) : EReal)
      = if C.val < 64 then -Ideal.sin ((FloatOps.sitofp (F := Ideal) .f32 (v0 (ix3 (0 : Fin 1) R (0 : Fin 1))) : EReal) * v1 (ix2 (0 : Fin 1) C))
        else Ideal.sin ((FloatOps.sitofp (F := Ideal) .f32 (v0 (ix3 (0 : Fin 1) R (0 : Fin 1))) : EReal) * v1 (ix2 (0 : Fin 1) C)) := by
  pointwise [k0_pay3, k0_pay1]
  rw [lane_lt]
  split_ifs
  · show (0 : EReal) - _ = -_
    rw [sub_eq_add_neg, zero_add]
  · rfl

section

variable (c : Dev nD) (i : grid0.Coords) (arg1 : Memref sig .tc .vmem S1x2048x1 .i32) (harg1 : arg1.IsWhole) (arg2 : Memref sig .tc .vmem S1x128 .f32) (harg2 : arg2.IsWhole)
  (arg3 : Memref sig .tc .vmem S3x1x2048x128 .f32) (harg3 : arg3.IsWhole) (arg4 : Memref sig .tc .vmem S3x1x2048x128 .f32) (harg4 : arg4.IsWhole)

theorem out_cos (x0 : Vec Ideal S1x2048x1 .i32) (x1 : Vec Ideal S1x128 .f32) (T : Fin 2048 → Fin 128 → EReal)
    (hT : ∀ R C, (k0_pay2 x0 x1 (ix4 (0 : Fin 1) (0 : Fin 1) R C) : EReal) = T R C) (y : S3x1x2048x128.Idx) :
    (out0_A_2 c i arg1 harg1 arg2 harg2 arg3 harg3 arg4 harg4 x0 x1 y : EReal) = ordered T y := by
  frame_open
  refine (congrFun (View.read_writes_junk_eq_canon _ _) y).trans ?_
  simp (disch := decide) only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, shapeCast_shapeCast, View.ld_unit_lit', View.readAt_eq_ld, Memref.IsWhole.read_unread]
  refine Filled.canon ?_ y
  repeat' first
    | (refine Filled.next (by decide) (by intro x hx; unfold place; split_ifs <;> first | omega | contradiction) ?_)
    | exact Filled.first hT

theorem out_sin (x0 : Vec Ideal S1x2048x1 .i32) (x1 : Vec Ideal S1x128 .f32) (T : Fin 2048 → Fin 128 → EReal)
    (hT : ∀ R C, (k0_pay3 x0 x1 (ix4 (0 : Fin 1) (0 : Fin 1) R C) : EReal) = T R C) (y : S3x1x2048x128.Idx) :
    (out0_A_3 c i arg1 harg1 arg2 harg2 arg3 harg3 arg4 harg4 x0 x1 y : EReal) = ordered T y := by
  frame_open
  refine (congrFun (View.read_writes_junk_eq_canon _ _) y).trans ?_
  simp (disch := decide) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, shapeCast_shapeCast, View.ld_unit_lit', View.readAt_eq_ld, Memref.IsWhole.read_unread]
  refine Filled.canon ?_ y
  repeat' first
    | (refine Filled.next (by decide) (by intro x hx; unfold place; split_ifs <;> first | omega | contradiction) ?_)
    | exact Filled.first hT

end

variable (m : (ℓ : Loc nD τ sig) → Buf (Elt Ideal) ℓ)

abbrev argP (c : Dev nD) : Vec Ideal S8x2048 .i32 := m ((c : Thread nD τ).loc main_arg0)

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![0, t.val, 0, 0] := by decide +kernel
theorem idx3 : ∀ t : Fin cfg0.N, win0_3.index t = ![0, t.val, 0, 0] := by decide +kernel

theorem point_lt (t : Fin cfg0.N) : t.val < 8 := Nat.lt_of_lt_of_eq t.isLt N_0

/-- A point's batch. -/
abbrev batch (t : Fin cfg0.N) : Fin 8 := ⟨t.val, point_lt t⟩

theorem entry_p (c : Dev nD) : V m c main_v12 = broadcastInDim S8x2048x1 ![0, 1] bcast_S8x2048_S8x2048x1_0_1 (argP m c) := by
  unfold_abbrev_sides
  after_results

theorem entry_f (c : Dev nD) : V m c main_v11 = broadcastInDim S1x128 ![1] bcast_S128_S1x128_1 (concatenate S128 0 [⟨S64, freq⟩, ⟨S64, freq⟩] concatenates_S64_S64_S128_d0) := by
  unfold_abbrev_sides
  after_results
  rfl

theorem p_at (c : Dev nD) (t : Fin cfg0.N) (R : Fin 2048) : iblk m c 0 t (ix3 (0 : Fin 1) R (0 : Fin 1)) = argP m c (ix2 (batch t) R) := by
  have ht := point_lt t
  have e : iblk m c 0 t (ix3 (0 : Fin 1) R (0 : Fin 1)) = V m c main_v12 (ix3 (batch t) R (0 : Fin 1)) := by
    unfold iblk
    generalize V m c = X
    blk_ext [idx0 t]
  rw [e, entry_p]
  generalize batch t = b
  pointwise

theorem f_at (c : Dev nD) (t : Fin cfg0.N) (C : Fin 128) : iblk m c 1 t (ix2 (0 : Fin 1) C) = freq (ix1 (half C)) := by
  have ht := point_lt t
  have e : iblk m c 1 t (ix2 (0 : Fin 1) C) = V m c main_v11 (ix2 (0 : Fin 1) C) := by
    unfold iblk
    generalize V m c = X
    blk_ext [idx1 t]
  rw [e, entry_f]
  generalize freq = f
  pointwise
  have hC : C.val < 128 := C.isLt
  by_cases h : C.val < 64
  · rw [dif_pos h]
    exact congrArg (fun x => f (ix1 x)) (Fin.ext (Nat.mod_eq_of_lt h).symm)
  · rw [dif_neg h]
    exact congrArg (fun x => f (ix1 x)) (Fin.ext (by show C.val - 64 = C.val % 64; omega))

theorem cos_at (c : Dev nD) (t : Fin cfg0.N) (R : Fin 2048) (C : Fin 128) :
    (k0_pay2 (iblk m c 0 t) (iblk m c 1 t) (ix4 (0 : Fin 1) (0 : Fin 1) R C) : EReal) = cosOf (argP m c) (batch t) R C := by
  rw [pay_cos, p_at, f_at]
  rfl

theorem cos_after (c : Dev nD) (t : Fin cfg0.N) : (dats m 0 c).after 2 t = ordered (cosOf (argP m c) (batch t)) := by
  rw [after0_2]
  simp only [outsAt0]
  refine funext fun y => ?_
  exact out_cos c (grid0.coords t) (ms0_0 t) (hs0_0 t) (ms0_1 t) (hs0_1 t) (ms0_2 t) (hs0_2 t) (ms0_3 t) (hs0_3 t) _ _ _ (cos_at m c t) y

theorem cos_arr (c : Dev nD) : (dats m 0 c).arrAt 2 cfg0.N = tables (cosOf (argP m c)) := by
  refine (dats m 0 c).arrAt_eq_of_covers 2 _ (by decide +kernel) fun t hf y => ?_
  rw [cos_after]
  generalize cosOf (argP m c) = T
  have ht := point_lt t
  blk_simp
  have e0 : (y 0).val = (win0_2.blk t).view.emb y 0 := by
    blk_simp [idx2 t]
  have e1 : batch t = (win0_2.blk t).view.emb y 1 := Fin.ext (by
    have h1 : (y 1).val < 1 := (y 1).isLt
    show t.val = _
    blk_simp [idx2 t])
  have e2 : (y 2).val = (win0_2.blk t).view.emb y 2 := by
    blk_simp [idx2 t]
  have e3 : y 3 = (win0_2.blk t).view.emb y 3 := Fin.ext (by
    blk_simp [idx2 t])
  unfold ordered tables
  rw [← e1]
  exact congrArg₂ (T (batch t)) (Fin.ext (congrArg₂ place e0 e2)) e3

theorem sin_at (c : Dev nD) (t : Fin cfg0.N) (R : Fin 2048) (C : Fin 128) :
    (k0_pay3 (iblk m c 0 t) (iblk m c 1 t) (ix4 (0 : Fin 1) (0 : Fin 1) R C) : EReal) = sinOf (argP m c) (batch t) R C := by
  rw [pay_sin, p_at, f_at]
  rfl

theorem sin_after (c : Dev nD) (t : Fin cfg0.N) : (dats m 0 c).after 3 t = ordered (sinOf (argP m c) (batch t)) := by
  rw [after0_3]
  simp only [outsAt0]
  refine funext fun y => ?_
  exact out_sin c (grid0.coords t) (ms0_0 t) (hs0_0 t) (ms0_1 t) (hs0_1 t) (ms0_2 t) (hs0_2 t) (ms0_3 t) (hs0_3 t) _ _ _ (sin_at m c t) y

theorem sin_arr (c : Dev nD) : (dats m 0 c).arrAt 3 cfg0.N = tables (sinOf (argP m c)) := by
  refine (dats m 0 c).arrAt_eq_of_covers 3 _ (by decide +kernel) fun t hf y => ?_
  rw [sin_after]
  generalize sinOf (argP m c) = T
  have ht := point_lt t
  blk_simp
  have e0 : (y 0).val = (win0_3.blk t).view.emb y 0 := by
    blk_simp [idx3 t]
  have e1 : batch t = (win0_3.blk t).view.emb y 1 := Fin.ext (by
    have h1 : (y 1).val < 1 := (y 1).isLt
    show t.val = _
    blk_simp [idx3 t])
  have e2 : (y 2).val = (win0_3.blk t).view.emb y 2 := by
    blk_simp [idx3 t]
  have e3 : y 3 = (win0_3.blk t).view.emb y 3 := Fin.ext (by
    blk_simp [idx3 t])
  unfold ordered tables
  rw [← e1]
  exact congrArg₂ (T (batch t)) (Fin.ext (congrArg₂ place e0 e2)) e3

end Cert.Proof.RopeIdeal

end
-- ==== Proof.RopeClaims.lean ====
/- What the reference of `Rope` holds, and the claims of the call. -/
module

public import proofs.«01_k».proof.Defs
public import proofs.«01_k».proof.Proof.RopeIdealValue
public import proofs.«01_k».proof.Proof.Gen.Rope.Frame
public import proofs.«01_k».proof.Proof.Gen.RopeRefIdeal.Run
public import Idealize.ShloMosaic.Lib.Claim
public import Idealize.ShloMosaic.Lib.IdealHost
public import Idealize.ShloMosaic.Lib.Quiescent

@[expose] public section

set_option maxRecDepth 16384

noncomputable section

namespace Cert.Proof.RopeRefIdeal

open Cert.RopeRefIdeal Cert.RopeRefIdeal.Gen
open Idealize.ShloMosaic Idealize.ShloMosaic.TcCoe Idealize.ShloMosaic.Tactic
open Cert.Proof.RopeIdeal (freq half angle cosOf sinOf tables)
open Cert.Proof.Tables (place place_lt)

/-- The angles of the half of the lanes. -/
def angles (p : Vec Ideal S8x2048 .i32) : Vec Ideal S8x2048x64 .f32 :=
  mulf (F := Ideal) (φ := .f32) (broadcastInDim S8x2048x64 ![0, 1, 2] bcast_S8x2048x1_S8x2048x64_0_1_2 (broadcastInDim S8x2048x1 ![0, 1] bcast_S8x2048_S8x2048x1_0_1 (sitofp .f32 p)))
    (broadcastInDim S8x2048x64 ![0, 1, 2] bcast_S1x1x64_S8x2048x64_0_1_2 (broadcastInDim S1x1x64 ![2] bcast_S64_S1x1x64_2 freq))

/-- Two halves of lanes side by side. -/
def both (a b : Vec Ideal S8x2048x64 .f32) : Vec Ideal S8x2048x128 .f32 :=
  concatenate S8x2048x128 2 [⟨S8x2048x64, a⟩, ⟨S8x2048x64, b⟩] concatenates_S8x2048x64_S8x2048x64_S8x2048x128_d2

def classes1 (t : Vec Ideal S8x2048x128 .f32) : Vec Ideal S1x8x2048x128 .f32 :=
  broadcastInDim S1x8x2048x128 ![1, 2, 3] bcast_S8x2048x128_S1x8x2048x128_1_2_3 (shapeCast S8x2048x128 (transpose S8x1x2048x128 [0, 2, 1, 3] (shapeCast S8x2048x1x128 t shapeCasts_S8x2048x128_S8x2048x1x128) transposes_S8x2048x1x128_S8x1x2048x128_0_2_1_3) shapeCasts_S8x1x2048x128_S8x2048x128)
def classes4 (t : Vec Ideal S8x2048x128 .f32) : Vec Ideal S1x8x2048x128 .f32 :=
  broadcastInDim S1x8x2048x128 ![1, 2, 3] bcast_S8x2048x128_S1x8x2048x128_1_2_3 (shapeCast S8x2048x128 (transpose S8x4x512x128 [0, 2, 1, 3] (shapeCast S8x512x4x128 t shapeCasts_S8x2048x128_S8x512x4x128) transposes_S8x512x4x128_S8x4x512x128_0_2_1_3) shapeCasts_S8x4x512x128_S8x2048x128)
def classes16 (t : Vec Ideal S8x2048x128 .f32) : Vec Ideal S1x8x2048x128 .f32 :=
  broadcastInDim S1x8x2048x128 ![1, 2, 3] bcast_S8x2048x128_S1x8x2048x128_1_2_3 (shapeCast S8x2048x128 (transpose S8x16x128x128 [0, 2, 1, 3] (shapeCast S8x128x16x128 t shapeCasts_S8x2048x128_S8x128x16x128) transposes_S8x128x16x128_S8x16x128x128_0_2_1_3) shapeCasts_S8x16x128x128_S8x2048x128)

/-- A table with its rows in the order of each group, stacked. -/
def stacked (t : Vec Ideal S8x2048x128 .f32) : Vec Ideal S3x8x2048x128 .f32 :=
  concatenate S3x8x2048x128 0 [⟨S1x8x2048x128, classes1 t⟩, ⟨S1x8x2048x128, classes4 t⟩, ⟨S1x8x2048x128, classes16 t⟩] concatenates_S1x8x2048x128_S1x8x2048x128_S1x8x2048x128_S3x8x2048x128_d0

theorem angles_at (p : Vec Ideal S8x2048 .i32) (b : Fin 8) (R : Fin 2048) (C : Fin 64) :
    (angles p (ix3 b R C) : EReal) = (FloatOps.sitofp (F := Ideal) .f32 (p (ix2 b R)) : EReal) * freq (ix1 C) := by
  unfold angles
  generalize freq = f
  pointwise

theorem both_at (a a' : Vec Ideal S8x2048x64 .f32) (b : Fin 8) (R : Fin 2048) (C : Fin 128) :
    (both a a' (ix3 b R C) : EReal) = if C.val < 64 then a (ix3 b R (half C)) else a' (ix3 b R (half C)) := by
  unfold both
  pointwise
  have hC : C.val < 128 := C.isLt
  by_cases h : C.val < 64
  · rw [dif_pos h, if_pos h]
    exact congrArg (fun x => a (ix3 b R x)) (Fin.ext (Nat.mod_eq_of_lt h).symm)
  · rw [dif_neg h, if_neg h]
    exact congrArg (fun x => a' (ix3 b R x)) (Fin.ext (by show C.val - 64 = C.val % 64; omega))

theorem classes1_at (t : Vec Ideal S8x2048x128 .f32) (b : Fin 8) (R : Fin 2048) (C : Fin 128) :
    (classes1 t (ix4 (0 : Fin 1) b R C) : EReal) = t (ix3 b ⟨place 0 R.val, place_lt _ _ R.isLt⟩ C) := by
  unfold classes1
  pointwise
  rfl

theorem classes4_at (t : Vec Ideal S8x2048x128 .f32) (b : Fin 8) (R : Fin 2048) (C : Fin 128) :
    (classes4 t (ix4 (0 : Fin 1) b R C) : EReal) = t (ix3 b ⟨place 1 R.val, place_lt _ _ R.isLt⟩ C) := by
  unfold classes4
  pointwise
  rfl

theorem classes16_at (t : Vec Ideal S8x2048x128 .f32) (b : Fin 8) (R : Fin 2048) (C : Fin 128) :
    (classes16 t (ix4 (0 : Fin 1) b R C) : EReal) = t (ix3 b ⟨place 2 R.val, place_lt _ _ R.isLt⟩ C) := by
  unfold classes16
  pointwise
  rfl

theorem stacked_at (t : Vec Ideal S8x2048x128 .f32) (g : Fin 3) (b : Fin 8) (R : Fin 2048) (C : Fin 128) :
    (stacked t (ix4 g b R C) : EReal) = t (ix3 b ⟨place g.val R.val, place_lt _ _ R.isLt⟩ C) := by
  unfold stacked
  pointwise
  match g with
  | ⟨0, _⟩ => exact classes1_at t b R C
  | ⟨1, _⟩ => exact classes4_at t b R C
  | ⟨2, _⟩ => exact classes16_at t b R C

/-- The reference's cosines and sines. -/
def cosines (p : Vec Ideal S8x2048 .i32) : Vec Ideal S3x8x2048x128 .f32 :=
  stacked (both (Host.cos (F := Ideal) (φ := .f32) (angles p)) (Host.cos (F := Ideal) (φ := .f32) (angles p)))
def sines (p : Vec Ideal S8x2048 .i32) : Vec Ideal S3x8x2048x128 .f32 :=
  stacked (both (Host.negf (F := Ideal) (φ := .f32) (Host.sin (F := Ideal) (φ := .f32) (angles p))) (Host.sin (F := Ideal) (φ := .f32) (angles p)))

theorem cos_of (p : Vec Ideal S8x2048 .i32) (b : Fin 8) (R : Fin 2048) (C : Fin 128) :
    (both (Host.cos (F := Ideal) (φ := .f32) (angles p)) (Host.cos (F := Ideal) (φ := .f32) (angles p)) (ix3 b R C) : EReal) = cosOf p b R C := by
  rw [both_at, ite_self]
  exact congrArg Ideal.cos (angles_at p b R (half C))

theorem sin_of (p : Vec Ideal S8x2048 .i32) (b : Fin 8) (R : Fin 2048) (C : Fin 128) :
    (both (Host.negf (F := Ideal) (φ := .f32) (Host.sin (F := Ideal) (φ := .f32) (angles p))) (Host.sin (F := Ideal) (φ := .f32) (angles p)) (ix3 b R C) : EReal) = sinOf p b R C := by
  rw [both_at]
  unfold sinOf
  have e : Ideal.sin (angles p (ix3 b R (half C))) = Ideal.sin (angle p b R C) := congrArg Ideal.sin (angles_at p b R (half C))
  rw [← e]
  rfl

theorem cosines_eq (p : Vec Ideal S8x2048 .i32) : cosines p = tables (cosOf p) := by
  funext z
  exact (congrArg (cosines p) (eq_ix4 z)).trans ((stacked_at _ (z 0) (z 1) (z 2) (z 3)).trans (cos_of p (z 1) _ (z 3)))

theorem sines_eq (p : Vec Ideal S8x2048 .i32) : sines p = tables (sinOf p) := by
  funext z
  exact (congrArg (sines p) (eq_ix4 z)).trans ((stacked_at _ (z 0) (z 1) (z 2) (z 3)).trans (sin_of p (z 1) _ (z 3)))

end Cert.Proof.RopeRefIdeal

namespace Cert.Proof.Rope

open Idealize.ShloMosaic Idealize.ShloMosaic.TcCoe Idealize.SL.Sem

theorem frame_p : Cert.quiescent_Rope := fun m ρ _ => Cert.Rope.Gen.frame m ρ
theorem frame_pi : Cert.quiescent_RopeIdeal := fun m ρ _ => Cert.RopeIdeal.Gen.frame m ρ
theorem frame_ri : Cert.quiescent_RopeRefIdeal := fun m ρ _ =>
  (θ_run Cert.RopeRefIdeal.defs _ _).mono (fun r h => ⟨fun c => (h c).2.2, sem_eq_zero_of_no_sems (by decide) r.2⟩) (Cert.RopeRefIdeal.Value.run (F := Ideal) m ρ)
theorem preserves : Cert.preserves_Rope_RopeIdeal := trivial

theorem algebraic : Cert.algebraic_RopeIdeal_RopeRefIdeal := by
  intro m g m' g' _ hargs
  refine ⟨fun c => RopeIdeal.tables (RopeIdeal.cosOf (RopeIdeal.argP m c)), fun c => RopeIdeal.tables (RopeIdeal.sinOf (RopeIdeal.argP m c)), ?_, ?_⟩
  · exact (θ_run _ _ _).mono (fun r h c => ⟨(h c).1.trans (RopeIdeal.cos_arr m c), (h c).2.1.trans (RopeIdeal.sin_arr m c), (h c).2.2⟩) (Cert.RopeIdeal.Value.run_blocks m g)
  · refine (θ_run _ _ _).mono (fun r h c => ⟨(h c).1.trans ((RopeRefIdeal.cosines_eq (m' (c.tc.loc Cert.RopeRefIdeal.main_arg0))).trans ?_),
      (h c).2.1.trans ((RopeRefIdeal.sines_eq (m' (c.tc.loc Cert.RopeRefIdeal.main_arg0))).trans ?_), (h c).2.2⟩) (Cert.RopeRefIdeal.Value.run (F := Ideal) m' g')
    · rw [hargs c]
    · rw [hargs c]

end Cert.Proof.Rope

end
-- ==== Proof.lean ====
module

public import proofs.«01_k».proof.Defs
public import proofs.«01_k».proof.Proof.Claims
public import proofs.«01_k».proof.Proof.ZaClaims
public import proofs.«01_k».proof.Proof.ZsClaims
public import proofs.«01_k».proof.Proof.GatesClaims
public import proofs.«01_k».proof.Proof.QkvAClaims
public import proofs.«01_k».proof.Proof.QkvBClaims
public import proofs.«01_k».proof.Proof.QkvCClaims
public import proofs.«01_k».proof.Proof.TailAClaims
public import proofs.«01_k».proof.Proof.TailBClaims
public import proofs.«01_k».proof.Proof.AdaClaims
public import proofs.«01_k».proof.Proof.NormClaims
public import proofs.«01_k».proof.Proof.RopeClaims
public import proofs.«01_k».proof.Proof.Gen.Za.Frame
public import proofs.«01_k».proof.Proof.Gen.ZaIdeal.Value
public import proofs.«01_k».proof.Proof.Gen.ZaRefIdeal.Run
public import proofs.«01_k».proof.Proof.Gen.Zs.Frame
public import proofs.«01_k».proof.Proof.Gen.ZsIdeal.Value
public import proofs.«01_k».proof.Proof.Gen.ZsRefIdeal.Run
public import proofs.«01_k».proof.Proof.Gen.Gates.Frame
public import proofs.«01_k».proof.Proof.Gen.GatesIdeal.Value
public import proofs.«01_k».proof.Proof.Gen.GatesRefIdeal.Run
public import proofs.«01_k».proof.Proof.Gen.QkvA.Frame
public import proofs.«01_k».proof.Proof.Gen.QkvAIdeal.Value
public import proofs.«01_k».proof.Proof.Gen.QkvARefIdeal.Run
public import proofs.«01_k».proof.Proof.Gen.QkvB.Frame
public import proofs.«01_k».proof.Proof.Gen.QkvBIdeal.Value
public import proofs.«01_k».proof.Proof.Gen.QkvBRefIdeal.Run
public import proofs.«01_k».proof.Proof.Gen.QkvC.Frame
public import proofs.«01_k».proof.Proof.Gen.QkvCIdeal.Value
public import proofs.«01_k».proof.Proof.Gen.QkvCRefIdeal.Run
public import proofs.«01_k».proof.Proof.Gen.TailA.Frame
public import proofs.«01_k».proof.Proof.Gen.TailAIdeal.Value
public import proofs.«01_k».proof.Proof.Gen.TailARefIdeal.Run
public import proofs.«01_k».proof.Proof.Gen.TailB.Frame
public import proofs.«01_k».proof.Proof.Gen.TailBIdeal.Value
public import proofs.«01_k».proof.Proof.Gen.TailBRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.Norm.Frame
public import proofs.«01_k».proof.Proof.Gen.NormIdeal.Value
public import proofs.«01_k».proof.Proof.Gen.NormRefIdeal.Run
public import proofs.«01_k».proof.Proof.Gen.Rope.Frame
public import proofs.«01_k».proof.Proof.Gen.RopeIdeal.Value
public import proofs.«01_k».proof.Proof.Gen.RopeRefIdeal.Run
public import proofs.«01_k».proof.Proof.Gen.AsIs.Frame
public import proofs.«01_k».proof.Proof.Gen.Kernel
public import proofs.«01_k».proof.Proof.Gen.KernelIdeal
public import proofs.«01_k».proof.Proof.Gen.ReferenceIdeal

@[expose] public section

namespace Cert.Proof

theorem frame_as_is : Cert.quiescent_AsIs := fun m ρ _ => Cert.AsIs.Gen.frame m ρ

theorem claim : Cert.Claim :=
  ⟨Cert.Kernel.Gen.facts, Cert.KernelIdeal.Gen.facts, Cert.ReferenceIdeal.Gen.facts, Cert.AsIs.Gen.facts,
   Cert.Za.Gen.facts, Cert.ZaIdeal.Gen.facts, Cert.ZaRefIdeal.Gen.facts,
   Cert.Zs.Gen.facts, Cert.ZsIdeal.Gen.facts, Cert.ZsRefIdeal.Gen.facts,
   Cert.Gates.Gen.facts, Cert.GatesIdeal.Gen.facts, Cert.GatesRefIdeal.Gen.facts,
   Cert.QkvA.Gen.facts, Cert.QkvAIdeal.Gen.facts, Cert.QkvARefIdeal.Gen.facts,
   Cert.QkvB.Gen.facts, Cert.QkvBIdeal.Gen.facts, Cert.QkvBRefIdeal.Gen.facts,
   Cert.QkvC.Gen.facts, Cert.QkvCIdeal.Gen.facts, Cert.QkvCRefIdeal.Gen.facts,
   Cert.TailA.Gen.facts, Cert.TailAIdeal.Gen.facts, Cert.TailARefIdeal.Gen.facts,
   Cert.TailB.Gen.facts, Cert.TailBIdeal.Gen.facts, Cert.TailBRefIdeal.Gen.facts,
   Cert.Ada.Gen.facts, Cert.AdaIdeal.Gen.facts, Cert.AdaRefIdeal.Gen.facts,
   Cert.Norm.Gen.facts, Cert.NormIdeal.Gen.facts, Cert.NormRefIdeal.Gen.facts,
   Cert.Rope.Gen.facts, Cert.RopeIdeal.Gen.facts, Cert.RopeRefIdeal.Gen.facts,
   frame_p, frame_pi, frame_ri, frame_as_is,
   Za.frame_p, Za.frame_pi, Za.frame_ri,
   Zs.frame_p, Zs.frame_pi, Zs.frame_ri,
   Gates.frame_p, Gates.frame_pi, Gates.frame_ri,
   QkvA.frame_p, QkvA.frame_pi, QkvA.frame_ri,
   QkvB.frame_p, QkvB.frame_pi, QkvB.frame_ri,
   QkvC.frame_p, QkvC.frame_pi, QkvC.frame_ri,
   TailA.frame_p, TailA.frame_pi, TailA.frame_ri,
   TailB.frame_p, TailB.frame_pi, TailB.frame_ri,
   Ada.frame_p, Ada.frame_pi, Ada.frame_ri,
   NormCall.frame_p, NormCall.frame_pi, NormCall.frame_ri,
   Rope.frame_p, Rope.frame_pi, Rope.frame_ri,
   preserves, algebraic,
   Za.preserves, Za.algebraic,
   Zs.preserves, Zs.algebraic,
   Gates.preserves, Gates.algebraic,
   QkvA.preserves, QkvA.algebraic,
   QkvB.preserves, QkvB.algebraic,
   QkvC.preserves, QkvC.algebraic,
   TailA.preserves, TailA.algebraic,
   TailB.preserves, TailB.algebraic,
   Ada.preserves, Ada.algebraic,
   NormCall.preserves, NormCall.algebraic,
   Rope.preserves, Rope.algebraic⟩

end Cert.Proof

end
